-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v40) = v3 c
          ∧ r.2.mem ((c.tc : Thread Cert.Reference2Ideal.nD Cert.Reference2Ideal.τ).loc Cert.Reference2Ideal.main_v42) = v4 c
          ∧ r.2.mem ((c.tc : Thread Cert.Reference2Ideal.nD Cert.Reference2Ideal.τ).loc Cert.Reference2Ideal.main_v32) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v5) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v26) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v34) = v0 c
          ∧ r.2.mem ((c.tc : Thread Cert.Reference26Ideal.nD Cert.Reference26Ideal.τ).loc Cert.Reference26Ideal.main_v17) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v49) = v0 c
          ∧ r.2.mem ((c.tc : Thread Cert.Reference27Ideal.nD Cert.Reference27Ideal.τ).loc Cert.Reference27Ideal.main_v48) = v1 c
          ∧ r.2.mem ((c.tc : Thread Cert.Reference27Ideal.nD Cert.Reference27Ideal.τ).loc Cert.Reference27Ideal.main_v32) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v19) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v28) = v0 c
          ∧ r.2.mem ((c.tc : Thread Cert.Reference29Ideal.nD Cert.Reference29Ideal.τ).loc Cert.Reference29Ideal.main_v41) = v1 c
          ∧ r.2.mem ((c.tc : Thread Cert.Reference29Ideal.nD Cert.Reference29Ideal.τ).loc Cert.Reference29Ideal.main_v31) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite2.lean ====
abbrev S8192x1024 : Shape := ⟨2, ![8192, 1024]⟩
abbrev S8192x512 : Shape := ⟨2, ![8192, 512]⟩
abbrev S8192x128 : Shape := ⟨2, ![8192, 128]⟩
abbrev S128x1024x128 : Shape := ⟨3, ![128, 1024, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x128 : S_.BroadcastsInDim S8192x128 (![] : Fin 0 → Fin S8192x128.rank)
  reducesTo_S8192x128_S_d0_1 : S8192x128.ReducesTo [0, 1] S_
  bcast_S_S128x1024x128 : S_.BroadcastsInDim S128x1024x128 (![] : Fin 0 → Fin S128x1024x128.rank)
  reducesTo_S128x1024x128_S_d0_1_2 : S128x1024x128.ReducesTo [0, 1, 2] S_

variable [Facts]

def fn_part2 {F : FTy → Type} [FloatOps F] (main_arg7 : FVec F S128x1024x128 .f32) (main_v33 : IVec S_ 1) : IVec S_ 1 :=
  let main_v34 : FVec F S128x1024x128 .f32 := Host.absf main_arg7
  let main_cst_12 : FVec F S_ .f32 := constant S_ .f32 0x7F800000#32
  let main_v35 : FVec F S128x1024x128 .f32 := broadcastInDim S128x1024x128 ![] bcast_S_S128x1024x128 main_cst_12
  let main_v36 : IVec S128x1024x128 1 := cmpf .olt main_v34 main_v35
  let main_c_13 : IVec S_ 1 := constantI S_ 1 1#1
  let main_v37 : IVec S_ 1 := (fun x v => Host.reduce IntOp.andi x v reducesTo_S128x1024x128_S_d0_1_2 h_S_) main_v36 main_c_13
  let main_v38 : IVec S_ 1 := andi main_v33 main_v37
  main_v38

def fn_part1 {F : FTy → Type} [FloatOps F] (main_arg4 : FVec F S8192x1024 .bf16) (main_arg5 : FVec F S8192x512 .bf16) (main_arg6 : FVec F S8192x128 .f32) (main_arg7 : FVec F S128x1024x128 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .bf16 := Host.absf main_arg4
  let main_cst_6 : FVec F S_ .bf16 := constant S_ .bf16 0x7F80#16
  let main_v20 : FVec F S8192x1024 .bf16 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x512 .bf16 := Host.absf main_arg5
  let main_cst_8 : FVec F S_ .bf16 := constant S_ .bf16 0x7F80#16
  let main_v25 : FVec F S8192x512 .bf16 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x128 .f32 := Host.absf main_arg6
  let main_cst_10 : FVec F S_ .f32 := constant S_ .f32 0x7F800000#32
  let main_v30 : FVec F S8192x128 .f32 := broadcastInDim S8192x128 ![] bcast_S_S8192x128 main_cst_10
  let main_v31 : IVec S8192x128 1 := cmpf .olt main_v29 main_v30
  let main_c_11 : IVec S_ 1 := constantI S_ 1 1#1
  let main_v32 : IVec S_ 1 := (fun x v => Host.reduce IntOp.andi x v reducesTo_S8192x128_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S8192x1024 .bf16) (main_arg4 : FVec F S8192x1024 .bf16) (main_arg5 : FVec F S8192x512 .bf16) (main_arg6 : FVec F S8192x128 .f32) (main_arg7 : FVec F S128x1024x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .bf16 := Host.absf main_arg3
  let main_cst_4 : FVec F S_ .bf16 := constant S_ .bf16 0x7F80#16
  let main_v15 : FVec F S8192x1024 .bf16 := broadcastInDim S8192x1024 ![] bcast_S_S8192x1024 main_cst_4
  let main_v16 : IVec S8192x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x512 : Shape := ⟨2, ![8192, 512]⟩
abbrev S8192x128 : Shape := ⟨2, ![8192, 128]⟩
abbrev S128x1024x128 : Shape := ⟨3, ![128, 1024, 128]⟩
abbrev S256x1024 : Shape := ⟨2, ![256, 1024]⟩
abbrev S256x512 : Shape := ⟨2, ![256, 512]⟩
abbrev S256x128 : Shape := ⟨2, ![256, 128]⟩
abbrev S4x1024x128 : Shape := ⟨3, ![4, 1024, 128]⟩
abbrev S1024x128 : Shape := ⟨2, ![1024, 128]⟩
abbrev S128x128 : Shape := ⟨2, ![128, 128]⟩
abbrev S1x128x128 : Shape := ⟨3, ![1, 128, 128]⟩
abbrev S64x128 : Shape := ⟨2, ![64, 128]⟩
abbrev S64x64 : Shape := ⟨2, ![64, 64]⟩
abbrev S1x1 : Shape := ⟨2, ![1, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x128, .f32⟩
  | .hbm, ⟨6, _⟩ => ⟨S8192x1024, .f32⟩
  | .hbm, ⟨7, _⟩ => ⟨S8192x1024, .bf16⟩
  | .hbm, ⟨8, _⟩ => ⟨S128x1024x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S4x1024x128, .f32⟩
  | .local _ .vmem, ⟨17, _⟩ => ⟨S4x1024x128, .f32⟩
  | .local _ .vmem, ⟨18, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x1024 : Shape := ⟨2, ![8192, 1024]⟩
abbrev S8192x512 : Shape := ⟨2, ![8192, 512]⟩
abbrev S8192x128 : Shape := ⟨2, ![8192, 128]⟩
abbrev S128x64x128 : Shape := ⟨3, ![128, 64, 128]⟩
abbrev S128x1x8 : Shape := ⟨3, ![128, 1, 8]⟩
abbrev S128x8 : Shape := ⟨2, ![128, 8]⟩
abbrev S_ : Shape := ⟨0, ![]⟩
abbrev S8x128x128 : Shape := ⟨3, ![8, 128, 128]⟩
abbrev S128x64x8x128 : Shape := ⟨4, ![128, 64, 8, 128]⟩
abbrev S128x8x64x128 : Shape := ⟨4, ![128, 8, 64, 128]⟩
abbrev S128x64x8x64 : Shape := ⟨4, ![128, 64, 8, 64]⟩
abbrev S128x8x64x64 : Shape := ⟨4, ![128, 8, 64, 64]⟩
abbrev S128x8x128x128 : Shape := ⟨4, ![128, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S128x1024x128 : Shape := ⟨3, ![128, 1024, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x128, .f32⟩
  | .hbm, ⟨6, _⟩ => ⟨S128x64x128, .f32⟩
  | .hbm, ⟨7, _⟩ => ⟨S128x1x8, .f32⟩
  | .hbm, ⟨8, _⟩ => ⟨S128x8, .f32⟩
  | .hbm, ⟨9, _⟩ => ⟨S128x8, .f32⟩
  | .hbm, ⟨10, _⟩ => ⟨S_, .f32⟩
  | .hbm, ⟨11, _⟩ => ⟨S8x128x128, .f32⟩
  | .hbm, ⟨12, _⟩ => ⟨S128x64x8x128, .f32⟩
  | .hbm, ⟨13, _⟩ => ⟨S128x8x64x128, .f32⟩
  | .hbm, ⟨14, _⟩ => ⟨S128x64x8x128, .f32⟩
  | .hbm, ⟨15, _⟩ => ⟨S128x8x64x128, .f32⟩
  | .hbm, ⟨16, _⟩ => ⟨S8192x512, .f32⟩
  | .hbm, ⟨17, _⟩ => ⟨S128x64x8x64, .f32⟩
  | .hbm, ⟨18, _⟩ => ⟨S128x8x64x64, .f32⟩
  | .hbm, ⟨19, _⟩ => ⟨S8192x1024, .f32⟩
  | .hbm, ⟨20, _⟩ => ⟨S128x64x8x128, .f32⟩
  | .hbm, ⟨21, _⟩ => ⟨S128x8x64x128, .f32⟩
  | .hbm, ⟨22, _⟩ => ⟨S8192x1024, .f32⟩
  | .hbm, ⟨23, _⟩ => ⟨S128x64x8x128, .f32⟩
  | .hbm, ⟨24, _⟩ => ⟨S128x8x64x128, .f32⟩
  | .hbm, ⟨25, _⟩ => ⟨S_, .f32⟩
  | .hbm, ⟨26, _⟩ => ⟨S128x8x64x128, .f32⟩
  | .hbm, ⟨27, _⟩ => ⟨S_, .f32⟩
  | .hbm, ⟨28, _⟩ => ⟨S128x8x64x128, .f32⟩
  | .hbm, ⟨29, _⟩ => ⟨S_, .f32⟩
  | .hbm, ⟨30, _⟩ => ⟨S128x8x128x128, .f32⟩
  | .hbm, ⟨31, _⟩ => ⟨S_, .i32⟩
  | .hbm, ⟨32, _⟩ => ⟨S128x8x64x128, .f32⟩
  | .hbm, ⟨33, _⟩ => ⟨S128x8x64x128, .f32⟩
  | .hbm, ⟨34, _⟩ => ⟨S128x8x64x64, .f32⟩
  | .hbm, ⟨35, _⟩ => ⟨S128x8x64x128, .f32⟩
  | .hbm, ⟨36, _⟩ => ⟨S128x8x64x128, .f32⟩
  | .hbm, ⟨37, _⟩ => ⟨S128x8, .f32⟩
  | .hbm, ⟨38, _⟩ => ⟨S_, .i32⟩
  | .hbm, ⟨39, _⟩ => ⟨S8x128x128, .f32⟩
  | .hbm, ⟨40, _⟩ => ⟨S128x8x64x128, .f32⟩
  | .hbm, ⟨41, _⟩ => ⟨S128x8x64x128, .f32⟩
  | .hbm, ⟨42, _⟩ => ⟨S128x8x128x128, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x8x64x128, .f32⟩
  | .hbm, ⟨49, _⟩ => ⟨S8x64x128, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x8x64x128, .f32⟩
  | .hbm, ⟨54, _⟩ => ⟨S8x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x8x64x64, .f32⟩
  | .hbm, ⟨59, _⟩ => ⟨S8x64x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x8x64x128, .f32⟩
  | .hbm, ⟨64, _⟩ => ⟨S8x64x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x8x64x128, .f32⟩
  | .hbm, ⟨69, _⟩ => ⟨S8x64x128, .f32⟩
  | .hbm, ⟨70, _⟩ => ⟨S_, .i32⟩
  | .hbm, ⟨71, _⟩ => ⟨S1x8, .f32⟩
  | .hbm, ⟨72, _⟩ => ⟨S8, .f32⟩
  | .hbm, ⟨73, _⟩ => ⟨S8x64x128, .f32⟩
  | .hbm, ⟨74, _⟩ => ⟨S8x64x128, .f32⟩
  | .hbm, ⟨75, _⟩ => ⟨S8x64x128, .f32⟩
  | .hbm, ⟨76, _⟩ => ⟨S8x64x128, .f32⟩
  | .hbm, ⟨77, _⟩ => ⟨S8x64x128, .f32⟩
  | .hbm, ⟨78, _⟩ => ⟨S8x1x1, .f32⟩
  | .hbm, ⟨79, _⟩ => ⟨S8x128x128, .f32⟩
  | .hbm, ⟨80, _⟩ => ⟨S8x128x128, .f32⟩
  | .hbm, ⟨81, _⟩ => ⟨S8x128x128, .f32⟩
  | .hbm, ⟨82, _⟩ => ⟨S8x128x128, .f32⟩
  | .hbm, ⟨83, _⟩ => ⟨S1x8x64x128, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S128x8x64x128, .f32⟩
  | .hbm, ⟨88, _⟩ => ⟨S1x8x64x128, .f32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S128x8x64x128, .f32⟩
  | .hbm, ⟨93, _⟩ => ⟨S1x8x128x128, .f32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S128x8x128x128, .f32⟩
  | .hbm, ⟨98, _⟩ => ⟨S_, .i32⟩
  | .hbm, ⟨99, _⟩ => ⟨S_, .i32⟩
  | .hbm, ⟨100, _⟩ => ⟨S128x64x8x128, .f32⟩
  | .hbm, ⟨101, _⟩ => ⟨S8192x1024, .f32⟩
  | .hbm, ⟨102, _⟩ => ⟨S128x64x8x128, .f32⟩
  | .hbm, ⟨103, _⟩ => ⟨S8192x1024, .f32⟩
  | .hbm, ⟨104, _⟩ => ⟨S8192x1024, .bf16⟩
  | .hbm, ⟨105, _⟩ => ⟨S128x1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_c : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v21_5 : Ref sig .tc := ⟨.hbm, 37, rfl⟩
abbrev main_v21_6 : Ref sig .tc := ⟨.hbm, 38, rfl⟩
abbrev main_v21_7 : Ref sig .tc := ⟨.hbm, 39, rfl⟩
abbrev main_v21_8 : Ref sig .tc := ⟨.hbm, 40, rfl⟩
abbrev main_v21_9 : Ref sig .tc := ⟨.hbm, 41, rfl⟩
abbrev main_v21_10 : Ref sig .tc := ⟨.hbm, 42, rfl⟩
abbrev main_while0c_c_13 : Ref sig .tc := ⟨.hbm, 43, rfl⟩
abbrev main_while0c_v28 : Ref sig .tc := ⟨.hbm, 44, rfl⟩
abbrev main_while0b_call0_c : Ref sig .tc := ⟨.hbm, 45, rfl⟩
abbrev main_while0b_call0_c_0 : Ref sig .tc := ⟨.hbm, 46, rfl⟩
abbrev main_while0b_call0_c_1 : Ref sig .tc := ⟨.hbm, 47, rfl⟩
abbrev main_while0b_call0_v0 : Ref sig .tc := ⟨.hbm, 48, rfl⟩
abbrev main_while0b_v28 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_c_1 : Ref sig .tc := ⟨.hbm, 52, rfl⟩
abbrev main_while0b_call1_v0 : Ref sig .tc := ⟨.hbm, 53, rfl⟩
abbrev main_while0b_v29 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_v0 : Ref sig .tc := ⟨.hbm, 58, rfl⟩
abbrev main_while0b_v30 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_call3_v0 : Ref sig .tc := ⟨.hbm, 63, rfl⟩
abbrev main_while0b_v31 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_v0 : Ref sig .tc := ⟨.hbm, 68, rfl⟩
abbrev main_while0b_v32 : Ref sig .tc := ⟨.hbm, 69, rfl⟩
abbrev main_while0b_call5_c : Ref sig .tc := ⟨.hbm, 70, rfl⟩
abbrev main_while0b_call5_v0 : Ref sig .tc := ⟨.hbm, 71, rfl⟩
abbrev main_while0b_v33 : Ref sig .tc := ⟨.hbm, 72, rfl⟩
abbrev main_while0b_v34 : Ref sig .tc := ⟨.hbm, 73, rfl⟩
abbrev main_while0b_v35 : Ref sig .tc := ⟨.hbm, 74, rfl⟩
abbrev main_while0b_v36 : Ref sig .tc := ⟨.hbm, 75, rfl⟩
abbrev main_while0b_v37 : Ref sig .tc := ⟨.hbm, 76, rfl⟩
abbrev main_while0b_v38 : Ref sig .tc := ⟨.hbm, 77, rfl⟩
abbrev main_while0b_v39 : Ref sig .tc := ⟨.hbm, 78, rfl⟩
abbrev main_while0b_v40 : Ref sig .tc := ⟨.hbm, 79, rfl⟩
abbrev main_while0b_v41 : Ref sig .tc := ⟨.hbm, 80, rfl⟩
abbrev main_while0b_v42 : Ref sig .tc := ⟨.hbm, 81, rfl⟩
abbrev main_while0b_v43 : Ref sig .tc := ⟨.hbm, 82, rfl⟩
abbrev main_while0b_call6_v0 : Ref sig .tc := ⟨.hbm, 83, rfl⟩
abbrev main_while0b_call6_c : Ref sig .tc := ⟨.hbm, 84, rfl⟩
abbrev main_while0b_call6_c_0 : Ref sig .tc := ⟨.hbm, 85, rfl⟩
abbrev main_while0b_call6_c_1 : Ref sig .tc := ⟨.hbm, 86, rfl⟩
abbrev main_while0b_v44 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_v45 : Ref sig .tc := ⟨.hbm, 92, rfl⟩
abbrev main_while0b_call8_v0 : Ref sig .tc := ⟨.hbm, 93, rfl⟩
abbrev main_while0b_call8_c : Ref sig .tc := ⟨.hbm, 94, rfl⟩
abbrev main_while0b_call8_c_0 : Ref sig .tc := ⟨.hbm, 95, rfl⟩
abbrev main_while0b_call8_c_1 : Ref sig .tc := ⟨.hbm, 96, rfl⟩
abbrev main_while0b_v46 : Ref sig .tc := ⟨.hbm, 97, rfl⟩
abbrev main_while0b_c_13 : Ref sig .tc := ⟨.hbm, 98, rfl⟩
abbrev main_while0b_v47 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x1024 : Shape := ⟨2, ![8192, 1024]⟩
abbrev S8192x512 : Shape := ⟨2, ![8192, 512]⟩
abbrev S8192x128 : Shape := ⟨2, ![8192, 128]⟩
abbrev S128x1024x128 : Shape := ⟨3, ![128, 1024, 128]⟩
abbrev S_ : Shape := ⟨0, ![]⟩
abbrev S64x64 : Shape := ⟨2, ![64, 64]⟩
abbrev S64x1x64 : Shape := ⟨3, ![64, 1, 64]⟩
abbrev S128x64x8x64 : Shape := ⟨4, ![128, 64, 8, 64]⟩
abbrev S128x64x8x128 : Shape := ⟨4, ![128, 64, 8, 128]⟩
abbrev S128x8x64x128 : Shape := ⟨4, ![128, 8, 64, 128]⟩
abbrev S128x8x128x128 : Shape := ⟨4, ![128, 8, 128, 128]⟩
abbrev S1024x128 : Shape := ⟨2, ![1024, 128]⟩
abbrev S256x1024 : Shape := ⟨2, ![256, 1024]⟩
abbrev S256x512 : Shape := ⟨2, ![256, 512]⟩
abbrev S256x128 : Shape := ⟨2, ![256, 128]⟩
abbrev S4x1024x128 : Shape := ⟨3, ![4, 1024, 128]⟩
abbrev S32x128 : Shape := ⟨2, ![32, 128]⟩
abbrev S8x128 : Shape := ⟨2, ![8, 128]⟩
abbrev S128x128 : Shape := ⟨2, ![128, 128]⟩
abbrev S1x128x128 : Shape := ⟨3, ![1, 128, 128]⟩
abbrev S64x128 : Shape := ⟨2, ![64, 128]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 43
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8192x512, .bf16⟩
  | .hbm, ⟨6, _⟩ => ⟨S8192x128, .f32⟩
  | .hbm, ⟨7, _⟩ => ⟨S128x1024x128, .f32⟩
  | .hbm, ⟨8, _⟩ => ⟨S_, .i1⟩
  | .hbm, ⟨9, _⟩ => ⟨S64x64, .i1⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S_, .i1⟩
  | .hbm, ⟨17, _⟩ => ⟨S64x64, .i1⟩
  | .hbm, ⟨18, _⟩ => ⟨S64x64, .i1⟩
  | .hbm, ⟨19, _⟩ => ⟨S64x1x64, .i1⟩
  | .hbm, ⟨20, _⟩ => ⟨S128x64x8x64, .bf16⟩
  | .hbm, ⟨21, _⟩ => ⟨S_, .i32⟩
  | .hbm, ⟨22, _⟩ => ⟨S_, .bf16⟩
  | .hbm, ⟨23, _⟩ => ⟨S128x64x8x64, .i1⟩
  | .hbm, ⟨24, _⟩ => ⟨S128x64x8x64, .bf16⟩
  | .hbm, ⟨25, _⟩ => ⟨S128x64x8x64, .bf16⟩
  | .hbm, ⟨26, _⟩ => ⟨S8192x512, .bf16⟩
  | .hbm, ⟨27, _⟩ => ⟨S128x64x8x128, .f32⟩
  | .hbm, ⟨28, _⟩ => ⟨S128x8x64x128, .f32⟩
  | .hbm, ⟨29, _⟩ => ⟨S128x64x8x128, .f32⟩
  | .hbm, ⟨30, _⟩ => ⟨S128x8x64x128, .f32⟩
  | .hbm, ⟨31, _⟩ => ⟨S128x8x128x128, .f32⟩
  | .hbm, ⟨32, _⟩ => ⟨S128x8x64x128, .f32⟩
  | .hbm, ⟨33, _⟩ => ⟨S128x8x64x128, .f32⟩
  | .hbm, ⟨34, _⟩ => ⟨S128x64x8x128, .f32⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x512, .f32⟩
  | .hbm, ⟨42, _⟩ => ⟨S1024x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S4x1024x128, .f32⟩
  | .local _ .vmem, ⟨15, _⟩ => ⟨S4x1024x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x512, .f32⟩
  | .local _ .vmem, ⟨25, _⟩ => ⟨S256x512, .f32⟩
  | .local _ .vmem, ⟨26, _⟩ => ⟨S32x128, .f32⟩
  | .local _ .vmem, ⟨27, _⟩ => ⟨S32x128, .f32⟩
  | .local _ .vmem, ⟨28, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16_0 : Ref sig .tc := ⟨.hbm, 37, rfl⟩
abbrev main_v16_1 : Ref sig .tc := ⟨.hbm, 38, rfl⟩
abbrev main_v16_2 : Ref sig .tc := ⟨.hbm, 39, rfl⟩
abbrev main_v16_3 : Ref sig .tc := ⟨.hbm, 40, rfl⟩
abbrev main_v16_4 : Ref sig .tc := ⟨.hbm, 41, rfl⟩
abbrev main_v16_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8192x1024 : Shape := ⟨2, ![8192, 1024]⟩
abbrev S8192x512 : Shape := ⟨2, ![8192, 512]⟩
abbrev S8192x128 : Shape := ⟨2, ![8192, 128]⟩
abbrev S128x1024x128 : Shape := ⟨3, ![128, 1024, 128]⟩
abbrev S_ : Shape := ⟨0, ![]⟩
abbrev S64x64 : Shape := ⟨2, ![64, 64]⟩
abbrev S128x64x128 : Shape := ⟨3, ![128, 64, 128]⟩
abbrev S128x1x8 : Shape := ⟨3, ![128, 1, 8]⟩
abbrev S128x8 : Shape := ⟨2, ![128, 8]⟩
abbrev S128x64x8x128 : Shape := ⟨4, ![128, 64, 8, 128]⟩
abbrev S128x8x64x128 : Shape := ⟨4, ![128, 8, 64, 128]⟩
abbrev S128x8x128x128 : Shape := ⟨4, ![128, 8, 128, 128]⟩
abbrev S128x64x8x64 : Shape := ⟨4, ![128, 64, 8, 64]⟩
abbrev S128x8x64x64 : Shape := ⟨4, ![128, 8, 64, 64]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩
abbrev S128x8x128 : Shape := ⟨3, ![128, 8, 128]⟩
abbrev S1024x128 : Shape := ⟨2, ![1024, 128]⟩

abbrev nBuf : Space → Nat
  | .hbm => 205
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .bf16⟩
  | 4 => ⟨S8192x1024, .bf16⟩
  | 5 => ⟨S8192x512, .bf16⟩
  | 6 => ⟨S8192x128, .f32⟩
  | 7 => ⟨S128x1024x128, .f32⟩
  | 8 => ⟨S_, .i1⟩
  | 9 => ⟨S64x64, .i1⟩
  | 10 => ⟨S64x64, .i32⟩
  | 11 => ⟨S_, .i32⟩
  | 12 => ⟨S64x64, .i32⟩
  | 13 => ⟨S64x64, .i32⟩
  | 14 => ⟨S64x64, .i32⟩
  | 15 => ⟨S64x64, .i1⟩
  | 16 => ⟨S_, .i1⟩
  | 17 => ⟨S64x64, .i1⟩
  | 18 => ⟨S64x64, .i1⟩
  | 19 => ⟨S128x64x128, .f32⟩
  | 20 => ⟨S128x1x8, .f32⟩
  | 21 => ⟨S128x8, .f32⟩
  | 22 => ⟨S128x8, .f32⟩
  | 23 => ⟨S128x64x8x128, .f32⟩
  | 24 => ⟨S128x8x64x128, .f32⟩
  | 25 => ⟨S128x8x128x128, .f32⟩
  | 26 => ⟨S128x64x8x128, .f32⟩
  | 27 => ⟨S128x8x64x128, .f32⟩
  | 28 => ⟨S128x64x8x128, .f32⟩
  | 29 => ⟨S128x8x64x128, .f32⟩
  | 30 => ⟨S8192x512, .f32⟩
  | 31 => ⟨S128x64x8x64, .f32⟩
  | 32 => ⟨S128x8x64x64, .f32⟩
  | 33 => ⟨S8192x1024, .f32⟩
  | 34 => ⟨S128x64x8x128, .f32⟩
  | 35 => ⟨S128x8x64x128, .f32⟩
  | 36 => ⟨S8192x1024, .f32⟩
  | 37 => ⟨S128x64x8x128, .f32⟩
  | 38 => ⟨S128x8x64x128, .f32⟩
  | 39 => ⟨S_, .f32⟩
  | 40 => ⟨S8x128x128, .f32⟩
  | 41 => ⟨S_, .f32⟩
  | 42 => ⟨S128x8x64x128, .f32⟩
  | 43 => ⟨S_, .f32⟩
  | 44 => ⟨S128x8x64x128, .f32⟩
  | 45 => ⟨S_, .f32⟩
  | 46 => ⟨S128x8x64x64, .f32⟩
  | 47 => ⟨S_, .f32⟩
  | 48 => ⟨S128x8x64x128, .f32⟩
  | 49 => ⟨S_, .f32⟩
  | 50 => ⟨S128x8x64x128, .f32⟩
  | 51 => ⟨S_, .f32⟩
  | 52 => ⟨S128x8, .f32⟩
  | 53 => ⟨S_, .i32⟩
  | 54 => ⟨S128x8x64x128, .f32⟩
  | 55 => ⟨S128x8x128x128, .f32⟩
  | 56 => ⟨S128x8x64x128, .f32⟩
  | 57 => ⟨S128x8x64x128, .f32⟩
  | 58 => ⟨S128x8x64x64, .f32⟩
  | 59 => ⟨S128x8x64x128, .f32⟩
  | 60 => ⟨S128x8x64x128, .f32⟩
  | 61 => ⟨S128x8, .f32⟩
  | 62 => ⟨S64x64, .i1⟩
  | 63 => ⟨S_, .i32⟩
  | 64 => ⟨S8x128x128, .f32⟩
  | 65 => ⟨S128x8x64x128, .f32⟩
  | 66 => ⟨S128x8x64x128, .f32⟩
  | 67 => ⟨S128x8x64x64, .f32⟩
  | 68 => ⟨S128x8x64x128, .f32⟩
  | 69 => ⟨S128x8x64x128, .f32⟩
  | 70 => ⟨S128x8, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S1x8x64x128, .f32⟩
  | 81 => ⟨S8x64x128, .f32⟩
  | 82 => ⟨S_, .i32⟩
  | 83 => ⟨S_, .i32⟩
  | 84 => ⟨S_, .i32⟩
  | 85 => ⟨S1x8x128x128, .f32⟩
  | 86 => ⟨S8x128x128, .f32⟩
  | 87 => ⟨S_, .i32⟩
  | 88 => ⟨S_, .i32⟩
  | 89 => ⟨S_, .i32⟩
  | 90 => ⟨S1x8x64x128, .f32⟩
  | 91 => ⟨S8x64x128, .f32⟩
  | 92 => ⟨S_, .i32⟩
  | 93 => ⟨S_, .i32⟩
  | 94 => ⟨S_, .i32⟩
  | 95 => ⟨S1x8x64x128, .f32⟩
  | 96 => ⟨S8x64x128, .f32⟩
  | 97 => ⟨S_, .i32⟩
  | 98 => ⟨S_, .i32⟩
  | 99 => ⟨S_, .i32⟩
  | 100 => ⟨S1x8x64x64, .f32⟩
  | 101 => ⟨S8x64x64, .f32⟩
  | 102 => ⟨S_, .i32⟩
  | 103 => ⟨S_, .i32⟩
  | 104 => ⟨S_, .i32⟩
  | 105 => ⟨S1x8x64x128, .f32⟩
  | 106 => ⟨S8x64x128, .f32⟩
  | 107 => ⟨S_, .i32⟩
  | 108 => ⟨S_, .i32⟩
  | 109 => ⟨S_, .i32⟩
  | 110 => ⟨S1x8x64x128, .f32⟩
  | 111 => ⟨S8x64x128, .f32⟩
  | 112 => ⟨S_, .i32⟩
  | 113 => ⟨S1x8, .f32⟩
  | 114 => ⟨S8, .f32⟩
  | 115 => ⟨S_, .f32⟩
  | 116 => ⟨S_, .f32⟩
  | 117 => ⟨S8x64x64, .i1⟩
  | 118 => ⟨S8x64x64, .f32⟩
  | 119 => ⟨S8x64x64, .f32⟩
  | 120 => ⟨S_, .f32⟩
  | 121 => ⟨S8x64x64, .f32⟩
  | 122 => ⟨S8x64x128, .f32⟩
  | 123 => ⟨S8x64x128, .f32⟩
  | 124 => ⟨S8x64x128, .f32⟩
  | 125 => ⟨S8x64x128, .f32⟩
  | 126 => ⟨S8x64x128, .f32⟩
  | 127 => ⟨S8x1x1, .f32⟩
  | _ => ⟨S8192x1024, .f32⟩

abbrev hbmTy0_1 (i : Nat) : BufTy := match i % 128 with
  | 0 => ⟨S8x128x128, .f32⟩
  | 1 => ⟨S8x128x128, .f32⟩
  | 2 => ⟨S8x128x128, .f32⟩
  | 3 => ⟨S8x128x128, .f32⟩
  | 4 => ⟨S8x128x64, .f32⟩
  | 5 => ⟨S8x64x128, .f32⟩
  | 6 => ⟨S8x128x64, .f32⟩
  | 7 => ⟨S8x64x128, .f32⟩
  | 8 => ⟨S8x128x128, .f32⟩
  | 9 => ⟨S_, .f32⟩
  | 10 => ⟨S8, .f32⟩
  | 11 => ⟨S8x1x1, .f32⟩
  | 12 => ⟨S8x128x128, .f32⟩
  | 13 => ⟨S8x128x128, .f32⟩
  | 14 => ⟨S_, .f32⟩
  | 15 => ⟨S8, .f32⟩
  | 16 => ⟨S8x128x64, .f32⟩
  | 17 => ⟨S8x64x128, .f32⟩
  | 18 => ⟨S8x64x128, .f32⟩
  | 19 => ⟨S8x64x64, .f32⟩
  | 20 => ⟨S8x128x128, .f32⟩
  | 21 => ⟨S8x128x128, .f32⟩
  | 22 => ⟨S8x128x128, .f32⟩
  | 23 => ⟨S8x64x128, .f32⟩
  | 24 => ⟨S8x64x128, .f32⟩
  | 25 => ⟨S8x128x128, .f32⟩
  | 26 => ⟨S8x128x128, .f32⟩
  | 27 => ⟨S8x128x128, .f32⟩
  | 28 => ⟨S8x64x128, .f32⟩
  | 29 => ⟨S_, .f32⟩
  | 30 => ⟨S8x64x64, .f32⟩
  | 31 => ⟨S8x64x64, .f32⟩
  | 32 => ⟨S1x8x64x128, .f32⟩
  | 33 => ⟨S_, .i32⟩
  | 34 => ⟨S_, .i32⟩
  | 35 => ⟨S_, .i32⟩
  | 36 => ⟨S128x8x64x128, .f32⟩
  | 37 => ⟨S1x8x64x128, .f32⟩
  | 38 => ⟨S_, .i32⟩
  | 39 => ⟨S_, .i32⟩
  | 40 => ⟨S_, .i32⟩
  | 41 => ⟨S128x8x64x128, .f32⟩
  | 42 => ⟨S1x8x64x64, .f32⟩
  | 43 => ⟨S_, .i32⟩
  | 44 => ⟨S_, .i32⟩
  | 45 => ⟨S_, .i32⟩
  | 46 => ⟨S128x8x64x64, .f32⟩
  | 47 => ⟨S1x8x64x128, .f32⟩
  | 48 => ⟨S_, .i32⟩
  | 49 => ⟨S_, .i32⟩
  | 50 => ⟨S_, .i32⟩
  | 51 => ⟨S128x8x64x128, .f32⟩
  | 52 => ⟨S1x8x64x128, .f32⟩
  | 53 => ⟨S_, .i32⟩
  | 54 => ⟨S_, .i32⟩
  | 55 => ⟨S_, .i32⟩
  | 56 => ⟨S128x8x64x128, .f32⟩
  | 57 => ⟨S1x8, .f32⟩
  | 58 => ⟨S_, .i32⟩
  | 59 => ⟨S128x8, .f32⟩
  | 60 => ⟨S_, .i32⟩
  | 61 => ⟨S_, .i32⟩
  | 62 => ⟨S128x1x8, .f32⟩
  | 63 => ⟨S_, .i32⟩
  | 64 => ⟨S_, .f32⟩
  | 65 => ⟨S128x8x128, .f32⟩
  | 66 => ⟨S1024x128, .f32⟩
  | 67 => ⟨S128x64x8x128, .f32⟩
  | 68 => ⟨S8192x1024, .f32⟩
  | 69 => ⟨S128x64x8x128, .f32⟩
  | 70 => ⟨S8192x1024, .f32⟩
  | 71 => ⟨S128x64x8x128, .f32⟩
  | 72 => ⟨S8192x1024, .f32⟩
  | 73 => ⟨S128x64x8x128, .f32⟩
  | 74 => ⟨S8192x1024, .f32⟩
  | 75 => ⟨S128x64x8x64, .f32⟩
  | 76 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_c_6 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_v29_3 : Ref sig .tc := ⟨.hbm, 57, rfl⟩
abbrev main_v29_4 : Ref sig .tc := ⟨.hbm, 58, rfl⟩
abbrev main_v29_5 : Ref sig .tc := ⟨.hbm, 59, rfl⟩
abbrev main_v29_6 : Ref sig .tc := ⟨.hbm, 60, rfl⟩
abbrev main_v29_7 : Ref sig .tc := ⟨.hbm, 61, rfl⟩
abbrev main_v29_8 : Ref sig .tc := ⟨.hbm, 62, rfl⟩
abbrev main_v29_9 : Ref sig .tc := ⟨.hbm, 63, rfl⟩
abbrev main_v29_10 : Ref sig .tc := ⟨.hbm, 64, rfl⟩
abbrev main_v29_11 : Ref sig .tc := ⟨.hbm, 65, rfl⟩
abbrev main_v29_12 : Ref sig .tc := ⟨.hbm, 66, rfl⟩
abbrev main_v29_13 : Ref sig .tc := ⟨.hbm, 67, rfl⟩
abbrev main_v29_14 : Ref sig .tc := ⟨.hbm, 68, rfl⟩
abbrev main_v29_15 : Ref sig .tc := ⟨.hbm, 69, rfl⟩
abbrev main_v29_16 : Ref sig .tc := ⟨.hbm, 70, rfl⟩
abbrev main_while0c_c_24 : Ref sig .tc := ⟨.hbm, 71, rfl⟩
abbrev main_while0c_v43 : Ref sig .tc := ⟨.hbm, 72, rfl⟩
abbrev main_while0b_c_24 : Ref sig .tc := ⟨.hbm, 73, rfl⟩
abbrev main_while0b_v43 : Ref sig .tc := ⟨.hbm, 74, rfl⟩
abbrev main_while0b_c_25 : Ref sig .tc := ⟨.hbm, 75, rfl⟩
abbrev main_while0b_v44 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_v0 : Ref sig .tc := ⟨.hbm, 80, rfl⟩
abbrev main_while0b_v45 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_v0 : Ref sig .tc := ⟨.hbm, 85, rfl⟩
abbrev main_while0b_v46 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_v0 : Ref sig .tc := ⟨.hbm, 90, rfl⟩
abbrev main_while0b_v47 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_v0 : Ref sig .tc := ⟨.hbm, 95, rfl⟩
abbrev main_while0b_v48 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_call5_v0 : Ref sig .tc := ⟨.hbm, 100, rfl⟩
abbrev main_while0b_v49 : Ref sig .tc := ⟨.hbm, 101, rfl⟩
abbrev main_while0b_call6_c : Ref sig .tc := ⟨.hbm, 102, rfl⟩
abbrev main_while0b_call6_c_0 : Ref sig .tc := ⟨.hbm, 103, rfl⟩
abbrev main_while0b_call6_c_1 : Ref sig .tc := ⟨.hbm, 104, rfl⟩
abbrev main_while0b_call6_v0 : Ref sig .tc := ⟨.hbm, 105, rfl⟩
abbrev main_while0b_v50 : Ref sig .tc := ⟨.hbm, 106, rfl⟩
abbrev main_while0b_call7_c : Ref sig .tc := ⟨.hbm, 107, rfl⟩
abbrev main_while0b_call7_c_0 : Ref sig .tc := ⟨.hbm, 108, rfl⟩
abbrev main_while0b_call7_c_1 : Ref sig .tc := ⟨.hbm, 109, rfl⟩
abbrev main_while0b_call7_v0 : Ref sig .tc := ⟨.hbm, 110, rfl⟩
abbrev main_while0b_v51 : Ref sig .tc := ⟨.hbm, 111, rfl⟩
abbrev main_while0b_call8_c : Ref sig .tc := ⟨.hbm, 112, rfl⟩
abbrev main_while0b_call8_v0 : Ref sig .tc := ⟨.hbm, 113, rfl⟩
abbrev main_while0b_v52 : Ref sig .tc := ⟨.hbm, 114, rfl⟩
abbrev main_while0b_cst_26 : Ref sig .tc := ⟨.hbm, 115, rfl⟩
abbrev main_while0b_call9_v0 : Ref sig .tc := ⟨.hbm, 116, rfl⟩
abbrev main_while0b_v53_1 : Ref sig .tc := ⟨.hbm, 117, rfl⟩
abbrev main_while0b_call9_v2 : Ref sig .tc := ⟨.hbm, 118, rfl⟩
abbrev main_while0b_v53_0 : Ref sig .tc := ⟨.hbm, 119, rfl⟩
abbrev main_while0b_call9_cst : Ref sig .tc := ⟨.hbm, 120, rfl⟩
abbrev main_while0b_v53_2 : Ref sig .tc := ⟨.hbm, 121, rfl⟩
abbrev main_while0b_v54 : Ref sig .tc := ⟨.hbm, 122, rfl⟩
abbrev main_while0b_v55 : Ref sig .tc := ⟨.hbm, 123, rfl⟩
abbrev main_while0b_v56 : Ref sig .tc := ⟨.hbm, 124, rfl⟩
abbrev main_while0b_v57 : Ref sig .tc := ⟨.hbm, 125, rfl⟩
abbrev main_while0b_v58 : Ref sig .tc := ⟨.hbm, 126, rfl⟩
abbrev main_while0b_v59 : Ref sig .tc := ⟨.hbm, 127, rfl⟩
abbrev main_while0b_v60 : Ref sig .tc := ⟨.hbm, 128, rfl⟩
abbrev main_while0b_v61 : Ref sig .tc := ⟨.hbm, 129, rfl⟩
abbrev main_while0b_v62 : Ref sig .tc := ⟨.hbm, 130, rfl⟩
abbrev main_while0b_v63 : Ref sig .tc := ⟨.hbm, 131, rfl⟩
abbrev main_while0b_v64 : Ref sig .tc := ⟨.hbm, 132, rfl⟩
abbrev main_while0b_v65 : Ref sig .tc := ⟨.hbm, 133, rfl⟩
abbrev main_while0b_v66 : Ref sig .tc := ⟨.hbm, 134, rfl⟩
abbrev main_while0b_v67 : Ref sig .tc := ⟨.hbm, 135, rfl⟩
abbrev main_while0b_v68 : Ref sig .tc := ⟨.hbm, 136, rfl⟩
abbrev main_while0b_cst_27 : Ref sig .tc := ⟨.hbm, 137, rfl⟩
abbrev main_while0b_v69 : Ref sig .tc := ⟨.hbm, 138, rfl⟩
abbrev main_while0b_v70 : Ref sig .tc := ⟨.hbm, 139, rfl⟩
abbrev main_while0b_v71 : Ref sig .tc := ⟨.hbm, 140, rfl⟩
abbrev main_while0b_v72 : Ref sig .tc := ⟨.hbm, 141, rfl⟩
abbrev main_while0b_cst_28 : Ref sig .tc := ⟨.hbm, 142, rfl⟩
abbrev main_while0b_v73 : Ref sig .tc := ⟨.hbm, 143, rfl⟩
abbrev main_while0b_v74 : Ref sig .tc := ⟨.hbm, 144, rfl⟩
abbrev main_while0b_v75 : Ref sig .tc := ⟨.hbm, 145, rfl⟩
abbrev main_while0b_v76 : Ref sig .tc := ⟨.hbm, 146, rfl⟩
abbrev main_while0b_v77 : Ref sig .tc := ⟨.hbm, 147, rfl⟩
abbrev main_while0b_v78 : Ref sig .tc := ⟨.hbm, 148, rfl⟩
abbrev main_while0b_v79 : Ref sig .tc := ⟨.hbm, 149, rfl⟩
abbrev main_while0b_v80 : Ref sig .tc := ⟨.hbm, 150, rfl⟩
abbrev main_while0b_v81 : Ref sig .tc := ⟨.hbm, 151, rfl⟩
abbrev main_while0b_v82 : Ref sig .tc := ⟨.hbm, 152, rfl⟩
abbrev main_while0b_v83 : Ref sig .tc := ⟨.hbm, 153, rfl⟩
abbrev main_while0b_v84 : Ref sig .tc := ⟨.hbm, 154, rfl⟩
abbrev main_while0b_v85 : Ref sig .tc := ⟨.hbm, 155, rfl⟩
abbrev main_while0b_v86 : Ref sig .tc := ⟨.hbm, 156, rfl⟩
abbrev main_while0b_call10_cst : Ref sig .tc := ⟨.hbm, 157, rfl⟩
abbrev main_while0b_call10_v0 : Ref sig .tc := ⟨.hbm, 158, rfl⟩
abbrev main_while0b_v87 : Ref sig .tc := ⟨.hbm, 159, rfl⟩
abbrev main_while0b_call11_v0 : Ref sig .tc := ⟨.hbm, 160, rfl⟩
abbrev main_while0b_call11_c : Ref sig .tc := ⟨.hbm, 161, rfl⟩
abbrev main_while0b_call11_c_0 : Ref sig .tc := ⟨.hbm, 162, rfl⟩
abbrev main_while0b_call11_c_1 : Ref sig .tc := ⟨.hbm, 163, rfl⟩
abbrev main_while0b_v88 : Ref sig .tc := ⟨.hbm, 164, rfl⟩
abbrev main_while0b_call12_v0 : Ref sig .tc := ⟨.hbm, 165, rfl⟩
abbrev main_while0b_call12_c : Ref sig .tc := ⟨.hbm, 166, rfl⟩
abbrev main_while0b_call12_c_0 : Ref sig .tc := ⟨.hbm, 167, rfl⟩
abbrev main_while0b_call12_c_1 : Ref sig .tc := ⟨.hbm, 168, rfl⟩
abbrev main_while0b_v89 : Ref sig .tc := ⟨.hbm, 169, rfl⟩
abbrev main_while0b_call13_v0 : Ref sig .tc := ⟨.hbm, 170, rfl⟩
abbrev main_while0b_call13_c : Ref sig .tc := ⟨.hbm, 171, rfl⟩
abbrev main_while0b_call13_c_0 : Ref sig .tc := ⟨.hbm, 172, rfl⟩
abbrev main_while0b_call13_c_1 : Ref sig .tc := ⟨.hbm, 173, rfl⟩
abbrev main_while0b_v90 : Ref sig .tc := ⟨.hbm, 174, rfl⟩
abbrev main_while0b_call14_v0 : Ref sig .tc := ⟨.hbm, 175, rfl⟩
abbrev main_while0b_call14_c : Ref sig .tc := ⟨.hbm, 176, rfl⟩
abbrev main_while0b_call14_c_0 : Ref sig .tc := ⟨.hbm, 177, rfl⟩
abbrev main_while0b_call14_c_1 : Ref sig .tc := ⟨.hbm, 178, rfl⟩
abbrev main_while0b_v91 : Ref sig .tc := ⟨.hbm, 179, rfl⟩
abbrev main_while0b_call15_v0 : Ref sig .tc := ⟨.hbm, 180, rfl⟩
abbrev main_while0b_call15_c : Ref sig .tc := ⟨.hbm, 181, rfl⟩
abbrev main_while0b_call15_c_0 : Ref sig .tc := ⟨.hbm, 182, rfl⟩
abbrev main_while0b_call15_c_1 : Ref sig .tc := ⟨.hbm, 183, rfl⟩
abbrev main_while0b_v92 : Ref sig .tc := ⟨.hbm, 184, rfl⟩
abbrev main_while0b_call16_v0 : Ref sig .tc := ⟨.hbm, 185, rfl⟩
abbrev main_while0b_call16_c : Ref sig .tc := ⟨.hbm, 186, rfl⟩
abbrev main_while0b_v93 : Ref sig .tc := ⟨.hbm, 187, rfl⟩
abbrev main_while0b_c_29 : Ref sig .tc := ⟨.hbm, 188, rfl⟩
abbrev main_while0b_v94 : Ref sig .tc := ⟨.hbm, 189, rfl⟩
abbrev main_v30 : Ref sig .tc := ⟨.hbm, 190, rfl⟩
abbrev main_c_7 : Ref sig .tc := ⟨.hbm, 191, rfl⟩
abbrev main_call17_v0 : Ref sig .tc := ⟨.hbm, 192, rfl⟩
abbrev main_v31 : Ref sig .tc := ⟨.hbm, 193, rfl⟩
abbrev main_v32 : Ref sig .tc := ⟨.hbm, 194, rfl⟩
abbrev main_v33 : Ref sig .tc := ⟨.hbm, 195, rfl⟩
abbrev main_v34 : Ref sig .tc := ⟨.hbm, 196, rfl⟩
abbrev main_v35 : Ref sig .tc := ⟨.hbm, 197, rfl⟩
abbrev main_v36 : Ref sig .tc := ⟨.hbm, 198, rfl⟩
abbrev main_v37 : Ref sig .tc := ⟨.hbm, 199, rfl⟩
abbrev main_v38 : Ref sig .tc := ⟨.hbm, 200, rfl⟩
abbrev main_v39 : Ref sig .tc := ⟨.hbm, 201, rfl⟩
abbrev main_v40 : Ref sig .tc := ⟨.hbm, 202, rfl⟩
abbrev main_v41 : Ref sig .tc := ⟨.hbm, 203, rfl⟩
abbrev main_v42 : Ref sig .tc := ⟨.hbm, 204, rfl⟩

abbrev nD : Nat := 1
abbrev τ : Topo := Topo.v7x

variable {F : FTy → Type} [FloatOps F]

abbrev main_while0_count : Scf.Loop 32 := ⟨0#32, 128#32, 1#32⟩
-- ==== Kernel3.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .hbm, ⟨3, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S4096x1024, .f32⟩
  | .hbm, ⟨16, _⟩ => ⟨S8192x1024, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S1024x4096, .f32⟩
  | .hbm, ⟨7, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S512x1024 : Shape := ⟨2, ![512, 1024]⟩
abbrev S8192x512 : Shape := ⟨2, ![8192, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x8704 : Shape := ⟨2, ![8192, 8704]⟩
abbrev S1024x8704 : Shape := ⟨2, ![1024, 8704]⟩
abbrev S8192x1024 : Shape := ⟨2, ![8192, 1024]⟩
abbrev S1024x2176 : Shape := ⟨2, ![1024, 2176]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8704, .bf16⟩
  | .hbm, ⟨1, _⟩ => ⟨S1024x8704, .bf16⟩
  | .hbm, ⟨2, _⟩ => ⟨S8192x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x8704 : Shape := ⟨2, ![8192, 8704]⟩
abbrev S1024x8704 : Shape := ⟨2, ![1024, 8704]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x8704, .bf16⟩
  | .hbm, ⟨1, _⟩ => ⟨S1024x8704, .bf16⟩
  | .hbm, ⟨2, _⟩ => ⟨S_, .f32⟩
  | .hbm, ⟨3, _⟩ => ⟨S8192x1024, .f32⟩
  | .hbm, ⟨4, _⟩ => ⟨S1024x8704, .f32⟩
  | .hbm, ⟨5, _⟩ => ⟨S8192x8704, .f32⟩
  | .hbm, ⟨6, _⟩ => ⟨S8192x8704, .f32⟩
  | .hbm, ⟨7, _⟩ => ⟨S8192x1024, .f32⟩
  | _, _ => ⟨S8192x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S8192x8704 : Shape := ⟨2, ![8192, 8704]⟩
abbrev S1024x8704 : Shape := ⟨2, ![1024, 8704]⟩
abbrev S1x8704 : Shape := ⟨2, ![1, 8704]⟩
abbrev S1024x1024 : Shape := ⟨2, ![1024, 1024]⟩
abbrev S1024x2176 : Shape := ⟨2, ![1024, 2176]⟩
abbrev S1x2176 : Shape := ⟨2, ![1, 2176]⟩
abbrev S8x2176 : Shape := ⟨2, ![8, 2176]⟩
abbrev S128x8x2176 : Shape := ⟨3, ![128, 8, 2176]⟩
abbrev S2176 : Shape := ⟨1, ![2176]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x8704, .bf16⟩
  | .hbm, ⟨2, _⟩ => ⟨S1024x8704, .f32⟩
  | .hbm, ⟨3, _⟩ => ⟨S1x8704, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | .local _ .vmem, ⟨6, _⟩ => ⟨S1x2176, .f32⟩
  | .local _ .vmem, ⟨7, _⟩ => ⟨S1x2176, .f32⟩
  | .local _ .vmem, ⟨8, _⟩ => ⟨S1024x2176, .f32⟩
  | .local _ .vmem, ⟨9, _⟩ => ⟨S8x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference14Ideal.lean ====
abbrev S8192x1024 : Shape := ⟨2, ![8192, 1024]⟩
abbrev S8192x8704 : Shape := ⟨2, ![8192, 8704]⟩
abbrev S_ : Shape := ⟨0, ![]⟩
abbrev S1024x8704 : Shape := ⟨2, ![1024, 8704]⟩
abbrev S8704 : Shape := ⟨1, ![8704]⟩
abbrev S1x8704 : Shape := ⟨2, ![1, 8704]⟩
abbrev S8704x1024 : Shape := ⟨2, ![8704, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8704, .bf16⟩
  | .hbm, ⟨2, _⟩ => ⟨S_, .f32⟩
  | .hbm, ⟨3, _⟩ => ⟨S1024x8704, .f32⟩
  | .hbm, ⟨4, _⟩ => ⟨S_, .f32⟩
  | .hbm, ⟨5, _⟩ => ⟨S8704, .f32⟩
  | .hbm, ⟨6, _⟩ => ⟨S8192x1024, .f32⟩
  | .hbm, ⟨7, _⟩ => ⟨S8192x8704, .f32⟩
  | .hbm, ⟨8, _⟩ => ⟨S1x8704, .f32⟩
  | .hbm, ⟨9, _⟩ => ⟨S8192x8704, .f32⟩
  | .hbm, ⟨10, _⟩ => ⟨S8192x8704, .f32⟩
  | .hbm, ⟨11, _⟩ => ⟨S8192x8704, .f32⟩
  | .hbm, ⟨12, _⟩ => ⟨S_, .f32⟩
  | .hbm, ⟨13, _⟩ => ⟨S8704, .f32⟩
  | .hbm, ⟨14, _⟩ => ⟨S1x8704, .f32⟩
  | .hbm, ⟨15, _⟩ => ⟨S_, .f32⟩
  | .hbm, ⟨16, _⟩ => ⟨S8704, .f32⟩
  | .hbm, ⟨17, _⟩ => ⟨S8704x1024, .f32⟩
  | .hbm, ⟨18, _⟩ => ⟨S1024x8704, .f32⟩
  | .hbm, ⟨19, _⟩ => ⟨S1x8704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel15.lean ====
abbrev S8192x1024 : Shape := ⟨2, ![8192, 1024]⟩
abbrev S1024x8704 : Shape := ⟨2, ![1024, 8704]⟩
abbrev S1x8704 : Shape := ⟨2, ![1, 8704]⟩
abbrev S8192x8704 : Shape := ⟨2, ![8192, 8704]⟩
abbrev S1024x1024 : Shape := ⟨2, ![1024, 1024]⟩
abbrev S1024x2176 : Shape := ⟨2, ![1024, 2176]⟩
abbrev S1x2176 : Shape := ⟨2, ![1, 2176]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x8704, .bf16⟩
  | .hbm, ⟨2, _⟩ => ⟨S1x8704, .f32⟩
  | .hbm, ⟨3, _⟩ => ⟨S8192x8704, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1x2176, .f32⟩
  | .local _ .vmem, ⟨5, _⟩ => ⟨S1x2176, .f32⟩
  | .local _ .vmem, ⟨6, _⟩ => ⟨S1024x2176, .f32⟩
  | .local _ .vmem, ⟨7, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x1024 : Shape := ⟨2, ![8192, 1024]⟩
abbrev S1024x8704 : Shape := ⟨2, ![1024, 8704]⟩
abbrev S1x8704 : Shape := ⟨2, ![1, 8704]⟩
abbrev S8192x8704 : Shape := ⟨2, ![8192, 8704]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8704, .bf16⟩
  | .hbm, ⟨2, _⟩ => ⟨S1x8704, .f32⟩
  | .hbm, ⟨3, _⟩ => ⟨S8192x1024, .f32⟩
  | .hbm, ⟨4, _⟩ => ⟨S1024x8704, .f32⟩
  | .hbm, ⟨5, _⟩ => ⟨S8192x8704, .f32⟩
  | .hbm, ⟨6, _⟩ => ⟨S8192x8704, .f32⟩
  | .hbm, ⟨7, _⟩ => ⟨S8192x8704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .bf16⟩
  | .hbm, ⟨2, _⟩ => ⟨S512x1024, .f32⟩
  | .hbm, ⟨3, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S4x2048x1058 : Shape := ⟨3, ![4, 2048, 1058]⟩
abbrev S2048x1058 : Shape := ⟨2, ![2048, 1058]⟩
abbrev S4x64x1058 : Shape := ⟨3, ![4, 64, 1058]⟩
abbrev S64x1058 : Shape := ⟨2, ![64, 1058]⟩
abbrev S1x64x1058 : Shape := ⟨3, ![1, 64, 1058]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x1058, .bf16⟩
  | .hbm, ⟨1, _⟩ => ⟨S2048x1058, .f32⟩
  | .hbm, ⟨2, _⟩ => ⟨S2048x1058, .f32⟩
  | .hbm, ⟨3, _⟩ => ⟨S2048x1058, .f32⟩
  | .hbm, ⟨4, _⟩ => ⟨S2048x1058, .f32⟩
  | .hbm, ⟨5, _⟩ => ⟨S2048x1058, .f32⟩
  | .hbm, ⟨6, _⟩ => ⟨S2048x1058, .f32⟩
  | .hbm, ⟨7, _⟩ => ⟨S2048x1058, .f32⟩
  | .local _ .vmem, ⟨0, _⟩ => ⟨S4x64x1058, .bf16⟩
  | .local _ .vmem, ⟨1, _⟩ => ⟨S4x64x1058, .bf16⟩
  | .local _ .vmem, ⟨2, _⟩ => ⟨S64x1058, .f32⟩
  | .local _ .vmem, ⟨3, _⟩ => ⟨S64x1058, .f32⟩
  | .local _ .vmem, ⟨4, _⟩ => ⟨S64x1058, .f32⟩
  | .local _ .vmem, ⟨5, _⟩ => ⟨S64x1058, .f32⟩
  | .local _ .vmem, ⟨6, _⟩ => ⟨S64x1058, .f32⟩
  | .local _ .vmem, ⟨7, _⟩ => ⟨S64x1058, .f32⟩
  | .local _ .vmem, ⟨8, _⟩ => ⟨S64x1058, .f32⟩
  | .local _ .vmem, ⟨9, _⟩ => ⟨S64x1058, .f32⟩
  | .local _ .vmem, ⟨10, _⟩ => ⟨S64x1058, .f32⟩
  | .local _ .vmem, ⟨11, _⟩ => ⟨S64x1058, .f32⟩
  | .local _ .vmem, ⟨12, _⟩ => ⟨S64x1058, .f32⟩
  | .local _ .vmem, ⟨13, _⟩ => ⟨S64x1058, .f32⟩
  | .local _ .vmem, ⟨14, _⟩ => ⟨S64x1058, .f32⟩
  | .local _ .vmem, ⟨15, _⟩ => ⟨S64x1058, .f32⟩
  | _, _ => ⟨S4x2048x1058, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x1058 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1058 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1058 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1058 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1058 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1058 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1058 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1058 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4x2048x1058 : Shape := ⟨3, ![4, 2048, 1058]⟩
abbrev S2048x1058 : Shape := ⟨2, ![2048, 1058]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1058, .bf16⟩
  | .hbm, ⟨1, _⟩ => ⟨S2048x1058, .f32⟩
  | .hbm, ⟨2, _⟩ => ⟨S2048x1058, .f32⟩
  | .hbm, ⟨3, _⟩ => ⟨S2048x1058, .f32⟩
  | .hbm, ⟨4, _⟩ => ⟨S4x2048x1058, .f32⟩
  | .hbm, ⟨5, _⟩ => ⟨S_, .f32⟩
  | .hbm, ⟨6, _⟩ => ⟨S2048x1058, .f32⟩
  | .hbm, ⟨7, _⟩ => ⟨S_, .f32⟩
  | .hbm, ⟨8, _⟩ => ⟨S2048x1058, .f32⟩
  | .hbm, ⟨9, _⟩ => ⟨S2048x1058, .f32⟩
  | .hbm, ⟨10, _⟩ => ⟨S_, .f32⟩
  | .hbm, ⟨11, _⟩ => ⟨S2048x1058, .f32⟩
  | .hbm, ⟨12, _⟩ => ⟨S2048x1058, .f32⟩
  | .hbm, ⟨13, _⟩ => ⟨S2048x1058, .f32⟩
  | .hbm, ⟨14, _⟩ => ⟨S_, .f32⟩
  | .hbm, ⟨15, _⟩ => ⟨S2048x1058, .f32⟩
  | .hbm, ⟨16, _⟩ => ⟨S2048x1058, .f32⟩
  | .hbm, ⟨17, _⟩ => ⟨S2048x1058, .f32⟩
  | .hbm, ⟨18, _⟩ => ⟨S_, .f32⟩
  | .hbm, ⟨19, _⟩ => ⟨S2048x1058, .f32⟩
  | .hbm, ⟨20, _⟩ => ⟨S2048x1058, .f32⟩
  | .hbm, ⟨21, _⟩ => ⟨S2048x1058, .f32⟩
  | .hbm, ⟨22, _⟩ => ⟨S_, .f32⟩
  | .hbm, ⟨23, _⟩ => ⟨S2048x1058, .f32⟩
  | .hbm, ⟨24, _⟩ => ⟨S2048x1058, .f32⟩
  | .hbm, ⟨25, _⟩ => ⟨S_, .f32⟩
  | .hbm, ⟨26, _⟩ => ⟨S2048x1058, .f32⟩
  | .hbm, ⟨27, _⟩ => ⟨S2048x1058, .f32⟩
  | .hbm, ⟨28, _⟩ => ⟨S2048x1058, .f32⟩
  | .hbm, ⟨29, _⟩ => ⟨S_, .f32⟩
  | .hbm, ⟨30, _⟩ => ⟨S2048x1058, .f32⟩
  | .hbm, ⟨31, _⟩ => ⟨S2048x1058, .f32⟩
  | .hbm, ⟨32, _⟩ => ⟨S2048x1058, .f32⟩
  | .hbm, ⟨33, _⟩ => ⟨S_, .f32⟩
  | .hbm, ⟨34, _⟩ => ⟨S2048x1058, .f32⟩
  | .hbm, ⟨35, _⟩ => ⟨S2048x1058, .f32⟩
  | .hbm, ⟨36, _⟩ => ⟨S2048x1058, .f32⟩
  | .hbm, ⟨37, _⟩ => ⟨S_, .f32⟩
  | .hbm, ⟨38, _⟩ => ⟨S2048x1058, .f32⟩
  | .hbm, ⟨39, _⟩ => ⟨S2048x1058, .f32⟩
  | _, _ => ⟨S4x2048x1058, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S4x23552x128 : Shape := ⟨3, ![4, 23552, 128]⟩
abbrev S23552x128 : Shape := ⟨2, ![23552, 128]⟩
abbrev S4x1024x128 : Shape := ⟨3, ![4, 1024, 128]⟩
abbrev S1024x128 : Shape := ⟨2, ![1024, 128]⟩
abbrev S1x1024x128 : Shape := ⟨3, ![1, 1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x23552x128, .bf16⟩
  | .hbm, ⟨1, _⟩ => ⟨S23552x128, .f32⟩
  | .hbm, ⟨2, _⟩ => ⟨S23552x128, .f32⟩
  | .hbm, ⟨3, _⟩ => ⟨S23552x128, .f32⟩
  | .hbm, ⟨4, _⟩ => ⟨S23552x128, .f32⟩
  | .hbm, ⟨5, _⟩ => ⟨S23552x128, .f32⟩
  | .hbm, ⟨6, _⟩ => ⟨S23552x128, .f32⟩
  | .hbm, ⟨7, _⟩ => ⟨S23552x128, .f32⟩
  | .local _ .vmem, ⟨0, _⟩ => ⟨S4x1024x128, .bf16⟩
  | .local _ .vmem, ⟨1, _⟩ => ⟨S4x1024x128, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S4x23552x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S4x23552x128 : Shape := ⟨3, ![4, 23552, 128]⟩
abbrev S23552x128 : Shape := ⟨2, ![23552, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x23552x128, .bf16⟩
  | .hbm, ⟨1, _⟩ => ⟨S23552x128, .f32⟩
  | .hbm, ⟨2, _⟩ => ⟨S23552x128, .f32⟩
  | .hbm, ⟨3, _⟩ => ⟨S23552x128, .f32⟩
  | .hbm, ⟨4, _⟩ => ⟨S4x23552x128, .f32⟩
  | .hbm, ⟨5, _⟩ => ⟨S_, .f32⟩
  | .hbm, ⟨6, _⟩ => ⟨S23552x128, .f32⟩
  | .hbm, ⟨7, _⟩ => ⟨S_, .f32⟩
  | .hbm, ⟨8, _⟩ => ⟨S23552x128, .f32⟩
  | .hbm, ⟨9, _⟩ => ⟨S23552x128, .f32⟩
  | .hbm, ⟨10, _⟩ => ⟨S_, .f32⟩
  | .hbm, ⟨11, _⟩ => ⟨S23552x128, .f32⟩
  | .hbm, ⟨12, _⟩ => ⟨S23552x128, .f32⟩
  | .hbm, ⟨13, _⟩ => ⟨S23552x128, .f32⟩
  | .hbm, ⟨14, _⟩ => ⟨S_, .f32⟩
  | .hbm, ⟨15, _⟩ => ⟨S23552x128, .f32⟩
  | .hbm, ⟨16, _⟩ => ⟨S23552x128, .f32⟩
  | .hbm, ⟨17, _⟩ => ⟨S23552x128, .f32⟩
  | .hbm, ⟨18, _⟩ => ⟨S_, .f32⟩
  | .hbm, ⟨19, _⟩ => ⟨S23552x128, .f32⟩
  | .hbm, ⟨20, _⟩ => ⟨S23552x128, .f32⟩
  | .hbm, ⟨21, _⟩ => ⟨S23552x128, .f32⟩
  | .hbm, ⟨22, _⟩ => ⟨S_, .f32⟩
  | .hbm, ⟨23, _⟩ => ⟨S23552x128, .f32⟩
  | .hbm, ⟨24, _⟩ => ⟨S23552x128, .f32⟩
  | .hbm, ⟨25, _⟩ => ⟨S_, .f32⟩
  | .hbm, ⟨26, _⟩ => ⟨S23552x128, .f32⟩
  | .hbm, ⟨27, _⟩ => ⟨S23552x128, .f32⟩
  | .hbm, ⟨28, _⟩ => ⟨S23552x128, .f32⟩
  | .hbm, ⟨29, _⟩ => ⟨S_, .f32⟩
  | .hbm, ⟨30, _⟩ => ⟨S23552x128, .f32⟩
  | .hbm, ⟨31, _⟩ => ⟨S23552x128, .f32⟩
  | .hbm, ⟨32, _⟩ => ⟨S23552x128, .f32⟩
  | .hbm, ⟨33, _⟩ => ⟨S_, .f32⟩
  | .hbm, ⟨34, _⟩ => ⟨S23552x128, .f32⟩
  | .hbm, ⟨35, _⟩ => ⟨S23552x128, .f32⟩
  | .hbm, ⟨36, _⟩ => ⟨S23552x128, .f32⟩
  | .hbm, ⟨37, _⟩ => ⟨S_, .f32⟩
  | .hbm, ⟨38, _⟩ => ⟨S23552x128, .f32⟩
  | .hbm, ⟨39, _⟩ => ⟨S23552x128, .f32⟩
  | _, _ => ⟨S4x23552x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x1024x128 : Shape := ⟨3, ![8, 1024, 128]⟩
abbrev S1024x128 : Shape := ⟨2, ![1024, 128]⟩
abbrev S1x1024x128 : Shape := ⟨3, ![1, 1024, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .local _ .vmem, ⟨0, _⟩ => ⟨S8x1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S8x1024x128 : Shape := ⟨3, ![8, 1024, 128]⟩
abbrev S1024x128 : Shape := ⟨2, ![1024, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S_, .f32⟩
  | .hbm, ⟨7, _⟩ => ⟨S1024x128, .f32⟩
  | .hbm, ⟨8, _⟩ => ⟨S1024x128, .f32⟩
  | .hbm, ⟨9, _⟩ => ⟨S_, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S_, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1024x128, .f32⟩
  | .hbm, ⟨27, _⟩ => ⟨S1024x128, .f32⟩
  | .hbm, ⟨28, _⟩ => ⟨S_, .f32⟩
  | .hbm, ⟨29, _⟩ => ⟨S1024x128, .f32⟩
  | .hbm, ⟨30, _⟩ => ⟨S1024x128, .f32⟩
  | .hbm, ⟨31, _⟩ => ⟨S1024x128, .f32⟩
  | .hbm, ⟨32, _⟩ => ⟨S_, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel25.lean ====
abbrev S8192x1024 : Shape := ⟨2, ![8192, 1024]⟩
abbrev S8192x8704 : Shape := ⟨2, ![8192, 8704]⟩
abbrev S512x1024 : Shape := ⟨2, ![512, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8704, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S8192x1024 : Shape := ⟨2, ![8192, 1024]⟩
abbrev S8192x8704 : Shape := ⟨2, ![8192, 8704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8704, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel26.lean ====
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v37 : BitVec 1 := Scalar.cmpi .eq arg0 c15_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩
abbrev S1 : Shape := ⟨1, ![1]⟩
abbrev S1x1 : Shape := ⟨2, ![1, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S8x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v43 : BitVec 1 := Scalar.cmpi .eq arg0 c15_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel28.lean ====
abbrev S8192x1024 : Shape := ⟨2, ![8192, 1024]⟩
abbrev S8192x8704 : Shape := ⟨2, ![8192, 8704]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x8704, .f32⟩
  | .hbm, ⟨2, _⟩ => ⟨S1x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S8192x1024 : Shape := ⟨2, ![8192, 1024]⟩
abbrev S8192x8704 : Shape := ⟨2, ![8192, 8704]⟩
abbrev S1x128 : Shape := ⟨2, ![1, 128]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8704, .f32⟩
  | .hbm, ⟨2, _⟩ => ⟨S1x128, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S128, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x128, .f32⟩
  | .hbm, ⟨19, _⟩ => ⟨S8192x8x128, .f32⟩
  | .hbm, ⟨20, _⟩ => ⟨S1x1x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S8192x8x128, .f32⟩
  | .hbm, ⟨25, _⟩ => ⟨S_, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S8192x8x128, .f32⟩
  | .hbm, ⟨30, _⟩ => ⟨S8192x8x128, .f32⟩
  | .hbm, ⟨31, _⟩ => ⟨S8192x8x128, .f32⟩
  | .hbm, ⟨32, _⟩ => ⟨S8192x8x128, .f32⟩
  | .hbm, ⟨33, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel29.lean ====
abbrev S8192x8704 : Shape := ⟨2, ![8192, 8704]⟩
abbrev S4x2048 : Shape := ⟨2, ![4, 2048]⟩
abbrev S8192x2048 : Shape := ⟨2, ![8192, 2048]⟩
abbrev S8192x1024 : Shape := ⟨2, ![8192, 1024]⟩
abbrev S512x2048 : Shape := ⟨2, ![512, 2048]⟩
abbrev S8x2048 : Shape := ⟨2, ![8, 2048]⟩
abbrev S512x1024 : Shape := ⟨2, ![512, 1024]⟩
abbrev S520x2048 : Shape := ⟨2, ![520, 2048]⟩
abbrev S1x2048 : Shape := ⟨2, ![1, 2048]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 11
  | .smem => 0
  | _ => 0

abbrev bufTy : (tb : Table) → Fin (tcTables nBuf tb) → BufTy
  | .hbm, ⟨0, _⟩ => ⟨S8192x8704, .f32⟩
  | .hbm, ⟨1, _⟩ => ⟨S4x2048, .f32⟩
  | .hbm, ⟨2, _⟩ => ⟨S8192x2048, .f32⟩
  | .hbm, ⟨3, _⟩ => ⟨S8192x1024, .f32⟩
  | .hbm, ⟨4, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S4x2048, .f32⟩
  | .local _ .vmem, ⟨5, _⟩ => ⟨S512x2048, .f32⟩
  | .local _ .vmem, ⟨6, _⟩ => ⟨S512x2048, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S8192x8704 : Shape := ⟨2, ![8192, 8704]⟩
abbrev S4x2048 : Shape := ⟨2, ![4, 2048]⟩
abbrev S8192x2048 : Shape := ⟨2, ![8192, 2048]⟩
abbrev S_ : Shape := ⟨0, ![]⟩
abbrev S8195x2048 : Shape := ⟨2, ![8195, 2048]⟩
abbrev S1x2048 : Shape := ⟨2, ![1, 2048]⟩
abbrev S2048 : Shape := ⟨1, ![2048]⟩
abbrev S8192x1024 : Shape := ⟨2, ![8192, 1024]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x8704, .f32⟩
  | .hbm, ⟨1, _⟩ => ⟨S4x2048, .f32⟩
  | .hbm, ⟨2, _⟩ => ⟨S8192x2048, .f32⟩
  | .hbm, ⟨3, _⟩ => ⟨S_, .i32⟩
  | .hbm, ⟨4, _⟩ => ⟨S_, .f32⟩
  | .hbm, ⟨5, _⟩ => ⟨S8195x2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1024, .f32⟩
  | .hbm, ⟨43, _⟩ => ⟨S8192x1024, .f32⟩
  | .hbm, ⟨44, _⟩ => ⟨S8192x8x128, .f32⟩
  | .hbm, ⟨45, _⟩ => ⟨S8192x8x128, .f32⟩
  | .hbm, ⟨46, _⟩ => ⟨S_, .f32⟩
  | .hbm, ⟨47, _⟩ => ⟨S8192x8, .f32⟩
  | .hbm, ⟨48, _⟩ => ⟨S8192x8x1, .f32⟩
  | .hbm, ⟨49, _⟩ => ⟨S_, .f32⟩
  | .hbm, ⟨50, _⟩ => ⟨S8192x8x1, .f32⟩
  | .hbm, ⟨51, _⟩ => ⟨S8192x8x1, .f32⟩
  | .hbm, ⟨52, _⟩ => ⟨S8192x8x1, .f32⟩
  | .hbm, ⟨53, _⟩ => ⟨S8192x8x128, .f32⟩
  | .hbm, ⟨54, _⟩ => ⟨S8192x8x128, .f32⟩
  | .hbm, ⟨55, _⟩ => ⟨S8192x1024, .f32⟩
  | _, _ => ⟨S8192x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_cst_0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Tile.lean ====
/- Rank-two blocks described by a function of two natural coordinates, and what the vector operations do to such
   descriptions at the extended reals. -/
module

public import Idealize.ShloMosaic.Lib.Pipeline.ValueKit
public import Idealize.ShloMosaic.Lib.MatmulPlain
public import Idealize.ShloMosaic.Lib.ValueIdx

@[expose] public section

set_option maxRecDepth 16384

noncomputable section

namespace Cert.Tile

open Idealize.ShloMosaic hiding ix0 ix1 ix2 ix3 ix4 ix5
open Idealize.ShloMosaic.ValueIdx
open scoped BigOperators

/-- The block `v` holds `f r c` at row `r` and column `c`. -/
def Tile {α : Type} {a b : ℕ} (f : ℕ → ℕ → α) (v : (⟨2, ![a, b]⟩ : Shape).Idx → α) : Prop :=
  ∀ y, v y = f (y 0).val (y 1).val

section Any

variable {α : Type} {a b : ℕ} {f g : ℕ → ℕ → α}

/-- Two descriptions that agree inside the block describe the same block. -/
theorem Tile.congr {v : (⟨2, ![a, b]⟩ : Shape).Idx → α} (h : Tile f v)
    (e : ∀ i < a, ∀ j < b, f i j = g i j) : Tile g v :=
  fun y => (h y).trans (e _ (idx2_lt0 y) _ (idx2_lt1 y))

theorem Tile.at {v : (⟨2, ![a, b]⟩ : Shape).Idx → α} (h : Tile f v) (i : Fin a) (j : Fin b) :
    v (ix2 i j) = f i.val j.val := h (ix2 i j)

/-- A load through a unit rectangle of a whole buffer, at an index. -/
theorem readAt_unit {A B : ℕ} {sig : RefSig} {κ : Kind} {cs : Space} {e : EltTy}
    (m : Memref sig κ cs (⟨2, ![A, B]⟩ : Shape) e) (hm : m.IsWhole)
    (X : (⟨2, ![A, B]⟩ : Shape).Idx → Elt Ideal e)
    (off size : Fin 2 → ℕ) (inb : ∀ i, off i + size i ≤ (⟨2, ![A, B]⟩ : Shape).size i)
    (y : (Rect.unit (s := ⟨2, ![A, B]⟩) off size inb).shape.Idx) :
    View.readAt (Elt Ideal) m.view (Rect.unit (s := ⟨2, ![A, B]⟩) off size inb).toLoadRect (hm.unread X) y
      = X ((Rect.unit (s := ⟨2, ![A, B]⟩) off size inb).idx y) := by
  rw [View.readAt_eq_ld, hm.read_unread]

/-- The index a unit rectangle places, read by a description. -/
theorem tile_idx {A B : ℕ} {X : (⟨2, ![A, B]⟩ : Shape).Idx → α} (hX : Tile f X)
    (off size : Fin 2 → ℕ) (inb : ∀ i, off i + size i ≤ (⟨2, ![A, B]⟩ : Shape).size i)
    (y : (Rect.unit (s := ⟨2, ![A, B]⟩) off size inb).shape.Idx) :
    X ((Rect.unit (s := ⟨2, ![A, B]⟩) off size inb).idx y) = f (off 0 + (y 0).val) (off 1 + (y 1).val) := by
  refine (hX _).trans ?_
  show f (off 0 + 1 * (y 0).val) (off 1 + 1 * (y 1).val) = _
  rw [one_mul, one_mul]

/-- A block loaded through a unit rectangle. -/
theorem tile_load {A B : ℕ} {sig : RefSig} {κ : Kind} {cs : Space} {e : EltTy} {f : ℕ → ℕ → Elt Ideal e}
    {m : Memref sig κ cs (⟨2, ![A, B]⟩ : Shape) e} {hm : m.IsWhole}
    {X : (⟨2, ![A, B]⟩ : Shape).Idx → Elt Ideal e} (hX : Tile (a := A) (b := B) f X)
    {o p : ℕ} {inb : ∀ i, ![o, p] i + (![a, b] : Fin 2 → ℕ) i ≤ (⟨2, ![A, B]⟩ : Shape).size i} :
    Tile (a := a) (b := b) (fun r c => f (o + r) (p + c))
      (View.readAt (Elt Ideal) m.view (Rect.unit (s := ⟨2, ![A, B]⟩) ![o, p] ![a, b] inb).toLoadRect (hm.unread X)) :=
  fun y => (readAt_unit m hm X _ _ inb y).trans (tile_idx (f := f) hX _ _ inb y)

/-- The block a load through the unit rectangle at `[o, p]` reads off a buffer holding `X`. -/
def ld {A B : ℕ} {sig : RefSig} {κ : Kind} {cs : Space} {e : EltTy} (m : Memref sig κ cs (⟨2, ![A, B]⟩ : Shape) e) (hm : m.IsWhole)
    (X : (⟨2, ![A, B]⟩ : Shape).Idx → Elt Ideal e) (o p a b : ℕ)
    (inb : ∀ i, ![o, p] i + (![a, b] : Fin 2 → ℕ) i ≤ (⟨2, ![A, B]⟩ : Shape).size i) : (⟨2, ![a, b]⟩ : Shape).Idx → Elt Ideal e :=
  View.readAt (Elt Ideal) m.view (Rect.unit (s := ⟨2, ![A, B]⟩) ![o, p] ![a, b] inb).toLoadRect (hm.unread X)

theorem tile_ld {A B : ℕ} {sig : RefSig} {κ : Kind} {cs : Space} {e : EltTy} {f g : ℕ → ℕ → Elt Ideal e}
    {m : Memref sig κ cs (⟨2, ![A, B]⟩ : Shape) e} {hm : m.IsWhole}
    {X : (⟨2, ![A, B]⟩ : Shape).Idx → Elt Ideal e} (hX : Tile (a := A) (b := B) f X) {o p : ℕ}
    {inb : ∀ i, ![o, p] i + (![a, b] : Fin 2 → ℕ) i ≤ (⟨2, ![A, B]⟩ : Shape).size i}
    (h : ∀ i < a, ∀ j < b, f (o + i) (p + j) = g i j) : Tile g (ld m hm X o p a b inb) :=
  (tile_load hX).congr h

/-- A piece of a buffer stored at `[o, p]` holds there the values `G` names. -/
theorem allAt_tile {Val : EltTy → Type} {e : EltTy} {A B : ℕ} (G : ℕ → ℕ → Val e) (y : (⟨2, ![A, B]⟩ : Shape).Idx) {o p : ℕ}
    {inb : ∀ i, ![o, p] i + (![a, b] : Fin 2 → ℕ) i ≤ (⟨2, ![A, B]⟩ : Shape).size i}
    {w : (⟨2, ![a, b]⟩ : Shape).Idx → Val e} {L : List (View.Piece Val (⟨2, ![A, B]⟩ : Shape) e)}
    (hw : Tile (fun i j => G (o + i) (p + j)) w) (h : View.AllAt L y (G (y 0).val (y 1).val)) :
    View.AllAt ((⟨Rect.unit (s := ⟨2, ![A, B]⟩) ![o, p] ![a, b] inb, w⟩ : View.Piece Val (⟨2, ![A, B]⟩ : Shape) e) :: L) y
      (G (y 0).val (y 1).val) :=
  View.allAt_cons_unit (S := ⟨2, ![A, B]⟩) _ _ _ w L (fun x hx => (hw x).trans (congrArg₂ G (hx 0).symm (hx 1).symm)) h

/-- A matrix stored as one plane of a rank-three buffer. -/
theorem allAt_plane {Val : EltTy → Type} {e : EltTy} {A B C : ℕ} (G : ℕ → ℕ → ℕ → Val e) (y : (⟨3, ![A, B, C]⟩ : Shape).Idx)
    {o p : ℕ} {inb : ∀ i, ![o, p, 0] i + (![1, a, b] : Fin 3 → ℕ) i ≤ (⟨3, ![A, B, C]⟩ : Shape).size i}
    {w : (⟨2, ![a, b]⟩ : Shape).Idx → Val e} {hc : (⟨2, ![a, b]⟩ : Shape).ShapeCasts ⟨3, ![1, a, b]⟩}
    {L : List (View.Piece Val (⟨3, ![A, B, C]⟩ : Shape) e)}
    (hw : Tile (fun i j => G o (p + i) j) w) (h : View.AllAt L y (G (y 0).val (y 1).val (y 2).val)) :
    View.AllAt ((⟨Rect.unit (s := ⟨3, ![A, B, C]⟩) ![o, p, 0] ![1, a, b] inb, shapeCast (⟨3, ![1, a, b]⟩ : Shape) w hc⟩ :
        View.Piece Val (⟨3, ![A, B, C]⟩ : Shape) e) :: L) y (G (y 0).val (y 1).val (y 2).val) := by
  refine View.allAt_cons_unit (S := ⟨3, ![A, B, C]⟩) _ _ _ _ L (fun x hx => ?_) h
  refine (shapeCast_addUnit_apply (n := 2) ![a, b] w hc x).trans ?_
  refine (hw _).trans ?_
  have h0 := hx 0
  have h1 := hx 1
  have h2 := hx 2
  have hl : (x 0).val < 1 := (x 0).isLt
  simp at h0 h1 h2
  show G o (p + (x 1).val) (x 2).val = _
  congr 1 <;> omega

/-- A block loaded through a unit rectangle from what one whole store left. -/
theorem tile_cov {Val : EltTy → Type} [∀ e, Nonempty (Val e)] {A B : ℕ} {sig : RefSig} {κ : Kind} {cs : Space} {e : EltTy}
    {f : ℕ → ℕ → Val e} {v : View sig κ cs (⟨2, ![A, B]⟩ : Shape) e} {X : (⟨2, ![A, B]⟩ : Shape).Idx → Val e}
    (hX : Tile (a := A) (b := B) f X) {o p : ℕ} {inbX : ∀ i, ![0, 0] i + (![A, B] : Fin 2 → ℕ) i ≤ (⟨2, ![A, B]⟩ : Shape).size i}
    {inb : ∀ i, ![o, p] i + (![a, b] : Fin 2 → ℕ) i ≤ (⟨2, ![A, B]⟩ : Shape).size i} :
    Tile (a := a) (b := b) (fun r c => f (o + r) (p + c))
      (v.readCov [(⟨Rect.unit (s := ⟨2, ![A, B]⟩) ![0, 0] ![A, B] inbX, X⟩ : View.Piece Val (⟨2, ![A, B]⟩ : Shape) e)]
        (Rect.unit (s := ⟨2, ![A, B]⟩) ![o, p] ![a, b] inb).toLoadRect) := by
  have hcov : ∀ y, ∃ q ∈ [(⟨Rect.unit (s := ⟨2, ![A, B]⟩) ![0, 0] ![A, B] inbX, X⟩ : View.Piece Val (⟨2, ![A, B]⟩ : Shape) e)],
      y ∈ q.1.set := fun y => ⟨_, List.mem_singleton.mpr rfl,
    View.mem_set_unit_zero (S := ⟨2, ![A, B]⟩) (by ext i; fin_cases i <;> rfl) inbX y⟩
  intro y
  refine (congrFun (View.readCov_eq_canon_ld v _ (Rect.unit (s := ⟨2, ![A, B]⟩) ![o, p] ![a, b] inb) hcov) y).trans ?_
  refine (View.canon_eq_of_allAt _ _ _ (hcov _) (allAt_tile f _ (hX.congr fun i _ j _ => ?_) (View.allAt_nil _ _))).trans ?_
  · rw [zero_add, zero_add]
  · show f (o + 1 * (y 0).val) (p + 1 * (y 1).val) = _
    rw [one_mul, one_mul]

end Any

variable {a b k : ℕ} {f g : ℕ → ℕ → EReal}

variable {φ ψ : FTy} {u v : FVec Ideal (⟨2, ![a, b]⟩ : Shape) φ}

theorem tile_truncf (h : ψ.bits < φ.bits) (hv : Tile f v) : Tile f (truncf ψ v h) := hv
theorem tile_extf (h : φ.bits < ψ.bits) (hv : Tile f v) : Tile f (extf ψ v h) := hv
theorem tile_addf (hu : Tile f u) (hv : Tile g v) : Tile (fun i j => f i j + g i j) (addf u v) :=
  fun y => congrArg₂ (· + ·) (hu y) (hv y)
theorem tile_subf (hu : Tile f u) (hv : Tile g v) : Tile (fun i j => f i j - g i j) (subf u v) :=
  fun y => congrArg₂ (· - ·) (hu y) (hv y)
theorem tile_mulf (hu : Tile f u) (hv : Tile g v) : Tile (fun i j => f i j * g i j) (mulf u v) :=
  fun y => congrArg₂ (· * ·) (hu y) (hv y)
theorem tile_exp (hv : Tile f v) : Tile (fun i j => Ideal.exp (f i j)) (exp v) :=
  fun y => congrArg Ideal.exp (hv y)

/-- One element spread over a block. -/
theorem tile_broadcast {w : FVec Ideal (⟨2, ![1, 1]⟩ : Shape) φ} (hw : Tile f w)
    (h : (⟨2, ![1, 1]⟩ : Shape).Broadcasts ⟨2, ![a, b]⟩) :
    Tile (fun _ _ => f 0 0) (broadcastTo (⟨2, ![a, b]⟩ : Shape) w h) :=
  fun _ => hw _

theorem tile_shapeCast (h : (⟨2, ![a, b]⟩ : Shape).ShapeCasts ⟨2, ![a, b]⟩) (hv : Tile f v) :
    Tile f (shapeCast (⟨2, ![a, b]⟩ : Shape) v h) := by
  rw [shapeCast_self]; exact hv

/-- The dimension numbers of a product contracted on both operands' rows. -/
def dotTN (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {M K N : ℕ}

theorem dot_plain {u : FVec Ideal (⟨2, ![M, K]⟩ : Shape) φ} {v : FVec Ideal (⟨2, ![K, N]⟩ : Shape) ψ}
    (hu : Tile f u) (hv : Tile g v) (p : Option ContractPrecision) :
    Tile (fun i j => ∑ q : Fin K, f i q.val * g q.val j)
      (matmul (DotDims.plain M K N) p u v (constant (⟨2, ![M, N]⟩ : Shape) .f32 0#32)) := by
  intro y
  obtain ⟨r, c, rfl⟩ : ∃ r c, y = ix2 r c := ⟨_, _, ValueIdx.eq_ix2 y⟩
  refine (Ideal.matmul_plain_apply p u v _ r c).trans ?_
  rw [show constant (F := Ideal) (⟨2, ![M, N]⟩ : Shape) .f32 0#32 (ix2 r c) = 0 from Ideal.ofBits_zero_f32, zero_add]
  exact Finset.sum_congr rfl fun q _ => congrArg₂ (· * ·) (hu.at r q) (hv.at q c)

theorem dot_nt {u : FVec Ideal (⟨2, ![M, K]⟩ : Shape) φ} {v : FVec Ideal (⟨2, ![N, K]⟩ : Shape) ψ}
    (hu : Tile f u) (hv : Tile g v) (p : Option ContractPrecision) :
    Tile (fun i j => ∑ q : Fin K, f i q.val * g j q.val)
      (matmul (DotDims.transposedRhs M K N) p u v (constant (⟨2, ![M, N]⟩ : Shape) .f32 0#32)) := by
  intro y
  obtain ⟨r, c, rfl⟩ : ∃ r c, y = ix2 r c := ⟨_, _, ValueIdx.eq_ix2 y⟩
  refine (Ideal.matmul_transposedRhs_apply p u v _ r c).trans ?_
  rw [show constant (F := Ideal) (⟨2, ![M, N]⟩ : Shape) .f32 0#32 (ix2 r c) = 0 from Ideal.ofBits_zero_f32, zero_add]
  exact Finset.sum_congr rfl fun q _ => congrArg₂ (· * ·) (hu.at r q) (hv.at c q)

theorem dot_tn {u : FVec Ideal (⟨2, ![K, M]⟩ : Shape) φ} {v : FVec Ideal (⟨2, ![K, N]⟩ : Shape) ψ}
    (hu : Tile f u) (hv : Tile g v) (p : Option ContractPrecision) :
    Tile (fun i j => ∑ q : Fin K, f q.val i * g q.val j)
      (matmul (dotTN M K N) p u v (constant (⟨2, ![M, N]⟩ : Shape) .f32 0#32)) := by
  intro y
  obtain ⟨r, c, rfl⟩ : ∃ r c, y = ix2 r c := ⟨_, _, ValueIdx.eq_ix2 y⟩
  refine (Ideal.matmul_apply₁ (dotTN M K N) (a := 0) rfl (K := K) rfl u v _ _).trans ?_
  rw [show constant (F := Ideal) (⟨2, ![M, N]⟩ : Shape) .f32 0#32 (ix2 r c) = 0 from Ideal.ofBits_zero_f32, zero_add]
  exact Finset.sum_congr rfl fun q _ => congrArg₂ (· * ·) (hu _) (hv _)

/-- An array as a function of natural coordinates, zero outside. -/
def fn2 {A B : ℕ} (X : (⟨2, ![A, B]⟩ : Shape).Idx → EReal) (r q : ℕ) : EReal :=
  if h : r < A ∧ q < B then X (ix2 ⟨r, h.1⟩ ⟨q, h.2⟩) else 0

theorem fn2_tile {A B : ℕ} (X : (⟨2, ![A, B]⟩ : Shape).Idx → EReal) : Tile (fn2 X) X := by
  intro y
  unfold fn2
  rw [dif_pos ⟨idx2_lt0 y, idx2_lt1 y⟩]
  exact congrArg X (ValueIdx.eq_ix2 y)

theorem fn2_of_lt {A B : ℕ} (X : (⟨2, ![A, B]⟩ : Shape).Idx → EReal) {r q : ℕ} (hr : r < A) (hq : q < B) :
    fn2 X r q = X (ix2 ⟨r, hr⟩ ⟨q, hq⟩) := dif_pos ⟨hr, hq⟩

end Cert.Tile
-- ==== Proof.FwdSpec.lean ====
/- The chunk recurrence of the gated delta rule over natural coordinates: arrays are functions of a row and a column,
   a chunk has 64 rows, a head 128 columns. -/
module

public import proofs.«01_k».proof.Proof.Tile

@[expose] public section

set_option maxRecDepth 16384

noncomputable section

namespace Cert.Fwd

open Idealize.ShloMosaic Cert.Tile
open scoped BigOperators

/-- The six arrays a chunk reads. -/
structure In where
  /-- The values, by token and value column. -/
  U : ℕ → ℕ → EReal
  /-- The keys the state is read at. -/
  W : ℕ → ℕ → EReal
  /-- The decayed queries. -/
  QD : ℕ → ℕ → EReal
  /-- The decayed keys. -/
  KD : ℕ → ℕ → EReal
  /-- The scores inside a chunk. -/
  AT : ℕ → ℕ → EReal
  /-- The cumulated log decays, by token and head. -/
  GC : ℕ → ℕ → EReal

variable (I : In)

/-- What a state `S` leaves of the values of chunk `n` and head `h`. -/
def vnOf (S : ℕ → ℕ → EReal) (n h i e : ℕ) : EReal :=
  I.U (64 * n + i) (128 * h + e) - ∑ d : Fin 128, I.W (64 * n + i) (128 * h + d.val) * S d.val e

/-- The state after chunk `n`, from the state `S` before it. -/
def nextOf (S : ℕ → ℕ → EReal) (n h d e : ℕ) : EReal :=
  S d e * Ideal.exp (I.GC (64 * n + 63) h) + ∑ i : Fin 64, I.KD (64 * n + i.val) (128 * h + d) * vnOf I S n h i.val e

/-- The state of head `h` before chunk `n`. -/
def ST : ℕ → ℕ → ℕ → ℕ → EReal
  | 0 => fun _ _ _ => 0
  | n + 1 => fun h => nextOf I (ST n h) n h

/-- The new values of chunk `n` and head `h`. -/
def VN (n h : ℕ) : ℕ → ℕ → EReal := vnOf I (ST I n h) n h

/-- The output of chunk `n` and head `h`. -/
def OO (n h i e : ℕ) : EReal :=
  ∑ d : Fin 128, I.QD (64 * n + i) (128 * h + d.val) * ST I n h d.val e
    + ∑ j : Fin 64, I.AT (64 * n + i) (64 * h + j.val) * VN I n h j.val e

variable {I} {n h : ℕ}

theorem isV {s : FVec Ideal (⟨2, ![128, 128]⟩ : Shape) .f32} {u w : FVec Ideal (⟨2, ![64, 128]⟩ : Shape) .f32}
    (hs : Tile (ST I n h) s) (hu : Tile (fun i e => I.U (64 * n + i) (128 * h + e)) u)
    (hw : Tile (fun i d => I.W (64 * n + i) (128 * h + d)) w) {b₁ b₂} :
    Tile (VN I n h) (subf u (matmul (DotDims.plain 64 128 128) none (truncf .bf16 w b₁) (truncf .bf16 s b₂)
      (constant (⟨2, ![64, 128]⟩ : Shape) .f32 0#32))) :=
  tile_subf hu (dot_plain (tile_truncf _ hw) (tile_truncf _ hs) none)

theorem isO {s : FVec Ideal (⟨2, ![128, 128]⟩ : Shape) .f32} {q : FVec Ideal (⟨2, ![64, 128]⟩ : Shape) .bf16}
    {a : FVec Ideal (⟨2, ![64, 64]⟩ : Shape) .bf16} {v : FVec Ideal (⟨2, ![64, 128]⟩ : Shape) .f32}
    (hs : Tile (ST I n h) s) (hq : Tile (fun i d => I.QD (64 * n + i) (128 * h + d)) q)
    (ha : Tile (fun i j => I.AT (64 * n + i) (64 * h + j)) a) (hv : Tile (VN I n h) v) {b₁ b₂} :
    Tile (OO I n h) (addf (matmul (DotDims.plain 64 128 128) none q (truncf .bf16 s b₁)
        (constant (⟨2, ![64, 128]⟩ : Shape) .f32 0#32))
      (matmul (DotDims.plain 64 64 128) none a (truncf .bf16 v b₂) (constant (⟨2, ![64, 128]⟩ : Shape) .f32 0#32))) :=
  tile_addf (dot_plain hq (tile_truncf _ hs) none) (dot_plain ha (tile_truncf _ hv) none)

theorem isS {s : FVec Ideal (⟨2, ![128, 128]⟩ : Shape) .f32} {g : FVec Ideal (⟨2, ![1, 1]⟩ : Shape) .f32}
    {k : FVec Ideal (⟨2, ![64, 128]⟩ : Shape) .bf16} {v : FVec Ideal (⟨2, ![64, 128]⟩ : Shape) .f32}
    (hs : Tile (ST I n h) s) (hg : Tile (fun _ _ => I.GC (64 * n + 63) h) g)
    (hk : Tile (fun i d => I.KD (64 * n + i) (128 * h + d)) k) (hv : Tile (VN I n h) v) {b₁ b₂} :
    Tile (ST I (n + 1) h) (addf (mulf s (broadcastTo (⟨2, ![128, 128]⟩ : Shape) (exp g) b₁))
      (matmul (dotTN 128 64 128) none k (truncf .bf16 v b₂) (constant (⟨2, ![128, 128]⟩ : Shape) .f32 0#32))) :=
  tile_addf (tile_mulf hs (tile_broadcast (tile_exp hg) _)) (dot_tn hk (tile_truncf _ hv) none)

theorem ST_zero (h d e : ℕ) : ST I 0 h d e = 0 := rfl
theorem ST_succ (n h d e : ℕ) : ST I (n + 1) h d e = nextOf I (ST I n h) n h d e := rfl
theorem VN_eq (n h i e : ℕ) : VN I n h i e = vnOf I (ST I n h) n h i e := rfl
theorem OO_eq (n h i e : ℕ) : OO I n h i e = ∑ d : Fin 128, I.QD (64 * n + i) (128 * h + d.val) * ST I n h d.val e
    + ∑ j : Fin 64, I.AT (64 * n + i) (64 * h + j.val) * VN I n h j.val e := rfl

attribute [irreducible] VN OO ST

end Cert.Fwd
-- ==== Proof.FwdRun.lean ====
/- What one grid step of the forward scan leaves in its buffers, as the chunk recurrence. -/
module

public import proofs.«01_k».proof.Proof.FwdSpec
public import proofs.«01_k».proof.Proof.Gen.KernelIdeal.Value

@[expose] public section

set_option maxRecDepth 16384

noncomputable section

namespace Cert.Fwd

open Idealize.ShloMosaic Cert.Tile Cert.KernelIdeal Cert.KernelIdeal.Gen
open scoped BigOperators

variable {I : In}

/-- The six blocks step `t` reads. -/
structure Blocks (I : In) (t : ℕ) (x0 x1 : Vec Ideal S256x1024 .f32) (x2 x3 : Vec Ideal S256x1024 .bf16)
    (x4 : Vec Ideal S256x512 .bf16) (x5 : Vec Ideal S256x128 .f32) : Prop where
  u : Tile (fun r q => I.U (256 * t + r) q) x0
  w : Tile (fun r q => I.W (256 * t + r) q) x1
  qd : Tile (fun r q => I.QD (256 * t + r) q) x2
  kd : Tile (fun r q => I.KD (256 * t + r) q) x3
  at_ : Tile (fun r q => I.AT (256 * t + r) q) x4
  gc : Tile (fun r q => I.GC (256 * t + r) q) x5

/-- The arrays the steps write: the output, the new values and the states of all heads. -/
def oOf (I : In) (r q : ℕ) : EReal := OO I (r / 64) (q / 128) (r % 64) (q % 128)
def vOf (I : In) (r q : ℕ) : EReal := VN I (r / 64) (q / 128) (r % 64) (q % 128)
def sOf (I : In) (n r e : ℕ) : EReal := ST I n (r / 128) (r % 128) e

section Piece

variable {t o p : ℕ} {w : (⟨2, ![64, 128]⟩ : Shape).Idx → EReal}

theorem piece_o (hw : Tile (OO I (4 * t + o / 64) (p / 128)) w) (ho : o % 64 = 0) (hp : p % 128 = 0) :
    Tile (fun i j => oOf I (256 * t + (o + i)) (p + j)) w := by
  refine hw.congr fun i hi j hj => ?_
  unfold oOf
  congr 1 <;> omega

theorem piece_v (hw : Tile (VN I (4 * t + o / 64) (p / 128)) w) (ho : o % 64 = 0) (hp : p % 128 = 0) :
    Tile (fun i j => vOf I (256 * t + (o + i)) (p + j)) w := by
  refine hw.congr fun i hi j hj => ?_
  unfold vOf
  congr 1 <;> omega

theorem piece_s {n : ℕ} {w : (⟨2, ![128, 128]⟩ : Shape).Idx → EReal} (hw : Tile (ST I n (p / 128)) w) (hp : p % 128 = 0) :
    Tile (fun i j => sOf I n (p + i) j) w := by
  refine hw.congr fun i hi j hj => ?_
  unfold sOf
  congr 1 <;> omega

end Piece

section Head

/-! The words one head computes in the four chunks of a step, and what they hold. -/

variable (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x512 .bf16) (harg5 : arg5.IsWhole) (arg6 : Memref sig .tc .vmem S256x128 .f32) (harg6 : arg6.IsWhole)
  (x0 x1 : Vec Ideal S256x1024 .f32) (x2 x3 : Vec Ideal S256x1024 .bf16) (x4 : Vec Ideal S256x512 .bf16) (x5 : Vec Ideal S256x128 .f32)
  (s0 : FVec Ideal S128x128 .f32) (h : ℕ)

theorem inbRow (c h : ℕ) : ∀ i, ![64 * (c % 4), 128 * (h % 8)] i + (![64, 128] : Fin 2 → ℕ) i ≤ S256x1024.size i := by
  intro i; fin_cases i <;> simp [S256x1024] <;> omega
theorem inbAt (c h : ℕ) : ∀ i, ![64 * (c % 4), 64 * (h % 8)] i + (![64, 64] : Fin 2 → ℕ) i ≤ S256x512.size i := by
  intro i; fin_cases i <;> simp [S256x512] <;> omega
theorem inbGc (c h : ℕ) : ∀ i, ![64 * (c % 4) + 63, h % 8] i + (![1, 1] : Fin 2 → ℕ) i ≤ S256x128.size i := by
  intro i; fin_cases i <;> simp [S256x128] <;> omega

/-- The new values from a state, the states after `c` chunks, and the output of chunk `c`. -/
def wVal (s : FVec Ideal S128x128 .f32) (c : ℕ) : FVec Ideal S64x128 .f32 :=
  subf (ld arg1 harg1 x0 (64 * (c % 4)) (128 * (h % 8)) 64 128 (inbRow c h))
    (matmul (F := Ideal) (DotDims.plain 64 128 128) none
      (truncf (F := Ideal) (φ := .f32) .bf16 (ld arg2 harg2 x1 (64 * (c % 4)) (128 * (h % 8)) 64 128 (inbRow c h)) (by decide))
      (truncf .bf16 s (by decide)) (constant S64x128 .f32 0#32))

theorem bc11 : (⟨2, ![1, 1]⟩ : Shape).Broadcasts S128x128 := by decide

def wSt : ℕ → FVec Ideal S128x128 .f32
  | 0 => s0
  | c + 1 => addf (mulf (wSt c) (broadcastTo S128x128
        (exp (F := Ideal) (φ := .f32) (ld arg6 harg6 x5 (64 * (c % 4) + 63) (h % 8) 1 1 (inbGc c h))) bc11))
      (matmul (F := Ideal) (φ₁ := .bf16) (dotTN 128 64 128) none (ld arg4 harg4 x3 (64 * (c % 4)) (128 * (h % 8)) 64 128 (inbRow c h))
        (truncf .bf16 (wVal arg1 harg1 arg2 harg2 x0 x1 h (wSt c) c) (by decide)) (constant S128x128 .f32 0#32))

def wOut (s : FVec Ideal S128x128 .f32) (c : ℕ) : FVec Ideal S64x128 .f32 :=
  addf (matmul (F := Ideal) (φ₁ := .bf16) (DotDims.plain 64 128 128) none
      (ld arg3 harg3 x2 (64 * (c % 4)) (128 * (h % 8)) 64 128 (inbRow c h)) (truncf .bf16 s (by decide)) (constant S64x128 .f32 0#32))
    (matmul (F := Ideal) (φ₁ := .bf16) (DotDims.plain 64 64 128) none
      (ld arg5 harg5 x4 (64 * (c % 4)) (64 * (h % 8)) 64 64 (inbAt c h))
      (truncf .bf16 (wVal arg1 harg1 arg2 harg2 x0 x1 h s c) (by decide)) (constant S64x128 .f32 0#32))

variable {arg1 harg1 arg2 harg2 arg3 harg3 arg4 harg4 arg5 harg5 arg6 harg6 x0 x1 x2 x3 x4 x5 s0 h} {t : ℕ}

theorem wVal_tile (hb : Blocks I t x0 x1 x2 x3 x4 x5) (hh : h < 8) {c : ℕ} (hc : c < 4) {s : FVec Ideal S128x128 .f32}
    (hs : Tile (ST I (4 * t + c) h) s) : Tile (VN I (4 * t + c) h) (wVal arg1 harg1 arg2 harg2 x0 x1 h s c) := by
  refine isV hs (tile_ld (e := .f32) hb.u ?_) (tile_ld (e := .f32) hb.w ?_) <;>
    · intros; congr 1 <;> omega

theorem wSt_tile (hb : Blocks I t x0 x1 x2 x3 x4 x5) (hh : h < 8) (hs : Tile (ST I (4 * t) h) s0) : ∀ {c : ℕ}, c ≤ 4 →
    Tile (ST I (4 * t + c) h) (wSt arg1 harg1 arg2 harg2 arg4 harg4 arg6 harg6 x0 x1 x3 x5 s0 h c)
  | 0, _ => hs
  | c + 1, hc => by
    have hs' := wSt_tile hb hh hs (c := c) (by omega)
    refine isS hs' (tile_ld (e := .f32) hb.gc ?_) (tile_ld (e := .bf16) hb.kd ?_) (wVal_tile hb hh (by omega) hs') <;>
      · intros; congr 1 <;> omega

theorem wOut_tile (hb : Blocks I t x0 x1 x2 x3 x4 x5) (hh : h < 8) {c : ℕ} (hc : c < 4) {s : FVec Ideal S128x128 .f32}
    (hs : Tile (ST I (4 * t + c) h) s) :
    Tile (OO I (4 * t + c) h) (wOut arg1 harg1 arg2 harg2 arg3 harg3 arg5 harg5 x0 x1 x2 x4 h s c) := by
  refine isO hs (tile_ld (e := .bf16) hb.qd ?_) (tile_ld (e := .bf16) hb.at_ ?_) (wVal_tile hb hh hc hs) <;>
    · intros; congr 1 <;> omega

end Head

variable {t : ℕ} {x0 x1 : Vec Ideal S256x1024 .f32} {x2 x3 : Vec Ideal S256x1024 .bf16}
    {x4 : Vec Ideal S256x512 .bf16} {x5 : Vec Ideal S256x128 .f32}

theorem inbSc (h : ℕ) : ∀ i, ![128 * (h % 8), 0] i + (![128, 128] : Fin 2 → ℕ) i ≤ S1024x128.size i := by
  intro i; fin_cases i <;> simp [S1024x128] <;> omega

/-- The pieces a step leaves in its buffers, against the recurrence. -/
structure Good (I : In) (t : ℕ) (L6 : List (View.Piece (Elt Ideal) S256x1024 .f32)) (L7 : List (View.Piece (Elt Ideal) S256x1024 .bf16))
    (L8 : List (View.Piece (Elt Ideal) S4x1024x128 .f32)) (LS : List (View.Piece (Elt Ideal) S1024x128 .f32)) : Prop where
  o : ∀ y, View.AllAt L6 y (oOf I (256 * t + (y 0).val) (y 1).val)
  v : ∀ y, View.AllAt L7 y (vOf I (256 * t + (y 0).val) (y 1).val)
  st : ∀ y, View.AllAt L8 y (sOf I (4 * t + (y 0).val) (y 1).val (y 2).val)
  s : ∀ y, View.AllAt (LS.take 8) y (sOf I (4 * (t + 1)) (y 0).val (y 1).val)

theorem inbWh : ∀ i, ![0, 0] i + (![1024, 128] : Fin 2 → ℕ) i ≤ S1024x128.size i := by decide

theorem zero_tile : Tile (fun _ _ => (0 : EReal)) (k0_pay6 (F := Ideal)) := by
  intro y
  unfold k0_pay6
  dsimp only
  rw [shapeCast_self]
  exact Ideal.ofBits_zero_f32

theorem piece_t {p n : ℕ} {w : (⟨2, ![128, 128]⟩ : Shape).Idx → EReal} (hw : Tile (ST I n (p / 128)) w) (hp : p % 128 = 0) :
    Tile (fun i j => sOf I n (p + i) (0 + j)) w := by
  simpa only [zero_add] using piece_s hw hp

theorem runB (hb : Blocks I t x0 x1 x2 x3 x4 x5) {xs0 : Vec Ideal S1024x128 .f32} (hs : Tile (sOf I (4 * t)) xs0)
    (c i arg1 harg1 arg2 harg2 arg3 harg3 arg4 harg4 arg5 harg5 arg6 harg6 arg7 harg7 arg8 harg8 arg9 harg9 arg10 harg10 hc0) :
    let K := kernelRun0_B (F := Ideal) c i arg1 harg1 arg2 harg2 arg3 harg3 arg4 harg4 arg5 harg5 arg6 harg6 arg7 harg7 arg8 harg8 arg9 harg9 arg10 harg10 hc0 x0 x1 x2 x3 x4 x5 xs0
    Good I t K.1 K.2.1 K.2.2.1 K.2.2.2.1 := by
  have HS : ∀ h, h < 8 → ∀ c, c ≤ 4 → Tile (ST I (4 * t + c) h) (wSt arg1 harg1 arg2 harg2 arg4 harg4 arg6 harg6 x0 x1 x3 x5
      (ld arg10 harg10 xs0 (128 * (h % 8)) 0 128 128 (inbSc h)) h c) := by
    intro h hh c hc
    refine wSt_tile hb hh (tile_ld hs fun r hr q hq => ?_) hc
    unfold sOf
    congr 1 <;> omega
  have HV := fun h hh c (hc : c < 4) => wVal_tile (arg1 := arg1) (harg1 := harg1) (arg2 := arg2) (harg2 := harg2)
    hb (h := h) hh hc (HS h hh c hc.le)
  have HO := fun h hh c (hc : c < 4) => wOut_tile (arg1 := arg1) (harg1 := harg1) (arg2 := arg2) (harg2 := harg2)
    (arg3 := arg3) (harg3 := harg3) (arg5 := arg5) (harg5 := harg5) hb (h := h) hh hc (HS h hh c hc.le)
  dsimp only
  unfold kernelRun0_B
  dsimp only
  refine ⟨fun y => ?_, fun y => ?_, fun y => ?_, fun y => ?_⟩
  · repeat' first
      | exact View.allAt_nil _ _
      | refine allAt_tile (Val := Elt Ideal) (e := .f32) (fun r q => oOf I (256 * t + r) q) y (piece_o ?_ rfl rfl) ?_
    all_goals simp only [Nat.reduceDiv]
    all_goals exact HO _ (by decide) _ (by decide)
  · repeat' first
      | exact View.allAt_nil _ _
      | refine allAt_tile (Val := Elt Ideal) (e := .bf16) (fun r q => vOf I (256 * t + r) q) y (piece_v ?_ rfl rfl) ?_
    all_goals simp only [Nat.reduceDiv]
    all_goals exact HV _ (by decide) _ (by decide)
  · repeat' first
      | exact View.allAt_nil _ _
      | refine allAt_plane (Val := Elt Ideal) (e := .f32) (fun c r q => sOf I (4 * t + c) r q) y (piece_s ?_ rfl) ?_
    all_goals simp only [Nat.reduceDiv]
    all_goals exact HS _ (by decide) _ (by decide)
  · simp only [List.take_succ_cons, List.take_zero]
    repeat' first
      | exact View.allAt_nil _ _
      | refine allAt_tile (Val := Elt Ideal) (e := .f32) (fun r q => sOf I (4 * (t + 1)) r q) y (piece_t ?_ rfl) ?_
    all_goals simp only [Nat.reduceDiv]
    all_goals exact tile_shapeCast (φ := .f32) _ (HS _ (by decide) 4 (by decide))

theorem runA (hb : Blocks I t x0 x1 x2 x3 x4 x5) (ht : t = 0)
    (c i arg1 harg1 arg2 harg2 arg3 harg3 arg4 harg4 arg5 harg5 arg6 harg6 arg7 harg7 arg8 harg8 arg9 harg9 arg10 harg10 hc0) :
    let K := kernelRun0_A (F := Ideal) c i arg1 harg1 arg2 harg2 arg3 harg3 arg4 harg4 arg5 harg5 arg6 harg6 arg7 harg7 arg8 harg8 arg9 harg9 arg10 harg10 hc0 x0 x1 x2 x3 x4 x5
    Good I t K.1 K.2.1 K.2.2.1 K.2.2.2.1 := by
  have HS : ∀ h, h < 8 → ∀ c, c ≤ 4 → Tile (ST I (4 * t + c) h) (wSt arg1 harg1 arg2 harg2 arg4 harg4 arg6 harg6 x0 x1 x3 x5
      (arg10.view.readCov [(⟨Rect.unit (s := S1024x128) ![0, 0] ![1024, 128] inbWh, k0_pay6 (F := Ideal)⟩ : View.Piece (Elt Ideal) S1024x128 .f32)]
        (Rect.unit (s := S1024x128) ![128 * (h % 8), 0] ![128, 128] (inbSc h)).toLoadRect) h c) := by
    intro h hh c hc
    refine wSt_tile hb hh ?_ hc
    subst ht
    refine (tile_cov zero_tile).congr fun r _ q _ => (ST_zero h r q).symm
  have HV := fun h hh c (hc : c < 4) => wVal_tile (arg1 := arg1) (harg1 := harg1) (arg2 := arg2) (harg2 := harg2)
    hb (h := h) hh hc (HS h hh c hc.le)
  have HO := fun h hh c (hc : c < 4) => wOut_tile (arg1 := arg1) (harg1 := harg1) (arg2 := arg2) (harg2 := harg2)
    (arg3 := arg3) (harg3 := harg3) (arg5 := arg5) (harg5 := harg5) hb (h := h) hh hc (HS h hh c hc.le)
  dsimp only
  unfold kernelRun0_A
  dsimp only
  refine ⟨fun y => ?_, fun y => ?_, fun y => ?_, fun y => ?_⟩
  · repeat' first
      | exact View.allAt_nil _ _
      | refine allAt_tile (Val := Elt Ideal) (e := .f32) (fun r q => oOf I (256 * t + r) q) y (piece_o ?_ rfl rfl) ?_
    all_goals simp only [Nat.reduceDiv]
    all_goals exact HO _ (by decide) _ (by decide)
  · repeat' first
      | exact View.allAt_nil _ _
      | refine allAt_tile (Val := Elt Ideal) (e := .bf16) (fun r q => vOf I (256 * t + r) q) y (piece_v ?_ rfl rfl) ?_
    all_goals simp only [Nat.reduceDiv]
    all_goals exact HV _ (by decide) _ (by decide)
  · repeat' first
      | exact View.allAt_nil _ _
      | refine allAt_plane (Val := Elt Ideal) (e := .f32) (fun c r q => sOf I (4 * t + c) r q) y (piece_s ?_ rfl) ?_
    all_goals simp only [Nat.reduceDiv]
    all_goals exact HS _ (by decide) _ (by decide)
  · simp only [List.take_succ_cons, List.take_zero]
    repeat' first
      | exact View.allAt_nil _ _
      | refine allAt_tile (Val := Elt Ideal) (e := .f32) (fun r q => sOf I (4 * (t + 1)) r q) y (piece_t ?_ rfl) ?_
    all_goals simp only [Nat.reduceDiv]
    all_goals exact tile_shapeCast (φ := .f32) _ (HS _ (by decide) 4 (by decide))

end Cert.Fwd
-- ==== Proof.FwdArr.lean ====
/- The three arrays of the forward scan after the run, as the chunk recurrence over the arguments. -/
module

public import proofs.«01_k».proof.Proof.FwdRun

@[expose] public section

set_option maxRecDepth 16384

noncomputable section

namespace Cert.Fwd

open Idealize.ShloMosaic Idealize.ShloMosaic.TcCoe Cert.Tile Cert.KernelIdeal Cert.KernelIdeal.Gen Cert.KernelIdeal.Value
open Idealize.ShloMosaic.Tactic
open Idealize.ShloMosaic.Pipeline (Dat)
open scoped BigOperators

variable (m : (ℓ : Loc nD τ sig) → Buf (Elt Ideal) ℓ) (c : Dev nD)

/-- The recurrence's arrays, read off the arguments. -/
def inp : In where
  U := fn2 (A := 8192) (B := 1024) (m ((c : Thread nD τ).loc main_arg0))
  W := fn2 (A := 8192) (B := 1024) (m ((c : Thread nD τ).loc main_arg1))
  QD := fn2 (A := 8192) (B := 1024) (m ((c : Thread nD τ).loc main_arg2))
  KD := fn2 (A := 8192) (B := 1024) (m ((c : Thread nD τ).loc main_arg3))
  AT := fn2 (A := 8192) (B := 512) (m ((c : Thread nD τ).loc main_arg4))
  GC := fn2 (A := 8192) (B := 128) (m ((c : Thread nD τ).loc main_arg5))

theorem idx_all : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0, 0] := by
  decide +kernel

theorem blk_tile {B a b o : ℕ} (X : (⟨2, ![8192, B]⟩ : Shape).Idx → EReal)
    (emb : (⟨2, ![a, b]⟩ : Shape).Idx → (⟨2, ![8192, B]⟩ : Shape).Idx)
    (h : ∀ y, ((emb y) 0).val = o + (y 0).val ∧ ((emb y) 1).val = (y 1).val) :
    Tile (fun r q => fn2 X (o + r) q) (fun y => X (emb y)) := by
  intro y
  refine (fn2_tile X (emb y)).trans ?_
  rw [(h y).1, (h y).2]

theorem blocks_of (t : Fin cfg0.N) : Blocks (inp m c) t.val (iblk m c 0 t) (iblk m c 1 t) (iblk m c 2 t) (iblk m c 3 t)
    (iblk m c 4 t) (iblk m c 5 t) := by
  obtain ⟨h0, h1, h2, h3, h4, h5, -⟩ := idx_all t
  constructor
  · exact blk_tile (B := 1024) (m ((c : Thread nD τ).loc main_arg0)) (((cfg0.win 0).blk t).view.emb)
      fun y => ⟨by blk_simp [h0]; omega, by blk_simp [h0]⟩
  · exact blk_tile (B := 1024) (m ((c : Thread nD τ).loc main_arg1)) (((cfg0.win 1).blk t).view.emb)
      fun y => ⟨by blk_simp [h1]; omega, by blk_simp [h1]⟩
  · exact blk_tile (B := 1024) (m ((c : Thread nD τ).loc main_arg2)) (((cfg0.win 2).blk t).view.emb)
      fun y => ⟨by blk_simp [h2]; omega, by blk_simp [h2]⟩
  · exact blk_tile (B := 1024) (m ((c : Thread nD τ).loc main_arg3)) (((cfg0.win 3).blk t).view.emb)
      fun y => ⟨by blk_simp [h3]; omega, by blk_simp [h3]⟩
  · exact blk_tile (B := 512) (m ((c : Thread nD τ).loc main_arg4)) (((cfg0.win 4).blk t).view.emb)
      fun y => ⟨by blk_simp [h4]; omega, by blk_simp [h4]⟩
  · exact blk_tile (B := 128) (m ((c : Thread nD τ).loc main_arg5)) (((cfg0.win 5).blk t).view.emb)
      fun y => ⟨by blk_simp [h5]; omega, by blk_simp [h5]⟩

/-- The newest `n` pieces decide what a buffer holds where they cover it. -/
theorem canon_take {s : Shape} {e : EltTy} (y : s.Idx) (v : Elt Ideal e) : ∀ (n : ℕ) (L : List (View.Piece (Elt Ideal) s e)),
    (∃ p ∈ L.take n, y ∈ p.1.set) → View.AllAt (L.take n) y v → View.canon L y = v
  | 0, _, hc, _ => by simp at hc
  | _ + 1, [], hc, _ => by simp at hc
  | n + 1, p :: L, hc, h => by
    by_cases hm : y ∈ p.1.set
    · obtain ⟨x, rfl⟩ := p.1.exists_idx_of_mem hm
      rw [show p.1.idx x = p.1.emb x from rfl, View.canon_cons_emb]
      exact h p (by simp) x rfl
    · rw [View.canon_cons_of_not_mem _ _ hm]
      refine canon_take y v n L ?_ fun q hq => h q (by simp [hq])
      obtain ⟨q, hq, hy⟩ := hc
      rw [List.take_succ_cons, List.mem_cons] at hq
      rcases hq with rfl | hq
      · exact absurd hy hm
      · exact ⟨q, hq, hy⟩

theorem read_of_take {κ : Kind} {cs : Space} {e : EltTy} {s : Shape} (v : View sig κ cs s e) (L : List (View.Piece (Elt Ideal) s e)) (n : ℕ)
    (hL : ∀ y, ∃ p ∈ L, y ∈ p.1.set) (hc : ∀ y, ∃ p ∈ L.take n, y ∈ p.1.set) {G : s.Idx → Elt Ideal e}
    (h : ∀ y, View.AllAt (L.take n) y (G y)) (y) : v.read (Elt Ideal) (v.writes (Elt Ideal) v.junk L) y = G y := by
  rw [View.read_writes_eq_canon _ _ _ hL]
  exact canon_take _ _ n L (hc y) (h y)

theorem read_of_all {κ : Kind} {cs : Space} {e : EltTy} {s : Shape} (v : View sig κ cs s e) (L : List (View.Piece (Elt Ideal) s e))
    (hL : ∀ y, ∃ p ∈ L, y ∈ p.1.set) {G : s.Idx → Elt Ideal e}
    (h : ∀ y, View.AllAt L y (G y)) (y) : v.read (Elt Ideal) (v.writes (Elt Ideal) v.junk L) y = G y := by
  rw [View.read_writes_eq_canon _ _ _ hL]
  exact View.canon_eq_of_allAt _ _ _ (hL y) (h y)

/-- What a step leaves, against the recurrence. -/
structure Outs (I : In) (t : ℕ) (x : Vec Ideal S256x1024 .f32 × Vec Ideal S256x1024 .bf16 × Vec Ideal S4x1024x128 .f32 × Vec Ideal S1024x128 .f32) : Prop where
  o : ∀ y, x.1 y = oOf I (256 * t + (y 0).val) (y 1).val
  v : ∀ y, x.2.1 y = vOf I (256 * t + (y 0).val) (y 1).val
  st : ∀ y, x.2.2.1 y = sOf I (4 * t + (y 0).val) (y 1).val (y 2).val
  s : Tile (sOf I (4 * (t + 1))) x.2.2.2

theorem outsA {I : In} {t : ℕ} {x0 x1 : Vec Ideal S256x1024 .f32} {x2 x3 : Vec Ideal S256x1024 .bf16}
    {x4 : Vec Ideal S256x512 .bf16} {x5 : Vec Ideal S256x128 .f32} (hb : Blocks I t x0 x1 x2 x3 x4 x5) (ht : t = 0)
    (c i arg1 harg1 arg2 harg2 arg3 harg3 arg4 harg4 arg5 harg5 arg6 harg6 arg7 harg7 arg8 harg8 arg9 harg9 arg10 harg10 hc0) :
    Outs I t (out0_A_6 (F := Ideal) c i arg1 harg1 arg2 harg2 arg3 harg3 arg4 harg4 arg5 harg5 arg6 harg6 arg7 harg7 arg8 harg8 arg9 harg9 arg10 harg10 hc0 x0 x1 x2 x3 x4 x5, out0_A_7 (F := Ideal) c i arg1 harg1 arg2 harg2 arg3 harg3 arg4 harg4 arg5 harg5 arg6 harg6 arg7 harg7 arg8 harg8 arg9 harg9 arg10 harg10 hc0 x0 x1 x2 x3 x4 x5, out0_A_8 (F := Ideal) c i arg1 harg1 arg2 harg2 arg3 harg3 arg4 harg4 arg5 harg5 arg6 harg6 arg7 harg7 arg8 harg8 arg9 harg9 arg10 harg10 hc0 x0 x1 x2 x3 x4 x5, sout0_A_0 (F := Ideal) c i arg1 harg1 arg2 harg2 arg3 harg3 arg4 harg4 arg5 harg5 arg6 harg6 arg7 harg7 arg8 harg8 arg9 harg9 arg10 harg10 hc0 x0 x1 x2 x3 x4 x5) := by
  have G := runA hb ht c i arg1 harg1 arg2 harg2 arg3 harg3 arg4 harg4 arg5 harg5 arg6 harg6 arg7 harg7 arg8 harg8 arg9 harg9 arg10 harg10 hc0
  constructor
  · intro y
    dsimp only
    unfold out0_A_6
    exact read_of_all _ _ (cover0_A_6 c i arg1 harg1 arg2 harg2 arg3 harg3 arg4 harg4 arg5 harg5 arg6 harg6 arg7 harg7 arg8 harg8 arg9 harg9 arg10 harg10 hc0 x0 x1 x2 x3 x4 x5) G.o y
  · intro y
    dsimp only
    unfold out0_A_7
    exact read_of_all _ _ (cover0_A_7 c i arg1 harg1 arg2 harg2 arg3 harg3 arg4 harg4 arg5 harg5 arg6 harg6 arg7 harg7 arg8 harg8 arg9 harg9 arg10 harg10 hc0 x0 x1 x2 x3 x4 x5) G.v y
  · intro y
    dsimp only
    unfold out0_A_8
    exact read_of_all _ _ (cover0_A_8 c i arg1 harg1 arg2 harg2 arg3 harg3 arg4 harg4 arg5 harg5 arg6 harg6 arg7 harg7 arg8 harg8 arg9 harg9 arg10 harg10 hc0 x0 x1 x2 x3 x4 x5) G.st y
  · intro y
    dsimp only
    unfold sout0_A_0
    refine read_of_take _ _ 8 (scover0_A_0 c i arg1 harg1 arg2 harg2 arg3 harg3 arg4 harg4 arg5 harg5 arg6 harg6 arg7 harg7 arg8 harg8 arg9 harg9 arg10 harg10 hc0 x0 x1 x2 x3 x4 x5) (fun y => ?_) G.s y
    exact View.cover_of_tiledL (s := S1024x128) _ ![128, 128] (by sl_kernel_rfl) y

theorem outsB {I : In} {t : ℕ} {x0 x1 : Vec Ideal S256x1024 .f32} {x2 x3 : Vec Ideal S256x1024 .bf16}
    {x4 : Vec Ideal S256x512 .bf16} {x5 : Vec Ideal S256x128 .f32} (hb : Blocks I t x0 x1 x2 x3 x4 x5) {xs0 : Vec Ideal S1024x128 .f32} (hs : Tile (sOf I (4 * t)) xs0)
    (c i arg1 harg1 arg2 harg2 arg3 harg3 arg4 harg4 arg5 harg5 arg6 harg6 arg7 harg7 arg8 harg8 arg9 harg9 arg10 harg10 hc0) :
    Outs I t (out0_B_6 (F := Ideal) c i arg1 harg1 arg2 harg2 arg3 harg3 arg4 harg4 arg5 harg5 arg6 harg6 arg7 harg7 arg8 harg8 arg9 harg9 arg10 harg10 hc0 x0 x1 x2 x3 x4 x5 xs0, out0_B_7 (F := Ideal) c i arg1 harg1 arg2 harg2 arg3 harg3 arg4 harg4 arg5 harg5 arg6 harg6 arg7 harg7 arg8 harg8 arg9 harg9 arg10 harg10 hc0 x0 x1 x2 x3 x4 x5 xs0, out0_B_8 (F := Ideal) c i arg1 harg1 arg2 harg2 arg3 harg3 arg4 harg4 arg5 harg5 arg6 harg6 arg7 harg7 arg8 harg8 arg9 harg9 arg10 harg10 hc0 x0 x1 x2 x3 x4 x5 xs0, sout0_B_0 (F := Ideal) c i arg1 harg1 arg2 harg2 arg3 harg3 arg4 harg4 arg5 harg5 arg6 harg6 arg7 harg7 arg8 harg8 arg9 harg9 arg10 harg10 hc0 x0 x1 x2 x3 x4 x5 xs0) := by
  have G := runB hb hs c i arg1 harg1 arg2 harg2 arg3 harg3 arg4 harg4 arg5 harg5 arg6 harg6 arg7 harg7 arg8 harg8 arg9 harg9 arg10 harg10 hc0
  constructor
  · intro y
    dsimp only
    unfold out0_B_6
    exact read_of_all _ _ (cover0_B_6 c i arg1 harg1 arg2 harg2 arg3 harg3 arg4 harg4 arg5 harg5 arg6 harg6 arg7 harg7 arg8 harg8 arg9 harg9 arg10 harg10 hc0 x0 x1 x2 x3 x4 x5 xs0) G.o y
  · intro y
    dsimp only
    unfold out0_B_7
    exact read_of_all _ _ (cover0_B_7 c i arg1 harg1 arg2 harg2 arg3 harg3 arg4 harg4 arg5 harg5 arg6 harg6 arg7 harg7 arg8 harg8 arg9 harg9 arg10 harg10 hc0 x0 x1 x2 x3 x4 x5 xs0) G.v y
  · intro y
    dsimp only
    unfold out0_B_8
    exact read_of_all _ _ (cover0_B_8 c i arg1 harg1 arg2 harg2 arg3 harg3 arg4 harg4 arg5 harg5 arg6 harg6 arg7 harg7 arg8 harg8 arg9 harg9 arg10 harg10 hc0 x0 x1 x2 x3 x4 x5 xs0) G.st y
  · intro y
    dsimp only
    unfold sout0_B_0
    refine read_of_take _ _ 8 (scover0_B_0 c i arg1 harg1 arg2 harg2 arg3 harg3 arg4 harg4 arg5 harg5 arg6 harg6 arg7 harg7 arg8 harg8 arg9 harg9 arg10 harg10 hc0 x0 x1 x2 x3 x4 x5 xs0) (fun y => ?_) G.s y
    exact View.cover_of_tiledL (s := S1024x128) _ ![128, 128] (by sl_kernel_rfl) y

theorem outs_at : ∀ (n : ℕ) (hn : n < cfg0.N), Outs (inp m c) n (outsAt0 m c n hn)
  | 0, hn => by
    rw [show outsAt0 m c 0 hn = _ from outsAt0_A m c ⟨0, hn⟩ rfl]
    exact outsA (blocks_of m c ⟨0, hn⟩) rfl ..
  | n + 1, hn => by
    have ht : ¬ (n + 1) % 32 = 0 := by
      have : n + 1 < 32 := lt_of_lt_of_eq hn N_0
      omega
    rw [show outsAt0 m c (n + 1) hn = _ from outsAt0_B m c ⟨n + 1, hn⟩ ht]
    exact outsB (blocks_of m c ⟨n + 1, hn⟩) (outs_at n (Nat.lt_of_succ_lt hn)).s ..

/-- The arrays the run leaves. -/
def arrO : S8192x1024.Idx → EReal := fun y => oOf (inp m c) (y 0).val (y 1).val
def arrV : S8192x1024.Idx → EReal := fun y => vOf (inp m c) (y 0).val (y 1).val
def arrS : S128x1024x128.Idx → EReal := fun y => sOf (inp m c) (y 0).val (y 1).val (y 2).val

theorem final_o : (dats m 0 c).arrAt 6 cfg0.N = arrO m c := by
  refine (dats m 0 c).arrAt_eq_of_covers 6 _ (by decide +kernel) fun t hf y => ?_
  have h6 := (idx_all t).2.2.2.2.2.2.1
  refine ((outs_at m c t.val t.isLt).o y).trans ?_
  unfold arrO
  congr 1 <;> blk_simp [h6] <;> omega

theorem final_v : (dats m 0 c).arrAt 7 cfg0.N = arrV m c := by
  refine (dats m 0 c).arrAt_eq_of_covers 7 _ (by decide +kernel) fun t hf y => ?_
  have h7 := (idx_all t).2.2.2.2.2.2.2.1
  refine ((outs_at m c t.val t.isLt).v y).trans ?_
  unfold arrV
  congr 1 <;> blk_simp [h7] <;> omega

theorem final_s : (dats m 0 c).arrAt 8 cfg0.N = arrS m c := by
  refine (dats m 0 c).arrAt_eq_of_covers 8 _ (by decide +kernel) fun t hf y => ?_
  have h8 := (idx_all t).2.2.2.2.2.2.2.2
  refine ((outs_at m c t.val t.isLt).st y).trans ?_
  unfold arrS
  congr 1 <;> blk_simp [h8] <;> omega

end Cert.Fwd
-- ==== Proof.Tile4.lean ====
/- Rank-three and rank-four arrays described by a function of their natural coordinates, and what the host's operations do
   to such descriptions at the extended reals. -/
module

public import proofs.«01_k».proof.Proof.Tile
public import Idealize.ShloMosaic.Lib.Pointwise

@[expose] public section

set_option maxRecDepth 16384

noncomputable section

namespace Cert.Tile

open Idealize.ShloMosaic hiding ix0 ix1 ix2 ix3 ix4 ix5
open Idealize.ShloMosaic.ValueIdx
open scoped BigOperators

/-- The array `v` holds `f h i e` at those three coordinates. -/
def T3 {α : Type} {a b c : ℕ} (f : ℕ → ℕ → ℕ → α) (v : (⟨3, ![a, b, c]⟩ : Shape).Idx → α) : Prop :=
  ∀ y, v y = f (y 0).val (y 1).val (y 2).val

/-- The array `v` holds `f n h i e` at those four coordinates. -/
def T4 {α : Type} {a b c d : ℕ} (f : ℕ → ℕ → ℕ → ℕ → α) (v : (⟨4, ![a, b, c, d]⟩ : Shape).Idx → α) : Prop :=
  ∀ y, v y = f (y 0).val (y 1).val (y 2).val (y 3).val

section Any

variable {α : Type} {a b c d : ℕ}

theorem T3.congr {f g : ℕ → ℕ → ℕ → α} {v : (⟨3, ![a, b, c]⟩ : Shape).Idx → α} (h : T3 f v)
    (e : ∀ i < a, ∀ j < b, ∀ k < c, f i j k = g i j k) : T3 g v :=
  fun y => (h y).trans (e _ (y 0).isLt _ (y 1).isLt _ (y 2).isLt)

theorem T4.congr {f g : ℕ → ℕ → ℕ → ℕ → α} {v : (⟨4, ![a, b, c, d]⟩ : Shape).Idx → α} (h : T4 f v)
    (e : ∀ i < a, ∀ j < b, ∀ k < c, ∀ l < d, f i j k l = g i j k l) : T4 g v :=
  fun y => (h y).trans (e _ (y 0).isLt _ (y 1).isLt _ (y 2).isLt _ (y 3).isLt)

/-- One member of a stack, taken at the position `k`. -/
theorem t3_slice {f : ℕ → ℕ → ℕ → ℕ → α} {X : (⟨4, ![a, b, c, d]⟩ : Shape).Idx → α} (hX : T4 f X) {k : ℕ} (hk : k < a)
    {st : Fin 4 → Int} (h0 : st 0 = k) (h1 : st 1 = 0) (h2 : st 2 = 0) (h3 : st 3 = 0)
    (hs : (⟨4, ![a, b, c, d]⟩ : Shape).Slices (fun _ => 0) ⟨4, ![1, b, c, d]⟩)
    (hc : (⟨4, ![1, b, c, d]⟩ : Shape).ShapeCasts ⟨3, ![b, c, d]⟩) :
    T3 (f k) (shapeCast ⟨3, ![b, c, d]⟩ (Host.dynamicSlice ⟨4, ![1, b, c, d]⟩ X st hs) hc) := by
  intro y
  refine (shapeCast_dropUnit_apply (n := 3) ![b, c, d] _ hc y).trans ?_
  refine (Host.dynamicSlice_apply X st hs _).trans ?_
  refine (hX _).trans ?_
  have e0 : Host.clampedStart ⟨4, ![a, b, c, d]⟩ ⟨4, ![1, b, c, d]⟩ hs.1 st 0 = k :=
    Host.clampedStart_of_le _ _ _ _ h0 (by show k + 1 ≤ a; omega)
  have e1 : Host.clampedStart ⟨4, ![a, b, c, d]⟩ ⟨4, ![1, b, c, d]⟩ hs.1 st 1 = 0 :=
    Host.clampedStart_of_le _ _ _ _ h1 (by show 0 + b ≤ b; omega)
  have e2 : Host.clampedStart ⟨4, ![a, b, c, d]⟩ ⟨4, ![1, b, c, d]⟩ hs.1 st 2 = 0 :=
    Host.clampedStart_of_le _ _ _ _ h2 (by show 0 + c ≤ c; omega)
  have e3 : Host.clampedStart ⟨4, ![a, b, c, d]⟩ ⟨4, ![1, b, c, d]⟩ hs.1 st 3 = 0 :=
    Host.clampedStart_of_le _ _ _ _ h3 (by show 0 + d ≤ d; omega)
  show f (Host.clampedStart _ _ hs.1 st 0 + 0) (Host.clampedStart _ _ hs.1 st 1 + (y 0).val)
    (Host.clampedStart _ _ hs.1 st 2 + (y 1).val) (Host.clampedStart _ _ hs.1 st 3 + (y 2).val) = _
  rw [e0, e1, e2, e3, Nat.add_zero, Nat.zero_add, Nat.zero_add, Nat.zero_add]

/-- One member of a stack replaced at the position `k`. -/
theorem t4_update {f : ℕ → ℕ → ℕ → ℕ → α} {g : ℕ → ℕ → ℕ → α} {X : (⟨4, ![a, b, c, d]⟩ : Shape).Idx → α} (hX : T4 f X)
    {u : (⟨3, ![b, c, d]⟩ : Shape).Idx → α} (hu : T3 g u) {k : ℕ} (hk : k < a)
    {st : Fin 4 → Int} (h0 : st 0 = k) (h1 : st 1 = 0) (h2 : st 2 = 0) (h3 : st 3 = 0)
    (hs : (⟨4, ![a, b, c, d]⟩ : Shape).Slices (fun _ => 0) ⟨4, ![1, b, c, d]⟩)
    (hb : (⟨3, ![b, c, d]⟩ : Shape).BroadcastsInDim ⟨4, ![1, b, c, d]⟩ ![1, 2, 3]) :
    T4 (fun n h i e => if n = k then g h i e else f n h i e)
      (Host.dynamicUpdateSlice X (broadcastInDim ⟨4, ![1, b, c, d]⟩ ![1, 2, 3] hb u) st hs) := by
  intro y
  refine (Host.dynamicUpdateSlice_apply X _ st hs y).trans ?_
  have e0 : Host.clampedStart ⟨4, ![a, b, c, d]⟩ ⟨4, ![1, b, c, d]⟩ hs.1 st 0 = k :=
    Host.clampedStart_of_le _ _ _ _ h0 (by show k + 1 ≤ a; omega)
  have e1 : Host.clampedStart ⟨4, ![a, b, c, d]⟩ ⟨4, ![1, b, c, d]⟩ hs.1 st 1 = 0 :=
    Host.clampedStart_of_le _ _ _ _ h1 (by show 0 + b ≤ b; omega)
  have e2 : Host.clampedStart ⟨4, ![a, b, c, d]⟩ ⟨4, ![1, b, c, d]⟩ hs.1 st 2 = 0 :=
    Host.clampedStart_of_le _ _ _ _ h2 (by show 0 + c ≤ c; omega)
  have e3 : Host.clampedStart ⟨4, ![a, b, c, d]⟩ ⟨4, ![1, b, c, d]⟩ hs.1 st 3 = 0 :=
    Host.clampedStart_of_le _ _ _ _ h3 (by show 0 + d ≤ d; omega)
  have l1 : (y 1).val < b := (y 1).isLt
  have l2 : (y 2).val < c := (y 2).isLt
  have l3 : (y 3).val < d := (y 3).isLt
  show _ = if (y 0).val = k then g (y 1).val (y 2).val (y 3).val else f (y 0).val (y 1).val (y 2).val (y 3).val
  by_cases hy : (y 0).val = k
  · rw [if_pos hy]
    refine (dif_pos (fun x => ?_)).trans ?_
    · match x with
      | 0 => rw [e0]; exact ⟨hy.ge, by show _ < k + 1; omega⟩
      | 1 => rw [e1]; exact ⟨Nat.zero_le _, by show _ < 0 + b; omega⟩
      | 2 => rw [e2]; exact ⟨Nat.zero_le _, by show _ < 0 + c; omega⟩
      | 3 => rw [e3]; exact ⟨Nat.zero_le _, by show _ < 0 + d; omega⟩
    have key : ∀ z : (⟨4, ![1, b, c, d]⟩ : Shape).Idx, (z 1).val = (y 1).val → (z 2).val = (y 2).val → (z 3).val = (y 3).val →
        broadcastInDim ⟨4, ![1, b, c, d]⟩ ![1, 2, 3] hb u z = g (y 1).val (y 2).val (y 3).val := by
      intro z z1 z2 z3
      refine (broadcastInDim_apply _ hb u z (ix3 ⟨_, l1⟩ ⟨_, l2⟩ ⟨_, l3⟩) fun x => ?_).trans (hu _)
      match x with
      | 0 => show (y 1).val = if b = 1 then 0 else (z 1).val; split <;> omega
      | 1 => show (y 2).val = if c = 1 then 0 else (z 2).val; split <;> omega
      | 2 => show (y 3).val = if d = 1 then 0 else (z 3).val; split <;> omega
    refine key _ ?_ ?_ ?_
    · show (y 1).val - Host.clampedStart _ _ hs.1 st 1 = _; rw [e1]; rfl
    · show (y 2).val - Host.clampedStart _ _ hs.1 st 2 = _; rw [e2]; rfl
    · show (y 3).val - Host.clampedStart _ _ hs.1 st 3 = _; rw [e3]; rfl
  · rw [if_neg hy]
    refine (dif_neg (fun h => ?_)).trans (hX y)
    have h0 := h 0
    rw [e0] at h0
    have h2 : (y 0).val < k + 1 := h0.2
    have h1 : k ≤ (y 0).val := h0.1
    omega

/-- One row of a matrix, taken at the position `k`, each element spread over a plane. -/
theorem t3_spread {f : ℕ → ℕ → α} {X : (⟨2, ![a, b]⟩ : Shape).Idx → α} (hX : Tile f X) {k : ℕ} (hk : k < a)
    {st : Fin 2 → Int} (h0 : st 0 = k) (h1 : st 1 = 0)
    (hs : (⟨2, ![a, b]⟩ : Shape).Slices (fun _ => 0) ⟨2, ![1, b]⟩) (hc : (⟨2, ![1, b]⟩ : Shape).ShapeCasts ⟨1, ![b]⟩)
    (hb : (⟨1, ![b]⟩ : Shape).BroadcastsInDim ⟨3, ![b, 1, 1]⟩ ![0])
    (hd : (⟨3, ![b, 1, 1]⟩ : Shape).BroadcastsInDim ⟨3, ![b, c, d]⟩ ![0, 1, 2]) :
    T3 (fun h _ _ => f k h) (broadcastInDim ⟨3, ![b, c, d]⟩ ![0, 1, 2] hd (broadcastInDim ⟨3, ![b, 1, 1]⟩ ![0] hb
      (shapeCast ⟨1, ![b]⟩ (Host.dynamicSlice ⟨2, ![1, b]⟩ X st hs) hc))) := by
  intro y
  have l0 : (y 0).val < b := (y 0).isLt
  refine (broadcastInDim_apply _ hd _ y (ix3 ⟨_, l0⟩ ⟨0, Nat.one_pos⟩ ⟨0, Nat.one_pos⟩) fun x => ?_).trans ?_
  · match x with
    | 0 => show (y 0).val = if b = 1 then 0 else (y 0).val; split <;> omega
    | 1 => rfl
    | 2 => rfl
  refine (broadcastInDim_apply _ hb _ _ (ix1 ⟨_, l0⟩) fun x => ?_).trans ?_
  · match x with
    | 0 => show (y 0).val = if b = 1 then 0 else (y 0).val; split <;> omega
  refine (shapeCast_dropUnit_apply (n := 1) ![b] _ hc _).trans ?_
  refine (Host.dynamicSlice_apply X st hs _).trans ((hX _).trans ?_)
  have e0 : Host.clampedStart ⟨2, ![a, b]⟩ ⟨2, ![1, b]⟩ hs.1 st 0 = k :=
    Host.clampedStart_of_le _ _ _ _ h0 (by show k + 1 ≤ a; omega)
  have e1 : Host.clampedStart ⟨2, ![a, b]⟩ ⟨2, ![1, b]⟩ hs.1 st 1 = 0 :=
    Host.clampedStart_of_le _ _ _ _ h1 (by show 0 + b ≤ b; omega)
  show f (Host.clampedStart _ _ hs.1 st 0 + 0) (Host.clampedStart _ _ hs.1 st 1 + (y 0).val) = _
  rw [e0, e1, Nat.add_zero, Nat.zero_add]

/-- The elements of every 64th row, counted from the row 63, of a token array. -/
theorem tile_last {N H Q R : ℕ} {f : ℕ → ℕ → α} {X : (⟨2, ![R, Q]⟩ : Shape).Idx → α} (hX : Tile f X) (hR : R = N * 64) (hH : H ≤ Q)
    (hc : (⟨2, ![R, Q]⟩ : Shape).ShapeCasts ⟨3, ![N, 64, Q]⟩)
    (hs : (⟨3, ![N, 64, Q]⟩ : Shape).Slices ![0, 63, 0] ⟨3, ![N, 1, H]⟩)
    (hd : (⟨3, ![N, 1, H]⟩ : Shape).ShapeCasts ⟨2, ![N, H]⟩) :
    Tile (fun n h => f (64 * n + 63) h) (shapeCast ⟨2, ![N, H]⟩
      (extractStridedSlice ⟨3, ![N, 1, H]⟩ ![0, 63, 0] (shapeCast ⟨3, ![N, 64, Q]⟩ X hc) hs) hd) := by
  intro y
  have l0 : (y 0).val < N := (y 0).isLt
  have l1 : (y 1).val < H := (y 1).isLt
  have l2 : (y 1).val < Q := by omega
  have b0 : 64 * (y 0).val + 63 < R := by rw [hR]; omega
  refine (shapeCast_apply _ hd _ (ix3 ⟨_, l0⟩ ⟨0, Nat.one_pos⟩ ⟨_, l1⟩) ?_).trans ?_
  · rw [Shape.rowMajor_val_two, Shape.rowMajor_val_three]
    show ((y 0).val * 1 + 0) * H + (y 1).val = (y 0).val * H + (y 1).val
    rw [Nat.mul_one, Nat.add_zero]
  refine (Pointwise.extractStridedSlice_apply _ _ hs _).trans ?_
  refine (shapeCast_apply X hc _ (ix2 ⟨_, b0⟩ ⟨_, l2⟩) ?_).trans (hX _)
  rw [Shape.rowMajor_val_two, Shape.rowMajor_val_three]
  show (64 * (y 0).val + 63) * Q + (y 1).val = ((0 + (y 0).val) * 64 + (63 + 0)) * Q + (0 + (y 1).val)
  ring

/-- A token array cut into chunks and heads. -/
theorem t4_chunks {N C H D R Q : ℕ} {f : ℕ → ℕ → α} {X : (⟨2, ![R, Q]⟩ : Shape).Idx → α} (hX : Tile f X)
    (hR : R = N * C) (hQ : Q = H * D)
    (hc : (⟨2, ![R, Q]⟩ : Shape).ShapeCasts ⟨4, ![N, C, H, D]⟩)
    (ht : (⟨4, ![N, C, H, D]⟩ : Shape).Transposes [0, 2, 1, 3] ⟨4, ![N, H, C, D]⟩) :
    T4 (fun n h i e => f (C * n + i) (D * h + e))
      (transpose ⟨4, ![N, H, C, D]⟩ [0, 2, 1, 3] (shapeCast ⟨4, ![N, C, H, D]⟩ X hc) ht) := by
  intro y
  have l0 : (y 0).val < N := (y 0).isLt
  have l1 : (y 1).val < H := (y 1).isLt
  have l2 : (y 2).val < C := (y 2).isLt
  have l3 : (y 3).val < D := (y 3).isLt
  refine (transpose_apply [0, 2, 1, 3] _ ht y (ix4 ⟨_, l0⟩ ⟨_, l2⟩ ⟨_, l1⟩ ⟨_, l3⟩) fun x => ?_).trans ?_
  · match x with
    | 0 => rfl
    | 1 => rfl
    | 2 => rfl
    | 3 => rfl
  have b0 : C * (y 0).val + (y 2).val < R := by rw [hR]; nlinarith
  have b1 : D * (y 1).val + (y 3).val < Q := by rw [hQ]; nlinarith
  refine (shapeCast_apply X hc _ (ix2 ⟨_, b0⟩ ⟨_, b1⟩) ?_).trans (hX _)
  rw [Shape.rowMajor_val_two, Shape.rowMajor_val_four]
  show (C * (y 0).val + (y 2).val) * Q + (D * (y 1).val + (y 3).val) = (((y 0).val * C + (y 2).val) * H + (y 1).val) * D + (y 3).val
  rw [hQ]; ring

/-- Chunks and heads laid back into a token array. -/
theorem tile_tokens {N C H D R Q : ℕ} {f : ℕ → ℕ → ℕ → ℕ → α} {X : (⟨4, ![N, H, C, D]⟩ : Shape).Idx → α} (hX : T4 f X)
    (hR : R = N * C) (hQ : Q = H * D)
    (ht : (⟨4, ![N, H, C, D]⟩ : Shape).Transposes [0, 2, 1, 3] ⟨4, ![N, C, H, D]⟩)
    (hc : (⟨4, ![N, C, H, D]⟩ : Shape).ShapeCasts ⟨2, ![R, Q]⟩) :
    Tile (fun r q => f (r / C) (q / D) (r % C) (q % D))
      (shapeCast ⟨2, ![R, Q]⟩ (transpose ⟨4, ![N, C, H, D]⟩ [0, 2, 1, 3] X ht) hc) := by
  subst hR hQ
  intro y
  have l0 : (y 0).val < N * C := (y 0).isLt
  have l1 : (y 1).val < H * D := (y 1).isLt
  have c0 : 0 < C := Nat.pos_of_ne_zero fun h => by simp [h] at l0
  have d0 : 0 < D := Nat.pos_of_ne_zero fun h => by simp [h] at l1
  have b0 : (y 0).val / C < N := Nat.div_lt_of_lt_mul (lt_of_lt_of_eq (by assumption) (Nat.mul_comm _ _))
  have b1 : (y 1).val / D < H := Nat.div_lt_of_lt_mul (lt_of_lt_of_eq (by assumption) (Nat.mul_comm _ _))
  have b2 : (y 0).val % C < C := Nat.mod_lt _ c0
  have b3 : (y 1).val % D < D := Nat.mod_lt _ d0
  refine (shapeCast_apply _ hc _ (ix4 ⟨_, b0⟩ ⟨_, b2⟩ ⟨_, b1⟩ ⟨_, b3⟩) ?_).trans ?_
  · rw [Shape.rowMajor_val_two, Shape.rowMajor_val_four]
    show (((y 0).val / C * C + (y 0).val % C) * H + (y 1).val / D) * D + (y 1).val % D = (y 0).val * (H * D) + (y 1).val
    rw [Nat.div_add_mod', Nat.add_mul, Nat.add_assoc, Nat.div_add_mod', Nat.mul_assoc]
  refine (transpose_apply [0, 2, 1, 3] _ ht _ (ix4 ⟨_, b0⟩ ⟨_, b1⟩ ⟨_, b2⟩ ⟨_, b3⟩) fun x => ?_).trans (hX _)
  match x with
  | 0 => rfl
  | 1 => rfl
  | 2 => rfl
  | 3 => rfl

/-- The two middle axes of a stack merged. -/
theorem t3_merge {f : ℕ → ℕ → ℕ → ℕ → α} {X : (⟨4, ![a, b, c, d]⟩ : Shape).Idx → α} (hX : T4 f X) {r : ℕ} (hr : r = b * c)
    (hc : (⟨4, ![a, b, c, d]⟩ : Shape).ShapeCasts ⟨3, ![a, r, d]⟩) :
    T3 (fun n q e => f n (q / c) (q % c) e) (shapeCast ⟨3, ![a, r, d]⟩ X hc) := by
  subst hr
  intro y
  have l0 : (y 0).val < a := (y 0).isLt
  have l1 : (y 1).val < b * c := (y 1).isLt
  have l2 : (y 2).val < d := (y 2).isLt
  have c0 : 0 < c := Nat.pos_of_ne_zero fun h => by simp [h] at l1
  have b1 : (y 1).val / c < b := Nat.div_lt_of_lt_mul (lt_of_lt_of_eq (by assumption) (Nat.mul_comm _ _))
  refine (shapeCast_apply _ hc _ (ix4 ⟨_, l0⟩ ⟨_, b1⟩ ⟨_, Nat.mod_lt _ c0⟩ ⟨_, l2⟩) ?_).trans (hX _)
  rw [Shape.rowMajor_val_three, Shape.rowMajor_val_four]
  show (((y 0).val * b + (y 1).val / c) * c + (y 1).val % c) * d + (y 2).val = ((y 0).val * (b * c) + (y 1).val) * d + (y 2).val
  rw [Nat.add_mul ((y 0).val * b), Nat.add_assoc, Nat.div_add_mod', Nat.mul_assoc]

/-- The middle axis of a stack split. -/
theorem t4_split {f : ℕ → ℕ → ℕ → α} {r : ℕ} {X : (⟨3, ![a, r, d]⟩ : Shape).Idx → α} (hX : T3 f X) (hr : r = b * c)
    (hc : (⟨3, ![a, r, d]⟩ : Shape).ShapeCasts ⟨4, ![a, b, c, d]⟩) :
    T4 (fun n h i e => f n (c * h + i) e) (shapeCast ⟨4, ![a, b, c, d]⟩ X hc) := by
  intro y
  have l0 : (y 0).val < a := (y 0).isLt
  have l1 : (y 1).val < b := (y 1).isLt
  have l2 : (y 2).val < c := (y 2).isLt
  have l3 : (y 3).val < d := (y 3).isLt
  have b1 : c * (y 1).val + (y 2).val < r := by rw [hr]; nlinarith
  refine (shapeCast_apply _ hc _ (ix3 ⟨_, l0⟩ ⟨_, b1⟩ ⟨_, l3⟩) ?_).trans (hX _)
  rw [Shape.rowMajor_val_three, Shape.rowMajor_val_four]
  show ((y 0).val * r + (c * (y 1).val + (y 2).val)) * d + (y 3).val = (((y 0).val * b + (y 1).val) * c + (y 2).val) * d + (y 3).val
  rw [hr]; ring

end Any

variable {a b c d : ℕ} {f g : ℕ → ℕ → ℕ → EReal} {φ ψ : FTy} {u v : FVec Ideal (⟨3, ![a, b, c]⟩ : Shape) φ}

theorem t3_addf (hu : T3 f u) (hv : T3 g v) : T3 (fun h i j => f h i j + g h i j) (addf u v) :=
  fun y => congrArg₂ (· + ·) (hu y) (hv y)
theorem t3_subf (hu : T3 f u) (hv : T3 g v) : T3 (fun h i j => f h i j - g h i j) (subf u v) :=
  fun y => congrArg₂ (· - ·) (hu y) (hv y)
theorem t3_mulf (hu : T3 f u) (hv : T3 g v) : T3 (fun h i j => f h i j * g h i j) (mulf u v) :=
  fun y => congrArg₂ (· * ·) (hu y) (hv y)

end Cert.Tile
-- ==== Proof.FwdRef.lean ====
/- The reference's loop over the chunks, read as the chunk recurrence. -/
module

public import proofs.«01_k».proof.Proof.FwdSpec
public import proofs.«01_k».proof.Proof.Tile4
public import Idealize.ShloMosaic.Lib.DynamicIndex
public import proofs.«01_k».proof.Proof.Gen.ReferenceIdeal.Run

@[expose] public section

set_option maxRecDepth 16384

noncomputable section

namespace Cert.Fwd

open Idealize.ShloMosaic Idealize.ShloMosaic.TcCoe Cert.Tile Cert.ReferenceIdeal Cert.ReferenceIdeal.Gen Cert.ReferenceIdeal.Value
open Idealize.ShloMosaic.Tactic
open Idealize.ShloMosaic.StableHlo
open scoped BigOperators

section Dots

variable {f g : ℕ → ℕ → ℕ → EReal}

theorem ref_dot_state {u : FVec Ideal S8x64x128 .f32} {v : FVec Ideal S8x128x128 .f32} (hu : T3 (a := 8) (b := 64) (c := 128) f u)
    (hv : T3 (a := 8) (b := 128) (c := 128) g v) : T3 (a := 8) (b := 64) (c := 128) (fun h i e => ∑ d : Fin 128, f h i d.val * g h d.val e)
      (Host.dotGeneral dot_S8x64x128_S8x128x128_S8x64x128_2_1_1_2_0_0 none u v) := by
  intro y
  pointwise
  exact Finset.sum_congr rfl fun q _ => congrArg₂ (· * ·) (hu _) (hv _)

theorem ref_dot_score {u : FVec Ideal S8x64x64 .f32} {v : FVec Ideal S8x64x128 .f32} (hu : T3 (a := 8) (b := 64) (c := 64) f u)
    (hv : T3 (a := 8) (b := 64) (c := 128) g v) : T3 (a := 8) (b := 64) (c := 128) (fun h i e => ∑ j : Fin 64, f h i j.val * g h j.val e)
      (Host.dotGeneral dot_S8x64x64_S8x64x128_S8x64x128_2_1_1_2_0_0 none u v) := by
  intro y
  pointwise
  exact Finset.sum_congr rfl fun q _ => congrArg₂ (· * ·) (hu _) (hv _)

theorem ref_dot_outer {u v : FVec Ideal S8x64x128 .f32} (hu : T3 (a := 8) (b := 64) (c := 128) f u)
    (hv : T3 (a := 8) (b := 64) (c := 128) g v) : T3 (a := 8) (b := 128) (c := 128) (fun h d e => ∑ i : Fin 64, f h i.val d * g h i.val e)
      (Host.dotGeneral dot_S8x64x128_S8x64x128_S8x128x128_1_1_2_2_0_0 none u v) := by
  intro y
  pointwise
  exact Finset.sum_congr rfl fun q _ => congrArg₂ (· * ·) (hu _) (hv _)

end Dots

variable (m : (ℓ : Loc nD τ sig) → Buf (Elt Ideal) ℓ) (c : Dev nD)

/-- The recurrence's arrays, read off the reference's arguments. -/
def rinp : In where
  U := fn2 (A := 8192) (B := 1024) (m ((c : Thread nD τ).loc main_arg0))
  W := fn2 (A := 8192) (B := 1024) (m ((c : Thread nD τ).loc main_arg1))
  QD := fn2 (A := 8192) (B := 1024) (m ((c : Thread nD τ).loc main_arg2))
  KD := fn2 (A := 8192) (B := 1024) (m ((c : Thread nD τ).loc main_arg3))
  AT := fn2 (A := 8192) (B := 512) (m ((c : Thread nD τ).loc main_arg4))
  GC := fn2 (A := 8192) (B := 128) (m ((c : Thread nD τ).loc main_arg5))

/-- What the loop carries before trip `k`. -/
structure Inv (I : In) (k : ℕ) (V : Valuation τ sig (Elt Ideal)) : Prop where
  ctr : V (Proc.devRef .tc main_v21_6) = fun _ => (BitVec.ofNat 32 k : BitVec 32)
  u : T4 (a := 128) (b := 8) (c := 64) (d := 128) (fun n h i e => I.U (64 * n + i) (128 * h + e)) (V (Proc.devRef .tc main_v21_0))
  w : T4 (a := 128) (b := 8) (c := 64) (d := 128) (fun n h i e => I.W (64 * n + i) (128 * h + e)) (V (Proc.devRef .tc main_v21_1))
  at' : T4 (a := 128) (b := 8) (c := 64) (d := 64) (fun n h i e => I.AT (64 * n + i) (64 * h + e)) (V (Proc.devRef .tc main_v21_2))
  qd : T4 (a := 128) (b := 8) (c := 64) (d := 128) (fun n h i e => I.QD (64 * n + i) (128 * h + e)) (V (Proc.devRef .tc main_v21_3))
  kd : T4 (a := 128) (b := 8) (c := 64) (d := 128) (fun n h i e => I.KD (64 * n + i) (128 * h + e)) (V (Proc.devRef .tc main_v21_4))
  gl : Tile (a := 128) (b := 8) (fun n h => Ideal.exp (I.GC (64 * n + 63) h)) (V (Proc.devRef .tc main_v21_5))
  s : T3 (a := 8) (b := 128) (c := 128) (ST I k) (V (Proc.devRef .tc main_v21_7))
  o : T4 (a := 128) (b := 8) (c := 64) (d := 128) (fun n h i e => if n < k then OO I n h i e else 0) (V (Proc.devRef .tc main_v21_8))
  v : T4 (a := 128) (b := 8) (c := 64) (d := 128) (fun n h i e => if n < k then VN I n h i e else 0) (V (Proc.devRef .tc main_v21_9))
  st : T4 (a := 128) (b := 8) (c := 128) (d := 128) (fun n h i e => if n < k then ST I n h i e else 0) (V (Proc.devRef .tc main_v21_10))

theorem zero_t4 {a b c' d : ℕ} {f : ℕ → ℕ → ℕ → ℕ → EReal} (x : FVec Ideal S_ .f32) (hx : x = constant S_ .f32 0x00000000#32)
    (hb : S_.BroadcastsInDim ⟨4, ![a, b, c', d]⟩ ![]) (hf : ∀ n h i e, f n h i e = 0) :
    T4 f (broadcastInDim (⟨4, ![a, b, c', d]⟩ : Shape) ![] hb x) := by
  subst hx
  intro y
  rw [hf]
  exact Ideal.ofBits_zero_f32

theorem inv_zero : Inv (rinp m c) 0 (entryContents preI m c) where
  ctr := ctr_entry m c
  u := by
    simp only [entryContents, afterL_cons, afterL_nil]
    after_reads_simp
    exact t4_chunks (fn2_tile _) rfl rfl _ _
  w := by
    simp only [entryContents, afterL_cons, afterL_nil]
    after_reads_simp
    exact t4_chunks (fn2_tile _) rfl rfl _ _
  at' := by
    simp only [entryContents, afterL_cons, afterL_nil]
    after_reads_simp
    exact t4_chunks (fn2_tile _) rfl rfl _ _
  qd := by
    simp only [entryContents, afterL_cons, afterL_nil]
    after_reads_simp
    exact t4_chunks (fn2_tile _) rfl rfl _ _
  kd := by
    simp only [entryContents, afterL_cons, afterL_nil]
    after_reads_simp
    exact t4_chunks (fn2_tile _) rfl rfl _ _
  gl := by
    simp only [entryContents, afterL_cons, afterL_nil]
    after_reads_simp
    exact fun y => congrArg Ideal.exp (tile_last (fn2_tile _) rfl (by decide) _ _ _ y)
  s := by
    simp only [entryContents, afterL_cons, afterL_nil]
    after_reads_simp
    intro y
    rw [ST_zero]
    exact Ideal.ofBits_zero_f32
  o := by
    simp only [entryContents, afterL_cons, afterL_nil]
    after_reads_simp
    exact zero_t4 _ rfl _ fun n h i e => if_neg (Nat.not_lt_zero _)
  v := by
    simp only [entryContents, afterL_cons, afterL_nil]
    after_reads_simp
    exact zero_t4 _ rfl _ fun n h i e => if_neg (Nat.not_lt_zero _)
  st := by
    simp only [entryContents, afterL_cons, afterL_nil]
    after_reads_simp
    exact zero_t4 _ rfl _ fun n h i e => if_neg (Nat.not_lt_zero _)

variable {m c}

/-- A member stored at the position `k` of a stack filled below `k`. -/
theorem fill {f : ℕ → ℕ → ℕ → ℕ → EReal} {k n : ℕ} (h i e : ℕ) :
    (if n = k then f k h i e else if n < k then f n h i e else 0) = if n < k + 1 then f n h i e else 0 := by
  by_cases hk : n = k
  · subst hk; rw [if_pos rfl, if_pos (Nat.lt_succ_self _)]
  · rw [if_neg hk]
    by_cases hl : n < k
    · rw [if_pos hl, if_pos (by omega)]
    · rw [if_neg hl, if_neg (by omega)]

theorem inv_succ {I : In} {k : ℕ} (hk : k < 128) {V : Valuation τ sig (Elt Ideal)} (H : Inv I k V) : Inv I (k + 1) (STEP V) := by
  have hi : ((V (Proc.devRef .tc main_v21_6) : S_.Idx → BitVec 32) (Shape.Idx.first h_S_)).toInt = k := by
    rw [H.ctr]; exact toInt_ofNat_of_lt (by omega)
  have hvn : T3 (a := 8) (b := 64) (c := 128) (VN I k) (res_main_while0b_v35 V) := by
    refine (t3_subf (t3_slice H.u hk hi rfl rfl rfl _ _) (ref_dot_state (t3_slice H.w hk hi rfl rfl rfl _ _) H.s)).congr ?_
    intro h _ i _ e _
    rw [VN_eq]; rfl
  refine ⟨?_, ?_, ?_, ?_, ?_, ?_, ?_, ?_, ?_, ?_, ?_⟩
  · rw [STEP_main_v21_6]
    unfold step_main_v21_6
    rw [id, H.ctr]
    funext y
    show BitVec.ofNat 32 k + 1#32 = BitVec.ofNat 32 (k + 1)
    rw [BitVec.ofNat_add]
  · rw [STEP_main_v21_0]; exact H.u
  · rw [STEP_main_v21_1]; exact H.w
  · rw [STEP_main_v21_2]; exact H.at'
  · rw [STEP_main_v21_3]; exact H.qd
  · rw [STEP_main_v21_4]; exact H.kd
  · rw [STEP_main_v21_5]; exact H.gl
  · rw [STEP_main_v21_7]
    refine (t3_addf (t3_mulf H.s (t3_spread H.gl hk hi rfl _ _ _ _))
      (ref_dot_outer (t3_slice H.kd hk hi rfl rfl rfl _ _) hvn)).congr ?_
    intro h _ d _ e _
    rw [ST_succ]
    simp only [VN_eq]
    rfl
  · rw [STEP_main_v21_8]
    refine (t4_update H.o (t3_addf (ref_dot_state (t3_slice H.qd hk hi rfl rfl rfl _ _) H.s)
      (ref_dot_score (t3_slice H.at' hk hi rfl rfl rfl _ _) hvn)) hk hi rfl rfl rfl updateFits_S128x8x64x128_S1x8x64x128 _).congr ?_
    intro n _ h _ i _ e _
    rw [← fill (f := OO I)]
    simp only [OO_eq]
  · rw [STEP_main_v21_9]
    refine (t4_update H.v hvn hk hi rfl rfl rfl updateFits_S128x8x64x128_S1x8x64x128 _).congr ?_
    intro n _ h _ i _ e _
    exact fill (f := VN I) _ _ _
  · rw [STEP_main_v21_10]
    refine (t4_update H.st H.s hk hi rfl rfl rfl updateFits_S128x8x128x128_S1x8x128x128 _).congr ?_
    intro n _ h _ i _ e _
    exact fill (f := ST I) _ _ _

variable (m c)

theorem inv_all : ∀ k, k ≤ 128 → Inv (rinp m c) k (STEP^[k] (entryContents preI m c))
  | 0, _ => inv_zero m c
  | k + 1, h => by
    rw [Function.iterate_succ_apply']
    exact inv_succ h (inv_all k (Nat.le_of_succ_le h))

theorem ref_o : Tile (a := 8192) (b := 1024) (fun r q => OO (rinp m c) (r / 64) (q / 128) (r % 64) (q % 128))
    (out_main_v23 (STEP^[128] (entryContents preI m c))) := by
  refine (tile_tokens (inv_all m c 128 le_rfl).o rfl rfl _ _).congr ?_
  intro r hr q hq
  exact if_pos (by omega)

theorem ref_v : Tile (a := 8192) (b := 1024) (fun r q => VN (rinp m c) (r / 64) (q / 128) (r % 64) (q % 128))
    (out_main_v26 (STEP^[128] (entryContents preI m c))) := by
  unfold out_main_v26
  refine tile_truncf (φ := .f32) (ψ := .bf16) _ ((tile_tokens (inv_all m c 128 le_rfl).v rfl rfl _ _).congr ?_)
  intro r hr q hq
  exact if_pos (by omega)

theorem ref_s : T3 (a := 128) (b := 1024) (c := 128) (fun n r e => ST (rinp m c) n (r / 128) (r % 128) e)
    (out_main_v27 (STEP^[128] (entryContents preI m c))) := by
  refine (t3_merge (inv_all m c 128 le_rfl).st rfl _).congr ?_
  intro n hn q hq e he
  exact if_pos hn

end Cert.Fwd
-- ==== Proof.FwdClaim.lean ====
/- The value claim of the forward scan. -/
module

public import proofs.«01_k».proof.Proof.FwdArr
public import proofs.«01_k».proof.Proof.FwdRef
public import proofs.«01_k».proof.Defs

@[expose] public section

set_option maxRecDepth 16384

noncomputable section

namespace Cert.Fwd

open Idealize.ShloMosaic Idealize.ShloMosaic.TcCoe Cert.Tile

theorem claim : Cert.algebraic_KernelIdeal_ReferenceIdeal (hKernelIdeal := Cert.KernelIdeal.Gen.facts)
    (hReferenceIdeal := Cert.ReferenceIdeal.Gen.facts) := by
  intro m g m' g' _ hm
  have hI : ∀ c, rinp m' c = inp m c := by
    intro c
    obtain ⟨h0, h1, h2, h3, h4, h5⟩ := hm c
    unfold rinp inp
    congr 1 <;> apply congrArg <;> assumption
  refine ⟨arrO m, arrV m, arrS m, ?_, ?_⟩
  · refine (θ_run _ _ _).mono (fun r h c => ?_) (Cert.KernelIdeal.Value.run_blocks m g)
    obtain ⟨a, b, d, e⟩ := h c
    exact ⟨a.trans (final_o m c), b.trans (final_v m c), d.trans (final_s m c), e⟩
  · refine (θ_run _ _ _).mono (fun r h c => ?_) (Cert.ReferenceIdeal.Value.run m' g')
    obtain ⟨a, b, d, e⟩ := h c
    refine ⟨a.trans ?_, b.trans ?_, d.trans ?_, e⟩
    · funext y; refine (ref_o m' c y).trans ?_; rw [hI]; rfl
    · funext y; refine (ref_v m' c y).trans ?_; rw [hI]; rfl
    · funext y; refine (ref_s m' c y).trans ?_; rw [hI]; rfl

end Cert.Fwd
-- ==== Proof.BwdSpec.lean ====
/- The reverse chunk recurrence of the gated delta rule's gradient over natural coordinates. -/
module

public import proofs.«01_k».proof.Proof.Tile
public import Idealize.ShloMosaic.Lib.DynamicIndex
public import Idealize.ShloMosaic.Lib.WordCmp

@[expose] public section

set_option maxRecDepth 16384

noncomputable section

namespace Cert.Bwd

open Idealize.ShloMosaic hiding ix0 ix1 ix2 ix3 ix4 ix5
open Idealize.ShloMosaic.ValueIdx Cert.Tile
open scoped BigOperators

/-- The eight arrays the reverse scan reads. -/
structure In where
  /-- The gradient of the outputs, by token and value column. -/
  DO : ℕ → ℕ → EReal
  /-- The values. -/
  U : ℕ → ℕ → EReal
  /-- The keys the state is read at. -/
  W : ℕ → ℕ → EReal
  /-- The decayed queries. -/
  QD : ℕ → ℕ → EReal
  /-- The decayed keys. -/
  KD : ℕ → ℕ → EReal
  /-- The scores inside a chunk. -/
  AT : ℕ → ℕ → EReal
  /-- The cumulated log decays, by token and head. -/
  GC : ℕ → ℕ → EReal
  /-- The states before each chunk: chunk, head and key column, value column. -/
  S : ℕ → ℕ → ℕ → EReal

variable (I : In)

/-- The scores at and below the diagonal of each chunk. -/
def MA (r q : ℕ) : EReal := if q % 64 ≤ r % 64 then I.AT r q else 0

/-- The new values of the forward scan, by token and value column. -/
def VF (r q : ℕ) : EReal :=
  I.U r q - ∑ d : Fin 128, I.W r (128 * (q / 128) + d.val) * I.S (r / 64) (128 * (q / 128) + d.val) (q % 128)

/-- The gradient of the new values of chunk `n` and head `h`, from the gradient `D` of the state after the chunk. -/
def dvOf (D : ℕ → ℕ → EReal) (n h i e : ℕ) : EReal :=
  ∑ j : Fin 64, MA I (64 * n + j.val) (64 * h + i) * I.DO (64 * n + j.val) (128 * h + e)
    + ∑ d : Fin 128, I.KD (64 * n + i) (128 * h + d.val) * D d.val e

/-- The gradient of the state before chunk `n`. -/
def backOf (D : ℕ → ℕ → EReal) (n h d e : ℕ) : EReal :=
  (∑ i : Fin 64, I.QD (64 * n + i.val) (128 * h + d) * I.DO (64 * n + i.val) (128 * h + e)
    + Ideal.exp (I.GC (64 * n + 63) h) * D d e)
    - ∑ i : Fin 64, I.W (64 * n + i.val) (128 * h + d) * dvOf I D n h i.val e

/-- The gradient of the state of head `h` after all but the last `j` chunks. -/
def DD : ℕ → ℕ → ℕ → ℕ → EReal
  | 0 => fun _ _ _ => 0
  | j + 1 => fun h => backOf I (DD j h) (127 - j) h

/-- The gradients of chunk `n` and head `h`: of the values, of the keys, of the queries, of the decayed keys, of the
    scores and of the decay. -/
def DV (n h : ℕ) : ℕ → ℕ → EReal := dvOf I (DD I (127 - n) h) n h
def DW (n h i d : ℕ) : EReal := 0 - ∑ e : Fin 128, DV I n h i e.val * I.S n (128 * h + d) e.val
def DQ (n h i d : ℕ) : EReal := ∑ e : Fin 128, I.DO (64 * n + i) (128 * h + e.val) * I.S n (128 * h + d) e.val
def DK (n h i d : ℕ) : EReal := ∑ e : Fin 128, VF I (64 * n + i) (128 * h + e.val) * DD I (127 - n) h d e.val
def DA (n h i j : ℕ) : EReal :=
  if j ≤ i then ∑ e : Fin 128, I.DO (64 * n + i) (128 * h + e.val) * VF I (64 * n + j) (128 * h + e.val) else 0
def DG (n h : ℕ) : EReal := ∑ e : Fin 128, ∑ d : Fin 128, DD I (127 - n) h d.val e.val * I.S n (128 * h + d.val) e.val

theorem DD_zero (h d e : ℕ) : DD I 0 h d e = 0 := rfl
theorem DD_succ (j h d e : ℕ) : DD I (j + 1) h d e = backOf I (DD I j h) (127 - j) h d e := rfl
theorem DV_eq (n h i e : ℕ) : DV I n h i e = dvOf I (DD I (127 - n) h) n h i e := rfl

variable {I} {n h : ℕ}

section Words

variable {D : FVec Ideal (⟨2, ![128, 128]⟩ : Shape) .f32} {S : FVec Ideal (⟨2, ![128, 128]⟩ : Shape) .f32}
  {o k q w v : FVec Ideal (⟨2, ![64, 128]⟩ : Shape) .bf16} {a : FVec Ideal (⟨2, ![64, 64]⟩ : Shape) .bf16}

theorem isV (hD : Tile (DD I (127 - n) h) D) (ho : Tile (fun i e => I.DO (64 * n + i) (128 * h + e)) o)
    (hk : Tile (fun i d => I.KD (64 * n + i) (128 * h + d)) k) (ha : Tile (fun i j => MA I (64 * n + i) (64 * h + j)) a) {b₁} :
    Tile (DV I n h) (addf (matmul (dotTN 64 64 128) none a o (constant (⟨2, ![64, 128]⟩ : Shape) .f32 0#32))
      (matmul (DotDims.plain 64 128 128) none k (truncf .bf16 D b₁) (constant (⟨2, ![64, 128]⟩ : Shape) .f32 0#32))) :=
  tile_addf (dot_tn ha ho none) (dot_plain hk (tile_truncf _ hD) none)

theorem isD (hn : n < 128) (hD : Tile (DD I (127 - n) h) D) (ho : Tile (fun i e => I.DO (64 * n + i) (128 * h + e)) o)
    (hq : Tile (fun i d => I.QD (64 * n + i) (128 * h + d)) q) {w : FVec Ideal (⟨2, ![64, 128]⟩ : Shape) .f32}
    (hw : Tile (fun i d => I.W (64 * n + i) (128 * h + d)) w)
    {g : FVec Ideal (⟨2, ![1, 1]⟩ : Shape) .f32} (hg : Tile (fun _ _ => I.GC (64 * n + 63) h) g)
    {v : FVec Ideal (⟨2, ![64, 128]⟩ : Shape) .f32} (hv : Tile (DV I n h) v) {b₁ b₂ b₃} :
    Tile (DD I (127 - n + 1) h) (subf (addf (matmul (dotTN 128 64 128) none q o (constant (⟨2, ![128, 128]⟩ : Shape) .f32 0#32))
        (mulf (broadcastTo (⟨2, ![128, 128]⟩ : Shape) (exp g) b₁) D))
      (matmul (dotTN 128 64 128) none (truncf .bf16 w b₂) (truncf .bf16 v b₃) (constant (⟨2, ![128, 128]⟩ : Shape) .f32 0#32))) := by
  refine (tile_subf (tile_addf (dot_tn hq ho none) (tile_mulf (tile_broadcast (tile_exp hg) _) hD))
    (dot_tn (tile_truncf _ hw) (tile_truncf _ hv) none)).congr fun i _ j _ => ?_
  rw [DD_succ, show 127 - (127 - n) = n by omega]
  rfl

theorem isW (hv : Tile (DV I n h) v) (hS : Tile (fun d e => I.S n (128 * h + d) e) S) {b₂} :
    Tile (DW I n h) (subf (broadcast (⟨2, ![64, 128]⟩ : Shape) (Scalar.ofBits (F := Ideal) .f32 0#32))
      (matmul (DotDims.transposedRhs 64 128 128) none v (truncf .bf16 S b₂)
        (constant (⟨2, ![64, 128]⟩ : Shape) .f32 0#32))) :=
  tile_subf (f := fun _ _ => 0) (fun _ => Ideal.ofBits_zero_f32) (dot_nt hv (tile_truncf _ hS) none)

theorem isQ (ho : Tile (fun i e => I.DO (64 * n + i) (128 * h + e)) o) (hS : Tile (fun d e => I.S n (128 * h + d) e) S) {b₁} :
    Tile (DQ I n h) (matmul (DotDims.transposedRhs 64 128 128) none o (truncf .bf16 S b₁)
        (constant (⟨2, ![64, 128]⟩ : Shape) .f32 0#32)) :=
  dot_nt ho (tile_truncf _ hS) none

theorem isK (hv : Tile (fun i e => VF I (64 * n + i) (128 * h + e)) v) (hD : Tile (DD I (127 - n) h) D) {b₁} :
    Tile (DK I n h) (matmul (DotDims.transposedRhs 64 128 128) none v (truncf .bf16 D b₁)
        (constant (⟨2, ![64, 128]⟩ : Shape) .f32 0#32)) :=
  dot_nt hv (tile_truncf _ hD) none

theorem sge_word {α : Type} {a b : ℕ} (ha : a < 64) (hb : b < 64) (x y : α) :
    Scalar.select (IntOp.cmpi CmpIPredicate.sge (BitVec.ofNat 32 a) (BitVec.ofNat 32 b)) x y = if b ≤ a then x else y := by
  show Scalar.select (BitVec.ofBool (decide ((BitVec.ofNat 32 b).toInt ≤ (BitVec.ofNat 32 a).toInt))) x y = _
  rw [toInt_ofNat_of_lt (by omega), toInt_ofNat_of_lt (by omega)]
  by_cases h : b ≤ a
  · rw [if_pos h, decide_eq_true (by omega)]; rfl
  · rw [if_neg h, decide_eq_false (by omega)]; rfl

theorem isA (ho : Tile (fun i e => I.DO (64 * n + i) (128 * h + e)) o)
    (hv : Tile (fun i e => VF I (64 * n + i) (128 * h + e)) v) {h0 h1} :
    Tile (DA I n h) (select (cmpi .sge (iota .tc (⟨2, ![64, 64]⟩ : Shape) 32 [0] h0) (iota .tc (⟨2, ![64, 64]⟩ : Shape) 32 [1] h1))
      (matmul (DotDims.transposedRhs 64 128 64) none o v (constant (⟨2, ![64, 64]⟩ : Shape) .f32 0#32))
      (broadcast (⟨2, ![64, 64]⟩ : Shape) (Scalar.ofBits (F := Ideal) .f32 0#32))) := by
  intro y
  have h0 := idx2_lt0 y
  have h1 := idx2_lt1 y
  pointwise
  rw [sge_word (by omega) (by omega)]
  unfold DA
  split_ifs with h
  · exact Finset.sum_congr rfl fun q _ => congrArg₂ (· * ·) (ho _) (hv _)
  · rfl

/-- The sum of a matrix over its rows, then over what is left. -/
theorem tot_eq {f : ℕ → ℕ → EReal} {X : FVec Ideal (⟨2, ![128, 128]⟩ : Shape) .f32} (hX : Tile f X) {h1 h2 h3 h4 n1 n2 n3 n4} :
    Tile (a := 1) (b := 1) (fun _ _ => ∑ e : Fin 128, ∑ d : Fin 128, f d.val e.val)
      (shapeCast (⟨2, ![1, 1]⟩ : Shape) (multiReduction (F := Ideal) (φ := .f32) .add [1] (⟨1, ![1]⟩ : Shape)
        (shapeCast (⟨2, ![1, 128]⟩ : Shape) (multiReduction (F := Ideal) (φ := .f32) .add [0] (⟨1, ![128]⟩ : Shape) X 0#32 h1 n1 n2) h2)
        0#32 h3 n3 n4) h4) := by
  intro y
  pointwise
  exact Finset.sum_congr rfl fun e _ => Finset.sum_congr rfl fun d _ => hX _

theorem eq_word {α : Type} {a b c : ℕ} (ha : a < 128) (hb : b < 128) (hc : c < 128) (x y : α) :
    Scalar.select (IntOp.andi (IntOp.cmpi CmpIPredicate.eq (BitVec.ofNat 32 a) 0#32)
      (IntOp.cmpi CmpIPredicate.eq (BitVec.ofNat 32 b) (BitVec.ofNat 32 c))) x y = if a = 0 ∧ b = c then x else y := by
  show Scalar.select (BitVec.ofBool (BitVec.ofNat 32 a == BitVec.ofNat 32 0) &&& BitVec.ofBool (BitVec.ofNat 32 b == BitVec.ofNat 32 c)) x y = _
  have e : ∀ p q : ℕ, p < 128 → q < 128 → ((BitVec.ofNat 32 p == BitVec.ofNat 32 q) = decide (p = q)) := by
    intro p q hp hq
    rw [Bool.eq_iff_iff, beq_iff_eq, decide_eq_true_iff, ← BitVec.toNat_inj, BitVec.toNat_ofNat, BitVec.toNat_ofNat]
    omega
  rw [e a 0 ha (by omega), e b c hb hc]
  by_cases h1 : a = 0 <;> by_cases h2 : b = c <;> simp [h1, h2] <;> rfl

/-- One lane of the first row filled in. -/
theorem isG {G : ℕ → EReal} {k : ℕ} (hk : k < 8) {p : FVec Ideal (⟨2, ![8, 128]⟩ : Shape) .f32}
    (hp : Tile (fun i j => if i = 0 ∧ j < k then G j else 0) p) {t : FVec Ideal (⟨2, ![1, 1]⟩ : Shape) .f32}
    (ht : Tile (fun _ _ => G k) t) {h0 h1 h2 h3} :
    Tile (fun i j => if i = 0 ∧ j < k + 1 then G j else 0)
      (select (andi (cmpi .eq (iota .tc (⟨2, ![8, 128]⟩ : Shape) 32 [0] h0) (broadcast (⟨2, ![8, 128]⟩ : Shape) 0#32))
          (cmpi .eq (iota .tc (⟨2, ![8, 128]⟩ : Shape) 32 [1] h1) (broadcast (⟨2, ![8, 128]⟩ : Shape) (BitVec.ofNat 32 k))))
        (broadcastTo (⟨2, ![8, 128]⟩ : Shape) (shapeCast (⟨2, ![1, 1]⟩ : Shape) t h2) h3) p) := by
  intro y
  have y0 := idx2_lt0 y
  have y1 := idx2_lt1 y
  have hb := tile_broadcast (a := 8) (b := 128) (φ := .f32) (tile_shapeCast h2 ht) h3 y
  rw [select_apply, hb, hp y]
  have hc : andi (cmpi .eq (iota .tc (⟨2, ![8, 128]⟩ : Shape) 32 [0] h0) (broadcast (⟨2, ![8, 128]⟩ : Shape) 0#32))
      (cmpi .eq (iota .tc (⟨2, ![8, 128]⟩ : Shape) 32 [1] h1) (broadcast (⟨2, ![8, 128]⟩ : Shape) (BitVec.ofNat 32 k))) y
      = IntOp.andi (IntOp.cmpi CmpIPredicate.eq (BitVec.ofNat 32 (y 0).val) 0#32)
        (IntOp.cmpi CmpIPredicate.eq (BitVec.ofNat 32 (y 1).val) (BitVec.ofNat 32 k)) := by
    pointwise
  rw [hc]
  refine (eq_word (a := (y 0).val) (b := (y 1).val) (c := k) (by omega) y1 (by omega) _ _).trans ?_
  dsimp only
  by_cases e0 : (y 0).val = 0
  · by_cases e1 : (y 1).val = k
    · rw [if_pos ⟨e0, e1⟩, if_pos ⟨e0, by omega⟩, e1]
    · rw [if_neg (fun h => e1 h.2)]
      by_cases e2 : (y 1).val < k
      · rw [if_pos ⟨e0, e2⟩, if_pos ⟨e0, by omega⟩]
      · rw [if_neg (fun h => e2 h.2), if_neg (fun h => by omega)]
  · rw [if_neg (fun h => e0 h.1), if_neg (fun h => e0 h.1), if_neg (fun h => e0 h.1)]

end Words

attribute [irreducible] DD DV DW DQ DK DA DG

end Cert.Bwd
-- ==== Proof.BwdRun.lean ====
/- What one grid step of the reverse scan leaves in its buffers, as the reverse recurrence. -/
module

public import proofs.«01_k».proof.Proof.BwdSpec
public import proofs.«01_k».proof.Proof.Gen.Kernel2Ideal.Value

@[expose] public section

set_option maxRecDepth 16384

noncomputable section

namespace Cert.Bwd

open Idealize.ShloMosaic Cert.Tile Cert.Kernel2Ideal Cert.Kernel2Ideal.Gen
open scoped BigOperators

variable {I : In}

/-- The eight blocks read at the step of block `b` of the token rows. -/
structure Blocks (I : In) (b : ℕ) (x0 x1 : Vec Ideal S256x1024 .f32) (x2 x3 : Vec Ideal S256x1024 .bf16)
    (x4 : Vec Ideal S256x512 .bf16) (x5 : Vec Ideal S256x128 .f32) (x6 : Vec Ideal S256x1024 .bf16) (x7 : Vec Ideal S4x1024x128 .f32) : Prop where
  do_ : Tile (fun r q => I.DO (256 * b + r) q) x0
  w : Tile (fun r q => I.W (256 * b + r) q) x1
  qd : Tile (fun r q => I.QD (256 * b + r) q) x2
  kd : Tile (fun r q => I.KD (256 * b + r) q) x3
  at_ : Tile (fun r q => MA I (256 * b + r) q) x4
  gc : Tile (fun r q => I.GC (256 * b + r) q) x5
  vn : Tile (fun r q => VF I (256 * b + r) q) x6
  st : ∀ y, x7 y = I.S (4 * b + (y 0).val) (y 1).val (y 2).val

/-- The arrays the steps write, by row and column. -/
def duOf (I : In) (r q : ℕ) : EReal := DV I (r / 64) (q / 128) (r % 64) (q % 128)
def dwOf (I : In) (r q : ℕ) : EReal := DW I (r / 64) (q / 128) (r % 64) (q % 128)
def dqOf (I : In) (r q : ℕ) : EReal := DQ I (r / 64) (q / 128) (r % 64) (q % 128)
def dkOf (I : In) (r q : ℕ) : EReal := DK I (r / 64) (q / 128) (r % 64) (q % 128)
def daOf (I : In) (r q : ℕ) : EReal := DA I (r / 64) (q / 64) (r % 64) (q % 64)
def dgOf (I : In) (r q : ℕ) : EReal := if r % 8 = 0 ∧ q < 8 then DG I (r / 8) q else 0
def dsOf (I : In) (j r e : ℕ) : EReal := DD I j (r / 128) (r % 128) e

section Piece

variable {b o p : ℕ} {w : (⟨2, ![64, 128]⟩ : Shape).Idx → EReal} {X : ℕ → ℕ → ℕ → ℕ → EReal}

theorem piece_x (hw : Tile (X (4 * b + o / 64) (p / 128)) w) (ho : o % 64 = 0) (hp : p % 128 = 0) :
    Tile (fun i j => (fun r q => X (r / 64) (q / 128) (r % 64) (q % 128)) (256 * b + (o + i)) (p + j)) w := by
  refine hw.congr fun i hi j hj => ?_
  dsimp only
  congr 1 <;> omega

theorem piece_a {w : (⟨2, ![64, 64]⟩ : Shape).Idx → EReal} (hw : Tile (DA I (4 * b + o / 64) (p / 64)) w) (ho : o % 64 = 0) (hp : p % 64 = 0) :
    Tile (fun i j => daOf I (256 * b + (o + i)) (p + j)) w := by
  refine hw.congr fun i hi j hj => ?_
  unfold daOf
  congr 1 <;> omega

theorem piece_g {w : (⟨2, ![8, 128]⟩ : Shape).Idx → EReal} (hw : Tile (fun i j => if i = 0 ∧ j < 8 then DG I (4 * b + o / 8) j else 0) w)
    (ho : o % 8 = 0) : Tile (fun i j => dgOf I (32 * b + (o + i)) (0 + j)) w := by
  refine hw.congr fun i hi j hj => ?_
  unfold dgOf
  rw [show (32 * b + (o + i)) / 8 = 4 * b + o / 8 by omega, zero_add]
  exact if_congr (and_congr_left fun _ => by omega) rfl rfl

theorem piece_s {n : ℕ} {w : (⟨2, ![128, 128]⟩ : Shape).Idx → EReal} (hw : Tile (DD I n (p / 128)) w) (hp : p % 128 = 0) :
    Tile (fun i j => dsOf I n (p + i) (0 + j)) w := by
  refine hw.congr fun i hi j hj => ?_
  unfold dsOf
  congr 1 <;> omega

end Piece

section Head

/-! The words one head computes in the four chunks of a step, last chunk first, and what they hold. -/

variable (arg1 : Memref sig .tc .vmem S256x1024 .f32) (harg1 : arg1.IsWhole) (arg2 : Memref sig .tc .vmem S256x1024 .f32) (harg2 : arg2.IsWhole)
  (arg3 : Memref sig .tc .vmem S256x1024 .bf16) (harg3 : arg3.IsWhole) (arg4 : Memref sig .tc .vmem S256x1024 .bf16) (harg4 : arg4.IsWhole)
  (arg5 : Memref sig .tc .vmem S256x512 .bf16) (harg5 : arg5.IsWhole) (arg6 : Memref sig .tc .vmem S256x128 .f32) (harg6 : arg6.IsWhole)
  (arg7 : Memref sig .tc .vmem S256x1024 .bf16) (harg7 : arg7.IsWhole) (arg8 : Memref sig .tc .vmem S4x1024x128 .f32) (harg8 : arg8.IsWhole)
  (x0 x1 : Vec Ideal S256x1024 .f32) (x2 x3 : Vec Ideal S256x1024 .bf16) (x4 : Vec Ideal S256x512 .bf16) (x5 : Vec Ideal S256x128 .f32)
  (x6 : Vec Ideal S256x1024 .bf16) (x7 : Vec Ideal S4x1024x128 .f32)
  (d0 : FVec Ideal S128x128 .f32) (h : ℕ)

theorem inbRow (c h : ℕ) : ∀ i, ![64 * (c % 4), 128 * (h % 8)] i + (![64, 128] : Fin 2 → ℕ) i ≤ S256x1024.size i := by
  intro i; fin_cases i <;> simp [S256x1024] <;> omega
theorem inbAt (c h : ℕ) : ∀ i, ![64 * (c % 4), 64 * (h % 8)] i + (![64, 64] : Fin 2 → ℕ) i ≤ S256x512.size i := by
  intro i; fin_cases i <;> simp [S256x512] <;> omega
theorem inbGc (c h : ℕ) : ∀ i, ![64 * (c % 4) + 63, h % 8] i + (![1, 1] : Fin 2 → ℕ) i ≤ S256x128.size i := by
  intro i; fin_cases i <;> simp [S256x128] <;> omega
theorem inbSt (c h : ℕ) : ∀ i, ![c % 4, 128 * (h % 8), 0] i + (![1, 128, 128] : Fin 3 → ℕ) i ≤ S4x1024x128.size i := by
  intro i; fin_cases i <;> simp [S4x1024x128] <;> omega

theorem bc11 : (⟨2, ![1, 1]⟩ : Shape).Broadcasts S128x128 := by decide
theorem sc6464 : S64x64.ShapeCasts S64x64 := by decide
theorem sc64128 : S64x128.ShapeCasts S64x128 := by decide
theorem scPlane : S1x128x128.ShapeCasts S128x128 := by decide

def wDo (c : ℕ) : FVec Ideal S64x128 .bf16 :=
  truncf (F := Ideal) (φ := .f32) .bf16 (ld arg1 harg1 x0 (64 * (c % 4)) (128 * (h % 8)) 64 128 (inbRow c h)) (by decide)

def wVn (c : ℕ) : FVec Ideal S64x128 .bf16 :=
  shapeCast S64x128 (ld arg7 harg7 x6 (64 * (c % 4)) (128 * (h % 8)) 64 128 (inbRow c h)) sc64128

def wSt (c : ℕ) : FVec Ideal S128x128 .f32 :=
  shapeCast S128x128 (View.readAt (Elt Ideal) arg8.view
    (Rect.unit (s := S4x1024x128) ![c % 4, 128 * (h % 8), 0] ![1, 128, 128] (inbSt c h)).toLoadRect (harg8.unread x7)) scPlane

/-- The gradients of the new values of chunk `c`, from the gradient `D` of the state after it. -/
def wDv (D : FVec Ideal S128x128 .f32) (c : ℕ) : FVec Ideal S64x128 .f32 :=
  addf (matmul (F := Ideal) (φ₁ := .bf16) (dotTN 64 64 128) none
      (shapeCast S64x64 (ld arg5 harg5 x4 (64 * (c % 4)) (64 * (h % 8)) 64 64 (inbAt c h)) sc6464)
      (wDo arg1 harg1 x0 h c) (constant S64x128 .f32 0#32))
    (matmul (F := Ideal) (φ₁ := .bf16) (DotDims.plain 64 128 128) none
      (ld arg4 harg4 x3 (64 * (c % 4)) (128 * (h % 8)) 64 128 (inbRow c h)) (truncf .bf16 D (by decide)) (constant S64x128 .f32 0#32))

/-- The gradient of the state after `p` chunks of the step. -/
def wD : ℕ → FVec Ideal S128x128 .f32
  | 0 => d0
  | p + 1 => subf (addf (matmul (F := Ideal) (φ₁ := .bf16) (dotTN 128 64 128) none
          (ld arg3 harg3 x2 (64 * ((3 - p) % 4)) (128 * (h % 8)) 64 128 (inbRow (3 - p) h))
          (wDo arg1 harg1 x0 h (3 - p)) (constant S128x128 .f32 0#32))
        (mulf (broadcastTo S128x128 (exp (F := Ideal) (φ := .f32)
          (ld arg6 harg6 x5 (64 * ((3 - p) % 4) + 63) (h % 8) 1 1 (inbGc (3 - p) h))) bc11) (wD p)))
      (matmul (F := Ideal) (dotTN 128 64 128) none
        (truncf (F := Ideal) (φ := .f32) .bf16 (ld arg2 harg2 x1 (64 * ((3 - p) % 4)) (128 * (h % 8)) 64 128 (inbRow (3 - p) h)) (by decide))
        (truncf .bf16 (wDv arg1 harg1 arg4 harg4 arg5 harg5 x0 x3 x4 h (wD p) (3 - p)) (by decide)) (constant S128x128 .f32 0#32))

def wDw (v : FVec Ideal S64x128 .f32) (c : ℕ) : FVec Ideal S64x128 .f32 :=
  subf (broadcast S64x128 (Scalar.ofBits (F := Ideal) .f32 0#32))
    (matmul (F := Ideal) (DotDims.transposedRhs 64 128 128) none (truncf .bf16 v (by decide))
      (truncf .bf16 (wSt arg8 harg8 x7 h c) (by decide)) (constant S64x128 .f32 0#32))

def wDq (c : ℕ) : FVec Ideal S64x128 .f32 :=
  matmul (F := Ideal) (DotDims.transposedRhs 64 128 128) none (wDo arg1 harg1 x0 h c)
    (truncf .bf16 (wSt arg8 harg8 x7 h c) (by decide)) (constant S64x128 .f32 0#32)

def wDk (D : FVec Ideal S128x128 .f32) (c : ℕ) : FVec Ideal S64x128 .f32 :=
  matmul (F := Ideal) (DotDims.transposedRhs 64 128 128) none (wVn arg7 harg7 x6 h c)
    (truncf .bf16 D (by decide)) (constant S64x128 .f32 0#32)

def wDa (c : ℕ) : FVec Ideal S64x64 .f32 :=
  select (k0_pay3) (matmul (F := Ideal) (DotDims.transposedRhs 64 128 64) none (wDo arg1 harg1 x0 h c) (wVn arg7 harg7 x6 h c)
    (constant S64x64 .f32 0#32)) (broadcast S64x64 (Scalar.ofBits (F := Ideal) .f32 0#32))

def wTot (D S : FVec Ideal S128x128 .f32) : FVec Ideal S1x1 .f32 :=
  shapeCast S1x1 (multiReduction (F := Ideal) (φ := .f32) .add [1] S1
    (shapeCast S1x128 (multiReduction (F := Ideal) (φ := .f32) .add [0] S128 (mulf D S) 0x00000000#32 reduces_S128x128_S128 (.inl rfl) rfl)
      shapeCasts_S128_S1x128) 0x00000000#32 reduces_S1x128_S1 (.inl rfl) rfl) shapeCasts_S1_S1x1

/-- The row of decay gradients of chunk `c`, its first `k` lanes filled in; `D` the heads' gradients. -/
def wDg (D : ℕ → FVec Ideal S128x128 .f32) (c : ℕ) : ℕ → FVec Ideal S8x128 .f32
  | 0 => k0_pay4
  | k + 1 => select (andi (cmpi .eq (iota .tc S8x128 32 [0] iota_S8x128_d0_w32) (broadcast S8x128 0#32))
          (cmpi .eq (iota .tc S8x128 32 [1] iota_S8x128_d1_w32) (broadcast S8x128 (BitVec.ofNat 32 k))))
        (broadcastTo S8x128 (shapeCast S1x1 (wTot (D k) (wSt arg8 harg8 x7 k c)) shapeCasts_S1x1_S1x1) broadcasts_S1x1_S8x128) (wDg D c k)

variable {arg1 harg1 arg2 harg2 arg3 harg3 arg4 harg4 arg5 harg5 arg6 harg6 arg7 harg7 arg8 harg8 x0 x1 x2 x3 x4 x5 x6 x7 d0 h} {b c : ℕ}

theorem wDo_tile (hb : Blocks I b x0 x1 x2 x3 x4 x5 x6 x7) (hh : h < 8) (hc : c < 4) :
    Tile (fun i e => I.DO (64 * (4 * b + c) + i) (128 * h + e)) (wDo arg1 harg1 x0 h c) := by
  refine tile_truncf _ (tile_ld (e := .f32) hb.do_ ?_)
  intros; congr 1 <;> omega

theorem wVn_tile (hb : Blocks I b x0 x1 x2 x3 x4 x5 x6 x7) (hh : h < 8) (hc : c < 4) :
    Tile (fun i e => VF I (64 * (4 * b + c) + i) (128 * h + e)) (wVn arg7 harg7 x6 h c) := by
  refine tile_shapeCast (φ := .bf16) _ (tile_ld (e := .bf16) hb.vn ?_)
  intros; congr 1 <;> omega

theorem wSt_tile (hb : Blocks I b x0 x1 x2 x3 x4 x5 x6 x7) (hh : h < 8) (hc : c < 4) :
    Tile (fun d e => I.S (4 * b + c) (128 * h + d) e) (wSt arg8 harg8 x7 h c) := by
  intro y
  refine (shapeCast_dropUnit_apply (n := 2) ![128, 128] _ _ y).trans ?_
  rw [View.readAt_eq_ld, harg8.read_unread]
  refine (hb.st _).trans ?_
  show I.S (4 * b + (c % 4 + 1 * 0)) (128 * (h % 8) + 1 * (y 0).val) (0 + 1 * (y 1).val) = _
  congr 1 <;> omega

theorem wDv_tile (hb : Blocks I b x0 x1 x2 x3 x4 x5 x6 x7) (hh : h < 8) (hc : c < 4) {D : FVec Ideal S128x128 .f32}
    (hD : Tile (DD I (127 - (4 * b + c)) h) D) : Tile (DV I (4 * b + c) h) (wDv arg1 harg1 arg4 harg4 arg5 harg5 x0 x3 x4 h D c) := by
  refine isV hD (wDo_tile hb hh hc) (tile_ld (e := .bf16) hb.kd ?_) (tile_shapeCast (φ := .bf16) _ (tile_ld (e := .bf16) hb.at_ ?_)) <;>
    · intros; congr 1 <;> omega

theorem wD_tile (hb : Blocks I b x0 x1 x2 x3 x4 x5 x6 x7) (hb31 : b < 32) (hh : h < 8) (hd : Tile (DD I (124 - 4 * b) h) d0) : ∀ {p : ℕ}, p ≤ 4 →
    Tile (DD I (124 - 4 * b + p) h) (wD arg1 harg1 arg2 harg2 arg3 harg3 arg4 harg4 arg5 harg5 arg6 harg6 x0 x1 x2 x3 x4 x5 d0 h p)
  | 0, _ => hd
  | p + 1, hp => by
    have hd' := wD_tile hb hb31 hh hd (p := p) (by omega)
    rw [show 124 - 4 * b + p = 127 - (4 * b + (3 - p)) by omega] at hd'
    rw [show 124 - 4 * b + (p + 1) = 127 - (4 * b + (3 - p)) + 1 by omega]
    refine isD (by omega) hd' (wDo_tile hb hh (by omega)) (tile_ld (e := .bf16) hb.qd ?_) (tile_ld (e := .f32) hb.w ?_)
      (tile_ld (e := .f32) hb.gc ?_) (wDv_tile hb hh (by omega) hd') <;>
      · intros; congr 1 <;> omega

theorem wDw_tile (hb : Blocks I b x0 x1 x2 x3 x4 x5 x6 x7) (hh : h < 8) (hc : c < 4) {v : FVec Ideal S64x128 .f32}
    (hv : Tile (DV I (4 * b + c) h) v) : Tile (DW I (4 * b + c) h) (wDw arg8 harg8 x7 h v c) :=
  isW (tile_truncf _ hv) (wSt_tile hb hh hc)

theorem wDq_tile (hb : Blocks I b x0 x1 x2 x3 x4 x5 x6 x7) (hh : h < 8) (hc : c < 4) :
    Tile (DQ I (4 * b + c) h) (wDq arg1 harg1 arg8 harg8 x0 x7 h c) :=
  isQ (wDo_tile hb hh hc) (wSt_tile hb hh hc)

theorem wDk_tile (hb : Blocks I b x0 x1 x2 x3 x4 x5 x6 x7) (hh : h < 8) (hc : c < 4) {D : FVec Ideal S128x128 .f32}
    (hD : Tile (DD I (127 - (4 * b + c)) h) D) : Tile (DK I (4 * b + c) h) (wDk arg7 harg7 x6 h D c) :=
  isK (wVn_tile hb hh hc) hD

theorem wDa_tile (hb : Blocks I b x0 x1 x2 x3 x4 x5 x6 x7) (hh : h < 8) (hc : c < 4) :
    Tile (DA I (4 * b + c) h) (wDa arg1 harg1 arg7 harg7 x0 x6 h c) :=
  isA (wDo_tile hb hh hc) (wVn_tile hb hh hc)

theorem wDg_tile (hb : Blocks I b x0 x1 x2 x3 x4 x5 x6 x7) (hc : c < 4) {D : ℕ → FVec Ideal S128x128 .f32}
    (hD : ∀ k < 8, Tile (DD I (127 - (4 * b + c)) k) (D k)) : ∀ {k : ℕ}, k ≤ 8 →
    Tile (fun i j => if i = 0 ∧ j < k then DG I (4 * b + c) j else 0) (wDg arg8 harg8 x7 D c k)
  | 0, _ => fun y => by
    dsimp only
    rw [if_neg (fun h => Nat.not_lt_zero _ h.2)]
    exact Ideal.ofBits_zero_f32
  | k + 1, hk => by
    refine isG (by omega) (wDg_tile hb hc hD (k := k) (by omega)) ?_
    refine (tot_eq (tile_mulf (hD k (by omega)) (wSt_tile (h := k) hb (by omega) hc))).congr fun i _ j _ => ?_
    unfold DG
    rfl

end Head

theorem inbSc (h : ℕ) : ∀ i, ![128 * (h % 8), 0] i + (![128, 128] : Fin 2 → ℕ) i ≤ S1024x128.size i := by
  intro i; fin_cases i <;> simp [S1024x128] <;> omega

/-- The pieces a step leaves in its buffers, against the reverse recurrence. -/
structure Good (I : In) (b : ℕ) (L8 L9 L10 L11 : List (View.Piece (Elt Ideal) S256x1024 .f32)) (L12 : List (View.Piece (Elt Ideal) S256x512 .f32))
    (L13 : List (View.Piece (Elt Ideal) S32x128 .f32)) (LS : List (View.Piece (Elt Ideal) S1024x128 .f32)) : Prop where
  du : ∀ y, View.AllAt L8 y (duOf I (256 * b + (y 0).val) (y 1).val)
  dw : ∀ y, View.AllAt L9 y (dwOf I (256 * b + (y 0).val) (y 1).val)
  dq : ∀ y, View.AllAt L10 y (dqOf I (256 * b + (y 0).val) (y 1).val)
  dk : ∀ y, View.AllAt L11 y (dkOf I (256 * b + (y 0).val) (y 1).val)
  da : ∀ y, View.AllAt L12 y (daOf I (256 * b + (y 0).val) (y 1).val)
  dg : ∀ y, View.AllAt L13 y (dgOf I (32 * b + (y 0).val) (y 1).val)
  ds : ∀ y, View.AllAt (LS.take 8) y (dsOf I (128 - 4 * b) (y 0).val (y 1).val)

theorem inbWh : ∀ i, ![0, 0] i + (![1024, 128] : Fin 2 → ℕ) i ≤ S1024x128.size i := by decide

theorem zero_tile : Tile (fun _ _ => (0 : EReal)) (k0_pay2 (F := Ideal)) := by
  intro y
  unfold k0_pay2
  dsimp only
  rw [shapeCast_self]
  exact Ideal.ofBits_zero_f32

variable {b : ℕ} {x0 x1 : Vec Ideal S256x1024 .f32} {x2 x3 : Vec Ideal S256x1024 .bf16}
    {x4 : Vec Ideal S256x512 .bf16} {x5 : Vec Ideal S256x128 .f32} {x6 : Vec Ideal S256x1024 .bf16} {x7 : Vec Ideal S4x1024x128 .f32}

/-- The words of all heads hold what the recurrence says, from the gradients of the states at the step's start. -/
structure Heads (I : In) (b : ℕ) (D : ℕ → ℕ → FVec Ideal S128x128 .f32) (V : ℕ → ℕ → FVec Ideal S64x128 .f32)
    (W Q K : ℕ → ℕ → FVec Ideal S64x128 .f32) (A : ℕ → ℕ → FVec Ideal S64x64 .f32) (G : ℕ → FVec Ideal S8x128 .f32) : Prop where
  ds : ∀ h, h < 8 → Tile (DD I (128 - 4 * b) h) (D h 4)
  du : ∀ h, h < 8 → ∀ c, c < 4 → Tile (DV I (4 * b + c) h) (V h c)
  dw : ∀ h, h < 8 → ∀ c, c < 4 → Tile (DW I (4 * b + c) h) (W h c)
  dq : ∀ h, h < 8 → ∀ c, c < 4 → Tile (DQ I (4 * b + c) h) (Q h c)
  dk : ∀ h, h < 8 → ∀ c, c < 4 → Tile (DK I (4 * b + c) h) (K h c)
  da : ∀ h, h < 8 → ∀ c, c < 4 → Tile (DA I (4 * b + c) h) (A h c)
  dg : ∀ c, c < 4 → Tile (fun i j => if i = 0 ∧ j < 8 then DG I (4 * b + c) j else 0) (G c)

theorem heads (hb : Blocks I b x0 x1 x2 x3 x4 x5 x6 x7) (hb31 : b < 32) (d0 : ℕ → FVec Ideal S128x128 .f32)
    (hd : ∀ h, h < 8 → Tile (DD I (124 - 4 * b) h) (d0 h)) (arg1 harg1 arg2 harg2 arg3 harg3 arg4 harg4 arg5 harg5 arg6 harg6 arg7 harg7 arg8 harg8) :
    let D := fun h p => wD arg1 harg1 arg2 harg2 arg3 harg3 arg4 harg4 arg5 harg5 arg6 harg6 x0 x1 x2 x3 x4 x5 (d0 h) h p
    let V := fun h c => wDv arg1 harg1 arg4 harg4 arg5 harg5 x0 x3 x4 h (D h (3 - c)) c
    Heads I b D V (fun h c => wDw arg8 harg8 x7 h (V h c) c) (fun h c => wDq arg1 harg1 arg8 harg8 x0 x7 h c)
      (fun h c => wDk arg7 harg7 x6 h (D h (3 - c)) c) (fun h c => wDa arg1 harg1 arg7 harg7 x0 x6 h c)
      (fun c => wDg arg8 harg8 x7 (fun h => D h (3 - c)) c 8) := by
  intro D V
  have HD : ∀ h, h < 8 → ∀ c, c < 4 → Tile (DD I (127 - (4 * b + c)) h) (D h (3 - c)) := by
    intro h hh c hc
    rw [show 127 - (4 * b + c) = 124 - 4 * b + (3 - c) by omega]
    exact wD_tile hb hb31 hh (hd h hh) (by omega)
  have HV : ∀ h, h < 8 → ∀ c, c < 4 → Tile (DV I (4 * b + c) h) (V h c) := fun h hh c hc => wDv_tile hb hh hc (HD h hh c hc)
  refine ⟨fun h hh => ?_, HV, fun h hh c hc => wDw_tile hb hh hc (HV h hh c hc), fun h hh c hc => wDq_tile hb hh hc,
    fun h hh c hc => wDk_tile hb hh hc (HD h hh c hc), fun h hh c hc => wDa_tile hb hh hc,
    fun c hc => wDg_tile hb hc (fun k hk => HD k hk c hc) le_rfl⟩
  rw [show 128 - 4 * b = 124 - 4 * b + 4 by omega]
  exact wD_tile hb hb31 hh (hd h hh) le_rfl

set_option maxHeartbeats 4000000 in
theorem runB (hb : Blocks I b x0 x1 x2 x3 x4 x5 x6 x7) (hb31 : b < 32) {xs0 : Vec Ideal S1024x128 .f32} (hs : Tile (dsOf I (124 - 4 * b)) xs0)
    (c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0) :
    let K := kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0
    Good I b K.1 K.2.1 K.2.2.1 K.2.2.2.1 K.2.2.2.2.1 K.2.2.2.2.2.1 K.2.2.2.2.2.2.1 := by
  have H := heads hb hb31 (fun h => ld arg15 harg15 xs0 (128 * (h % 8)) 0 128 128 (inbSc h)) (fun h hh => tile_ld hs fun r hr q hq => by
    unfold dsOf
    congr 1 <;> omega) arg1 harg1 arg2 harg2 arg3 harg3 arg4 harg4 arg5 harg5 arg6 harg6 arg7 harg7 arg8 harg8
  dsimp only at H ⊢
  unfold kernelRun0_B
  dsimp only
  refine ⟨fun y => ?_, fun y => ?_, fun y => ?_, fun y => ?_, fun y => ?_, fun y => ?_, fun y => ?_⟩
  · repeat' first
      | exact View.allAt_nil _ _
      | refine allAt_tile (Val := Elt Ideal) (e := .f32) (fun r q => duOf I (256 * b + r) q) y (piece_x (X := DV I) ?_ rfl rfl) ?_
    all_goals simp only [Nat.reduceDiv]
    all_goals exact H.du _ (by decide) _ (by decide)
  · repeat' first
      | exact View.allAt_nil _ _
      | refine allAt_tile (Val := Elt Ideal) (e := .f32) (fun r q => dwOf I (256 * b + r) q) y (piece_x (X := DW I) ?_ rfl rfl) ?_
    all_goals simp only [Nat.reduceDiv]
    all_goals exact H.dw _ (by decide) _ (by decide)
  · repeat' first
      | exact View.allAt_nil _ _
      | refine allAt_tile (Val := Elt Ideal) (e := .f32) (fun r q => dqOf I (256 * b + r) q) y (piece_x (X := DQ I) ?_ rfl rfl) ?_
    all_goals simp only [Nat.reduceDiv]
    all_goals exact H.dq _ (by decide) _ (by decide)
  · repeat' first
      | exact View.allAt_nil _ _
      | refine allAt_tile (Val := Elt Ideal) (e := .f32) (fun r q => dkOf I (256 * b + r) q) y (piece_x (X := DK I) ?_ rfl rfl) ?_
    all_goals simp only [Nat.reduceDiv]
    all_goals exact H.dk _ (by decide) _ (by decide)
  · repeat' first
      | exact View.allAt_nil _ _
      | refine allAt_tile (Val := Elt Ideal) (e := .f32) (fun r q => daOf I (256 * b + r) q) y (piece_a ?_ rfl rfl) ?_
    all_goals simp only [Nat.reduceDiv]
    all_goals exact H.da _ (by decide) _ (by decide)
  · repeat' first
      | exact View.allAt_nil _ _
      | refine allAt_tile (Val := Elt Ideal) (e := .f32) (fun r q => dgOf I (32 * b + r) q) y (piece_g ?_ rfl) ?_
    all_goals simp only [Nat.reduceDiv]
    all_goals exact H.dg _ (by decide)
  · simp only [List.take_succ_cons, List.take_zero]
    repeat' first
      | exact View.allAt_nil _ _
      | refine allAt_tile (Val := Elt Ideal) (e := .f32) (fun r q => dsOf I (128 - 4 * b) r q) y (piece_s ?_ rfl) ?_
    all_goals simp only [Nat.reduceDiv]
    all_goals exact tile_shapeCast (φ := .f32) _ (H.ds _ (by decide))

set_option maxHeartbeats 4000000 in
theorem runA (hb : Blocks I b x0 x1 x2 x3 x4 x5 x6 x7) (hb31 : b = 31)
    (c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0) :
    let K := kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7
    Good I b K.1 K.2.1 K.2.2.1 K.2.2.2.1 K.2.2.2.2.1 K.2.2.2.2.2.1 K.2.2.2.2.2.2.1 := by
  have H := heads hb (by omega) (fun h => arg15.view.readCov [(⟨Rect.unit (s := S1024x128) ![0, 0] ![1024, 128] inbWh, k0_pay2 (F := Ideal)⟩ : View.Piece (Elt Ideal) S1024x128 .f32)]
        (Rect.unit (s := S1024x128) ![128 * (h % 8), 0] ![128, 128] (inbSc h)).toLoadRect) (fun h hh => by
      subst hb31
      exact (tile_cov zero_tile).congr fun r _ q _ => (DD_zero I h r q).symm)
    arg1 harg1 arg2 harg2 arg3 harg3 arg4 harg4 arg5 harg5 arg6 harg6 arg7 harg7 arg8 harg8
  dsimp only at H ⊢
  unfold kernelRun0_A
  dsimp only
  refine ⟨fun y => ?_, fun y => ?_, fun y => ?_, fun y => ?_, fun y => ?_, fun y => ?_, fun y => ?_⟩
  · repeat' first
      | exact View.allAt_nil _ _
      | refine allAt_tile (Val := Elt Ideal) (e := .f32) (fun r q => duOf I (256 * b + r) q) y (piece_x (X := DV I) ?_ rfl rfl) ?_
    all_goals simp only [Nat.reduceDiv]
    all_goals exact H.du _ (by decide) _ (by decide)
  · repeat' first
      | exact View.allAt_nil _ _
      | refine allAt_tile (Val := Elt Ideal) (e := .f32) (fun r q => dwOf I (256 * b + r) q) y (piece_x (X := DW I) ?_ rfl rfl) ?_
    all_goals simp only [Nat.reduceDiv]
    all_goals exact H.dw _ (by decide) _ (by decide)
  · repeat' first
      | exact View.allAt_nil _ _
      | refine allAt_tile (Val := Elt Ideal) (e := .f32) (fun r q => dqOf I (256 * b + r) q) y (piece_x (X := DQ I) ?_ rfl rfl) ?_
    all_goals simp only [Nat.reduceDiv]
    all_goals exact H.dq _ (by decide) _ (by decide)
  · repeat' first
      | exact View.allAt_nil _ _
      | refine allAt_tile (Val := Elt Ideal) (e := .f32) (fun r q => dkOf I (256 * b + r) q) y (piece_x (X := DK I) ?_ rfl rfl) ?_
    all_goals simp only [Nat.reduceDiv]
    all_goals exact H.dk _ (by decide) _ (by decide)
  · repeat' first
      | exact View.allAt_nil _ _
      | refine allAt_tile (Val := Elt Ideal) (e := .f32) (fun r q => daOf I (256 * b + r) q) y (piece_a ?_ rfl rfl) ?_
    all_goals simp only [Nat.reduceDiv]
    all_goals exact H.da _ (by decide) _ (by decide)
  · repeat' first
      | exact View.allAt_nil _ _
      | refine allAt_tile (Val := Elt Ideal) (e := .f32) (fun r q => dgOf I (32 * b + r) q) y (piece_g ?_ rfl) ?_
    all_goals simp only [Nat.reduceDiv]
    all_goals exact H.dg _ (by decide)
  · simp only [List.take_succ_cons, List.take_zero]
    repeat' first
      | exact View.allAt_nil _ _
      | refine allAt_tile (Val := Elt Ideal) (e := .f32) (fun r q => dsOf I (128 - 4 * b) r q) y (piece_s ?_ rfl) ?_
    all_goals simp only [Nat.reduceDiv]
    all_goals exact tile_shapeCast (φ := .f32) _ (H.ds _ (by decide))

end Cert.Bwd
-- ==== Proof.BwdHost.lean ====
/- The two arrays computed before the reverse scan: the masked scores and the new values. -/
module

public import proofs.«01_k».proof.Proof.Tile4
public import proofs.«01_k».proof.Proof.BwdRun

@[expose] public section

set_option maxRecDepth 16384

noncomputable section

namespace Cert.Bwd

open Idealize.ShloMosaic Idealize.ShloMosaic.TcCoe Cert.Tile Cert.Kernel2Ideal Cert.Kernel2Ideal.Gen Cert.Kernel2Ideal.Value
open Idealize.ShloMosaic.Tactic
open scoped BigOperators

/-- An array of rank three as a function of natural coordinates, zero outside. -/
def fn3 {A B C : ℕ} (X : (⟨3, ![A, B, C]⟩ : Shape).Idx → EReal) (n r q : ℕ) : EReal :=
  if h : n < A ∧ r < B ∧ q < C then X (Idealize.ShloMosaic.ValueIdx.ix3 ⟨n, h.1⟩ ⟨r, h.2.1⟩ ⟨q, h.2.2⟩) else 0

theorem fn3_t3 {A B C : ℕ} (X : (⟨3, ![A, B, C]⟩ : Shape).Idx → EReal) : T3 (fn3 X) X := by
  intro y
  unfold fn3
  rw [dif_pos ⟨(y 0).isLt, (y 1).isLt, (y 2).isLt⟩]
  exact congrArg X (ValueIdx.eq_ix3 y)

theorem t4_subf {a b c d : ℕ} {f g : ℕ → ℕ → ℕ → ℕ → EReal} {φ : FTy} {u v : FVec Ideal (⟨4, ![a, b, c, d]⟩ : Shape) φ}
    (hu : T4 f u) (hv : T4 g v) : T4 (fun n h i j => f n h i j - g n h i j) (subf u v) :=
  fun y => congrArg₂ (· - ·) (hu y) (hv y)

/-- The keys of each chunk and head against the state before it. -/
theorem dot4 {f g : ℕ → ℕ → ℕ → ℕ → EReal} {u : FVec Ideal S128x8x64x128 .f32} {v : FVec Ideal S128x8x128x128 .f32}
    (hu : T4 (a := 128) (b := 8) (c := 64) (d := 128) f u) (hv : T4 (a := 128) (b := 8) (c := 128) (d := 128) g v) :
    T4 (a := 128) (b := 8) (c := 64) (d := 128) (fun n h i e => ∑ q : Fin 128, f n h i q.val * g n h q.val e)
      (Host.dotGeneral (F := Ideal) (φ₁ := .f32) (φ₂ := .f32) dot_S128x8x64x128_S128x8x128x128_S128x8x64x128_3_2_2_3_01_01 none u v) := by
  intro y
  pointwise
  exact Finset.sum_congr rfl fun q _ => congrArg₂ (· * ·) (hu _) (hv _)

theorem mask_word (X : (⟨2, ![8192, 512]⟩ : Shape).Idx → EReal) (y : (⟨2, ![8192, 512]⟩ : Shape).Idx)
    (h0 : (y 0).val / 64 * 64 + (y 0).val % 64 < 8192) (h1 : (y 1).val / 64 * 64 + (y 1).val % 64 < 512) :
    Scalar.select (Scalar.select
        (IntOp.cmpi CmpIPredicate.sge (IntOp.addi (BitVec.ofNat 32 ((y 0).val % 64)) 0#32) (BitVec.ofNat 32 ((y 1).val % 64))) 1#1 0#1)
      (X (ValueIdx.ix2 ⟨(y 0).val / 64 * 64 + (y 0).val % 64, h0⟩ ⟨(y 1).val / 64 * 64 + (y 1).val % 64, h1⟩))
      (FloatOps.sitofp (F := Ideal) FTy.bf16 0#32 : EReal) = if (y 1).val % 64 ≤ (y 0).val % 64 then fn2 X (y 0).val (y 1).val else 0 := by
  rw [show ∀ x : BitVec 32, IntOp.addi x 0#32 = x from fun x => BitVec.add_zero x, sge_word (Nat.mod_lt _ (by decide)) (Nat.mod_lt _ (by decide))]
  by_cases h : (y 1).val % 64 ≤ (y 0).val % 64
  · rw [if_pos h, if_pos h]
    refine Eq.trans ?_ (fn2_tile X y)
    refine congrArg X (funext fun i => ?_)
    match i with
    | 0 => exact Fin.ext (Nat.div_add_mod' _ _)
    | 1 => exact Fin.ext (Nat.div_add_mod' _ _)
  · rw [if_neg h, if_neg h]
    show (((0#32 : BitVec 32).toInt : ℝ) : EReal) = 0
    simp

section Dev
variable (m : (ℓ : Loc nD τ sig) → Buf (Elt Ideal) ℓ) (c : Dev nD)

/-- The recurrence's arrays, read off the arguments. -/
def inp : In where
  DO := fn2 (A := 8192) (B := 1024) (m ((c : Thread nD τ).loc main_arg0))
  U := fn2 (A := 8192) (B := 1024) (m ((c : Thread nD τ).loc main_arg1))
  W := fn2 (A := 8192) (B := 1024) (m ((c : Thread nD τ).loc main_arg2))
  QD := fn2 (A := 8192) (B := 1024) (m ((c : Thread nD τ).loc main_arg3))
  KD := fn2 (A := 8192) (B := 1024) (m ((c : Thread nD τ).loc main_arg4))
  AT := fn2 (A := 8192) (B := 512) (m ((c : Thread nD τ).loc main_arg5))
  GC := fn2 (A := 8192) (B := 128) (m ((c : Thread nD τ).loc main_arg6))
  S := fn3 (A := 128) (B := 1024) (C := 128) (m ((c : Thread nD τ).loc main_arg7))

theorem vn_tile : Tile (a := 8192) (b := 1024) (VF (inp m c)) (V m c main_v15) := by
  unfold V
  simp only [hostOps0, hostOps0_1, hostOps0_2, hostOps0_3, hostOps0_4, List.flatten_cons, List.flatten_nil, List.append_nil, List.cons_append, List.nil_append]
  entry_read
  refine (tile_truncf (φ := .f32) (ψ := .bf16) _ (tile_tokens (t4_subf (φ := .f32) (t4_chunks (fn2_tile _) rfl rfl _ _)
    (dot4 (t4_chunks (fn2_tile _) rfl rfl _ _) (t4_split (fn3_t3 _) rfl _))) rfl rfl _ _)).congr fun r hr q hq => ?_
  have e1 : 64 * (r / 64) + r % 64 = r := Nat.div_add_mod r 64
  have e2 : 128 * (q / 128) + q % 128 = q := Nat.div_add_mod q 128
  unfold VF
  rw [e1, e2]
  rfl

theorem at_tile : Tile (a := 8192) (b := 512) (MA (inp m c)) (V m c main_v5) := by
  unfold V
  simp only [hostOps0, hostOps0_1, hostOps0_2, hostOps0_3, hostOps0_4, List.flatten_cons, List.flatten_nil, List.append_nil, List.cons_append, List.nil_append]
  entry_read
  simp only [StableHlo.TRef.ofBuf, StableHlo.TRef.toBuf, cast_eq]
  intro y
  pointwise
  exact mask_word _ y _ _

end Dev

end Cert.Bwd
-- ==== Proof.BwdArr.lean ====
/- The six arrays of the reverse scan after the run, as the reverse recurrence over the arguments. -/
module

public import proofs.«01_k».proof.Proof.BwdHost

@[expose] public section

set_option maxRecDepth 16384

noncomputable section

namespace Cert.Bwd

open Idealize.ShloMosaic Idealize.ShloMosaic.TcCoe Cert.Tile Cert.Kernel2Ideal Cert.Kernel2Ideal.Gen Cert.Kernel2Ideal.Value
open Idealize.ShloMosaic.Tactic
open Idealize.ShloMosaic.Pipeline (Dat)
open scoped BigOperators

variable (m : (ℓ : Loc nD τ sig) → Buf (Elt Ideal) ℓ) (c : Dev nD)

theorem idx_in : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![31 - t.val, 0] ∧ win0_5.index t = ![31 - t.val, 0]
    ∧ win0_6.index t = ![31 - t.val, 0] ∧ win0_7.index t = ![31 - t.val, 0, 0] := by
  decide +kernel

theorem idx_out : ∀ t : Fin cfg0.N, win0_8.index t = ![31 - t.val, 0] ∧ win0_9.index t = ![31 - t.val, 0] ∧ win0_10.index t = ![31 - t.val, 0]
    ∧ win0_11.index t = ![31 - t.val, 0] ∧ win0_12.index t = ![31 - t.val, 0] ∧ win0_13.index t = ![31 - t.val, 0] := by
  decide +kernel

theorem blk_tile {B a b o : ℕ} {f : ℕ → ℕ → EReal} {X : (⟨2, ![8192, B]⟩ : Shape).Idx → EReal} (hX : Tile f X)
    (emb : (⟨2, ![a, b]⟩ : Shape).Idx → (⟨2, ![8192, B]⟩ : Shape).Idx)
    (h : ∀ y, ((emb y) 0).val = o + (y 0).val ∧ ((emb y) 1).val = (y 1).val) :
    Tile (fun r q => f (o + r) q) (fun y => X (emb y)) := by
  intro y
  refine (hX (emb y)).trans ?_
  rw [(h y).1, (h y).2]

theorem blocks_of (t : Fin cfg0.N) : Blocks (inp m c) (31 - t.val) (iblk m c 0 t) (iblk m c 1 t) (iblk m c 2 t) (iblk m c 3 t)
    (iblk m c 4 t) (iblk m c 5 t) (iblk m c 6 t) (iblk m c 7 t) := by
  obtain ⟨h0, h1, h2, h3, h4, h5, h6, h7⟩ := idx_in t
  constructor
  · exact blk_tile (B := 1024) (fn2_tile (m ((c : Thread nD τ).loc main_arg0))) (((cfg0.win 0).blk t).view.emb)
      fun y => ⟨by blk_simp [h0]; omega, by blk_simp [h0]⟩
  · exact blk_tile (B := 1024) (fn2_tile (m ((c : Thread nD τ).loc main_arg2))) (((cfg0.win 1).blk t).view.emb)
      fun y => ⟨by blk_simp [h1]; omega, by blk_simp [h1]⟩
  · exact blk_tile (B := 1024) (fn2_tile (m ((c : Thread nD τ).loc main_arg3))) (((cfg0.win 2).blk t).view.emb)
      fun y => ⟨by blk_simp [h2]; omega, by blk_simp [h2]⟩
  · exact blk_tile (B := 1024) (fn2_tile (m ((c : Thread nD τ).loc main_arg4))) (((cfg0.win 3).blk t).view.emb)
      fun y => ⟨by blk_simp [h3]; omega, by blk_simp [h3]⟩
  · exact blk_tile (B := 512) (at_tile m c) (((cfg0.win 4).blk t).view.emb)
      fun y => ⟨by blk_simp [h4]; omega, by blk_simp [h4]⟩
  · exact blk_tile (B := 128) (fn2_tile (m ((c : Thread nD τ).loc main_arg6))) (((cfg0.win 5).blk t).view.emb)
      fun y => ⟨by blk_simp [h5]; omega, by blk_simp [h5]⟩
  · exact blk_tile (B := 1024) (vn_tile m c) (((cfg0.win 6).blk t).view.emb)
      fun y => ⟨by blk_simp [h6]; omega, by blk_simp [h6]⟩
  · intro y
    refine (fn3_t3 (A := 128) (B := 1024) (C := 128) (m ((c : Thread nD τ).loc main_arg7)) (((cfg0.win 7).blk t).view.emb y)).trans ?_
    show fn3 (A := 128) (B := 1024) (C := 128) _ _ _ _ = fn3 (A := 128) (B := 1024) (C := 128) _ _ _ _
    congr 1 <;> blk_simp [h7] <;> omega

/-- The newest `n` pieces decide what a buffer holds where they cover it. -/
theorem canon_take {s : Shape} {e : EltTy} (y : s.Idx) (v : Elt Ideal e) : ∀ (n : ℕ) (L : List (View.Piece (Elt Ideal) s e)),
    (∃ p ∈ L.take n, y ∈ p.1.set) → View.AllAt (L.take n) y v → View.canon L y = v
  | 0, _, hc, _ => by simp at hc
  | _ + 1, [], hc, _ => by simp at hc
  | n + 1, p :: L, hc, h => by
    by_cases hm : y ∈ p.1.set
    · obtain ⟨x, rfl⟩ := p.1.exists_idx_of_mem hm
      rw [show p.1.idx x = p.1.emb x from rfl, View.canon_cons_emb]
      exact h p (by simp) x rfl
    · rw [View.canon_cons_of_not_mem _ _ hm]
      refine canon_take y v n L ?_ fun q hq => h q (by simp [hq])
      obtain ⟨q, hq, hy⟩ := hc
      rw [List.take_succ_cons, List.mem_cons] at hq
      rcases hq with rfl | hq
      · exact absurd hy hm
      · exact ⟨q, hq, hy⟩

theorem read_of_take {κ : Kind} {cs : Space} {e : EltTy} {s : Shape} (v : View sig κ cs s e) (L : List (View.Piece (Elt Ideal) s e)) (n : ℕ)
    (hL : ∀ y, ∃ p ∈ L, y ∈ p.1.set) (hc : ∀ y, ∃ p ∈ L.take n, y ∈ p.1.set) {G : s.Idx → Elt Ideal e}
    (h : ∀ y, View.AllAt (L.take n) y (G y)) (y) : v.read (Elt Ideal) (v.writes (Elt Ideal) v.junk L) y = G y := by
  rw [View.read_writes_eq_canon _ _ _ hL]
  exact canon_take _ _ n L (hc y) (h y)

theorem read_of_all {κ : Kind} {cs : Space} {e : EltTy} {s : Shape} (v : View sig κ cs s e) (L : List (View.Piece (Elt Ideal) s e))
    (hL : ∀ y, ∃ p ∈ L, y ∈ p.1.set) {G : s.Idx → Elt Ideal e}
    (h : ∀ y, View.AllAt L y (G y)) (y) : v.read (Elt Ideal) (v.writes (Elt Ideal) v.junk L) y = G y := by
  rw [View.read_writes_eq_canon _ _ _ hL]
  exact View.canon_eq_of_allAt _ _ _ (hL y) (h y)

/-- What a step leaves, against the reverse recurrence. -/
structure Outs (I : In) (b : ℕ) (x : Vec Ideal S256x1024 .f32 × Vec Ideal S256x1024 .f32 × Vec Ideal S256x1024 .f32 × Vec Ideal S256x1024 .f32
    × Vec Ideal S256x512 .f32 × Vec Ideal S32x128 .f32 × Vec Ideal S1024x128 .f32) : Prop where
  du : ∀ y, x.1 y = duOf I (256 * b + (y 0).val) (y 1).val
  dw : ∀ y, x.2.1 y = dwOf I (256 * b + (y 0).val) (y 1).val
  dq : ∀ y, x.2.2.1 y = dqOf I (256 * b + (y 0).val) (y 1).val
  dk : ∀ y, x.2.2.2.1 y = dkOf I (256 * b + (y 0).val) (y 1).val
  da : ∀ y, x.2.2.2.2.1 y = daOf I (256 * b + (y 0).val) (y 1).val
  dg : ∀ y, x.2.2.2.2.2.1 y = dgOf I (32 * b + (y 0).val) (y 1).val
  ds : Tile (dsOf I (128 - 4 * b)) x.2.2.2.2.2.2

variable {I : In} {b : ℕ} {x0 x1 : Vec Ideal S256x1024 .f32} {x2 x3 : Vec Ideal S256x1024 .bf16}
    {x4 : Vec Ideal S256x512 .bf16} {x5 : Vec Ideal S256x128 .f32} {x6 : Vec Ideal S256x1024 .bf16} {x7 : Vec Ideal S4x1024x128 .f32}

theorem outsA (hb : Blocks I b x0 x1 x2 x3 x4 x5 x6 x7) (hb31 : b = 31)
    (c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0) :
    Outs I b (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7, out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7,
      sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) := by
  have G := runA hb hb31 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0
  constructor
  · intro y
    dsimp only
    unfold out0_A_8
    exact read_of_all _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) G.du y
  · intro y
    dsimp only
    unfold out0_A_9
    exact read_of_all _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) G.dw y
  · intro y
    dsimp only
    unfold out0_A_10
    exact read_of_all _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) G.dq y
  · intro y
    dsimp only
    unfold out0_A_11
    exact read_of_all _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) G.dk y
  · intro y
    dsimp only
    unfold out0_A_12
    exact read_of_all _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) G.da y
  · intro y
    dsimp only
    unfold out0_A_13
    exact read_of_all _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) G.dg y
  · intro y
    dsimp only
    unfold sout0_A_0
    refine read_of_take _ _ 8 (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (fun y => ?_) G.ds y
    exact View.cover_of_tiledL (s := S1024x128) _ ![128, 128] (by sl_kernel_rfl) y

theorem outsB (hb : Blocks I b x0 x1 x2 x3 x4 x5 x6 x7) (hb31 : b < 32) {xs0 : Vec Ideal S1024x128 .f32} (hs : Tile (dsOf I (124 - 4 * b)) xs0)
    (c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0) :
    Outs I b (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0, out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0, out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0, out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0, out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0, out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0,
      sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) := by
  have G := runB hb hb31 hs c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0
  constructor
  · intro y
    dsimp only
    unfold out0_B_8
    exact read_of_all _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) G.du y
  · intro y
    dsimp only
    unfold out0_B_9
    exact read_of_all _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) G.dw y
  · intro y
    dsimp only
    unfold out0_B_10
    exact read_of_all _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) G.dq y
  · intro y
    dsimp only
    unfold out0_B_11
    exact read_of_all _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) G.dk y
  · intro y
    dsimp only
    unfold out0_B_12
    exact read_of_all _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) G.da y
  · intro y
    dsimp only
    unfold out0_B_13
    exact read_of_all _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) G.dg y
  · intro y
    dsimp only
    unfold sout0_B_0
    refine read_of_take _ _ 8 (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0) (fun y => ?_) G.ds y
    exact View.cover_of_tiledL (s := S1024x128) _ ![128, 128] (by sl_kernel_rfl) y

theorem outs_at : ∀ (n : ℕ) (hn : n < cfg0.N), Outs (inp m c) (31 - n) (outsAt0 m c n hn)
  | 0, hn => by
    rw [show outsAt0 m c 0 hn = _ from outsAt0_A m c ⟨0, hn⟩ rfl]
    exact outsA (blocks_of m c ⟨0, hn⟩) rfl ..
  | n + 1, hn => by
    have h32 : n + 1 < 32 := lt_of_lt_of_eq hn N_0
    have ht : ¬ (n + 1) % 32 = 0 := by omega
    have hs := (outs_at n (Nat.lt_of_succ_lt hn)).ds
    rw [show 128 - 4 * (31 - n) = 124 - 4 * (31 - (n + 1)) by omega] at hs
    rw [show outsAt0 m c (n + 1) hn = _ from outsAt0_B m c ⟨n + 1, hn⟩ ht]
    exact outsB (blocks_of m c ⟨n + 1, hn⟩) (by omega) hs ..

/-- The arrays the run leaves. -/
def arrU : S8192x1024.Idx → EReal := fun y => duOf (inp m c) (y 0).val (y 1).val
def arrW : S8192x1024.Idx → EReal := fun y => dwOf (inp m c) (y 0).val (y 1).val
def arrQ : S8192x1024.Idx → EReal := fun y => dqOf (inp m c) (y 0).val (y 1).val
def arrK : S8192x1024.Idx → EReal := fun y => dkOf (inp m c) (y 0).val (y 1).val
def arrA : S8192x512.Idx → EReal := fun y => daOf (inp m c) (y 0).val (y 1).val
def arrG : S1024x128.Idx → EReal := fun y => dgOf (inp m c) (y 0).val (y 1).val

theorem final_du : (dats m 0 c).arrAt 8 cfg0.N = arrU m c := by
  refine (dats m 0 c).arrAt_eq_of_covers 8 _ (by decide +kernel) fun t hf y => ?_
  have hw := (idx_out t).1
  refine ((outs_at m c t.val t.isLt).du y).trans ?_
  unfold arrU
  congr 1 <;> blk_simp [hw] <;> omega

theorem final_dw : (dats m 0 c).arrAt 9 cfg0.N = arrW m c := by
  refine (dats m 0 c).arrAt_eq_of_covers 9 _ (by decide +kernel) fun t hf y => ?_
  have hw := (idx_out t).2.1
  refine ((outs_at m c t.val t.isLt).dw y).trans ?_
  unfold arrW
  congr 1 <;> blk_simp [hw] <;> omega

theorem final_dq : (dats m 0 c).arrAt 10 cfg0.N = arrQ m c := by
  refine (dats m 0 c).arrAt_eq_of_covers 10 _ (by decide +kernel) fun t hf y => ?_
  have hw := (idx_out t).2.2.1
  refine ((outs_at m c t.val t.isLt).dq y).trans ?_
  unfold arrQ
  congr 1 <;> blk_simp [hw] <;> omega

theorem final_dk : (dats m 0 c).arrAt 11 cfg0.N = arrK m c := by
  refine (dats m 0 c).arrAt_eq_of_covers 11 _ (by decide +kernel) fun t hf y => ?_
  have hw := (idx_out t).2.2.2.1
  refine ((outs_at m c t.val t.isLt).dk y).trans ?_
  unfold arrK
  congr 1 <;> blk_simp [hw] <;> omega

theorem final_da : (dats m 0 c).arrAt 12 cfg0.N = arrA m c := by
  refine (dats m 0 c).arrAt_eq_of_covers 12 _ (by decide +kernel) fun t hf y => ?_
  have hw := (idx_out t).2.2.2.2.1
  refine ((outs_at m c t.val t.isLt).da y).trans ?_
  unfold arrA
  congr 1 <;> blk_simp [hw] <;> omega

theorem final_dg : (dats m 0 c).arrAt 13 cfg0.N = arrG m c := by
  refine (dats m 0 c).arrAt_eq_of_covers 13 _ (by decide +kernel) fun t hf y => ?_
  have hw := (idx_out t).2.2.2.2.2
  refine ((outs_at m c t.val t.isLt).dg y).trans ?_
  unfold arrG
  congr 1 <;> blk_simp [hw] <;> omega

end Cert.Bwd
-- ==== Proof.BwdReal.lean ====
/- Real entries: the reverse recurrence over real arrays stays real, and the precondition says that the arrays are real. -/
module

public import proofs.«01_k».proof.Proof.BwdHost
public import Idealize.ShloMosaic.Lib.ReduceAll
public import proofs.«01_k».proof.Defs
public import proofs.«01_k».proof.Proof.Gen.Pre_finite2

@[expose] public section

set_option maxRecDepth 16384

noncomputable section

namespace Cert.Bwd

open Idealize.ShloMosaic hiding ix0 ix1 ix2 ix3 ix4 ix5
open Cert.Tile
open scoped BigOperators

/-- The extended real is a real number. -/
def Rl (x : EReal) : Prop := ∃ r : ℝ, x = r

theorem Rl.zero : Rl 0 := ⟨0, rfl⟩
theorem Rl.add {x y : EReal} : Rl x → Rl y → Rl (x + y) := by
  rintro ⟨a, rfl⟩ ⟨b, rfl⟩; exact ⟨a + b, (EReal.coe_add a b).symm⟩
theorem Rl.sub {x y : EReal} : Rl x → Rl y → Rl (x - y) := by
  rintro ⟨a, rfl⟩ ⟨b, rfl⟩; exact ⟨a - b, (EReal.coe_sub a b).symm⟩
theorem Rl.mul {x y : EReal} : Rl x → Rl y → Rl (x * y) := by
  rintro ⟨a, rfl⟩ ⟨b, rfl⟩; exact ⟨a * b, (EReal.coe_mul a b).symm⟩
theorem Rl.exp {x : EReal} : Rl x → Rl (Ideal.exp x) := by
  rintro ⟨a, rfl⟩; exact ⟨Real.exp a, rfl⟩
theorem Rl.sum {n : ℕ} {f : Fin n → EReal} (h : ∀ i, Rl (f i)) : Rl (∑ i, f i) :=
  Finset.sum_induction f Rl (fun _ _ => Rl.add) Rl.zero fun i _ => h i

theorem coe_sum {n : ℕ} (p : Fin n → ℝ) : ∑ i, (p i : EReal) = ((∑ i, p i : ℝ) : EReal) :=
  (map_sum (⟨⟨Real.toEReal, EReal.coe_zero⟩, EReal.coe_add⟩ : ℝ →+ EReal) p Finset.univ).symm

/-- A minus sign leaves a sum of real numbers. -/
theorem sum_neg_mul {n : ℕ} {f g : Fin n → EReal} (hf : ∀ i, Rl (f i)) (hg : ∀ i, Rl (g i)) :
    ∑ i, -f i * g i = 0 - ∑ i, f i * g i := by
  have hp : ∀ i, Rl (f i * g i) := fun i => (hf i).mul (hg i)
  choose p hp using hp
  have e : ∀ i, -f i * g i = ((-p i : ℝ) : EReal) := fun i => by rw [EReal.neg_mul, hp, EReal.coe_neg]
  simp only [e, hp, coe_sum, Finset.sum_neg_distrib]
  rw [EReal.coe_neg, zero_sub]

theorem add_zero_sub {x y : EReal} : x + (0 - y) = x - y := by
  rw [zero_sub, sub_eq_add_neg]

/-- All arrays hold real numbers. -/
structure In.Rl (I : In) : Prop where
  DO : ∀ r q, Bwd.Rl (I.DO r q)
  U : ∀ r q, Bwd.Rl (I.U r q)
  W : ∀ r q, Bwd.Rl (I.W r q)
  QD : ∀ r q, Bwd.Rl (I.QD r q)
  KD : ∀ r q, Bwd.Rl (I.KD r q)
  AT : ∀ r q, Bwd.Rl (I.AT r q)
  GC : ∀ r q, Bwd.Rl (I.GC r q)
  S : ∀ n r q, Bwd.Rl (I.S n r q)

variable {I : In} (hI : I.Rl)
include hI

theorem rl_ma (r q : ℕ) : Rl (MA I r q) := by
  unfold MA
  split
  · exact hI.AT _ _
  · exact Rl.zero

theorem rl_dvOf {D : ℕ → ℕ → EReal} (hD : ∀ d e, Rl (D d e)) (n h i e : ℕ) : Rl (dvOf I D n h i e) :=
  (Rl.sum fun _ => (rl_ma hI _ _).mul (hI.DO _ _)).add (Rl.sum fun _ => (hI.KD _ _).mul (hD _ _))

theorem rl_dd : ∀ j h d e, Rl (DD I j h d e)
  | 0, _, _, _ => by rw [DD_zero]; exact Rl.zero
  | j + 1, h, d, e => by
    rw [DD_succ]
    exact ((Rl.sum fun _ => (hI.QD _ _).mul (hI.DO _ _)).add ((hI.GC _ _).exp.mul (rl_dd j h d e))).sub
      (Rl.sum fun _ => (hI.W _ _).mul (rl_dvOf hI (rl_dd j h) _ _ _ _))

theorem rl_dv (n h i e : ℕ) : Rl (DV I n h i e) := by
  rw [DV_eq]; exact rl_dvOf hI (rl_dd hI _ _) _ _ _ _

omit hI

theorem rl_fn2 {A B : ℕ} {X : (⟨2, ![A, B]⟩ : Shape).Idx → EReal} (h : ∀ y, Rl (X y)) (r q : ℕ) : Rl (fn2 X r q) := by
  unfold fn2
  split
  · exact h _
  · exact Rl.zero

theorem rl_fn3 {A B C : ℕ} {X : (⟨3, ![A, B, C]⟩ : Shape).Idx → EReal} (h : ∀ y, Rl (X y)) (n r q : ℕ) : Rl (fn3 X n r q) := by
  unfold fn3
  split
  · exact h _
  · exact Rl.zero

theorem rl_of_abs {x : EReal} (h : max x (-x) < ⊤) : Rl x := by
  induction x using EReal.rec with
  | bot => simp at h
  | top => simp at h
  | coe r => exact ⟨r, rfl⟩

theorem andi_one {x y : BitVec 1} (h : IntOp.andi x y = 1#1) : x = 1#1 ∧ y = 1#1 := by
  revert x y; decide

instance : Subsingleton (⟨0, ![]⟩ : Shape).Idx := ⟨fun a b => funext fun i => i.elim0⟩

/-- One conjunct of the precondition: every entry of the array is real. -/
theorem rl_of_all {φ : FTy} {s : Shape} {axes : List (Fin s.rank)} {bits : BitVec φ.bits} (hbits : Ideal.ofBits φ bits = ⊤) (X : FVec Ideal s φ)
    (hb : (⟨0, ![]⟩ : Shape).BroadcastsInDim s (![] : Fin 0 → Fin s.rank)) (init) (h : s.ReducesTo axes ⟨0, ![]⟩)
    (hu : 0 < (⟨0, ![]⟩ : Shape).numel) (j)
    (e : Host.reduce IntOp.andi (cmpf .olt (Host.absf X) (broadcastInDim s ![] hb (constant (F := Ideal) ⟨0, ![]⟩ φ bits))) init h hu j = 1#1) (y) :
    Rl (X y) := by
  have := Host.reduce_andi_all _ _ _ _ j e y
  have h2 : BitVec.ofBool (decide (max (X y) (-(X y)) < Ideal.ofBits φ bits)) = 1#1 := this
  rw [hbits] at h2
  refine rl_of_abs ?_
  by_contra hc
  rw [decide_eq_false hc] at h2
  exact absurd h2 (by decide)

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

theorem inp_rl (m : (ℓ : Loc Cert.Kernel2Ideal.nD Cert.Kernel2Ideal.τ Cert.Kernel2Ideal.sig) → Buf (Elt Ideal) ℓ)
    (hm : Cert.Pre_Kernel2Ideal_finite2 m) (c : Dev Cert.Kernel2Ideal.nD) : (inp m c).Rl := by
  have h := congrFun (hm c) (Shape.Idx.first (by decide))
  unfold Cert.Pre_finite2.fn Cert.Pre_finite2.fn_part1 Cert.Pre_finite2.fn_part2 at h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  constructor
  · exact rl_fn2 (rl_of_all inf_f32 _ _ _ _ _ _ h0)
  · exact rl_fn2 (rl_of_all inf_f32 _ _ _ _ _ _ h1)
  · exact rl_fn2 (rl_of_all inf_f32 _ _ _ _ _ _ h2)
  · exact rl_fn2 (rl_of_all inf_bf16 _ _ _ _ _ _ h3)
  · exact rl_fn2 (rl_of_all inf_bf16 _ _ _ _ _ _ h4)
  · exact rl_fn2 (rl_of_all inf_bf16 _ _ _ _ _ _ h5)
  · exact rl_fn2 (rl_of_all inf_f32 _ _ _ _ _ _ h6)
  · exact rl_fn3 (rl_of_all inf_f32 _ _ _ _ _ _ h7)

end Cert.Bwd
-- ==== Proof.BwdRef.lean ====
/- The reference's reverse loop over the chunks, read as the reverse chunk recurrence. -/
module

public import proofs.«01_k».proof.Proof.BwdReal
public import Idealize.ShloMosaic.Lib.KernelVsHost
public import proofs.«01_k».proof.Proof.Gen.Reference2Ideal.Run

@[expose] public section

set_option maxRecDepth 16384

noncomputable section

namespace Cert.Bwd

open Idealize.ShloMosaic Idealize.ShloMosaic.TcCoe Cert.Tile Cert.Reference2Ideal Cert.Reference2Ideal.Gen Cert.Reference2Ideal.Value
open Idealize.ShloMosaic.Tactic
open Idealize.ShloMosaic.StableHlo
open scoped BigOperators

section Dots

variable {f g : ℕ → ℕ → ℕ → EReal}

/-- The two last axes of a stack exchanged. -/
theorem t3_transpose {a b d : ℕ} {v : (⟨3, ![a, d, b]⟩ : Shape).Idx → EReal} (hv : T3 f v)
    (h : (⟨3, ![a, d, b]⟩ : Shape).Transposes [0, 2, 1] ⟨3, ![a, b, d]⟩) :
    T3 (fun n i j => f n j i) (transpose ⟨3, ![a, b, d]⟩ [0, 2, 1] v h) := by
  intro y
  have l0 : (y 0).val < a := (y 0).isLt
  have l1 : (y 1).val < b := (y 1).isLt
  have l2 : (y 2).val < d := (y 2).isLt
  refine (transpose_apply [0, 2, 1] _ h y (ValueIdx.ix3 ⟨_, l0⟩ ⟨_, l2⟩ ⟨_, l1⟩) fun x => ?_).trans (hv _)
  match x with
  | 0 => rfl
  | 1 => rfl
  | 2 => rfl

theorem dot_ws {u : FVec Ideal S8x64x128 .f32} {v : FVec Ideal S8x128x128 .f32} (hu : T3 (a := 8) (b := 64) (c := 128) f u)
    (hv : T3 (a := 8) (b := 128) (c := 128) g v) : T3 (a := 8) (b := 64) (c := 128) (fun h i e => ∑ d : Fin 128, f h i d.val * g h d.val e)
      (Host.dotGeneral dot_S8x64x128_S8x128x128_S8x64x128_2_1_1_2_0_0 none u v) := by
  intro y
  pointwise
  exact Finset.sum_congr rfl fun q _ => congrArg₂ (· * ·) (hu _) (hv _)

theorem dot_ds_k {u : FVec Ideal S8x128x128 .f32} {v : FVec Ideal S8x64x128 .f32} (hu : T3 (a := 8) (b := 128) (c := 128) f u)
    (hv : T3 (a := 8) (b := 64) (c := 128) g v) : T3 (a := 8) (b := 128) (c := 64) (fun h e i => ∑ d : Fin 128, f h d.val e * g h i d.val)
      (Host.dotGeneral dot_S8x128x128_S8x64x128_S8x128x64_1_2_2_1_0_0 none u v) := by
  intro y
  pointwise
  exact Finset.sum_congr rfl fun q _ => congrArg₂ (· * ·) (hu _) (hv _)

theorem dot_ds_v {u : FVec Ideal S8x128x128 .f32} {v : FVec Ideal S8x64x128 .f32} (hu : T3 (a := 8) (b := 128) (c := 128) f u)
    (hv : T3 (a := 8) (b := 64) (c := 128) g v) : T3 (a := 8) (b := 128) (c := 64) (fun h d i => ∑ e : Fin 128, f h d e.val * g h i e.val)
      (Host.dotGeneral dot_S8x128x128_S8x64x128_S8x128x64_2_2_1_1_0_0 none u v) := by
  intro y
  pointwise
  exact Finset.sum_congr rfl fun q _ => congrArg₂ (· * ·) (hu _) (hv _)

theorem dot_do_at {u : FVec Ideal S8x64x128 .f32} {v : FVec Ideal S8x64x64 .f32} (hu : T3 (a := 8) (b := 64) (c := 128) f u)
    (hv : T3 (a := 8) (b := 64) (c := 64) g v) : T3 (a := 8) (b := 128) (c := 64) (fun h e i => ∑ j : Fin 64, f h j.val e * g h j.val i)
      (Host.dotGeneral dot_S8x64x128_S8x64x64_S8x128x64_1_1_2_2_0_0 none u v) := by
  intro y
  pointwise
  exact Finset.sum_congr rfl fun q _ => congrArg₂ (· * ·) (hu _) (hv _)

theorem dot_do_v {u v : FVec Ideal S8x64x128 .f32} (hu : T3 (a := 8) (b := 64) (c := 128) f u)
    (hv : T3 (a := 8) (b := 64) (c := 128) g v) : T3 (a := 8) (b := 64) (c := 64) (fun h i j => ∑ e : Fin 128, f h i e.val * g h j e.val)
      (Host.dotGeneral dot_S8x64x128_S8x64x128_S8x64x64_2_2_1_1_0_0 none u v) := by
  intro y
  pointwise
  exact Finset.sum_congr rfl fun q _ => congrArg₂ (· * ·) (hu _) (hv _)

theorem dot_outer {u v : FVec Ideal S8x64x128 .f32} (hu : T3 (a := 8) (b := 64) (c := 128) f u)
    (hv : T3 (a := 8) (b := 64) (c := 128) g v) : T3 (a := 8) (b := 128) (c := 128) (fun h d e => ∑ i : Fin 64, f h i.val d * g h i.val e)
      (Host.dotGeneral dot_S8x64x128_S8x64x128_S8x128x128_1_1_2_2_0_0 none u v) := by
  intro y
  pointwise
  exact Finset.sum_congr rfl fun q _ => congrArg₂ (· * ·) (hu _) (hv _)

theorem dot_do_s {u : FVec Ideal S8x64x128 .f32} {v : FVec Ideal S8x128x128 .f32} (hu : T3 (a := 8) (b := 64) (c := 128) f u)
    (hv : T3 (a := 8) (b := 128) (c := 128) g v) : T3 (a := 8) (b := 64) (c := 128) (fun h i d => ∑ e : Fin 128, f h i e.val * g h d e.val)
      (Host.dotGeneral dot_S8x64x128_S8x128x128_S8x64x128_2_2_1_1_0_0 none u v) := by
  intro y
  pointwise
  exact Finset.sum_congr rfl fun q _ => congrArg₂ (· * ·) (hu _) (hv _)

/-- A selection at and below the diagonal of every plane. -/
theorem t3_tril {k : (⟨2, ![64, 64]⟩ : Shape).Idx → BitVec 1} (hk : Tile (a := 64) (b := 64) (fun i j => if j ≤ i then 1#1 else 0#1) k)
    {u z : FVec Ideal S8x64x64 .f32} (hu : T3 (a := 8) (b := 64) (c := 64) f u) (hz : ∀ y, z y = (0 : EReal))
    (hb : S64x64.BroadcastsInDim S8x64x64 ![1, 2]) :
    T3 (a := 8) (b := 64) (c := 64) (fun h i j => if j ≤ i then f h i j else 0) (select (broadcastInDim S8x64x64 ![1, 2] hb k) u z) := by
  intro y
  have l1 : (y 1).val < 64 := (y 1).isLt
  have l2 : (y 2).val < 64 := (y 2).isLt
  have e : broadcastInDim S8x64x64 ![1, 2] hb k y = if (y 2).val ≤ (y 1).val then 1#1 else 0#1 := by
    refine (broadcastInDim_apply _ hb k y (ValueIdx.ix2 ⟨_, l1⟩ ⟨_, l2⟩) fun x => ?_).trans (hk _)
    match x with
    | 0 => rfl
    | 1 => rfl
  show Scalar.select (broadcastInDim S8x64x64 ![1, 2] hb k y) (u y) (z y) = _
  rw [e, hu y, hz y]
  dsimp only
  by_cases h : (y 2).val ≤ (y 1).val
  · rw [if_pos h, if_pos h]; rfl
  · rw [if_neg h, if_neg h]; rfl

/-- The sum over each plane. -/
theorem row_sum {v : FVec Ideal S8x128x128 .f32} (hv : T3 (a := 8) (b := 128) (c := 128) f v) (y : S8.Idx) :
    Host.reduceAdd (shapeCast S8x1x1 (Host.reduceAdd v (constant S_ .f32 0x00000000#32) reducesTo_S8x128x128_S8_d1_2 h_S_) shapeCasts_S8_S8x1x1)
      (constant S_ .f32 0x00000000#32) reducesTo_S8x1x1_S8_d1_2 h_S_ y = ∑ d : Fin 128, ∑ e : Fin 128, f (y 0).val d.val e.val := by
  have l0 : (y 0).val < 8 := (y 0).isLt
  have inner : ∀ z : S8.Idx, Host.reduceAdd v (constant S_ .f32 0x00000000#32) reducesTo_S8x128x128_S8_d1_2 h_S_ z
      = ∑ d : Fin 128, ∑ e : Fin 128, f (z 0).val d.val e.val := by
    intro z
    refine (Ideal.hostReduceAdd_r3_a12 reducesTo_S8x128x128_S8_d1_2 v _ z).trans ?_
    refine (congrArg₂ (· + ·) Ideal.ofBits_zero_f32 (Finset.sum_congr rfl fun d _ => Finset.sum_congr rfl fun e _ => hv _)).trans (zero_add _)
  refine (Ideal.hostReduceAdd_r3_a12 reducesTo_S8x1x1_S8_d1_2 _ _ y).trans ?_
  refine (congrArg₂ (· + ·) Ideal.ofBits_zero_f32 rfl).trans ((zero_add _).trans ?_)
  rw [Fin.sum_univ_one, Fin.sum_univ_one]
  refine (shapeCast_apply _ shapeCasts_S8_S8x1x1 _ y ?_).trans (inner y)
  rw [Shape.rowMajor_val_one, Shape.rowMajor_val_three]
  show (y 0).val = ((y 0).val * 1 + 0) * 1 + 0
  omega

/-- One row of a matrix replaced at the position `k`. -/
theorem t2_update {α : Type} {a b : ℕ} {f : ℕ → ℕ → α} {g : ℕ → α} {X : (⟨2, ![a, b]⟩ : Shape).Idx → α} (hX : Tile f X)
    {u : (⟨1, ![b]⟩ : Shape).Idx → α} (hu : ∀ y, u y = g (y 0).val) {k : ℕ} (hk : k < a)
    {st : Fin 2 → Int} (h0 : st 0 = k) (h1 : st 1 = 0)
    (hs : (⟨2, ![a, b]⟩ : Shape).Slices (fun _ => 0) ⟨2, ![1, b]⟩)
    (hb : (⟨1, ![b]⟩ : Shape).BroadcastsInDim ⟨2, ![1, b]⟩ ![1]) :
    Tile (fun n h => if n = k then g h else f n h)
      (Host.dynamicUpdateSlice X (broadcastInDim ⟨2, ![1, b]⟩ ![1] hb u) st hs) := by
  intro y
  refine (Host.dynamicUpdateSlice_apply X _ st hs y).trans ?_
  have e0 : Host.clampedStart ⟨2, ![a, b]⟩ ⟨2, ![1, b]⟩ hs.1 st 0 = k :=
    Host.clampedStart_of_le _ _ _ _ h0 (by show k + 1 ≤ a; omega)
  have e1 : Host.clampedStart ⟨2, ![a, b]⟩ ⟨2, ![1, b]⟩ hs.1 st 1 = 0 :=
    Host.clampedStart_of_le _ _ _ _ h1 (by show 0 + b ≤ b; omega)
  have l1 : (y 1).val < b := (y 1).isLt
  show _ = if (y 0).val = k then g (y 1).val else f (y 0).val (y 1).val
  by_cases hy : (y 0).val = k
  · rw [if_pos hy]
    refine (dif_pos (fun x => ?_)).trans ?_
    · match x with
      | 0 => rw [e0]; exact ⟨hy.ge, by show _ < k + 1; omega⟩
      | 1 => rw [e1]; exact ⟨Nat.zero_le _, by show _ < 0 + b; omega⟩
    have key : ∀ z : (⟨2, ![1, b]⟩ : Shape).Idx, (z 1).val = (y 1).val →
        broadcastInDim ⟨2, ![1, b]⟩ ![1] hb u z = g (y 1).val := by
      intro z z1
      refine (broadcastInDim_apply _ hb u z (ValueIdx.ix1 ⟨_, l1⟩) fun x => ?_).trans (hu _)
      match x with
      | 0 => show (y 1).val = if b = 1 then 0 else (z 1).val; split <;> omega
    refine key _ ?_
    show (y 1).val - Host.clampedStart _ _ hs.1 st 1 = _; rw [e1]; rfl
  · rw [if_neg hy]
    refine (dif_neg (fun h => ?_)).trans (hX y)
    have h0 := h 0
    rw [e0] at h0
    have h2 : (y 0).val < k + 1 := h0.2
    have h1 : k ≤ (y 0).val := h0.1
    omega

/-- A matrix spread to the first row of 8 and the first 8 of 128 columns, zero elsewhere. -/
theorem spread_pad {g : ℕ → ℕ → EReal} {X : FVec Ideal S128x8 .f32} (hX : Tile (a := 128) (b := 8) g X)
    (hb : S128x8.BroadcastsInDim S128x1x8 ![0, 2]) (hp : S128x1x8.Pads ![0, 0, 0] ![0, 7, 120] ![0, 0, 0] S128x8x128)
    (v : FVec Ideal S_ .f32) (hv : ∀ y, v y = (0 : EReal)) (hs : S128x8x128.ShapeCasts S1024x128) :
    Tile (a := 1024) (b := 128) (fun r q => if r % 8 = 0 ∧ q < 8 then g (r / 8) q else 0)
      (shapeCast S1024x128 (pad S128x8x128 ![0, 0, 0] ![0, 7, 120] ![0, 0, 0] (broadcastInDim S128x1x8 ![0, 2] hb X) v hp h_S_) hs) := by
  intro y
  have l0 : (y 0).val < 1024 := (y 0).isLt
  have l1 : (y 1).val < 128 := (y 1).isLt
  have b0 : (y 0).val / 8 < 128 := by omega
  have b1 : (y 0).val % 8 < 8 := Nat.mod_lt _ (by decide)
  refine (shapeCast_apply _ hs y (ValueIdx.ix3 ⟨_, b0⟩ ⟨_, b1⟩ ⟨_, l1⟩) ?_).trans ?_
  · rw [Shape.rowMajor_val_two, Shape.rowMajor_val_three]
    show ((y 0).val / 8 * 8 + (y 0).val % 8) * 128 + (y 1).val = (y 0).val * 128 + (y 1).val
    omega
  show _ = if (y 0).val % 8 = 0 ∧ (y 1).val < 8 then g ((y 0).val / 8) (y 1).val else 0
  by_cases h : (y 0).val % 8 = 0 ∧ (y 1).val < 8
  · rw [if_pos h]
    refine (pad_apply_of_inside _ _ _ _ v hp h_S_ _ (ValueIdx.ix3 ⟨_, b0⟩ ⟨0, Nat.one_pos⟩ ⟨_, h.2⟩) fun x => ?_).trans ?_
    · match x with
      | 0 => show (y 0).val / 8 = 0 + (y 0).val / 8 * 1; omega
      | 1 => show (y 0).val % 8 = 0 + 0 * 1; omega
      | 2 => show (y 1).val = 0 + (y 1).val * 1; omega
    refine (broadcastInDim_apply _ hb X _ (ValueIdx.ix2 ⟨_, b0⟩ ⟨_, h.2⟩) fun x => ?_).trans (hX _)
    match x with
    | 0 => rfl
    | 1 => rfl
  · rw [if_neg h]
    by_cases h1 : (y 0).val % 8 = 0
    · refine (pad_apply_of_not_inside _ _ _ _ v hp h_S_ _ 2 fun hc => ?_).trans (hv _)
      have h2 : ((y 1).val - 0) / 1 < 8 := hc.2.2
      exact h ⟨h1, by omega⟩
    · refine (pad_apply_of_not_inside _ _ _ _ v hp h_S_ _ 1 fun hc => ?_).trans (hv _)
      have h2 : ((y 0).val % 8 - 0) / 1 < 1 := hc.2.2
      omega

end Dots

end Cert.Bwd
-- ==== Proof.BwdInv.lean ====
/- The reference's reverse loop over the chunks: what it carries before each trip, and its results. -/
module

public import proofs.«01_k».proof.Proof.BwdRef

@[expose] public section

set_option maxRecDepth 16384

noncomputable section

namespace Cert.Bwd

open Idealize.ShloMosaic Idealize.ShloMosaic.TcCoe Cert.Tile Cert.Reference2Ideal Cert.Reference2Ideal.Gen Cert.Reference2Ideal.Value
open Idealize.ShloMosaic.Tactic
open Idealize.ShloMosaic.StableHlo
open scoped BigOperators

variable (m : (ℓ : Loc nD τ sig) → Buf (Elt Ideal) ℓ) (c : Dev nD)

/-- The recurrence's arrays, read off the reference's arguments. -/
def rinp : In where
  DO := fn2 (A := 8192) (B := 1024) (m ((c : Thread nD τ).loc main_arg0))
  U := fn2 (A := 8192) (B := 1024) (m ((c : Thread nD τ).loc main_arg1))
  W := fn2 (A := 8192) (B := 1024) (m ((c : Thread nD τ).loc main_arg2))
  QD := fn2 (A := 8192) (B := 1024) (m ((c : Thread nD τ).loc main_arg3))
  KD := fn2 (A := 8192) (B := 1024) (m ((c : Thread nD τ).loc main_arg4))
  AT := fn2 (A := 8192) (B := 512) (m ((c : Thread nD τ).loc main_arg5))
  GC := fn2 (A := 8192) (B := 128) (m ((c : Thread nD τ).loc main_arg6))
  S := fn3 (A := 128) (B := 1024) (C := 128) (m ((c : Thread nD τ).loc main_arg7))

/-- What the loop carries before trip `k`: the chunks from `128 - k` on are done. -/
structure Inv (I : In) (k : ℕ) (V : Valuation τ sig (Elt Ideal)) : Prop where
  ctr : V (Proc.devRef .tc main_v29_9) = fun _ => (BitVec.ofNat 32 k : BitVec 32)
  do_ : T4 (a := 128) (b := 8) (c := 64) (d := 128) (fun n h i e => I.DO (64 * n + i) (128 * h + e)) (V (Proc.devRef .tc main_v29_0))
  s : T4 (a := 128) (b := 8) (c := 128) (d := 128) (fun n h d e => I.S n (128 * h + d) e) (V (Proc.devRef .tc main_v29_1))
  u : T4 (a := 128) (b := 8) (c := 64) (d := 128) (fun n h i e => I.U (64 * n + i) (128 * h + e)) (V (Proc.devRef .tc main_v29_2))
  w : T4 (a := 128) (b := 8) (c := 64) (d := 128) (fun n h i e => I.W (64 * n + i) (128 * h + e)) (V (Proc.devRef .tc main_v29_3))
  at' : T4 (a := 128) (b := 8) (c := 64) (d := 64) (fun n h i e => I.AT (64 * n + i) (64 * h + e)) (V (Proc.devRef .tc main_v29_4))
  qd : T4 (a := 128) (b := 8) (c := 64) (d := 128) (fun n h i e => I.QD (64 * n + i) (128 * h + e)) (V (Proc.devRef .tc main_v29_5))
  kd : T4 (a := 128) (b := 8) (c := 64) (d := 128) (fun n h i e => I.KD (64 * n + i) (128 * h + e)) (V (Proc.devRef .tc main_v29_6))
  gl : Tile (a := 128) (b := 8) (fun n h => Ideal.exp (I.GC (64 * n + 63) h)) (V (Proc.devRef .tc main_v29_7))
  tril : Tile (a := 64) (b := 64) (fun i j => if j ≤ i then 1#1 else 0#1) (V (Proc.devRef .tc main_v29_8))
  d : T3 (a := 8) (b := 128) (c := 128) (DD I k) (V (Proc.devRef .tc main_v29_10))
  du : T4 (a := 128) (b := 8) (c := 64) (d := 128) (fun n h i e => if 128 ≤ n + k then DV I n h i e else 0) (V (Proc.devRef .tc main_v29_11))
  dw : T4 (a := 128) (b := 8) (c := 64) (d := 128) (fun n h i e => if 128 ≤ n + k then DW I n h i e else 0) (V (Proc.devRef .tc main_v29_12))
  da : T4 (a := 128) (b := 8) (c := 64) (d := 64) (fun n h i e => if 128 ≤ n + k then DA I n h i e else 0) (V (Proc.devRef .tc main_v29_13))
  dq : T4 (a := 128) (b := 8) (c := 64) (d := 128) (fun n h i e => if 128 ≤ n + k then DQ I n h i e else 0) (V (Proc.devRef .tc main_v29_14))
  dk : T4 (a := 128) (b := 8) (c := 64) (d := 128) (fun n h i e => if 128 ≤ n + k then DK I n h i e else 0) (V (Proc.devRef .tc main_v29_15))
  dg : Tile (a := 128) (b := 8) (fun n h => if 128 ≤ n + k then DG I n h else 0) (V (Proc.devRef .tc main_v29_16))

theorem zero_t4 {a b c' d : ℕ} {f : ℕ → ℕ → ℕ → ℕ → EReal} (x : FVec Ideal S_ .f32) (hx : x = constant S_ .f32 0x00000000#32)
    (hb : S_.BroadcastsInDim ⟨4, ![a, b, c', d]⟩ ![]) (hf : ∀ n, n < a → ∀ h i e, f n h i e = 0) :
    T4 f (broadcastInDim (⟨4, ![a, b, c', d]⟩ : Shape) ![] hb x) := by
  subst hx
  intro y
  rw [hf _ (y 0).isLt]
  exact Ideal.ofBits_zero_f32

theorem none_yet {n : ℕ} (hn : n < 128) {x : EReal} : (if 128 ≤ n + 0 then x else 0) = 0 := if_neg (by omega)

theorem tril_word {i j : ℕ} (hi : i < 64) (hj : j < 64) :
    Scalar.select (IntOp.cmpi CmpIPredicate.sge (IntOp.addi (BitVec.ofNat 32 i) 0#32) (BitVec.ofNat 32 j)) 1#1 0#1 = if j ≤ i then 1#1 else 0#1 := by
  rw [show ∀ x : BitVec 32, IntOp.addi x 0#32 = x from fun x => BitVec.add_zero x]
  exact sge_word hi hj _ _

theorem inv_zero : Inv (rinp m c) 0 (entryContents preI m c) where
  ctr := ctr_entry m c
  do_ := by
    simp only [entryContents, afterL_cons, afterL_nil]
    after_reads_simp
    exact t4_chunks (fn2_tile _) rfl rfl _ _
  s := by
    simp only [entryContents, afterL_cons, afterL_nil]
    after_reads_simp
    exact t4_split (fn3_t3 _) rfl _
  u := by
    simp only [entryContents, afterL_cons, afterL_nil]
    after_reads_simp
    exact t4_chunks (fn2_tile _) rfl rfl _ _
  w := by
    simp only [entryContents, afterL_cons, afterL_nil]
    after_reads_simp
    exact t4_chunks (fn2_tile _) rfl rfl _ _
  at' := by
    simp only [entryContents, afterL_cons, afterL_nil]
    after_reads_simp
    exact t4_chunks (fn2_tile _) rfl rfl _ _
  qd := by
    simp only [entryContents, afterL_cons, afterL_nil]
    after_reads_simp
    exact t4_chunks (fn2_tile _) rfl rfl _ _
  kd := by
    simp only [entryContents, afterL_cons, afterL_nil]
    after_reads_simp
    exact t4_chunks (fn2_tile _) rfl rfl _ _
  gl := by
    simp only [entryContents, afterL_cons, afterL_nil]
    after_reads_simp
    exact fun y => congrArg Ideal.exp (tile_last (fn2_tile _) rfl (by decide) _ _ _ y)
  tril := by
    simp only [entryContents, afterL_cons, afterL_nil]
    after_reads_simp
    exact fun y => tril_word (y 0).isLt (y 1).isLt
  d := by
    simp only [entryContents, afterL_cons, afterL_nil]
    after_reads_simp
    intro y
    rw [DD_zero]
    exact Ideal.ofBits_zero_f32
  du := by
    simp only [entryContents, afterL_cons, afterL_nil]
    after_reads_simp
    exact zero_t4 _ rfl _ fun n hn h i e => none_yet hn
  dw := by
    simp only [entryContents, afterL_cons, afterL_nil]
    after_reads_simp
    exact zero_t4 _ rfl _ fun n hn h i e => none_yet hn
  da := by
    simp only [entryContents, afterL_cons, afterL_nil]
    after_reads_simp
    exact zero_t4 _ rfl _ fun n hn h i e => none_yet hn
  dq := by
    simp only [entryContents, afterL_cons, afterL_nil]
    after_reads_simp
    exact zero_t4 _ rfl _ fun n hn h i e => none_yet hn
  dk := by
    simp only [entryContents, afterL_cons, afterL_nil]
    after_reads_simp
    exact zero_t4 _ rfl _ fun n hn h i e => none_yet hn
  dg := by
    simp only [entryContents, afterL_cons, afterL_nil]
    after_reads_simp
    intro y
    dsimp only
    rw [none_yet (y 0).isLt]
    exact Ideal.ofBits_zero_f32

variable {m c}

/-- A member stored at the position `127 - k` of a stack filled from `128 - k` on. -/
theorem fill {k n : ℕ} (hk : k < 128) (x : ℕ → EReal) :
    (if n = 127 - k then x (127 - k) else if 128 ≤ n + k then x n else 0) = if 128 ≤ n + (k + 1) then x n else 0 := by
  by_cases hn : n = 127 - k
  · subst hn; rw [if_pos rfl, if_pos (by omega)]
  · rw [if_neg hn]
    by_cases hl : 128 ≤ n + k
    · rw [if_pos hl, if_pos (by omega)]
    · rw [if_neg hl, if_neg (by omega)]

theorem pos_word {k : ℕ} (hk : k < 128) : IntOp.subi (IntOp.subi 128#32 (BitVec.ofNat 32 k)) 1#32 = BitVec.ofNat 32 (127 - k) := by
  apply BitVec.eq_of_toNat_eq
  show (128#32 - BitVec.ofNat 32 k - 1#32).toNat = _
  simp only [BitVec.toNat_sub, BitVec.toNat_ofNat]
  omega

set_option maxHeartbeats 4000000 in
theorem inv_succ {I : In} (hI : I.Rl) {k : ℕ} (hk : k < 128) {V : Valuation τ sig (Elt Ideal)} (H : Inv I k V) : Inv I (k + 1) (STEP V) := by
  have hn : 127 - k < 128 := by omega
  have hkn : 127 - (127 - k) = k := by omega
  have hi : ((res_main_while0b_v44 V : S_.Idx → BitVec 32) (Shape.Idx.first h_S_)).toInt = ((127 - k : ℕ) : ℤ) := by
    unfold res_main_while0b_v44
    rw [H.ctr]
    show (IntOp.subi (IntOp.subi 128#32 (BitVec.ofNat 32 k)) 1#32).toInt = _
    rw [pos_word hk]
    exact toInt_ofNat_of_lt (by omega)
  have hdo : T3 (a := 8) (b := 64) (c := 128) (fun h i e => I.DO (64 * (127 - k) + i) (128 * h + e)) (res_main_while0b_v45 V) :=
    t3_slice H.do_ hn hi rfl rfl rfl _ _
  have hs : T3 (a := 8) (b := 128) (c := 128) (fun h d e => I.S (127 - k) (128 * h + d) e) (res_main_while0b_v46 V) :=
    t3_slice H.s hn hi rfl rfl rfl _ _
  have hw : T3 (a := 8) (b := 64) (c := 128) (fun h i e => I.W (64 * (127 - k) + i) (128 * h + e)) (res_main_while0b_v48 V) :=
    t3_slice H.w hn hi rfl rfl rfl _ _
  have hqd : T3 (a := 8) (b := 64) (c := 128) (fun h i e => I.QD (64 * (127 - k) + i) (128 * h + e)) (res_main_while0b_v50 V) :=
    t3_slice H.qd hn hi rfl rfl rfl _ _
  have hkd : T3 (a := 8) (b := 64) (c := 128) (fun h i e => I.KD (64 * (127 - k) + i) (128 * h + e)) (res_main_while0b_v51 V) :=
    t3_slice H.kd hn hi rfl rfl rfl _ _
  have hat : T3 (a := 8) (b := 64) (c := 64) (fun h i j => MA I (64 * (127 - k) + i) (64 * h + j)) (res_main_while0b_v53_0 V) := by
    refine (t3_tril H.tril (t3_slice H.at' hn hi rfl rfl rfl _ _) (fun y => Ideal.ofBits_zero_f32) _).congr ?_
    intro h _ i hi j hj
    unfold MA
    rw [show (64 * h + j) % 64 = j by omega, show (64 * (127 - k) + i) % 64 = i by omega]
  have hvn : T3 (a := 8) (b := 64) (c := 128) (fun h i e => VF I (64 * (127 - k) + i) (128 * h + e)) (res_main_while0b_v55 V) := by
    refine (t3_subf (t3_slice H.u hn hi rfl rfl rfl _ _) (dot_ws hw hs)).congr ?_
    intro h _ i hi e he
    unfold VF
    rw [show (128 * h + e) / 128 = h by omega, show (128 * h + e) % 128 = e by omega, show (64 * (127 - k) + i) / 64 = 127 - k by omega]
  have hdv : T3 (a := 8) (b := 64) (c := 128) (DV I (127 - k)) (res_main_while0b_v76 V) := by
    refine (t3_addf (t3_transpose (dot_ds_k H.d hkd) _) (t3_transpose (dot_do_at hdo hat) _)).congr ?_
    intro h _ i hi e he
    rw [DV_eq, hkn]
    unfold dvOf
    rw [add_comm]
    exact congrArg₂ (· + ·) (Finset.sum_congr rfl fun _ _ => mul_comm _ _) (Finset.sum_congr rfl fun _ _ => mul_comm _ _)
  have hnv : T3 (a := 8) (b := 64) (c := 128) (fun h i e => -DV I (127 - k) h i e) (res_main_while0b_v82 V) :=
    fun y => congrArg (- ·) (hdv y)
  refine ⟨?_, ?_, ?_, ?_, ?_, ?_, ?_, ?_, ?_, ?_, ?_, ?_, ?_, ?_, ?_, ?_, ?_⟩
  · rw [STEP_main_v29_9]
    unfold step_main_v29_9
    rw [id, H.ctr]
    funext y
    show BitVec.ofNat 32 k + 1#32 = BitVec.ofNat 32 (k + 1)
    rw [BitVec.ofNat_add]
  · rw [STEP_main_v29_0]; exact H.do_
  · rw [STEP_main_v29_1]; exact H.s
  · rw [STEP_main_v29_2]; exact H.u
  · rw [STEP_main_v29_3]; exact H.w
  · rw [STEP_main_v29_4]; exact H.at'
  · rw [STEP_main_v29_5]; exact H.qd
  · rw [STEP_main_v29_6]; exact H.kd
  · rw [STEP_main_v29_7]; exact H.gl
  · rw [STEP_main_v29_8]; exact H.tril
  · rw [STEP_main_v29_10]
    refine (t3_addf (t3_addf (t3_mulf H.d (t3_spread H.gl hn hi rfl _ _ _ _)) (t3_transpose (dot_outer hdo hqd) _))
      (t3_transpose (dot_outer hnv hw) _)).congr ?_
    intro h _ d _ e _
    rw [DD_succ]
    unfold backOf
    rw [sum_neg_mul (fun i => rl_dv hI _ _ _ _) (fun i => hI.W _ _), add_zero_sub, add_comm (DD I k h d e * _)]
    refine congrArg₂ (· - ·) (congrArg₂ (· + ·) (Finset.sum_congr rfl fun _ _ => mul_comm _ _) (mul_comm _ _))
      (Finset.sum_congr rfl fun i _ => ?_)
    rw [DV_eq, hkn, mul_comm]
  · rw [STEP_main_v29_11]
    refine (t4_update H.du hdv hn hi rfl rfl rfl updateFits_S128x8x64x128_S1x8x64x128 _).congr ?_
    intro n _ h _ i _ e _
    exact fill hk fun n => DV I n h i e
  · rw [STEP_main_v29_12]
    refine (t4_update H.dw (dot_do_s hnv hs) hn hi rfl rfl rfl updateFits_S128x8x64x128_S1x8x64x128 _).congr ?_
    intro n _ h _ i _ d _
    rw [← fill hk fun n => DW I n h i d]
    unfold DW
    rw [sum_neg_mul (fun e => rl_dv hI _ _ _ _) (fun e => hI.S _ _ _)]
  · rw [STEP_main_v29_13]
    refine (t4_update H.da (t3_tril H.tril (dot_do_v hdo hvn) (fun y => Ideal.ofBits_zero_f32) _) hn hi rfl rfl rfl
      updateFits_S128x8x64x64_S1x8x64x64 _).congr ?_
    intro n _ h _ i _ j _
    rw [← fill hk fun n => DA I n h i j]
    unfold DA
    rfl
  · rw [STEP_main_v29_14]
    refine (t4_update H.dq (dot_do_s hdo hs) hn hi rfl rfl rfl updateFits_S128x8x64x128_S1x8x64x128 _).congr ?_
    intro n _ h _ i _ d _
    rw [← fill hk fun n => DQ I n h i d]
    unfold DQ
    rfl
  · rw [STEP_main_v29_15]
    refine (t4_update H.dk (t3_transpose (dot_ds_v H.d hvn) _) hn hi rfl rfl rfl updateFits_S128x8x64x128_S1x8x64x128 _).congr ?_
    intro n _ h _ i _ d _
    rw [← fill hk fun n => DK I n h i d]
    unfold DK
    rw [hkn]
    refine if_congr Iff.rfl (Finset.sum_congr rfl fun _ _ => mul_comm _ _) rfl
  · rw [STEP_main_v29_16]
    refine (t2_update (g := fun h => ∑ d : Fin 128, ∑ e : Fin 128, I.S (127 - k) (128 * h + d.val) e.val * DD I k h d.val e.val) H.dg (row_sum (t3_mulf hs H.d)) hn hi rfl updateFits_S128x8_S1x8 _).congr ?_
    intro n _ h _
    rw [← fill hk fun n => DG I n h]
    unfold DG
    rw [hkn]
    refine if_congr Iff.rfl (Finset.sum_comm.trans (Finset.sum_congr rfl fun _ _ => Finset.sum_congr rfl fun _ _ => mul_comm _ _)) rfl

variable (m c)

theorem inv_all (hI : (rinp m c).Rl) : ∀ k, k ≤ 128 → Inv (rinp m c) k (STEP^[k] (entryContents preI m c))
  | 0, _ => inv_zero m c
  | k + 1, h => by
    rw [Function.iterate_succ_apply']
    exact inv_succ hI h (inv_all hI k (Nat.le_of_succ_le h))

variable (hI : (rinp m c).Rl)
include hI

theorem ref_du : Tile (a := 8192) (b := 1024) (fun r q => DV (rinp m c) (r / 64) (q / 128) (r % 64) (q % 128))
    (out_main_v34 (STEP^[128] (entryContents preI m c))) := by
  refine (tile_tokens (inv_all m c hI 128 le_rfl).du rfl rfl _ _).congr ?_
  intro r hr q hq
  exact if_pos (by omega)

theorem ref_dw : Tile (a := 8192) (b := 1024) (fun r q => DW (rinp m c) (r / 64) (q / 128) (r % 64) (q % 128))
    (out_main_v36 (STEP^[128] (entryContents preI m c))) := by
  refine (tile_tokens (inv_all m c hI 128 le_rfl).dw rfl rfl _ _).congr ?_
  intro r hr q hq
  exact if_pos (by omega)

theorem ref_dq : Tile (a := 8192) (b := 1024) (fun r q => DQ (rinp m c) (r / 64) (q / 128) (r % 64) (q % 128))
    (out_main_v38 (STEP^[128] (entryContents preI m c))) := by
  refine (tile_tokens (inv_all m c hI 128 le_rfl).dq rfl rfl _ _).congr ?_
  intro r hr q hq
  exact if_pos (by omega)

theorem ref_dk : Tile (a := 8192) (b := 1024) (fun r q => DK (rinp m c) (r / 64) (q / 128) (r % 64) (q % 128))
    (out_main_v40 (STEP^[128] (entryContents preI m c))) := by
  refine (tile_tokens (inv_all m c hI 128 le_rfl).dk rfl rfl _ _).congr ?_
  intro r hr q hq
  exact if_pos (by omega)

theorem ref_da : Tile (a := 8192) (b := 512) (fun r q => DA (rinp m c) (r / 64) (q / 64) (r % 64) (q % 64))
    (out_main_v42 (STEP^[128] (entryContents preI m c))) := by
  refine (tile_tokens (inv_all m c hI 128 le_rfl).da rfl rfl _ _).congr ?_
  intro r hr q hq
  exact if_pos (by omega)

theorem ref_dg : Tile (a := 1024) (b := 128) (fun r q => if r % 8 = 0 ∧ q < 8 then DG (rinp m c) (r / 8) q else 0)
    (out_main_v32 (STEP^[128] (entryContents preI m c))) := by
  refine (spread_pad (inv_all m c hI 128 le_rfl).dg _ _ _ (fun y => ?_) _).congr ?_
  · show (((0#32 : BitVec 32).toInt : ℝ) : EReal) = 0
    simp
  · intro r hr q hq
    refine if_congr Iff.rfl (if_pos (by omega)) rfl

end Cert.Bwd
-- ==== Proof.BwdClaim.lean ====
/- The value claim of the reverse scan. -/
module

public import proofs.«01_k».proof.Proof.BwdArr
public import proofs.«01_k».proof.Proof.BwdInv

@[expose] public section

set_option maxRecDepth 16384

noncomputable section

namespace Cert.Bwd

open Idealize.ShloMosaic Idealize.ShloMosaic.TcCoe Cert.Tile

theorem claim : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp hm
  have hI : ∀ c, rinp m' c = inp m c := by
    intro c
    obtain ⟨h0, h1, h2, h3, h4, h5, h6, h7⟩ := hm c
    unfold rinp inp
    congr 1 <;> apply congrArg <;> assumption
  have hR : ∀ c, (rinp m' c).Rl := fun c => by rw [hI]; exact inp_rl m hp c
  refine ⟨arrU m, arrW m, arrQ m, arrK m, arrA m, arrG m, ?_, ?_⟩
  · refine (θ_run _ _ _).mono (fun r h c => ?_) (Cert.Kernel2Ideal.Value.run_blocks m g)
    obtain ⟨a0, a1, a2, a3, a4, a5, e⟩ := h c
    exact ⟨a0.trans (final_du m c), a1.trans (final_dw m c), a2.trans (final_dq m c), a3.trans (final_dk m c),
      a4.trans (final_da m c), a5.trans (final_dg m c), e⟩
  · refine (θ_run _ _ _).mono (fun r h c => ?_) (Cert.Reference2Ideal.Value.run m' g')
    obtain ⟨a0, a1, a2, a3, a4, a5, e⟩ := h c
    refine ⟨a0.trans ?_, a1.trans ?_, a2.trans ?_, a3.trans ?_, a4.trans ?_, a5.trans ?_, e⟩
    · funext y; refine (ref_du m' c (hR c) y).trans ?_; rw [hI]; rfl
    · funext y; refine (ref_dw m' c (hR c) y).trans ?_; rw [hI]; rfl
    · funext y; refine (ref_dq m' c (hR c) y).trans ?_; rw [hI]; rfl
    · funext y; refine (ref_dk m' c (hR c) y).trans ?_; rw [hI]; rfl
    · funext y; refine (ref_da m' c (hR c) y).trans ?_; rw [hI]; rfl
    · funext y; refine (ref_dg m' c (hR c) y).trans ?_; rw [hI]; rfl

end Cert.Bwd
-- ==== Proof.Dense.lean ====
/- What the products' grid steps share: blocks of arrays at a place, whole stores read back, and sums taken run by run. -/
module

public import proofs.«01_k».proof.Proof.Tile
public import Idealize.ShloMosaic.Lib.Tactic
public import Idealize.ShloMosaic.Lib.Pointwise
public import Idealize.ShloMosaic.Lib.StableHlo.Run

@[expose] public section

set_option maxRecDepth 16384

noncomputable section

namespace Cert.Dense

open Idealize.ShloMosaic hiding ix0 ix1 ix2 ix3 ix4 ix5
open Idealize.ShloMosaic.ValueIdx Cert.Tile
open scoped BigOperators

/-- The sum of the first `n` terms. -/
def part (F : ℕ → EReal) (n : ℕ) : EReal := ∑ q ∈ Finset.range n, F q

theorem part_first (F : ℕ → EReal) (K : ℕ) : ∑ q : Fin K, F q.val = part F K := (Finset.sum_range F).symm

theorem part_next (F : ℕ → EReal) (n K : ℕ) : part F n + ∑ q : Fin K, F (n + q.val) = part F (n + K) := by
  unfold part
  rw [Finset.sum_range_add, Finset.sum_range (fun q => F (n + q))]

theorem part_last (F : ℕ → EReal) {n K N : ℕ} (h : n + K = N) : part F n + ∑ q : Fin K, F (n + q.val) = part F N := by
  rw [part_next, h]

theorem part_congr {F G : ℕ → EReal} {n : ℕ} (h : ∀ q < n, F q = G q) : part F n = part G n :=
  Finset.sum_congr rfl fun q hq => h q (Finset.mem_range.mp hq)

theorem before_mod {n nk : ℕ} (h : n % nk ≠ 0) : (n - 1) / nk = n / nk ∧ (n - 1) % nk = n % nk - 1 := by
  rcases Nat.eq_zero_or_pos nk with rfl | hk
  · rw [Nat.div_zero, Nat.div_zero, Nat.mod_zero, Nat.mod_zero]
    exact ⟨rfl, rfl⟩
  have e := Nat.div_add_mod n nk
  have l := Nat.mod_lt n hk
  have e' : n - 1 = nk * (n / nk) + (n % nk - 1) := by omega
  rw [e']
  constructor
  · rw [Nat.mul_add_div hk, Nat.div_eq_of_lt (a := n % nk - 1) (Nat.lt_of_le_of_lt (Nat.sub_le _ _) l)]
    omega
  · rw [Nat.mul_add_mod, Nat.mod_eq_of_lt (Nat.lt_of_le_of_lt (Nat.sub_le _ _) l)]

/-- An accumulator over runs of `nk` points: the first point of a run sets it, each later one but the last adds its terms. -/
theorem runs {a b N nk K : ℕ} (hk : 0 < nk) (acc : (n : ℕ) → n < N → (⟨2, ![a, b]⟩ : Shape).Idx → EReal) (F : ℕ → ℕ → ℕ → ℕ → EReal)
    (h0 : ∀ n hn, n % nk = 0 → Tile (fun r q => ∑ u : Fin K, F (n / nk) r q (K * (n % nk) + u.val)) (acc n hn))
    (h1 : ∀ n hn f, 1 ≤ n % nk → n % nk ≠ nk - 1 → Tile f (acc (n - 1) (Nat.lt_of_le_of_lt (Nat.sub_le _ _) hn)) →
      Tile (fun r q => f r q + ∑ u : Fin K, F (n / nk) r q (K * (n % nk) + u.val)) (acc n hn)) :
    ∀ n hn, n % nk ≠ nk - 1 → Tile (fun r q => part (F (n / nk) r q) (K * (n % nk + 1))) (acc n hn) := by
  intro n
  induction n using Nat.strong_induction_on with
  | _ n ih =>
    intro hn hl
    by_cases hz : n % nk = 0
    · refine (h0 n hn hz).congr fun r _ q _ => ?_
      rw [hz, mul_zero, zero_add, mul_one, ← part_first]
      exact Finset.sum_congr rfl fun u _ => by rw [zero_add]
    · have hp : n ≠ 0 := fun h => hz (by rw [h, Nat.zero_mod])
      have hm := before_mod hz
      refine (h1 n hn _ (by omega) hl (ih (n - 1) (by omega) _ (by
        have := Nat.mod_lt n hk
        omega))).congr fun r _ q _ => ?_
      rw [hm.1, hm.2, Nat.sub_add_cancel (by omega), part_next, mul_add, mul_one]

/-- What the last point of each run writes: `G` of the accumulator with its own terms added. -/
theorem runs_out {a b N nk K : ℕ} (hk : 2 ≤ nk) (acc out : (n : ℕ) → n < N → (⟨2, ![a, b]⟩ : Shape).Idx → EReal) (F : ℕ → ℕ → ℕ → ℕ → EReal)
    (G : ℕ → ℕ → ℕ → EReal → EReal)
    (h0 : ∀ n hn, n % nk = 0 → Tile (fun r q => ∑ u : Fin K, F (n / nk) r q (K * (n % nk) + u.val)) (acc n hn))
    (h1 : ∀ n hn f, 1 ≤ n % nk → n % nk ≠ nk - 1 → Tile f (acc (n - 1) (Nat.lt_of_le_of_lt (Nat.sub_le _ _) hn)) →
      Tile (fun r q => f r q + ∑ u : Fin K, F (n / nk) r q (K * (n % nk) + u.val)) (acc n hn))
    (h2 : ∀ n hn f, n % nk = nk - 1 → Tile f (acc (n - 1) (Nat.lt_of_le_of_lt (Nat.sub_le _ _) hn)) →
      Tile (fun r q => G n r q (f r q + ∑ u : Fin K, F (n / nk) r q (K * (n % nk) + u.val))) (out n hn)) :
    ∀ n hn, n % nk = nk - 1 → Tile (fun r q => G n r q (part (F (n / nk) r q) (K * nk))) (out n hn) := by
  intro n hn h
  have hp := before_mod (n := n) (nk := nk) (by omega)
  refine (h2 n hn _ h (runs (by omega) acc F h0 h1 (n - 1) _ (by omega))).congr fun r _ q _ => ?_
  rw [hp.1, hp.2, Nat.sub_add_cancel (by omega), part_next, ← Nat.mul_succ, Nat.succ_eq_add_one, h, Nat.sub_add_cancel (by omega)]

/-- A block of an array, placed at row `o` and column `p`. -/
theorem blk {A B a b o p : ℕ} {f : ℕ → ℕ → EReal} {X : (⟨2, ![A, B]⟩ : Shape).Idx → EReal} (hX : Tile f X)
    (emb : (⟨2, ![a, b]⟩ : Shape).Idx → (⟨2, ![A, B]⟩ : Shape).Idx)
    (h : ∀ y, ((emb y) 0).val = o + (y 0).val ∧ ((emb y) 1).val = p + (y 1).val) :
    Tile (fun r q => f (o + r) (p + q)) (fun y => X (emb y)) := by
  intro y
  refine (hX (emb y)).trans ?_
  rw [(h y).1, (h y).2]

section Whole

variable {A B : ℕ} {sig : RefSig} {κ : Kind} {cs : Space} {e : EltTy}

/-- A whole buffer read through its whole rectangle. -/
theorem whole_ld {f : ℕ → ℕ → Elt Ideal e} {m : Memref sig κ cs (⟨2, ![A, B]⟩ : Shape) e} {hm : m.IsWhole}
    {X : (⟨2, ![A, B]⟩ : Shape).Idx → Elt Ideal e} (hX : Tile f X)
    {inb : ∀ i, ![0, 0] i + (![A, B] : Fin 2 → ℕ) i ≤ (⟨2, ![A, B]⟩ : Shape).size i} :
    Tile f (View.readAt (Elt Ideal) m.view (Rect.unit (s := ⟨2, ![A, B]⟩) ![0, 0] ![A, B] inb).toLoadRect (hm.unread X)) :=
  tile_ld hX fun i _ j _ => by rw [zero_add, zero_add]

/-- A whole store, loaded again. -/
theorem whole_cov {Val : EltTy → Type} [∀ e, Nonempty (Val e)] {f : ℕ → ℕ → Val e} {v : View sig κ cs (⟨2, ![A, B]⟩ : Shape) e}
    {X : (⟨2, ![A, B]⟩ : Shape).Idx → Val e}
    (hX : Tile f X) {inbX inb : ∀ i, ![0, 0] i + (![A, B] : Fin 2 → ℕ) i ≤ (⟨2, ![A, B]⟩ : Shape).size i} :
    Tile (a := A) (b := B) f (v.readCov [(⟨Rect.unit (s := ⟨2, ![A, B]⟩) ![0, 0] ![A, B] inbX, X⟩ : View.Piece Val (⟨2, ![A, B]⟩ : Shape) e)]
        (Rect.unit (s := ⟨2, ![A, B]⟩) ![0, 0] ![A, B] inb).toLoadRect) :=
  Tile.congr (tile_cov hX) fun i _ j _ => by rw [zero_add, zero_add]

/-- What a whole store leaves. -/
theorem whole_st {f : ℕ → ℕ → Elt Ideal e} {v : View sig κ cs (⟨2, ![A, B]⟩ : Shape) e} {X : (⟨2, ![A, B]⟩ : Shape).Idx → Elt Ideal e}
    (hX : Tile f X) {inb : ∀ i, ![0, 0] i + (![A, B] : Fin 2 → ℕ) i ≤ (⟨2, ![A, B]⟩ : Shape).size i} :
    Tile f (v.read (Elt Ideal) (v.writes (Elt Ideal) v.junk
      [(⟨Rect.unit (s := ⟨2, ![A, B]⟩) ![0, 0] ![A, B] inb, X⟩ : View.Piece (Elt Ideal) (⟨2, ![A, B]⟩ : Shape) e)])) := by
  have hcov : ∀ y, ∃ q ∈ [(⟨Rect.unit (s := ⟨2, ![A, B]⟩) ![0, 0] ![A, B] inb, X⟩ : View.Piece (Elt Ideal) (⟨2, ![A, B]⟩ : Shape) e)],
      y ∈ q.1.set := fun y => ⟨_, List.mem_singleton.mpr rfl,
    View.mem_set_unit_zero (S := ⟨2, ![A, B]⟩) (by ext i; fin_cases i <;> rfl) inb y⟩
  intro y
  rw [View.read_writes_eq_canon _ _ _ hcov]
  refine View.canon_eq_of_allAt _ _ _ (hcov _) (allAt_tile f _ (hX.congr fun i _ j _ => ?_) (View.allAt_nil _ _))
  rw [zero_add, zero_add]

/-- A whole block, loaded. -/
theorem whole_lds {f : ℕ → ℕ → Elt Ideal e} {X : (⟨2, ![A, B]⟩ : Shape).Idx → Elt Ideal e} (hX : Tile f X)
    {inb : ∀ i, ![0, 0] i + (![A, B] : Fin 2 → ℕ) i ≤ (⟨2, ![A, B]⟩ : Shape).size i} :
    Tile (a := A) (b := B) f (View.ld X (Rect.unit (s := ⟨2, ![A, B]⟩) ![0, 0] ![A, B] inb)) := by
  intro y
  refine (congrFun (View.ld_unit_zero (S := ⟨2, ![A, B]⟩) (off := ![0, 0]) (by ext i; fin_cases i <;> rfl) inb X) y).trans (hX y)

/-- What one whole store leaves. -/
theorem whole_canon {f : ℕ → ℕ → Elt Ideal e} {X : (⟨2, ![A, B]⟩ : Shape).Idx → Elt Ideal e} (hX : Tile f X)
    {inb : ∀ i, ![0, 0] i + (![A, B] : Fin 2 → ℕ) i ≤ (⟨2, ![A, B]⟩ : Shape).size i} :
    Tile (a := A) (b := B) f (View.canon [(⟨Rect.unit (s := ⟨2, ![A, B]⟩) ![0, 0] ![A, B] inb, X⟩ : View.Piece (Elt Ideal) (⟨2, ![A, B]⟩ : Shape) e)]) := by
  intro y
  refine View.canon_eq_of_allAt _ _ _ ⟨_, List.mem_singleton.mpr rfl,
    View.mem_set_unit_zero (S := ⟨2, ![A, B]⟩) (by ext i; fin_cases i <;> rfl) inb y⟩
    (allAt_tile f _ (hX.congr fun i _ j _ => ?_) (View.allAt_nil _ _))
  rw [zero_add, zero_add]

end Whole

section Relu

variable {A B : ℕ} {f g : ℕ → ℕ → EReal} {φ : FTy}

theorem zero_host (h : (⟨0, ![]⟩ : Shape).BroadcastsInDim ⟨2, ![A, B]⟩ ![]) (y : (⟨2, ![A, B]⟩ : Shape).Idx) :
    broadcastInDim (⟨2, ![A, B]⟩ : Shape) ![] h (constant (F := Ideal) (⟨0, ![]⟩ : Shape) .f32 0x00000000#32) y = 0 :=
  Ideal.ofBits_zero_f32

/-- The larger of a tile's entry and zero. -/
theorem tile_relu {v w : FVec Ideal (⟨2, ![A, B]⟩ : Shape) .f32} (hv : Tile f v) (hw : ∀ y, w y = 0) :
    Tile (fun i j => max (f i j) 0) (maximumf v w) := by
  intro y
  exact congrArg₂ max (hv y) (hw y)

theorem zero_bc (y : (⟨2, ![A, B]⟩ : Shape).Idx) : broadcast (⟨2, ![A, B]⟩ : Shape) (Scalar.ofBits .f32 0x00000000#32 : Ideal .f32) y = 0 :=
  Ideal.ofBits_zero_f32

end Relu

section Host

variable {M K N : ℕ} {f g : ℕ → ℕ → EReal} {φ ψ : FTy}

theorem host_nn {u : FVec Ideal (⟨2, ![M, K]⟩ : Shape) .f32} {v : FVec Ideal (⟨2, ![K, N]⟩ : Shape) .f32}
    (hu : Tile f u) (hv : Tile g v) :
    Tile (fun i j => part (fun q => f i q * g q j) K) (Host.dotGeneral (DotDims.plain M K N) none u v) := by
  intro y
  refine Eq.trans ?_ (part_first _ K)
  refine (Ideal.matmul_apply₁ (DotDims.plain M K N) (a := 1) rfl (K := K) rfl u v _ _).trans ?_
  rw [zero_add]
  exact Finset.sum_congr rfl fun q _ => congrArg₂ (· * ·) (hu _) (hv _)

theorem host_nt {u : FVec Ideal (⟨2, ![M, K]⟩ : Shape) .f32} {v : FVec Ideal (⟨2, ![N, K]⟩ : Shape) .f32}
    (hu : Tile f u) (hv : Tile g v) :
    Tile (fun i j => part (fun q => f i q * g j q) K) (Host.dotGeneral (DotDims.transposedRhs M K N) none u v) := by
  intro y
  refine Eq.trans ?_ (part_first _ K)
  refine (Ideal.matmul_apply₁ (DotDims.transposedRhs M K N) (a := 1) rfl (K := K) rfl u v _ _).trans ?_
  rw [zero_add]
  exact Finset.sum_congr rfl fun q _ => congrArg₂ (· * ·) (hu _) (hv _)

theorem host_tn {u : FVec Ideal (⟨2, ![K, M]⟩ : Shape) .f32} {v : FVec Ideal (⟨2, ![K, N]⟩ : Shape) .f32}
    (hu : Tile f u) (hv : Tile g v) :
    Tile (fun i j => part (fun q => f q i * g q j) K) (Host.dotGeneral (dotTN M K N) none u v) := by
  intro y
  refine Eq.trans ?_ (part_first _ K)
  refine (Ideal.matmul_apply₁ (dotTN M K N) (a := 0) rfl (K := K) rfl u v _ _).trans ?_
  rw [zero_add]
  exact Finset.sum_congr rfl fun q _ => congrArg₂ (· * ·) (hu _) (hv _)

theorem host_tr {u : FVec Ideal (⟨2, ![M, N]⟩ : Shape) φ} (h : (⟨2, ![M, N]⟩ : Shape).Transposes [1, 0] ⟨2, ![N, M]⟩)
    (hu : Tile f u) : Tile (fun i j => f j i) (transpose (⟨2, ![N, M]⟩ : Shape) [1, 0] u h) := by
  intro y
  pointwise
  exact hu _

/-- A gradient of the weights: the vjp's product, transposed. -/
theorem host_gw {u : FVec Ideal (⟨2, ![K, M]⟩ : Shape) .f32} {v : FVec Ideal (⟨2, ![K, N]⟩ : Shape) .f32}
    (h : (⟨2, ![N, M]⟩ : Shape).Transposes [1, 0] ⟨2, ![M, N]⟩) (hu : Tile f u) (hv : Tile g v) :
    Tile (fun i j => part (fun q => f q i * g q j) K) (transpose (⟨2, ![M, N]⟩ : Shape) [1, 0] (Host.dotGeneral (dotTN N K M) none v u) h) :=
  (host_tr h (host_tn hv hu)).congr fun i _ j _ => part_congr fun q _ => mul_comm _ _

end Host
section Sums

variable {A : ℕ} {f : ℕ → ℕ → EReal}

/-- One row, under every row. -/
theorem tile_rows {v : (⟨2, ![1, 2176]⟩ : Shape).Idx → EReal} (h : (⟨2, ![1, 2176]⟩ : Shape).Broadcasts ⟨2, ![1024, 2176]⟩) (hv : Tile f v) :
    Tile (fun _ q => f 0 q) (broadcastTo (⟨2, ![1024, 2176]⟩ : Shape) v h) := by
  intro y
  pointwise
  exact hv _

theorem host_rows {v : (⟨2, ![1, 8704]⟩ : Shape).Idx → EReal} (h : (⟨2, ![1, 8704]⟩ : Shape).BroadcastsInDim ⟨2, ![8192, 8704]⟩ ![0, 1])
    (hv : Tile f v) : Tile (fun _ q => f 0 q) (broadcastInDim (⟨2, ![8192, 8704]⟩ : Shape) ![0, 1] h v) := by
  intro y
  pointwise
  exact hv _

/-- The sums of every eighth row. -/
theorem tile_oct {v : FVec Ideal (⟨2, ![1024, 2176]⟩ : Shape) .f32} {c : BitVec 32} (h : (⟨2, ![1024, 2176]⟩ : Shape).ShapeCasts ⟨3, ![128, 8, 2176]⟩)
    (hr : (⟨3, ![128, 8, 2176]⟩ : Shape).Reduces [0] ⟨2, ![8, 2176]⟩) (hf) (hc) (hv : Tile f v) :
    Tile (fun r q => ∑ u : Fin 128, f (8 * u.val + r) q)
      (multiReduction (F := Ideal) (φ := .f32) .add [0] (⟨2, ![8, 2176]⟩ : Shape) (shapeCast (⟨3, ![128, 8, 2176]⟩ : Shape) v h) c hr hf hc) := by
  intro y
  pointwise
  refine Finset.sum_congr rfl fun u _ => (hv _).trans ?_
  rw [Nat.mul_comm 8]
  rfl

/-- The sum of eight rows. -/
theorem tile_sum8 {v : FVec Ideal (⟨2, ![8, 2176]⟩ : Shape) .f32} {c : BitVec 32} (h : (⟨1, ![2176]⟩ : Shape).ShapeCasts ⟨2, ![1, 2176]⟩)
    (hr : (⟨2, ![8, 2176]⟩ : Shape).Reduces [0] ⟨1, ![2176]⟩) (hf) (hc) (hv : Tile f v) :
    Tile (fun _ q => ∑ u : Fin 8, f u.val q)
      (shapeCast (⟨2, ![1, 2176]⟩ : Shape) (multiReduction (F := Ideal) (φ := .f32) .add [0] (⟨1, ![2176]⟩ : Shape) v c hr hf hc) h) := by
  intro y
  pointwise
  exact Finset.sum_congr rfl fun u _ => hv _

theorem host_cols {v : FVec Ideal (⟨2, ![A, 8704]⟩ : Shape) .f32} (hu : 0 < (⟨0, ![]⟩ : Shape).numel) (h : (⟨1, ![8704]⟩ : Shape).ShapeCasts ⟨2, ![1, 8704]⟩)
    (hr : (⟨2, ![A, 8704]⟩ : Shape).ReducesTo [0] ⟨1, ![8704]⟩) (hv : Tile f v) :
    Tile (fun _ q => part (fun t => f t q) A)
      (shapeCast (⟨2, ![1, 8704]⟩ : Shape) (Host.reduceAdd v (constant (F := Ideal) (⟨0, ![]⟩ : Shape) .f32 0x00000000#32) hr hu) h) := by
  intro y
  pointwise
  rw [← part_first]
  exact Finset.sum_congr rfl fun u _ => hv _

end Sums

/-- Eight sums over every eighth term make the whole sum. -/
theorem part_eight (F : ℕ → EReal) (n : ℕ) : ∑ s : Fin 8, part (fun t => F (8 * t + s.val)) n = part F (8 * n) := by
  induction n with
  | zero => exact Finset.sum_eq_zero fun _ _ => rfl
  | succ n ih =>
    rw [mul_add, mul_one, ← part_next, ← ih, ← Finset.sum_add_distrib]
    exact Finset.sum_congr rfl fun s _ => Finset.sum_range_succ _ _

section Product

/-- The three products at row `r` and column `q`, over `K` terms: plain, with the right matrix transposed, with the left one. -/
def nn (K : ℕ) (f g : ℕ → ℕ → EReal) (r q : ℕ) : EReal := part (fun t => f r t * g t q) K
def nt (K : ℕ) (f g : ℕ → ℕ → EReal) (r q : ℕ) : EReal := part (fun t => f r t * g q t) K
def tn (K : ℕ) (f g : ℕ → ℕ → EReal) (r q : ℕ) : EReal := part (fun t => f t r * g t q) K

variable {M K N : ℕ} {f g : ℕ → ℕ → EReal} {φ ψ : FTy}

theorem whole_nn {u : FVec Ideal (⟨2, ![M, K]⟩ : Shape) φ} {v : FVec Ideal (⟨2, ![K, N]⟩ : Shape) ψ} (hu : Tile f u) (hv : Tile g v) :
    Tile (nn K f g) (matmul (DotDims.plain M K N) none u v (constant (⟨2, ![M, N]⟩ : Shape) .f32 0#32)) :=
  (dot_plain hu hv none).congr fun r _ q _ => part_first (fun t => f r t * g t q) K

theorem whole_nt {u : FVec Ideal (⟨2, ![M, K]⟩ : Shape) φ} {v : FVec Ideal (⟨2, ![N, K]⟩ : Shape) ψ} (hu : Tile f u) (hv : Tile g v) :
    Tile (nt K f g) (matmul (DotDims.transposedRhs M K N) none u v (constant (⟨2, ![M, N]⟩ : Shape) .f32 0#32)) :=
  (dot_nt hu hv none).congr fun r _ q _ => part_first (fun t => f r t * g q t) K

/-- A block's product is the arrays' product at the block's place. -/
theorem nn_at (f g : ℕ → ℕ → EReal) (i j r q : ℕ) :
    nn K (fun r q => f (i + r) (0 + q)) (fun r q => g (0 + r) (j + q)) r q = nn K f g (i + r) (j + q) :=
  part_congr fun t _ => by dsimp only; rw [zero_add]

theorem nt_at (f g : ℕ → ℕ → EReal) (i j r q : ℕ) :
    nt K (fun r q => f (i + r) (0 + q)) (fun r q => g (j + r) (0 + q)) r q = nt K f g (i + r) (j + q) :=
  part_congr fun t _ => by dsimp only; rw [zero_add]

end Product

end Cert.Dense
-- ==== Proof.MlpDpre.lean ====
/- The gradient at the channel mixer's pre-activations: the call's array, its reference, and their equality. -/
module

public import proofs.«01_k».proof.Proof.Dense
public import proofs.«01_k».proof.Proof.Gen.Kernel3Ideal.Value
public import proofs.«01_k».proof.Proof.Gen.Reference3Ideal.Run
public import proofs.«01_k».proof.Defs

@[expose] public section

set_option maxRecDepth 16384

noncomputable section

namespace Cert.MlpDpre

open Idealize.ShloMosaic Idealize.ShloMosaic.TcCoe Cert.Tile Cert.Dense
open Idealize.ShloMosaic.Tactic
open scoped BigOperators

/-- The factor two, as both programs write it. -/
def two : EReal := Ideal.ofBits .f32 0x40000000#32

/-- The gradient of token `r` at column `q`: the product's entry times the square's slope. -/
def grad (f g p : ℕ → ℕ → EReal) (r q : ℕ) : EReal := part (fun t => f r t * g q t) 1024 * (two * max (p r q) 0)

section Kernel

open Cert.Kernel3Ideal Cert.Kernel3Ideal.Gen Cert.Kernel3Ideal.Value

theorem step {f g p : ℕ → ℕ → EReal} {x0 x2 : Vec Ideal S1024x1024 .f32} {x1 : Vec Ideal S1024x1024 .bf16}
    (hf : Tile (a := 1024) (b := 1024) f x0) (hg : Tile (a := 1024) (b := 1024) g x1) (hp : Tile (a := 1024) (b := 1024) p x2) :
    Tile (a := 1024) (b := 1024) (grad f g p) (out0_3 (F := Ideal) x0 x1 x2) := by
  unfold out0_3
  refine whole_canon (e := .bf16) ?_
  unfold k0_pay1
  refine tile_truncf (φ := .f32) (ψ := .bf16) _ (tile_mulf (φ := .f32) (f := fun r q => part (fun t => f r t * g q t) 1024) ?_ ?_)
  · exact (dot_nt (φ := .bf16) (ψ := .bf16) (tile_truncf (φ := .f32) (ψ := .bf16) _ (whole_lds (e := .f32) hf)) (whole_lds (e := .bf16) hg) none).congr
      fun r _ q _ => part_first (fun t => f r t * g q t) 1024
  · exact tile_mulf (φ := .f32) (f := fun _ _ => two) (fun _ => rfl) (tile_relu (whole_lds (e := .f32) hp) zero_bc)

variable (m : (ℓ : Loc nD τ sig) → Buf (Elt Ideal) ℓ) (c : Dev nD)

/-- The three arguments. -/
def dx : ℕ → ℕ → EReal := fn2 (A := 8192) (B := 1024) (m ((c : Thread nD τ).loc main_arg0))
def w : ℕ → ℕ → EReal := fn2 (A := 4096) (B := 1024) (m ((c : Thread nD τ).loc main_arg1))
def pre : ℕ → ℕ → EReal := fn2 (A := 8192) (B := 4096) (m ((c : Thread nD τ).loc main_arg2))

theorem idx_all : ∀ t : Fin cfg0.N, win0_0.index t = ![t.val / 4, 0] ∧ win0_1.index t = ![t.val % 4, 0]
    ∧ win0_2.index t = ![t.val / 4, t.val % 4] ∧ win0_3.index t = ![t.val / 4, t.val % 4] := by
  decide +kernel

theorem dx_blk (t : Fin cfg0.N) : Tile (a := 1024) (b := 1024) (fun r q => dx m c (t.val / 4 * 1024 + r) (0 + q)) (iblk m c 0 t) := by
  have e := (idx_all t).1
  exact blk (A := 8192) (B := 1024) (o := t.val / 4 * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 1024) (fun r q => w m c (t.val % 4 * 1024 + r) (0 + q)) (iblk m c 1 t) := by
  have e := (idx_all t).2.1
  exact blk (A := 4096) (B := 1024) (o := t.val % 4 * 1024) (p := 0) (fn2_tile (m ((c : Thread nD τ).loc main_arg1)))
    (((cfg0.win 1).blk t).view.emb) fun y => ⟨by blk_simp [e], by blk_simp [e]⟩

theorem pre_blk (t : Fin cfg0.N) : Tile (a := 1024) (b := 1024) (fun r q => pre m c (t.val / 4 * 1024 + r) (t.val % 4 * 1024 + q)) (iblk m c 2 t) := by
  have e := (idx_all t).2.2.1
  exact blk (A := 8192) (B := 4096) (o := t.val / 4 * 1024) (p := t.val % 4 * 1024) (fn2_tile (m ((c : Thread nD τ).loc main_arg2)))
    (((cfg0.win 2).blk t).view.emb) fun y => ⟨by blk_simp [e], by blk_simp [e]⟩

def arr (c : Dev nD) : S8192x4096.Idx → EReal := fun y => grad (dx m c) (w m c) (pre m c) (y 0).val (y 1).val

theorem final : (dats m 0 c).arrAt 3 cfg0.N = arr m c := by
  refine (dats m 0 c).arrAt_eq_of_covers 3 _ (by decide +kernel) fun t hf y => ?_
  have e := (idx_all t).2.2.2
  refine (congrFun (after0_3 m c t) _).trans ?_
  refine (step (dx_blk m c t) (w_blk m c t) (pre_blk m c t) y).trans ?_
  unfold arr grad
  simp only [zero_add]
  blk_simp [e]

end Kernel

section Ref

open Cert.Reference3Ideal Cert.Reference3Ideal.Gen

/-- Where the pre-activation is not positive the slope is zero, and so is the product. -/
theorem slope {s : Shape} (u k p z w : FVec Ideal s .f32) (y : s.Idx) (hz : z y = 0) (hw : w y = 0) :
    select (cmpf .ogt p z) (mulf u (mulf k (maximumf p z))) w y = mulf u (mulf k (maximumf p z)) y := by
  pointwise
  rw [hz, hw]
  split
  · rfl
  · rename_i h
    rw [max_eq_right (not_lt.mp (by simpa using h)), mul_zero, mul_zero]

theorem ref (a0 : FVec Ideal S8192x1024 .f32) (a1 : FVec Ideal S4096x1024 .bf16) (a2 : FVec Ideal S8192x4096 .f32) :
    Tile (a := 8192) (b := 4096) (grad (fn2 (A := 8192) (B := 1024) a0) (fn2 (A := 4096) (B := 1024) a1) (fn2 (A := 8192) (B := 4096) a2))
    (truncf .bf16 (select (cmpf .ogt a2 (broadcastInDim S8192x4096 ![] bcast_S_S8192x4096 (constant S_ .f32 0x00000000#32))) (mulf (Host.dotGeneral dot_S8192x1024_S4096x1024_S8192x4096_1_1_0_0_n_n none a0 (extf .f32 a1 bitsLt_bf16_f32)) (mulf (broadcastInDim S8192x4096 ![] bcast_S_S8192x4096 (constant S_ .f32 0x40000000#32)) (maximumf a2 (broadcastInDim S8192x4096 ![] bcast_S_S8192x4096 (constant S_ .f32 0x00000000#32))))) (broadcastInDim S8192x4096 ![] bcast_S_S8192x4096 (constant S_ .f32 0x00000000#32))) bitsLt_bf16_f32) := by
  refine tile_truncf (φ := .f32) (ψ := .bf16) _ fun y => ?_
  have h := tile_mulf (φ := .f32) (host_nt (M := 8192) (K := 1024) (N := 4096) (fn2_tile a0) (fn2_tile a1))
    (tile_mulf (φ := .f32) (f := fun _ _ => two) (fun _ => rfl) (tile_relu (fn2_tile a2) (zero_host bcast_S_S8192x4096)) :
      Tile (a := 8192) (b := 4096) _ (mulf (φ := .f32) (broadcastInDim S8192x4096 ![] bcast_S_S8192x4096 (constant S_ .f32 0x40000000#32)) (maximumf a2 (broadcastInDim S8192x4096 ![] bcast_S_S8192x4096 (constant S_ .f32 0x00000000#32)))))
  refine Eq.trans ?_ (h y)
  exact slope _ _ _ _ _ _ (zero_host bcast_S_S8192x4096 y) (zero_host bcast_S_S8192x4096 y)

end Ref

theorem claim : Cert.algebraic_Kernel3Ideal_Reference3Ideal (hKernel3Ideal := Cert.Kernel3Ideal.Gen.facts)
    (hReference3Ideal := Cert.Reference3Ideal.Gen.facts) := by
  intro m g m' g' _ hm
  refine ⟨arr m, ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.Reference3Ideal.Value.run m' g')
    refine ⟨(h c).1.trans ?_, (h c).2⟩
    rw [(hm c).1, (hm c).2.1, (hm c).2.2]
    exact funext (ref _ _ _)

end Cert.MlpDpre
-- ==== Proof.MlpDw2.lean ====
/- The gradient of the channel mixer's second weight: the call's array, its reference, and their equality. -/
module

public import proofs.«01_k».proof.Proof.Dense
public import proofs.«01_k».proof.Proof.Gen.Kernel4Ideal.Value
public import proofs.«01_k».proof.Proof.Gen.Reference4Ideal.Run
public import proofs.«01_k».proof.Defs

@[expose] public section

set_option maxRecDepth 16384

noncomputable section

namespace Cert.MlpDw2

open Idealize.ShloMosaic Idealize.ShloMosaic.TcCoe Cert.Tile Cert.Dense
open Idealize.ShloMosaic.Tactic
open scoped BigOperators

/-- The gradient at row `r` and column `q`, summed over the tokens. -/
def grad (f g : ℕ → ℕ → EReal) (r q : ℕ) : EReal := part (fun t => f t r * g t q) 8192

section Kernel

open Cert.Kernel4Ideal Cert.Kernel4Ideal.Gen Cert.Kernel4Ideal.Value

section Step

variable {f g h : ℕ → ℕ → EReal} {x0 : Vec Ideal S1024x1024 .bf16} {x1 s : Vec Ideal S1024x1024 .f32}
  (hf : Tile (a := 1024) (b := 1024) f x0) (hg : Tile (a := 1024) (b := 1024) g x1) (hs : Tile (a := 1024) (b := 1024) h s)
include hf hg

theorem prod : Tile (a := 1024) (b := 1024) (fun i j => ∑ q : Fin 1024, f q.val i * g q.val j) (k0_pay1 (F := Ideal) x0 x1) := by
  unfold k0_pay1
  exact dot_tn (φ := .bf16) (ψ := .bf16) hf (tile_truncf (φ := .f32) (ψ := .bf16) _ hg) none

theorem first {c i a3 h3 a4 h4 a5 h5 a6 h6 c0 c1 c2} : Tile (a := 1024) (b := 1024) (fun i j => ∑ q : Fin 1024, f q.val i * g q.val j)
    (sout0_A_0 (F := Ideal) c i a3 h3 a4 h4 a5 h5 a6 h6 c0 c1 c2 x0 x1) := by
  unfold sout0_A_0 kernelRun0_A
  dsimp only
  refine whole_st (A := 1024) (B := 1024) (e := .f32) ?_
  unfold k0_pay2
  exact tile_shapeCast (φ := .f32) _ (prod (whole_ld (e := .bf16) hf) (whole_ld (e := .f32) hg))

include hs

theorem sum : Tile (a := 1024) (b := 1024) (fun i j => h i j + ∑ q : Fin 1024, f q.val i * g q.val j) (k0_pay3 (F := Ideal) x0 x1 s) := by
  unfold k0_pay3
  exact tile_shapeCast (φ := .f32) _ (tile_addf (φ := .f32) hs (prod hf hg))

theorem next {c i a3 h3 a4 h4 a5 h5 a6 h6 c0 c1 c2} :
    Tile (a := 1024) (b := 1024) (fun i j => h i j + ∑ q : Fin 1024, f q.val i * g q.val j)
      (sout0_B_0 (F := Ideal) c i a3 h3 a4 h4 a5 h5 a6 h6 c0 c1 c2 x0 x1 s) := by
  unfold sout0_B_0 kernelRun0_B
  dsimp only
  refine whole_st (A := 1024) (B := 1024) (e := .f32) (sum ?_ ?_ ?_)
  exacts [whole_ld (e := .bf16) hf, whole_ld (e := .f32) hg, whole_ld (e := .f32) hs]

theorem last {c i a3 h3 a4 h4 a5 h5 a6 h6 c0 c1 c2} :
    Tile (a := 1024) (b := 1024) (fun i j => h i j + ∑ q : Fin 1024, f q.val i * g q.val j)
      (out0_C_2 (F := Ideal) c i a3 h3 a4 h4 a5 h5 a6 h6 c0 c1 c2 x0 x1 s) := by
  unfold out0_C_2 kernelRun0_C
  dsimp only
  sl_unfold_words
  refine whole_st (A := 1024) (B := 1024) (e := .f32) (whole_cov (A := 1024) (B := 1024) (e := .f32) (sum ?_ ?_ ?_))
  exacts [whole_ld (e := .bf16) hf, whole_ld (e := .f32) hg, whole_ld (e := .f32) hs]

end Step

variable (m : (ℓ : Loc nD τ sig) → Buf (Elt Ideal) ℓ) (c : Dev nD)

/-- The two arguments. -/
def act : ℕ → ℕ → EReal := fn2 (A := 8192) (B := 4096) (m ((c : Thread nD τ).loc main_arg0))
def dx : ℕ → ℕ → EReal := fn2 (A := 8192) (B := 1024) (m ((c : Thread nD τ).loc main_arg1))

theorem idx_all : ∀ t : Fin cfg0.N, win0_0.index t = ![t.val % 8, t.val / 8] ∧ win0_1.index t = ![t.val % 8, 0]
    ∧ win0_2.index t = ![t.val / 8, 0] := by
  decide +kernel

theorem act_blk (t : Fin cfg0.N) : Tile (a := 1024) (b := 1024) (fun r q => act m c (1024 * (t.val % 8) + r) (1024 * (t.val / 8) + q)) (iblk m c 0 t) := by
  have h := (idx_all t).1
  exact blk (A := 8192) (B := 4096) (o := 1024 * (t.val % 8)) (p := 1024 * (t.val / 8)) (fn2_tile (m ((c : Thread nD τ).loc main_arg0)))
    (((cfg0.win 0).blk t).view.emb) fun y => ⟨by blk_simp [h]; omega, by blk_simp [h]; omega⟩

theorem dx_blk (t : Fin cfg0.N) : Tile (a := 1024) (b := 1024) (fun r q => dx m c (1024 * (t.val % 8) + r) (0 + q)) (iblk m c 1 t) := by
  have h := (idx_all t).2.1
  exact blk (A := 8192) (B := 1024) (o := 1024 * (t.val % 8)) (p := 0) (fn2_tile (m ((c : Thread nD τ).loc main_arg1)))
    (((cfg0.win 1).blk t).view.emb) fun y => ⟨by blk_simp [h]; omega, by blk_simp [h]⟩

theorem out_at : ∀ (n : ℕ) (hn : n < cfg0.N), n % 8 = 8 - 1 → Tile (a := 1024) (b := 1024)
    (fun r q => grad (act m c) (dx m c) (1024 * (n / 8) + r) (0 + q)) (outsAt0 m c n hn).1 :=
  runs_out (K := 1024) (by decide) (fun n hn => (outsAt0 m c n hn).2) (fun n hn => (outsAt0 m c n hn).1)
    (fun i r q t => act m c t (1024 * i + r) * dx m c t (0 + q)) (fun _ _ _ x => x)
    (fun n hn h => by
      rw [outsAt0_A m c ⟨n, hn⟩ h (by dsimp only; omega) (by dsimp only; omega)]
      dsimp only
      exact (first (act_blk m c ⟨n, hn⟩) (dx_blk m c ⟨n, hn⟩)).congr fun _ _ _ _ => rfl)
    (fun n hn f h hl hf => by
      rw [outsAt0_B m c ⟨n, hn⟩ (by dsimp only; omega) h hl]
      dsimp only
      exact (next (act_blk m c ⟨n, hn⟩) (dx_blk m c ⟨n, hn⟩) hf).congr fun _ _ _ _ => rfl)
    (fun n hn f h hf => by
      rw [outsAt0_C m c ⟨n, hn⟩ (by dsimp only; omega) (by dsimp only; omega) h]
      dsimp only
      exact (last (act_blk m c ⟨n, hn⟩) (dx_blk m c ⟨n, hn⟩) hf).congr fun _ _ _ _ => rfl)

def arr (c : Dev nD) : S4096x1024.Idx → EReal := fun y => grad (act m c) (dx m c) (y 0).val (y 1).val

theorem final : (dats m 0 c).arrAt 2 cfg0.N = arr m c := by
  refine (dats m 0 c).arrAt_eq_of_covers 2 _ (by decide +kernel) fun t hf y => ?_
  have hw := (idx_all t).2.2
  refine (out_at m c t.val t.isLt ((flush0_2 t).mp hf) y).trans ?_
  unfold arr
  blk_simp [hw]
  rw [Nat.mul_comm 1024]

end Kernel

section Ref

open Cert.Reference4Ideal Cert.Reference4Ideal.Gen

theorem ref (a0 : FVec Ideal S8192x4096 .bf16) (a1 : FVec Ideal S8192x1024 .f32) :
    transpose S4096x1024 [1, 0] (Host.dotGeneral dot_S8192x1024_S8192x4096_S1024x4096_0_0_1_1_n_n none a1 (extf .f32 a0 bitsLt_bf16_f32))
      transposes_S1024x4096_S4096x1024_1_0
    = fun y => grad (fn2 (A := 8192) (B := 4096) a0) (fn2 (A := 8192) (B := 1024) a1) (y 0).val (y 1).val :=
  funext (host_gw (M := 4096) (K := 8192) (N := 1024) _ (fn2_tile a0) (fn2_tile a1))

end Ref

theorem claim : Cert.algebraic_Kernel4Ideal_Reference4Ideal (hKernel4Ideal := Cert.Kernel4Ideal.Gen.facts)
    (hReference4Ideal := Cert.Reference4Ideal.Gen.facts) := by
  intro m g m' g' _ hm
  refine ⟨arr m, ?_, ?_⟩
  · refine (θ_run _ _ _).mono (fun r h c => ?_) (Cert.Kernel4Ideal.Value.run_blocks m g)
    exact ⟨(h c).1.trans (final m c), (h c).2⟩
  · refine (θ_run _ _ _).mono (fun r h c => ?_) (Cert.Reference4Ideal.Value.run m' g')
    refine ⟨(h c).1.trans ?_, (h c).2⟩
    rw [(hm c).1, (hm c).2]
    exact ref _ _

end Cert.MlpDw2
-- ==== Proof.MlpDw1.lean ====
/- The gradient of the channel mixer's first weight: the call's array, its reference, and their equality. -/
module

public import proofs.«01_k».proof.Proof.Dense
public import proofs.«01_k».proof.Proof.Gen.Kernel5Ideal.Value
public import proofs.«01_k».proof.Proof.Gen.Reference5Ideal.Run
public import proofs.«01_k».proof.Defs

@[expose] public section

set_option maxRecDepth 16384

noncomputable section

namespace Cert.MlpDw1

open Idealize.ShloMosaic Idealize.ShloMosaic.TcCoe Cert.Tile Cert.Dense
open Idealize.ShloMosaic.Tactic
open scoped BigOperators

/-- The gradient at feature `r` and hidden column `q`, summed over the tokens. -/
def grad (f g : ℕ → ℕ → EReal) (r q : ℕ) : EReal := part (fun t => f t r * g t q) 8192

section Kernel

open Cert.Kernel5Ideal Cert.Kernel5Ideal.Gen Cert.Kernel5Ideal.Value

section Step

variable {f g h : ℕ → ℕ → EReal} {x0 x1 : Vec Ideal S1024x1024 .bf16} {s : Vec Ideal S1024x1024 .f32}
  (hf : Tile (a := 1024) (b := 1024) f x0) (hg : Tile (a := 1024) (b := 1024) g x1) (hs : Tile (a := 1024) (b := 1024) h s)
include hf hg

theorem prod : Tile (a := 1024) (b := 1024) (fun i j => ∑ q : Fin 1024, f q.val i * g q.val j) (k0_pay1 (F := Ideal) x0 x1) := by
  unfold k0_pay1
  exact dot_tn (φ := .bf16) (ψ := .bf16) hf hg none

theorem first {c i a3 h3 a4 h4 a5 h5 a6 h6 c0 c1 c2} : Tile (a := 1024) (b := 1024) (fun i j => ∑ q : Fin 1024, f q.val i * g q.val j)
    (sout0_A_0 (F := Ideal) c i a3 h3 a4 h4 a5 h5 a6 h6 c0 c1 c2 x0 x1) := by
  unfold sout0_A_0 kernelRun0_A
  dsimp only
  refine whole_st (A := 1024) (B := 1024) (e := .f32) ?_
  unfold k0_pay2
  exact tile_shapeCast (φ := .f32) _ (prod (whole_ld (e := .bf16) hf) (whole_ld (e := .bf16) hg))

include hs

theorem sum : Tile (a := 1024) (b := 1024) (fun i j => h i j + ∑ q : Fin 1024, f q.val i * g q.val j) (k0_pay3 (F := Ideal) x0 x1 s) := by
  unfold k0_pay3
  exact tile_shapeCast (φ := .f32) _ (tile_addf (φ := .f32) hs (prod hf hg))

theorem next {c i a3 h3 a4 h4 a5 h5 a6 h6 c0 c1 c2} :
    Tile (a := 1024) (b := 1024) (fun i j => h i j + ∑ q : Fin 1024, f q.val i * g q.val j)
      (sout0_B_0 (F := Ideal) c i a3 h3 a4 h4 a5 h5 a6 h6 c0 c1 c2 x0 x1 s) := by
  unfold sout0_B_0 kernelRun0_B
  dsimp only
  refine whole_st (A := 1024) (B := 1024) (e := .f32) (sum ?_ ?_ ?_)
  exacts [whole_ld (e := .bf16) hf, whole_ld (e := .bf16) hg, whole_ld (e := .f32) hs]

theorem last {c i a3 h3 a4 h4 a5 h5 a6 h6 c0 c1 c2} :
    Tile (a := 1024) (b := 1024) (fun i j => h i j + ∑ q : Fin 1024, f q.val i * g q.val j)
      (out0_C_2 (F := Ideal) c i a3 h3 a4 h4 a5 h5 a6 h6 c0 c1 c2 x0 x1 s) := by
  unfold out0_C_2 kernelRun0_C
  dsimp only
  sl_unfold_words
  refine whole_st (A := 1024) (B := 1024) (e := .f32) (whole_cov (A := 1024) (B := 1024) (e := .f32) (sum ?_ ?_ ?_))
  exacts [whole_ld (e := .bf16) hf, whole_ld (e := .bf16) hg, whole_ld (e := .f32) hs]

end Step

variable (m : (ℓ : Loc nD τ sig) → Buf (Elt Ideal) ℓ) (c : Dev nD)

/-- The two arguments. -/
def x : ℕ → ℕ → EReal := fn2 (A := 8192) (B := 1024) (m ((c : Thread nD τ).loc main_arg0))
def dpre : ℕ → ℕ → EReal := fn2 (A := 8192) (B := 4096) (m ((c : Thread nD τ).loc main_arg1))

theorem idx_all : ∀ t : Fin cfg0.N, win0_0.index t = ![t.val % 8, 0] ∧ win0_1.index t = ![t.val % 8, t.val / 8]
    ∧ win0_2.index t = ![0, t.val / 8] := by
  decide +kernel

theorem x_blk (t : Fin cfg0.N) : Tile (a := 1024) (b := 1024) (fun r q => x m c (1024 * (t.val % 8) + r) (0 + q)) (iblk m c 0 t) := by
  have e := (idx_all t).1
  exact blk (A := 8192) (B := 1024) (o := 1024 * (t.val % 8)) (p := 0) (fn2_tile (m ((c : Thread nD τ).loc main_arg0)))
    (((cfg0.win 0).blk t).view.emb) fun y => ⟨by blk_simp [e]; omega, by blk_simp [e]⟩

theorem dpre_blk (t : Fin cfg0.N) : Tile (a := 1024) (b := 1024) (fun r q => dpre m c (1024 * (t.val % 8) + r) (t.val / 8 * 1024 + q)) (iblk m c 1 t) := by
  have e := (idx_all t).2.1
  exact blk (A := 8192) (B := 4096) (o := 1024 * (t.val % 8)) (p := t.val / 8 * 1024) (fn2_tile (m ((c : Thread nD τ).loc main_arg1)))
    (((cfg0.win 1).blk t).view.emb) fun y => ⟨by blk_simp [e]; omega, by blk_simp [e]⟩

theorem out_at : ∀ (n : ℕ) (hn : n < cfg0.N), n % 8 = 8 - 1 → Tile (a := 1024) (b := 1024)
    (fun r q => grad (x m c) (dpre m c) (0 + r) (n / 8 * 1024 + q)) (outsAt0 m c n hn).1 :=
  runs_out (K := 1024) (by decide) (fun n hn => (outsAt0 m c n hn).2) (fun n hn => (outsAt0 m c n hn).1)
    (fun i r q t => x m c t (0 + r) * dpre m c t (i * 1024 + q)) (fun _ _ _ x => x)
    (fun n hn h => by
      rw [outsAt0_A m c ⟨n, hn⟩ h (by dsimp only; omega) (by dsimp only; omega)]
      dsimp only
      exact (first (x_blk m c ⟨n, hn⟩) (dpre_blk m c ⟨n, hn⟩)).congr fun _ _ _ _ => rfl)
    (fun n hn f h hl hf => by
      rw [outsAt0_B m c ⟨n, hn⟩ (by dsimp only; omega) h hl]
      dsimp only
      exact (next (x_blk m c ⟨n, hn⟩) (dpre_blk m c ⟨n, hn⟩) hf).congr fun _ _ _ _ => rfl)
    (fun n hn f h hf => by
      rw [outsAt0_C m c ⟨n, hn⟩ (by dsimp only; omega) (by dsimp only; omega) h]
      dsimp only
      exact (last (x_blk m c ⟨n, hn⟩) (dpre_blk m c ⟨n, hn⟩) hf).congr fun _ _ _ _ => rfl)

def arr (c : Dev nD) : S1024x4096.Idx → EReal := fun y => grad (x m c) (dpre m c) (y 0).val (y 1).val

theorem final : (dats m 0 c).arrAt 2 cfg0.N = arr m c := by
  refine (dats m 0 c).arrAt_eq_of_covers 2 _ (by decide +kernel) fun t hf y => ?_
  have e := (idx_all t).2.2
  refine (out_at m c t.val t.isLt ((flush0_2 t).mp hf) y).trans ?_
  unfold arr
  blk_simp [e]

end Kernel

section Ref

open Cert.Reference5Ideal Cert.Reference5Ideal.Gen

theorem ref (a0 : FVec Ideal S8192x1024 .bf16) (a1 : FVec Ideal S8192x4096 .bf16) :
    transpose S1024x4096 [1, 0] (Host.dotGeneral dot_S8192x4096_S8192x1024_S4096x1024_0_0_1_1_n_n none (extf .f32 a1 bitsLt_bf16_f32) (extf .f32 a0 bitsLt_bf16_f32))
      transposes_S4096x1024_S1024x4096_1_0
    = fun y => grad (fn2 (A := 8192) (B := 1024) a0) (fn2 (A := 8192) (B := 4096) a1) (y 0).val (y 1).val :=
  funext (host_gw (M := 1024) (K := 8192) (N := 4096) _ (fn2_tile a0) (fn2_tile a1))

end Ref

theorem claim : Cert.algebraic_Kernel5Ideal_Reference5Ideal (hKernel5Ideal := Cert.Kernel5Ideal.Gen.facts)
    (hReference5Ideal := Cert.Reference5Ideal.Gen.facts) := by
  intro m g m' g' _ hm
  refine ⟨arr m, ?_, ?_⟩
  · refine (θ_run _ _ _).mono (fun r h c => ?_) (Cert.Kernel5Ideal.Value.run_blocks m g)
    exact ⟨(h c).1.trans (final m c), (h c).2⟩
  · refine (θ_run _ _ _).mono (fun r h c => ?_) (Cert.Reference5Ideal.Value.run m' g')
    refine ⟨(h c).1.trans ?_, (h c).2⟩
    rw [(hm c).1, (hm c).2]
    exact ref _ _

end Cert.MlpDw1
-- ==== Proof.MlpDh.lean ====
/- The gradient at the channel mixer's input: the call's array, its reference, and their equality. -/
module

public import proofs.«01_k».proof.Proof.Dense
public import proofs.«01_k».proof.Proof.Gen.Kernel6Ideal.Value
public import proofs.«01_k».proof.Proof.Gen.Reference6Ideal.Run
public import proofs.«01_k».proof.Defs

@[expose] public section

set_option maxRecDepth 16384

noncomputable section

namespace Cert.MlpDh

open Idealize.ShloMosaic Idealize.ShloMosaic.TcCoe Cert.Tile Cert.Dense
open Idealize.ShloMosaic.Tactic
open scoped BigOperators

/-- The gradient of token `r` at feature `q`, summed over the hidden columns. -/
def grad (f g : ℕ → ℕ → EReal) (r q : ℕ) : EReal := part (fun t => f r t * g q t) 4096

section Kernel

open Cert.Kernel6Ideal Cert.Kernel6Ideal.Gen Cert.Kernel6Ideal.Value

section Step

variable {f g h : ℕ → ℕ → EReal} {x0 x1 : Vec Ideal S1024x2048 .bf16} {s : Vec Ideal S1024x1024 .f32}
  (hf : Tile (a := 1024) (b := 2048) f x0) (hg : Tile (a := 1024) (b := 2048) g x1) (hs : Tile (a := 1024) (b := 1024) h s)
include hf hg

theorem prod : Tile (a := 1024) (b := 1024) (fun i j => ∑ q : Fin 2048, f i q.val * g j q.val) (k0_pay1 (F := Ideal) x0 x1) := by
  unfold k0_pay1
  exact dot_nt (φ := .bf16) (ψ := .bf16) hf hg none

theorem first {c i a3 h3 a4 h4 a5 h5 a6 h6 c0 c1 c2} : Tile (a := 1024) (b := 1024) (fun i j => ∑ q : Fin 2048, f i q.val * g j q.val)
    (sout0_A_0 (F := Ideal) c i a3 h3 a4 h4 a5 h5 a6 h6 c0 c1 c2 x0 x1) := by
  unfold sout0_A_0 kernelRun0_A
  dsimp only
  refine whole_st (A := 1024) (B := 1024) (e := .f32) ?_
  unfold k0_pay2
  exact tile_shapeCast (φ := .f32) _ (prod (whole_ld (e := .bf16) hf) (whole_ld (e := .bf16) hg))

include hs

theorem last {c i a3 h3 a4 h4 a5 h5 a6 h6 c0 c1 c2} :
    Tile (a := 1024) (b := 1024) (fun i j => h i j + ∑ q : Fin 2048, f i q.val * g j q.val)
      (out0_B_2 (F := Ideal) c i a3 h3 a4 h4 a5 h5 a6 h6 c0 c1 c2 x0 x1 s) := by
  unfold out0_B_2 kernelRun0_B
  dsimp only
  sl_unfold_words
  refine whole_st (A := 1024) (B := 1024) (e := .f32) (whole_cov (A := 1024) (B := 1024) (e := .f32) ?_)
  unfold k0_pay3
  refine tile_shapeCast (φ := .f32) _ (tile_addf (φ := .f32) ?_ (prod ?_ ?_))
  exacts [whole_ld (e := .f32) hs, whole_ld (e := .bf16) hf, whole_ld (e := .bf16) hg]

end Step

variable (m : (ℓ : Loc nD τ sig) → Buf (Elt Ideal) ℓ) (c : Dev nD)

/-- The two arguments. -/
def dpre : ℕ → ℕ → EReal := fn2 (A := 8192) (B := 4096) (m ((c : Thread nD τ).loc main_arg0))
def w : ℕ → ℕ → EReal := fn2 (A := 1024) (B := 4096) (m ((c : Thread nD τ).loc main_arg1))

theorem idx_all : ∀ t : Fin cfg0.N, win0_0.index t = ![t.val / 2, t.val % 2] ∧ win0_1.index t = ![0, t.val % 2]
    ∧ win0_2.index t = ![t.val / 2, 0] := by
  decide +kernel

theorem dpre_blk (t : Fin cfg0.N) : Tile (a := 1024) (b := 2048) (fun r q => dpre m c (t.val / 2 * 1024 + r) (2048 * (t.val % 2) + q)) (iblk m c 0 t) := by
  have e := (idx_all t).1
  exact blk (A := 8192) (B := 4096) (o := t.val / 2 * 1024) (p := 2048 * (t.val % 2)) (fn2_tile (m ((c : Thread nD τ).loc main_arg0)))
    (((cfg0.win 0).blk t).view.emb) fun y => ⟨by blk_simp [e], by blk_simp [e]; omega⟩

theorem w_blk (t : Fin cfg0.N) : Tile (a := 1024) (b := 2048) (fun r q => w m c (0 + r) (2048 * (t.val % 2) + q)) (iblk m c 1 t) := by
  have e := (idx_all t).2.1
  exact blk (A := 1024) (B := 4096) (o := 0) (p := 2048 * (t.val % 2)) (fn2_tile (m ((c : Thread nD τ).loc main_arg1)))
    (((cfg0.win 1).blk t).view.emb) fun y => ⟨by blk_simp [e], by blk_simp [e]; omega⟩

theorem out_at : ∀ (n : ℕ) (hn : n < cfg0.N), n % 2 = 2 - 1 → Tile (a := 1024) (b := 1024)
    (fun r q => grad (dpre m c) (w m c) (n / 2 * 1024 + r) (0 + q)) (outsAt0 m c n hn).1 :=
  runs_out (K := 2048) (by decide) (fun n hn => (outsAt0 m c n hn).2) (fun n hn => (outsAt0 m c n hn).1)
    (fun i r q t => dpre m c (i * 1024 + r) t * w m c (0 + q) t) (fun _ _ _ x => x)
    (fun n hn h => by
      rw [outsAt0_A m c ⟨n, hn⟩ h (by dsimp only; omega) (by dsimp only; omega)]
      dsimp only
      exact (first (dpre_blk m c ⟨n, hn⟩) (w_blk m c ⟨n, hn⟩)).congr fun _ _ _ _ => rfl)
    (fun n hn f h hl hf => by omega)
    (fun n hn f h hf => by
      rw [outsAt0_B m c ⟨n, hn⟩ (by dsimp only; omega) h h]
      dsimp only
      exact (last (dpre_blk m c ⟨n, hn⟩) (w_blk m c ⟨n, hn⟩) hf).congr fun _ _ _ _ => rfl)

def arr (c : Dev nD) : S8192x1024.Idx → EReal := fun y => grad (dpre m c) (w m c) (y 0).val (y 1).val

theorem final : (dats m 0 c).arrAt 2 cfg0.N = arr m c := by
  refine (dats m 0 c).arrAt_eq_of_covers 2 _ (by decide +kernel) fun t hf y => ?_
  have e := (idx_all t).2.2
  refine (out_at m c t.val t.isLt ((flush0_2 t).mp hf) y).trans ?_
  unfold arr
  blk_simp [e]

end Kernel

section Ref

open Cert.Reference6Ideal Cert.Reference6Ideal.Gen

theorem ref (a0 : FVec Ideal S8192x4096 .bf16) (a1 : FVec Ideal S1024x4096 .bf16) :
    Host.dotGeneral dot_S8192x4096_S1024x4096_S8192x1024_1_1_0_0_n_n none (extf .f32 a0 bitsLt_bf16_f32) (extf .f32 a1 bitsLt_bf16_f32)
    = fun y => grad (fn2 (A := 8192) (B := 4096) a0) (fn2 (A := 1024) (B := 4096) a1) (y 0).val (y 1).val :=
  funext (host_nt (M := 8192) (K := 4096) (N := 1024) (fn2_tile a0) (fn2_tile a1))

end Ref

theorem claim : Cert.algebraic_Kernel6Ideal_Reference6Ideal (hKernel6Ideal := Cert.Kernel6Ideal.Gen.facts)
    (hReference6Ideal := Cert.Reference6Ideal.Gen.facts) := by
  intro m g m' g' _ hm
  refine ⟨arr m, ?_, ?_⟩
  · refine (θ_run _ _ _).mono (fun r h c => ?_) (Cert.Kernel6Ideal.Value.run_blocks m g)
    exact ⟨(h c).1.trans (final m c), (h c).2⟩
  · refine (θ_run _ _ _).mono (fun r h c => ?_) (Cert.Reference6Ideal.Value.run m' g')
    refine ⟨(h c).1.trans ?_, (h c).2⟩
    rw [(hm c).1, (hm c).2]
    exact ref _ _

end Cert.MlpDh
-- ==== Proof.OutProj.lean ====
/- The mixer's output projection: the product added to the stream, the gradient at its input and the gradient of its weight,
   each call's array, its reference, and their equality. -/
module

public import proofs.«01_k».proof.Proof.Dense
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel18Ideal.Value
public import proofs.«01_k».proof.Proof.Gen.Reference18Ideal.Run
public import proofs.«01_k».proof.Defs

@[expose] public section

set_option maxRecDepth 16384

noncomputable section

open Idealize.ShloMosaic Idealize.ShloMosaic.TcCoe Cert.Tile Cert.Dense
open Idealize.ShloMosaic.Tactic
open scoped BigOperators

namespace Cert.OutDa

section Kernel

open Cert.Kernel7Ideal Cert.Kernel7Ideal.Gen Cert.Kernel7Ideal.Value

theorem step {f g : ℕ → ℕ → EReal} {x0 : Vec Ideal S1024x1024 .f32} {x1 : Vec Ideal S1024x1024 .bf16}
    (hf : Tile (a := 1024) (b := 1024) f x0) (hg : Tile (a := 1024) (b := 1024) g x1) :
    Tile (a := 1024) (b := 1024) (nt 1024 f g) (out0_2 (F := Ideal) x0 x1) := by
  unfold out0_2
  refine whole_canon (e := .f32) ?_
  unfold k0_pay1
  exact whole_nt (φ := .bf16) (ψ := .bf16) (tile_truncf (φ := .f32) (ψ := .bf16) _ (whole_lds (e := .f32) hf)) (whole_lds (e := .bf16) hg)

variable (m : (ℓ : Loc nD τ sig) → Buf (Elt Ideal) ℓ) (c : Dev nD)

/-- The two arguments. -/
def dx : ℕ → ℕ → EReal := fn2 (A := 8192) (B := 1024) (m ((c : Thread nD τ).loc main_arg0))
def w : ℕ → ℕ → EReal := fn2 (A := 1024) (B := 1024) (m ((c : Thread nD τ).loc main_arg1))

theorem idx_all : ∀ t : Fin cfg0.N, win0_0.index t = ![t.val, 0] ∧ win0_1.index t = ![0, 0] ∧ win0_2.index t = ![t.val, 0] := by
  decide +kernel

theorem dx_blk (t : Fin cfg0.N) : Tile (a := 1024) (b := 1024) (fun r q => dx m c (t.val * 1024 + r) (0 + q)) (iblk m c 0 t) := by
  have e := (idx_all t).1
  exact blk (A := 8192) (B := 1024) (o := t.val * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 1024) (fun r q => w m c (0 + r) (0 + q)) (iblk m c 1 t) := by
  have e := (idx_all t).2.1
  exact blk (A := 1024) (B := 1024) (o := 0) (p := 0) (fn2_tile (m ((c : Thread nD τ).loc main_arg1)))
    (((cfg0.win 1).blk t).view.emb) fun y => ⟨by blk_simp [e], by blk_simp [e]⟩

def arr (c : Dev nD) : S8192x1024.Idx → EReal := fun y => nt 1024 (dx m c) (w m c) (y 0).val (y 1).val

theorem final : (dats m 0 c).arrAt 2 cfg0.N = arr m c := by
  refine (dats m 0 c).arrAt_eq_of_covers 2 _ (by decide +kernel) fun t hf y => ?_
  have e := (idx_all t).2.2
  refine (congrFun (after0_2 m c t) _).trans ?_
  refine (step (dx_blk m c t) (w_blk m c t) y).trans ((nt_at _ _ _ _ _ _).trans ?_)
  unfold arr
  blk_simp [e]

end Kernel

section Ref

open Cert.Reference7Ideal Cert.Reference7Ideal.Gen

theorem ref (a0 : FVec Ideal S8192x1024 .f32) (a1 : FVec Ideal S1024x1024 .bf16) :
    Host.dotGeneral dot_S8192x1024_S1024x1024_S8192x1024_1_1_0_0_n_n none a0 (extf .f32 a1 bitsLt_bf16_f32)
    = fun y => nt 1024 (fn2 (A := 8192) (B := 1024) a0) (fn2 (A := 1024) (B := 1024) a1) (y 0).val (y 1).val :=
  funext (host_nt (M := 8192) (K := 1024) (N := 1024) (fn2_tile a0) (fn2_tile a1))

end Ref

theorem claim : Cert.algebraic_Kernel7Ideal_Reference7Ideal (hKernel7Ideal := Cert.Kernel7Ideal.Gen.facts)
    (hReference7Ideal := Cert.Reference7Ideal.Gen.facts) := by
  intro m g m' g' _ hm
  refine ⟨arr m, ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run m' g')
    refine ⟨(h c).1.trans ?_, (h c).2⟩
    rw [(hm c).1, (hm c).2]
    exact ref _ _

end Cert.OutDa

namespace Cert.OutDw

section Kernel

open Cert.Kernel8Ideal Cert.Kernel8Ideal.Gen Cert.Kernel8Ideal.Value

section Step

variable {f g h : ℕ → ℕ → EReal} {x0 : Vec Ideal S1024x1024 .bf16} {x1 s : Vec Ideal S1024x1024 .f32}
  (hf : Tile (a := 1024) (b := 1024) f x0) (hg : Tile (a := 1024) (b := 1024) g x1) (hs : Tile (a := 1024) (b := 1024) h s)
include hf hg

theorem prod : Tile (a := 1024) (b := 1024) (fun i j => ∑ q : Fin 1024, f q.val i * g q.val j) (k0_pay1 (F := Ideal) x0 x1) := by
  unfold k0_pay1
  exact dot_tn (φ := .bf16) (ψ := .bf16) hf (tile_truncf (φ := .f32) (ψ := .bf16) _ hg) none

theorem first {c i a3 h3 a4 h4 a5 h5 a6 h6 c0 c1 c2} : Tile (a := 1024) (b := 1024) (fun i j => ∑ q : Fin 1024, f q.val i * g q.val j)
    (sout0_A_0 (F := Ideal) c i a3 h3 a4 h4 a5 h5 a6 h6 c0 c1 c2 x0 x1) := by
  unfold sout0_A_0 kernelRun0_A
  dsimp only
  refine whole_st (A := 1024) (B := 1024) (e := .f32) ?_
  unfold k0_pay2
  exact tile_shapeCast (φ := .f32) _ (prod (whole_ld (e := .bf16) hf) (whole_ld (e := .f32) hg))

include hs

theorem sum : Tile (a := 1024) (b := 1024) (fun i j => h i j + ∑ q : Fin 1024, f q.val i * g q.val j) (k0_pay3 (F := Ideal) x0 x1 s) := by
  unfold k0_pay3
  exact tile_shapeCast (φ := .f32) _ (tile_addf (φ := .f32) hs (prod hf hg))

theorem next {c i a3 h3 a4 h4 a5 h5 a6 h6 c0 c1 c2} :
    Tile (a := 1024) (b := 1024) (fun i j => h i j + ∑ q : Fin 1024, f q.val i * g q.val j)
      (sout0_B_0 (F := Ideal) c i a3 h3 a4 h4 a5 h5 a6 h6 c0 c1 c2 x0 x1 s) := by
  unfold sout0_B_0 kernelRun0_B
  dsimp only
  refine whole_st (A := 1024) (B := 1024) (e := .f32) (sum ?_ ?_ ?_)
  exacts [whole_ld (e := .bf16) hf, whole_ld (e := .f32) hg, whole_ld (e := .f32) hs]

theorem last {c i a3 h3 a4 h4 a5 h5 a6 h6 c0 c1 c2} :
    Tile (a := 1024) (b := 1024) (fun i j => h i j + ∑ q : Fin 1024, f q.val i * g q.val j)
      (out0_C_2 (F := Ideal) c i a3 h3 a4 h4 a5 h5 a6 h6 c0 c1 c2 x0 x1 s) := by
  unfold out0_C_2 kernelRun0_C
  dsimp only
  sl_unfold_words
  refine whole_st (A := 1024) (B := 1024) (e := .f32) (whole_cov (A := 1024) (B := 1024) (e := .f32) (sum ?_ ?_ ?_))
  exacts [whole_ld (e := .bf16) hf, whole_ld (e := .f32) hg, whole_ld (e := .f32) hs]

end Step

variable (m : (ℓ : Loc nD τ sig) → Buf (Elt Ideal) ℓ) (c : Dev nD)

/-- The two arguments. -/
def merged : ℕ → ℕ → EReal := fn2 (A := 8192) (B := 1024) (m ((c : Thread nD τ).loc main_arg0))
def dx : ℕ → ℕ → EReal := fn2 (A := 8192) (B := 1024) (m ((c : Thread nD τ).loc main_arg1))

theorem idx_all : ∀ t : Fin cfg0.N, win0_0.index t = ![t.val % 8, 0] ∧ win0_1.index t = ![t.val % 8, 0] ∧ win0_2.index t = ![0, 0] := by
  decide +kernel

theorem merged_blk (t : Fin cfg0.N) : Tile (a := 1024) (b := 1024) (fun r q => merged m c (1024 * (t.val % 8) + r) (0 + q)) (iblk m c 0 t) := by
  have e := (idx_all t).1
  exact blk (A := 8192) (B := 1024) (o := 1024 * (t.val % 8)) (p := 0) (fn2_tile (m ((c : Thread nD τ).loc main_arg0)))
    (((cfg0.win 0).blk t).view.emb) fun y => ⟨by blk_simp [e]; omega, by blk_simp [e]⟩

theorem dx_blk (t : Fin cfg0.N) : Tile (a := 1024) (b := 1024) (fun r q => dx m c (1024 * (t.val % 8) + r) (0 + q)) (iblk m c 1 t) := by
  have e := (idx_all t).2.1
  exact blk (A := 8192) (B := 1024) (o := 1024 * (t.val % 8)) (p := 0) (fn2_tile (m ((c : Thread nD τ).loc main_arg1)))
    (((cfg0.win 1).blk t).view.emb) fun y => ⟨by blk_simp [e]; omega, by blk_simp [e]⟩

theorem out_at : ∀ (n : ℕ) (hn : n < cfg0.N), n % 8 = 8 - 1 → Tile (a := 1024) (b := 1024)
    (fun r q => tn 8192 (merged m c) (dx m c) (0 + r) (0 + q)) (outsAt0 m c n hn).1 :=
  runs_out (K := 1024) (by decide) (fun n hn => (outsAt0 m c n hn).2) (fun n hn => (outsAt0 m c n hn).1)
    (fun _ r q t => merged m c t (0 + r) * dx m c t (0 + q)) (fun _ _ _ x => x)
    (fun n hn h => by
      have hN : n < 8 := lt_of_lt_of_eq hn N_0
      rw [outsAt0_A m c ⟨n, hn⟩ h (by dsimp only; omega) (by dsimp only; omega)]
      dsimp only
      exact (first (merged_blk m c ⟨n, hn⟩) (dx_blk m c ⟨n, hn⟩)).congr fun _ _ _ _ => rfl)
    (fun n hn f h hl hf => by
      rw [outsAt0_B m c ⟨n, hn⟩ (by dsimp only; omega) (by dsimp only; omega) hl]
      dsimp only
      exact (next (merged_blk m c ⟨n, hn⟩) (dx_blk m c ⟨n, hn⟩) hf).congr fun _ _ _ _ => rfl)
    (fun n hn f h hf => by
      rw [outsAt0_C m c ⟨n, hn⟩ (by dsimp only; omega) (by dsimp only; omega) h]
      dsimp only
      exact (last (merged_blk m c ⟨n, hn⟩) (dx_blk m c ⟨n, hn⟩) hf).congr fun _ _ _ _ => rfl)

def arr (c : Dev nD) : S1024x1024.Idx → EReal := fun y => tn 8192 (merged m c) (dx m c) (y 0).val (y 1).val

theorem final : (dats m 0 c).arrAt 2 cfg0.N = arr m c := by
  refine (dats m 0 c).arrAt_eq_of_covers 2 _ (by decide +kernel) fun t hf y => ?_
  have e := (idx_all t).2.2
  refine (out_at m c t.val t.isLt ((flush0_2 t).mp hf) y).trans ?_
  unfold arr
  blk_simp [e]

end Kernel

section Ref

open Cert.Reference8Ideal Cert.Reference8Ideal.Gen

theorem ref (a0 : FVec Ideal S8192x1024 .bf16) (a1 : FVec Ideal S8192x1024 .f32) :
    transpose S1024x1024 [1, 0] (Host.dotGeneral dot_S8192x1024_S8192x1024_S1024x1024_0_0_1_1_n_n none a1 (extf .f32 a0 bitsLt_bf16_f32))
      transposes_S1024x1024_S1024x1024_1_0
    = fun y => tn 8192 (fn2 (A := 8192) (B := 1024) a0) (fn2 (A := 8192) (B := 1024) a1) (y 0).val (y 1).val :=
  funext (host_gw (M := 1024) (K := 8192) (N := 1024) _ (fn2_tile a0) (fn2_tile a1))

end Ref

theorem claim : Cert.algebraic_Kernel8Ideal_Reference8Ideal (hKernel8Ideal := Cert.Kernel8Ideal.Gen.facts)
    (hReference8Ideal := Cert.Reference8Ideal.Gen.facts) := by
  intro m g m' g' _ hm
  refine ⟨arr m, ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run m' g')
    refine ⟨(h c).1.trans ?_, (h c).2⟩
    rw [(hm c).1, (hm c).2]
    exact ref _ _

end Cert.OutDw

namespace Cert.OutFwd

/-- Token `r`'s stream at feature `q`: what came in, and the projection. -/
def out (f g p : ℕ → ℕ → EReal) (r q : ℕ) : EReal := p r q + nn 1024 f g r q

section Kernel

open Cert.Kernel18Ideal Cert.Kernel18Ideal.Gen Cert.Kernel18Ideal.Value

theorem step {f g p : ℕ → ℕ → EReal} {x0 x1 : Vec Ideal S1024x1024 .bf16} {x2 : Vec Ideal S1024x1024 .f32}
    (hf : Tile (a := 1024) (b := 1024) f x0) (hg : Tile (a := 1024) (b := 1024) g x1) (hp : Tile (a := 1024) (b := 1024) p x2) :
    Tile (a := 1024) (b := 1024) (out f g p) (out0_3 (F := Ideal) x0 x1 x2) := by
  unfold out0_3
  refine whole_canon (e := .f32) ?_
  unfold k0_pay1
  refine (tile_addf (φ := .f32) (whole_nn (φ := .bf16) (ψ := .bf16) ?_ ?_) ?_).congr fun _ _ _ _ => add_comm _ _
  exacts [whole_lds (e := .bf16) hf, whole_lds (e := .bf16) hg, whole_lds (e := .f32) hp]

variable (m : (ℓ : Loc nD τ sig) → Buf (Elt Ideal) ℓ) (c : Dev nD)

/-- The three arguments. -/
def merged : ℕ → ℕ → EReal := fn2 (A := 8192) (B := 1024) (m ((c : Thread nD τ).loc main_arg0))
def w : ℕ → ℕ → EReal := fn2 (A := 1024) (B := 1024) (m ((c : Thread nD τ).loc main_arg1))
def x : ℕ → ℕ → EReal := fn2 (A := 8192) (B := 1024) (m ((c : Thread nD τ).loc main_arg2))

theorem idx_all : ∀ t : Fin cfg0.N, win0_0.index t = ![t.val, 0] ∧ win0_1.index t = ![0, 0]
    ∧ win0_2.index t = ![t.val, 0] ∧ win0_3.index t = ![t.val, 0] := by
  decide +kernel

theorem merged_blk (t : Fin cfg0.N) : Tile (a := 1024) (b := 1024) (fun r q => merged m c (t.val * 1024 + r) (0 + q)) (iblk m c 0 t) := by
  have e := (idx_all t).1
  exact blk (A := 8192) (B := 1024) (o := t.val * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 1024) (fun r q => w m c (0 + r) (0 + q)) (iblk m c 1 t) := by
  have e := (idx_all t).2.1
  exact blk (A := 1024) (B := 1024) (o := 0) (p := 0) (fn2_tile (m ((c : Thread nD τ).loc main_arg1)))
    (((cfg0.win 1).blk t).view.emb) fun y => ⟨by blk_simp [e], by blk_simp [e]⟩

theorem x_blk (t : Fin cfg0.N) : Tile (a := 1024) (b := 1024) (fun r q => x m c (t.val * 1024 + r) (0 + q)) (iblk m c 2 t) := by
  have e := (idx_all t).2.2.1
  exact blk (A := 8192) (B := 1024) (o := t.val * 1024) (p := 0) (fn2_tile (m ((c : Thread nD τ).loc main_arg2)))
    (((cfg0.win 2).blk t).view.emb) fun y => ⟨by blk_simp [e], by blk_simp [e]⟩

def arr (c : Dev nD) : S8192x1024.Idx → EReal := fun y => out (merged m c) (w m c) (x m c) (y 0).val (y 1).val

theorem final : (dats m 0 c).arrAt 3 cfg0.N = arr m c := by
  refine (dats m 0 c).arrAt_eq_of_covers 3 _ (by decide +kernel) fun t hf y => ?_
  have e := (idx_all t).2.2.2
  refine (congrFun (after0_3 m c t) _).trans ?_
  refine (step (merged_blk m c t) (w_blk m c t) (x_blk m c t) y).trans ?_
  unfold arr out
  rw [nn_at]
  blk_simp [e]

end Kernel

section Ref

open Cert.Reference18Ideal Cert.Reference18Ideal.Gen

theorem ref (a0 : FVec Ideal S8192x1024 .bf16) (a1 : FVec Ideal S1024x1024 .bf16) (a2 : FVec Ideal S8192x1024 .f32) :
    addf a2 (Host.dotGeneral dot_S8192x1024_S1024x1024_S8192x1024_1_0_0_1_n_n none (extf .f32 a0 bitsLt_bf16_f32) (extf .f32 a1 bitsLt_bf16_f32))
    = fun y => out (fn2 (A := 8192) (B := 1024) a0) (fn2 (A := 1024) (B := 1024) a1) (fn2 (A := 8192) (B := 1024) a2) (y 0).val (y 1).val :=
  funext (tile_addf (φ := .f32) (fn2_tile a2) (host_nn (M := 8192) (K := 1024) (N := 1024) (fn2_tile a0) (fn2_tile a1)))

end Ref

theorem claim : Cert.algebraic_Kernel18Ideal_Reference18Ideal (hKernel18Ideal := Cert.Kernel18Ideal.Gen.facts)
    (hReference18Ideal := Cert.Reference18Ideal.Gen.facts) := by
  intro m g m' g' _ hm
  refine ⟨arr m, ?_, ?_⟩
  · refine (θ_run _ _ _).mono (fun r h c => ?_) (Cert.Kernel18Ideal.Value.run_blocks m g)
    exact ⟨(h c).1.trans (final m c), (h c).2⟩
  · refine (θ_run _ _ _).mono (fun r h c => ?_) (Cert.Reference18Ideal.Value.run m' g')
    refine ⟨(h c).1.trans ?_, (h c).2⟩
    rw [(hm c).1, (hm c).2.1, (hm c).2.2]
    exact ref _ _ _

end Cert.OutFwd
-- ==== Proof.BranchDa.lean ====
/- A branch's projection: the gradient at its input, for the two widths a branch can have. Each call's array, its reference, and their equality. -/
module

public import proofs.«01_k».proof.Proof.Dense
public import proofs.«01_k».proof.Proof.Gen.Kernel9Ideal.Value
public import proofs.«01_k».proof.Proof.Gen.Reference9Ideal.Run
public import proofs.«01_k».proof.Proof.Gen.Kernel11Ideal.Value
public import proofs.«01_k».proof.Proof.Gen.Reference11Ideal.Run
public import proofs.«01_k».proof.Defs

@[expose] public section

set_option maxRecDepth 16384

noncomputable section

open Idealize.ShloMosaic Idealize.ShloMosaic.TcCoe Cert.Tile Cert.Dense
open Idealize.ShloMosaic.Tactic
open scoped BigOperators

namespace Cert.BranchDa

section Kernel

open Cert.Kernel9Ideal Cert.Kernel9Ideal.Gen Cert.Kernel9Ideal.Value

theorem step {f g : ℕ → ℕ → EReal} {x0 : Vec Ideal S1024x1024 .bf16} {x1 : Vec Ideal S512x1024 .bf16}
    (hf : Tile (a := 1024) (b := 1024) f x0) (hg : Tile (a := 512) (b := 1024) g x1) :
    Tile (a := 1024) (b := 512) (nt 1024 f g) (out0_2 (F := Ideal) x0 x1) := by
  unfold out0_2
  refine whole_canon (e := .f32) ?_
  unfold k0_pay1
  exact whole_nt (φ := .bf16) (ψ := .bf16) (whole_lds (e := .bf16) hf) (whole_lds (e := .bf16) hg)

variable (m : (ℓ : Loc nD τ sig) → Buf (Elt Ideal) ℓ) (c : Dev nD)

/-- The two arguments. -/
def dp : ℕ → ℕ → EReal := fn2 (A := 8192) (B := 1024) (m ((c : Thread nD τ).loc main_arg0))
def w : ℕ → ℕ → EReal := fn2 (A := 512) (B := 1024) (m ((c : Thread nD τ).loc main_arg1))

theorem idx_all : ∀ t : Fin cfg0.N, win0_0.index t = ![t.val, 0] ∧ win0_1.index t = ![0, 0] ∧ win0_2.index t = ![t.val, 0] := by
  decide +kernel

theorem dp_blk (t : Fin cfg0.N) : Tile (a := 1024) (b := 1024) (fun r q => dp m c (t.val * 1024 + r) (0 + q)) (iblk m c 0 t) := by
  have e := (idx_all t).1
  exact blk (A := 8192) (B := 1024) (o := t.val * 1024) (p := 0) (fn2_tile (m ((c : Thread nD τ).loc main_arg0)))
    (((cfg0.win 0).blk t).view.emb) fun y => ⟨by blk_simp [e], by blk_simp [e]⟩

theorem w_blk (t : Fin cfg0.N) : Tile (a := 512) (b := 1024) (fun r q => w m c (0 + r) (0 + q)) (iblk m c 1 t) := by
  have e := (idx_all t).2.1
  exact blk (A := 512) (B := 1024) (o := 0) (p := 0) (fn2_tile (m ((c : Thread nD τ).loc main_arg1)))
    (((cfg0.win 1).blk t).view.emb) fun y => ⟨by blk_simp [e], by blk_simp [e]⟩

def arr (c : Dev nD) : S8192x512.Idx → EReal := fun y => nt 1024 (dp m c) (w m c) (y 0).val (y 1).val

theorem final : (dats m 0 c).arrAt 2 cfg0.N = arr m c := by
  refine (dats m 0 c).arrAt_eq_of_covers 2 _ (by decide +kernel) fun t hf y => ?_
  have e := (idx_all t).2.2
  refine (congrFun (after0_2 m c t) _).trans ?_
  refine (step (dp_blk m c t) (w_blk m c t) y).trans ((nt_at _ _ _ _ _ _).trans ?_)
  unfold arr
  blk_simp [e]

end Kernel

section Ref

open Cert.Reference9Ideal Cert.Reference9Ideal.Gen

theorem ref (a0 : FVec Ideal S8192x1024 .bf16) (a1 : FVec Ideal S512x1024 .bf16) :
    Host.dotGeneral dot_S8192x1024_S512x1024_S8192x512_1_1_0_0_n_n none (extf .f32 a0 bitsLt_bf16_f32) (extf .f32 a1 bitsLt_bf16_f32)
    = fun y => nt 1024 (fn2 (A := 8192) (B := 1024) a0) (fn2 (A := 512) (B := 1024) a1) (y 0).val (y 1).val :=
  funext (host_nt (M := 8192) (K := 1024) (N := 512) (fn2_tile a0) (fn2_tile a1))

end Ref

theorem claim : Cert.algebraic_Kernel9Ideal_Reference9Ideal (hKernel9Ideal := Cert.Kernel9Ideal.Gen.facts)
    (hReference9Ideal := Cert.Reference9Ideal.Gen.facts) := by
  intro m g m' g' _ hm
  refine ⟨arr m, ?_, ?_⟩
  · refine (θ_run _ _ _).mono (fun r h c => ?_) (Cert.Kernel9Ideal.Value.run_blocks m g)
    exact ⟨(h c).1.trans (final m c), (h c).2⟩
  · refine (θ_run _ _ _).mono (fun r h c => ?_) (Cert.Reference9Ideal.Value.run m' g')
    refine ⟨(h c).1.trans ?_, (h c).2⟩
    rw [(hm c).1, (hm c).2]
    exact ref _ _

end Cert.BranchDa

namespace Cert.BranchDaWide

section Kernel

open Cert.Kernel11Ideal Cert.Kernel11Ideal.Gen Cert.Kernel11Ideal.Value

theorem step {f g : ℕ → ℕ → EReal} {x0 x1 : Vec Ideal S1024x1024 .bf16}
    (hf : Tile (a := 1024) (b := 1024) f x0) (hg : Tile (a := 1024) (b := 1024) g x1) :
    Tile (a := 1024) (b := 1024) (nt 1024 f g) (out0_2 (F := Ideal) x0 x1) := by
  unfold out0_2
  refine whole_canon (e := .f32) ?_
  unfold k0_pay1
  exact whole_nt (φ := .bf16) (ψ := .bf16) (whole_lds (e := .bf16) hf) (whole_lds (e := .bf16) hg)

variable (m : (ℓ : Loc nD τ sig) → Buf (Elt Ideal) ℓ) (c : Dev nD)

/-- The two arguments. -/
def dp : ℕ → ℕ → EReal := fn2 (A := 8192) (B := 1024) (m ((c : Thread nD τ).loc main_arg0))
def w : ℕ → ℕ → EReal := fn2 (A := 1024) (B := 1024) (m ((c : Thread nD τ).loc main_arg1))

theorem idx_all : ∀ t : Fin cfg0.N, win0_0.index t = ![t.val, 0] ∧ win0_1.index t = ![0, 0] ∧ win0_2.index t = ![t.val, 0] := by
  decide +kernel

theorem dp_blk (t : Fin cfg0.N) : Tile (a := 1024) (b := 1024) (fun r q => dp m c (t.val * 1024 + r) (0 + q)) (iblk m c 0 t) := by
  have e := (idx_all t).1
  exact blk (A := 8192) (B := 1024) (o := t.val * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 1024) (fun r q => w m c (0 + r) (0 + q)) (iblk m c 1 t) := by
  have e := (idx_all t).2.1
  exact blk (A := 1024) (B := 1024) (o := 0) (p := 0) (fn2_tile (m ((c : Thread nD τ).loc main_arg1)))
    (((cfg0.win 1).blk t).view.emb) fun y => ⟨by blk_simp [e], by blk_simp [e]⟩

def arr (c : Dev nD) : S8192x1024.Idx → EReal := fun y => nt 1024 (dp m c) (w m c) (y 0).val (y 1).val

theorem final : (dats m 0 c).arrAt 2 cfg0.N = arr m c := by
  refine (dats m 0 c).arrAt_eq_of_covers 2 _ (by decide +kernel) fun t hf y => ?_
  have e := (idx_all t).2.2
  refine (congrFun (after0_2 m c t) _).trans ?_
  refine (step (dp_blk m c t) (w_blk m c t) y).trans ((nt_at _ _ _ _ _ _).trans ?_)
  unfold arr
  blk_simp [e]

end Kernel

section Ref

open Cert.Reference11Ideal Cert.Reference11Ideal.Gen

theorem ref (a0 : FVec Ideal S8192x1024 .bf16) (a1 : FVec Ideal S1024x1024 .bf16) :
    Host.dotGeneral dot_S8192x1024_S1024x1024_S8192x1024_1_1_0_0_n_n none (extf .f32 a0 bitsLt_bf16_f32) (extf .f32 a1 bitsLt_bf16_f32)
    = fun y => nt 1024 (fn2 (A := 8192) (B := 1024) a0) (fn2 (A := 1024) (B := 1024) a1) (y 0).val (y 1).val :=
  funext (host_nt (M := 8192) (K := 1024) (N := 1024) (fn2_tile a0) (fn2_tile a1))

end Ref

theorem claim : Cert.algebraic_Kernel11Ideal_Reference11Ideal (hKernel11Ideal := Cert.Kernel11Ideal.Gen.facts)
    (hReference11Ideal := Cert.Reference11Ideal.Gen.facts) := by
  intro m g m' g' _ hm
  refine ⟨arr m, ?_, ?_⟩
  · refine (θ_run _ _ _).mono (fun r h c => ?_) (Cert.Kernel11Ideal.Value.run_blocks m g)
    exact ⟨(h c).1.trans (final m c), (h c).2⟩
  · refine (θ_run _ _ _).mono (fun r h c => ?_) (Cert.Reference11Ideal.Value.run m' g')
    refine ⟨(h c).1.trans ?_, (h c).2⟩
    rw [(hm c).1, (hm c).2]
    exact ref _ _

end Cert.BranchDaWide
-- ==== Proof.BranchDw.lean ====
/- A branch's projection: the gradient of its weight, for the two widths a branch can have. Each call's array, its reference, and their equality. -/
module

public import proofs.«01_k».proof.Proof.Dense
public import proofs.«01_k».proof.Proof.Gen.Kernel10Ideal.Value
public import proofs.«01_k».proof.Proof.Gen.Reference10Ideal.Run
public import proofs.«01_k».proof.Proof.Gen.Kernel12Ideal.Value
public import proofs.«01_k».proof.Proof.Gen.Reference12Ideal.Run
public import proofs.«01_k».proof.Defs

@[expose] public section

set_option maxRecDepth 16384

noncomputable section

open Idealize.ShloMosaic Idealize.ShloMosaic.TcCoe Cert.Tile Cert.Dense
open Idealize.ShloMosaic.Tactic
open scoped BigOperators

namespace Cert.BranchDw

section Kernel

open Cert.Kernel10Ideal Cert.Kernel10Ideal.Gen Cert.Kernel10Ideal.Value

section Step

variable {f g h : ℕ → ℕ → EReal} {x0 : Vec Ideal S1024x512 .f32} {x1 : Vec Ideal S1024x1024 .bf16} {s : Vec Ideal S512x1024 .f32}
  (hf : Tile (a := 1024) (b := 512) f x0) (hg : Tile (a := 1024) (b := 1024) g x1) (hs : Tile (a := 512) (b := 1024) h s)
include hf hg

theorem prod : Tile (a := 512) (b := 1024) (fun i j => ∑ q : Fin 1024, f q.val i * g q.val j) (k0_pay1 (F := Ideal) x0 x1) := by
  unfold k0_pay1
  exact dot_tn (φ := .bf16) (ψ := .bf16) (tile_truncf (φ := .f32) (ψ := .bf16) _ hf) hg none

theorem first {c i a3 h3 a4 h4 a5 h5 a6 h6 c0 c1 c2} : Tile (a := 512) (b := 1024) (fun i j => ∑ q : Fin 1024, f q.val i * g q.val j)
    (sout0_A_0 (F := Ideal) c i a3 h3 a4 h4 a5 h5 a6 h6 c0 c1 c2 x0 x1) := by
  unfold sout0_A_0 kernelRun0_A
  dsimp only
  refine whole_st (A := 512) (B := 1024) (e := .f32) ?_
  unfold k0_pay2
  exact tile_shapeCast (φ := .f32) _ (prod (whole_ld (e := .f32) hf) (whole_ld (e := .bf16) hg))

include hs

theorem sum : Tile (a := 512) (b := 1024) (fun i j => h i j + ∑ q : Fin 1024, f q.val i * g q.val j) (k0_pay3 (F := Ideal) x0 x1 s) := by
  unfold k0_pay3
  exact tile_shapeCast (φ := .f32) _ (tile_addf (φ := .f32) hs (prod hf hg))

theorem next {c i a3 h3 a4 h4 a5 h5 a6 h6 c0 c1 c2} :
    Tile (a := 512) (b := 1024) (fun i j => h i j + ∑ q : Fin 1024, f q.val i * g q.val j)
      (sout0_B_0 (F := Ideal) c i a3 h3 a4 h4 a5 h5 a6 h6 c0 c1 c2 x0 x1 s) := by
  unfold sout0_B_0 kernelRun0_B
  dsimp only
  refine whole_st (A := 512) (B := 1024) (e := .f32) (sum ?_ ?_ ?_)
  exacts [whole_ld (e := .f32) hf, whole_ld (e := .bf16) hg, whole_ld (e := .f32) hs]

theorem last {c i a3 h3 a4 h4 a5 h5 a6 h6 c0 c1 c2} :
    Tile (a := 512) (b := 1024) (fun i j => h i j + ∑ q : Fin 1024, f q.val i * g q.val j)
      (out0_C_2 (F := Ideal) c i a3 h3 a4 h4 a5 h5 a6 h6 c0 c1 c2 x0 x1 s) := by
  unfold out0_C_2 kernelRun0_C
  dsimp only
  sl_unfold_words
  refine whole_st (A := 512) (B := 1024) (e := .f32) (whole_cov (A := 512) (B := 1024) (e := .f32) (sum ?_ ?_ ?_))
  exacts [whole_ld (e := .f32) hf, whole_ld (e := .bf16) hg, whole_ld (e := .f32) hs]

end Step

variable (m : (ℓ : Loc nD τ sig) → Buf (Elt Ideal) ℓ) (c : Dev nD)

/-- The two arguments. -/
def y : ℕ → ℕ → EReal := fn2 (A := 8192) (B := 512) (m ((c : Thread nD τ).loc main_arg0))
def dp : ℕ → ℕ → EReal := fn2 (A := 8192) (B := 1024) (m ((c : Thread nD τ).loc main_arg1))

theorem idx_all : ∀ t : Fin cfg0.N, win0_0.index t = ![t.val % 8, 0] ∧ win0_1.index t = ![t.val % 8, 0] ∧ win0_2.index t = ![0, 0] := by
  decide +kernel

theorem y_blk (t : Fin cfg0.N) : Tile (a := 1024) (b := 512) (fun r q => y m c (1024 * (t.val % 8) + r) (0 + q)) (iblk m c 0 t) := by
  have e := (idx_all t).1
  exact blk (A := 8192) (B := 512) (o := 1024 * (t.val % 8)) (p := 0) (fn2_tile (m ((c : Thread nD τ).loc main_arg0)))
    (((cfg0.win 0).blk t).view.emb) fun y => ⟨by blk_simp [e]; omega, by blk_simp [e]⟩

theorem dp_blk (t : Fin cfg0.N) : Tile (a := 1024) (b := 1024) (fun r q => dp m c (1024 * (t.val % 8) + r) (0 + q)) (iblk m c 1 t) := by
  have e := (idx_all t).2.1
  exact blk (A := 8192) (B := 1024) (o := 1024 * (t.val % 8)) (p := 0) (fn2_tile (m ((c : Thread nD τ).loc main_arg1)))
    (((cfg0.win 1).blk t).view.emb) fun y => ⟨by blk_simp [e]; omega, by blk_simp [e]⟩

theorem out_at : ∀ (n : ℕ) (hn : n < cfg0.N), n % 8 = 8 - 1 → Tile (a := 512) (b := 1024)
    (fun r q => tn 8192 (y m c) (dp m c) (0 + r) (0 + q)) (outsAt0 m c n hn).1 :=
  runs_out (K := 1024) (by decide) (fun n hn => (outsAt0 m c n hn).2) (fun n hn => (outsAt0 m c n hn).1)
    (fun _ r q t => y m c t (0 + r) * dp m c t (0 + q)) (fun _ _ _ x => x)
    (fun n hn h => by
      have hN : n < 8 := lt_of_lt_of_eq hn N_0
      rw [outsAt0_A m c ⟨n, hn⟩ h (by dsimp only; omega) (by dsimp only; omega)]
      dsimp only
      exact (first (y_blk m c ⟨n, hn⟩) (dp_blk m c ⟨n, hn⟩)).congr fun _ _ _ _ => rfl)
    (fun n hn f h hl hf => by
      rw [outsAt0_B m c ⟨n, hn⟩ (by dsimp only; omega) (by dsimp only; omega) hl]
      dsimp only
      exact (next (y_blk m c ⟨n, hn⟩) (dp_blk m c ⟨n, hn⟩) hf).congr fun _ _ _ _ => rfl)
    (fun n hn f h hf => by
      rw [outsAt0_C m c ⟨n, hn⟩ (by dsimp only; omega) (by dsimp only; omega) h]
      dsimp only
      exact (last (y_blk m c ⟨n, hn⟩) (dp_blk m c ⟨n, hn⟩) hf).congr fun _ _ _ _ => rfl)

def arr (c : Dev nD) : S512x1024.Idx → EReal := fun i => tn 8192 (y m c) (dp m c) (i 0).val (i 1).val

theorem final : (dats m 0 c).arrAt 2 cfg0.N = arr m c := by
  refine (dats m 0 c).arrAt_eq_of_covers 2 _ (by decide +kernel) fun t hf y => ?_
  have e := (idx_all t).2.2
  refine (out_at m c t.val t.isLt ((flush0_2 t).mp hf) y).trans ?_
  unfold arr
  blk_simp [e]

end Kernel

section Ref

open Cert.Reference10Ideal Cert.Reference10Ideal.Gen

theorem ref (a0 : FVec Ideal S8192x512 .f32) (a1 : FVec Ideal S8192x1024 .bf16) :
    transpose S512x1024 [1, 0] (Host.dotGeneral dot_S8192x1024_S8192x512_S1024x512_0_0_1_1_n_n none (extf .f32 a1 bitsLt_bf16_f32) a0)
      transposes_S1024x512_S512x1024_1_0
    = fun i => tn 8192 (fn2 (A := 8192) (B := 512) a0) (fn2 (A := 8192) (B := 1024) a1) (i 0).val (i 1).val :=
  funext (host_gw (M := 512) (K := 8192) (N := 1024) _ (fn2_tile a0) (fn2_tile a1))

end Ref

theorem claim : Cert.algebraic_Kernel10Ideal_Reference10Ideal (hKernel10Ideal := Cert.Kernel10Ideal.Gen.facts)
    (hReference10Ideal := Cert.Reference10Ideal.Gen.facts) := by
  intro m g m' g' _ hm
  refine ⟨arr m, ?_, ?_⟩
  · refine (θ_run _ _ _).mono (fun r h c => ?_) (Cert.Kernel10Ideal.Value.run_blocks m g)
    exact ⟨(h c).1.trans (final m c), (h c).2⟩
  · refine (θ_run _ _ _).mono (fun r h c => ?_) (Cert.Reference10Ideal.Value.run m' g')
    refine ⟨(h c).1.trans ?_, (h c).2⟩
    rw [(hm c).1, (hm c).2]
    exact ref _ _

end Cert.BranchDw

namespace Cert.BranchDwWide

section Kernel

open Cert.Kernel12Ideal Cert.Kernel12Ideal.Gen Cert.Kernel12Ideal.Value

section Step

variable {f g h : ℕ → ℕ → EReal} {x0 s : Vec Ideal S1024x1024 .f32} {x1 : Vec Ideal S1024x1024 .bf16}
  (hf : Tile (a := 1024) (b := 1024) f x0) (hg : Tile (a := 1024) (b := 1024) g x1) (hs : Tile (a := 1024) (b := 1024) h s)
include hf hg

theorem prod : Tile (a := 1024) (b := 1024) (fun i j => ∑ q : Fin 1024, f q.val i * g q.val j) (k0_pay1 (F := Ideal) x0 x1) := by
  unfold k0_pay1
  exact dot_tn (φ := .bf16) (ψ := .bf16) (tile_truncf (φ := .f32) (ψ := .bf16) _ hf) hg none

theorem first {c i a3 h3 a4 h4 a5 h5 a6 h6 c0 c1 c2} : Tile (a := 1024) (b := 1024) (fun i j => ∑ q : Fin 1024, f q.val i * g q.val j)
    (sout0_A_0 (F := Ideal) c i a3 h3 a4 h4 a5 h5 a6 h6 c0 c1 c2 x0 x1) := by
  unfold sout0_A_0 kernelRun0_A
  dsimp only
  refine whole_st (A := 1024) (B := 1024) (e := .f32) ?_
  unfold k0_pay2
  exact tile_shapeCast (φ := .f32) _ (prod (whole_ld (e := .f32) hf) (whole_ld (e := .bf16) hg))

include hs

theorem sum : Tile (a := 1024) (b := 1024) (fun i j => h i j + ∑ q : Fin 1024, f q.val i * g q.val j) (k0_pay3 (F := Ideal) x0 x1 s) := by
  unfold k0_pay3
  exact tile_shapeCast (φ := .f32) _ (tile_addf (φ := .f32) hs (prod hf hg))

theorem next {c i a3 h3 a4 h4 a5 h5 a6 h6 c0 c1 c2} :
    Tile (a := 1024) (b := 1024) (fun i j => h i j + ∑ q : Fin 1024, f q.val i * g q.val j)
      (sout0_B_0 (F := Ideal) c i a3 h3 a4 h4 a5 h5 a6 h6 c0 c1 c2 x0 x1 s) := by
  unfold sout0_B_0 kernelRun0_B
  dsimp only
  refine whole_st (A := 1024) (B := 1024) (e := .f32) (sum ?_ ?_ ?_)
  exacts [whole_ld (e := .f32) hf, whole_ld (e := .bf16) hg, whole_ld (e := .f32) hs]

theorem last {c i a3 h3 a4 h4 a5 h5 a6 h6 c0 c1 c2} :
    Tile (a := 1024) (b := 1024) (fun i j => h i j + ∑ q : Fin 1024, f q.val i * g q.val j)
      (out0_C_2 (F := Ideal) c i a3 h3 a4 h4 a5 h5 a6 h6 c0 c1 c2 x0 x1 s) := by
  unfold out0_C_2 kernelRun0_C
  dsimp only
  sl_unfold_words
  refine whole_st (A := 1024) (B := 1024) (e := .f32) (whole_cov (A := 1024) (B := 1024) (e := .f32) (sum ?_ ?_ ?_))
  exacts [whole_ld (e := .f32) hf, whole_ld (e := .bf16) hg, whole_ld (e := .f32) hs]

end Step

variable (m : (ℓ : Loc nD τ sig) → Buf (Elt Ideal) ℓ) (c : Dev nD)

/-- The two arguments. -/
def y : ℕ → ℕ → EReal := fn2 (A := 8192) (B := 1024) (m ((c : Thread nD τ).loc main_arg0))
def dp : ℕ → ℕ → EReal := fn2 (A := 8192) (B := 1024) (m ((c : Thread nD τ).loc main_arg1))

theorem idx_all : ∀ t : Fin cfg0.N, win0_0.index t = ![t.val % 8, 0] ∧ win0_1.index t = ![t.val % 8, 0] ∧ win0_2.index t = ![0, 0] := by
  decide +kernel

theorem y_blk (t : Fin cfg0.N) : Tile (a := 1024) (b := 1024) (fun r q => y m c (1024 * (t.val % 8) + r) (0 + q)) (iblk m c 0 t) := by
  have e := (idx_all t).1
  exact blk (A := 8192) (B := 1024) (o := 1024 * (t.val % 8)) (p := 0) (fn2_tile (m ((c : Thread nD τ).loc main_arg0)))
    (((cfg0.win 0).blk t).view.emb) fun y => ⟨by blk_simp [e]; omega, by blk_simp [e]⟩

theorem dp_blk (t : Fin cfg0.N) : Tile (a := 1024) (b := 1024) (fun r q => dp m c (1024 * (t.val % 8) + r) (0 + q)) (iblk m c 1 t) := by
  have e := (idx_all t).2.1
  exact blk (A := 8192) (B := 1024) (o := 1024 * (t.val % 8)) (p := 0) (fn2_tile (m ((c : Thread nD τ).loc main_arg1)))
    (((cfg0.win 1).blk t).view.emb) fun y => ⟨by blk_simp [e]; omega, by blk_simp [e]⟩

theorem out_at : ∀ (n : ℕ) (hn : n < cfg0.N), n % 8 = 8 - 1 → Tile (a := 1024) (b := 1024)
    (fun r q => tn 8192 (y m c) (dp m c) (0 + r) (0 + q)) (outsAt0 m c n hn).1 :=
  runs_out (K := 1024) (by decide) (fun n hn => (outsAt0 m c n hn).2) (fun n hn => (outsAt0 m c n hn).1)
    (fun _ r q t => y m c t (0 + r) * dp m c t (0 + q)) (fun _ _ _ x => x)
    (fun n hn h => by
      have hN : n < 8 := lt_of_lt_of_eq hn N_0
      rw [outsAt0_A m c ⟨n, hn⟩ h (by dsimp only; omega) (by dsimp only; omega)]
      dsimp only
      exact (first (y_blk m c ⟨n, hn⟩) (dp_blk m c ⟨n, hn⟩)).congr fun _ _ _ _ => rfl)
    (fun n hn f h hl hf => by
      rw [outsAt0_B m c ⟨n, hn⟩ (by dsimp only; omega) (by dsimp only; omega) hl]
      dsimp only
      exact (next (y_blk m c ⟨n, hn⟩) (dp_blk m c ⟨n, hn⟩) hf).congr fun _ _ _ _ => rfl)
    (fun n hn f h hf => by
      rw [outsAt0_C m c ⟨n, hn⟩ (by dsimp only; omega) (by dsimp only; omega) h]
      dsimp only
      exact (last (y_blk m c ⟨n, hn⟩) (dp_blk m c ⟨n, hn⟩) hf).congr fun _ _ _ _ => rfl)

def arr (c : Dev nD) : S1024x1024.Idx → EReal := fun i => tn 8192 (y m c) (dp m c) (i 0).val (i 1).val

theorem final : (dats m 0 c).arrAt 2 cfg0.N = arr m c := by
  refine (dats m 0 c).arrAt_eq_of_covers 2 _ (by decide +kernel) fun t hf y => ?_
  have e := (idx_all t).2.2
  refine (out_at m c t.val t.isLt ((flush0_2 t).mp hf) y).trans ?_
  unfold arr
  blk_simp [e]

end Kernel

section Ref

open Cert.Reference12Ideal Cert.Reference12Ideal.Gen

theorem ref (a0 : FVec Ideal S8192x1024 .f32) (a1 : FVec Ideal S8192x1024 .bf16) :
    transpose S1024x1024 [1, 0] (Host.dotGeneral dot_S8192x1024_S8192x1024_S1024x1024_0_0_1_1_n_n none (extf .f32 a1 bitsLt_bf16_f32) a0)
      transposes_S1024x1024_S1024x1024_1_0
    = fun i => tn 8192 (fn2 (A := 8192) (B := 1024) a0) (fn2 (A := 8192) (B := 1024) a1) (i 0).val (i 1).val :=
  funext (host_gw (M := 1024) (K := 8192) (N := 1024) _ (fn2_tile a0) (fn2_tile a1))

end Ref

theorem claim : Cert.algebraic_Kernel12Ideal_Reference12Ideal (hKernel12Ideal := Cert.Kernel12Ideal.Gen.facts)
    (hReference12Ideal := Cert.Reference12Ideal.Gen.facts) := by
  intro m g m' g' _ hm
  refine ⟨arr m, ?_, ?_⟩
  · refine (θ_run _ _ _).mono (fun r h c => ?_) (Cert.Kernel12Ideal.Value.run_blocks m g)
    exact ⟨(h c).1.trans (final m c), (h c).2⟩
  · refine (θ_run _ _ _).mono (fun r h c => ?_) (Cert.Reference12Ideal.Value.run m' g')
    refine ⟨(h c).1.trans ?_, (h c).2⟩
    rw [(hm c).1, (hm c).2]
    exact ref _ _

end Cert.BranchDwWide
-- ==== Proof.BranchFwd.lean ====
/- A branch's projection, for the two widths a branch can have. Each call's array, its reference, and their equality. -/
module

public import proofs.«01_k».proof.Proof.Dense
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Defs

@[expose] public section

set_option maxRecDepth 16384

noncomputable section

open Idealize.ShloMosaic Idealize.ShloMosaic.TcCoe Cert.Tile Cert.Dense
open Idealize.ShloMosaic.Tactic
open scoped BigOperators

namespace Cert.BranchFwd

section Kernel

open Cert.Kernel19Ideal Cert.Kernel19Ideal.Gen Cert.Kernel19Ideal.Value

theorem step {f g : ℕ → ℕ → EReal} {x0 : Vec Ideal S1024x512 .f32} {x1 : Vec Ideal S512x1024 .bf16}
    (hf : Tile (a := 1024) (b := 512) f x0) (hg : Tile (a := 512) (b := 1024) g x1) :
    Tile (a := 1024) (b := 1024) (nn 512 f g) (out0_2 (F := Ideal) x0 x1) := by
  unfold out0_2
  refine whole_canon (e := .f32) ?_
  unfold k0_pay1
  exact whole_nn (φ := .bf16) (ψ := .bf16) (tile_truncf (φ := .f32) (ψ := .bf16) _ (whole_lds (e := .f32) hf)) (whole_lds (e := .bf16) hg)

variable (m : (ℓ : Loc nD τ sig) → Buf (Elt Ideal) ℓ) (c : Dev nD)

/-- The two arguments. -/
def y : ℕ → ℕ → EReal := fn2 (A := 8192) (B := 512) (m ((c : Thread nD τ).loc main_arg0))
def w : ℕ → ℕ → EReal := fn2 (A := 512) (B := 1024) (m ((c : Thread nD τ).loc main_arg1))

theorem idx_all : ∀ t : Fin cfg0.N, win0_0.index t = ![t.val, 0] ∧ win0_1.index t = ![0, 0] ∧ win0_2.index t = ![t.val, 0] := by
  decide +kernel

theorem y_blk (t : Fin cfg0.N) : Tile (a := 1024) (b := 512) (fun r q => y m c (t.val * 1024 + r) (0 + q)) (iblk m c 0 t) := by
  have e := (idx_all t).1
  exact blk (A := 8192) (B := 512) (o := t.val * 1024) (p := 0) (fn2_tile (m ((c : Thread nD τ).loc main_arg0)))
    (((cfg0.win 0).blk t).view.emb) fun y => ⟨by blk_simp [e], by blk_simp [e]⟩

theorem w_blk (t : Fin cfg0.N) : Tile (a := 512) (b := 1024) (fun r q => w m c (0 + r) (0 + q)) (iblk m c 1 t) := by
  have e := (idx_all t).2.1
  exact blk (A := 512) (B := 1024) (o := 0) (p := 0) (fn2_tile (m ((c : Thread nD τ).loc main_arg1)))
    (((cfg0.win 1).blk t).view.emb) fun y => ⟨by blk_simp [e], by blk_simp [e]⟩

def arr (c : Dev nD) : S8192x1024.Idx → EReal := fun i => nn 512 (y m c) (w m c) (i 0).val (i 1).val

theorem final : (dats m 0 c).arrAt 2 cfg0.N = arr m c := by
  refine (dats m 0 c).arrAt_eq_of_covers 2 _ (by decide +kernel) fun t hf y => ?_
  have e := (idx_all t).2.2
  refine (congrFun (after0_2 m c t) _).trans ?_
  refine (step (y_blk m c t) (w_blk m c t) y).trans ((nn_at _ _ _ _ _ _).trans ?_)
  unfold arr
  blk_simp [e]

end Kernel

section Ref

open Cert.Reference19Ideal Cert.Reference19Ideal.Gen

theorem ref (a0 : FVec Ideal S8192x512 .f32) (a1 : FVec Ideal S512x1024 .bf16) :
    Host.dotGeneral dot_S8192x512_S512x1024_S8192x1024_1_0_0_1_n_n none a0 (extf .f32 a1 bitsLt_bf16_f32)
    = fun i => nn 512 (fn2 (A := 8192) (B := 512) a0) (fn2 (A := 512) (B := 1024) a1) (i 0).val (i 1).val :=
  funext (host_nn (M := 8192) (K := 512) (N := 1024) (fn2_tile a0) (fn2_tile a1))

end Ref

theorem claim : Cert.algebraic_Kernel19Ideal_Reference19Ideal (hKernel19Ideal := Cert.Kernel19Ideal.Gen.facts)
    (hReference19Ideal := Cert.Reference19Ideal.Gen.facts) := by
  intro m g m' g' _ hm
  refine ⟨arr m, ?_, ?_⟩
  · refine (θ_run _ _ _).mono (fun r h c => ?_) (Cert.Kernel19Ideal.Value.run_blocks m g)
    exact ⟨(h c).1.trans (final m c), (h c).2⟩
  · refine (θ_run _ _ _).mono (fun r h c => ?_) (Cert.Reference19Ideal.Value.run m' g')
    refine ⟨(h c).1.trans ?_, (h c).2⟩
    rw [(hm c).1, (hm c).2]
    exact ref _ _

end Cert.BranchFwd

namespace Cert.BranchFwdWide

section Kernel

open Cert.Kernel20Ideal Cert.Kernel20Ideal.Gen Cert.Kernel20Ideal.Value

theorem step {f g : ℕ → ℕ → EReal} {x0 : Vec Ideal S1024x1024 .f32} {x1 : Vec Ideal S1024x1024 .bf16}
    (hf : Tile (a := 1024) (b := 1024) f x0) (hg : Tile (a := 1024) (b := 1024) g x1) :
    Tile (a := 1024) (b := 1024) (nn 1024 f g) (out0_2 (F := Ideal) x0 x1) := by
  unfold out0_2
  refine whole_canon (e := .f32) ?_
  unfold k0_pay1
  exact whole_nn (φ := .bf16) (ψ := .bf16) (tile_truncf (φ := .f32) (ψ := .bf16) _ (whole_lds (e := .f32) hf)) (whole_lds (e := .bf16) hg)

variable (m : (ℓ : Loc nD τ sig) → Buf (Elt Ideal) ℓ) (c : Dev nD)

/-- The two arguments. -/
def y : ℕ → ℕ → EReal := fn2 (A := 8192) (B := 1024) (m ((c : Thread nD τ).loc main_arg0))
def w : ℕ → ℕ → EReal := fn2 (A := 1024) (B := 1024) (m ((c : Thread nD τ).loc main_arg1))

theorem idx_all : ∀ t : Fin cfg0.N, win0_0.index t = ![t.val, 0] ∧ win0_1.index t = ![0, 0] ∧ win0_2.index t = ![t.val, 0] := by
  decide +kernel

theorem y_blk (t : Fin cfg0.N) : Tile (a := 1024) (b := 1024) (fun r q => y m c (t.val * 1024 + r) (0 + q)) (iblk m c 0 t) := by
  have e := (idx_all t).1
  exact blk (A := 8192) (B := 1024) (o := t.val * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 1024) (fun r q => w m c (0 + r) (0 + q)) (iblk m c 1 t) := by
  have e := (idx_all t).2.1
  exact blk (A := 1024) (B := 1024) (o := 0) (p := 0) (fn2_tile (m ((c : Thread nD τ).loc main_arg1)))
    (((cfg0.win 1).blk t).view.emb) fun y => ⟨by blk_simp [e], by blk_simp [e]⟩

def arr (c : Dev nD) : S8192x1024.Idx → EReal := fun i => nn 1024 (y m c) (w m c) (i 0).val (i 1).val

theorem final : (dats m 0 c).arrAt 2 cfg0.N = arr m c := by
  refine (dats m 0 c).arrAt_eq_of_covers 2 _ (by decide +kernel) fun t hf y => ?_
  have e := (idx_all t).2.2
  refine (congrFun (after0_2 m c t) _).trans ?_
  refine (step (y_blk m c t) (w_blk m c t) y).trans ((nn_at _ _ _ _ _ _).trans ?_)
  unfold arr
  blk_simp [e]

end Kernel

section Ref

open Cert.Reference20Ideal Cert.Reference20Ideal.Gen

theorem ref (a0 : FVec Ideal S8192x1024 .f32) (a1 : FVec Ideal S1024x1024 .bf16) :
    Host.dotGeneral dot_S8192x1024_S1024x1024_S8192x1024_1_0_0_1_n_n none a0 (extf .f32 a1 bitsLt_bf16_f32)
    = fun i => nn 1024 (fn2 (A := 8192) (B := 1024) a0) (fn2 (A := 1024) (B := 1024) a1) (i 0).val (i 1).val :=
  funext (host_nn (M := 8192) (K := 1024) (N := 1024) (fn2_tile a0) (fn2_tile a1))

end Ref

theorem claim : Cert.algebraic_Kernel20Ideal_Reference20Ideal (hKernel20Ideal := Cert.Kernel20Ideal.Gen.facts)
    (hReference20Ideal := Cert.Reference20Ideal.Gen.facts) := by
  intro m g m' g' _ hm
  refine ⟨arr m, ?_, ?_⟩
  · refine (θ_run _ _ _).mono (fun r h c => ?_) (Cert.Kernel20Ideal.Value.run_blocks m g)
    exact ⟨(h c).1.trans (final m c), (h c).2⟩
  · refine (θ_run _ _ _).mono (fun r h c => ?_) (Cert.Reference20Ideal.Value.run m' g')
    refine ⟨(h c).1.trans ?_, (h c).2⟩
    rw [(hm c).1, (hm c).2]
    exact ref _ _

end Cert.BranchFwdWide
-- ==== Proof.InDa.lean ====
/- The gradient at the input projection's input: the call's array, its reference, and their equality. -/
module

public import proofs.«01_k».proof.Proof.Dense
public import proofs.«01_k».proof.Proof.Gen.Kernel13Ideal.Value
public import proofs.«01_k».proof.Proof.Gen.Reference13Ideal.Run
public import proofs.«01_k».proof.Defs

@[expose] public section

set_option maxRecDepth 16384

noncomputable section

namespace Cert.InDa

open Idealize.ShloMosaic Idealize.ShloMosaic.TcCoe Cert.Tile Cert.Dense
open Idealize.ShloMosaic.Tactic
open scoped BigOperators

/-- The gradient of token `r` at feature `q`, summed over the projection's columns. -/
def grad (f g : ℕ → ℕ → EReal) (r q : ℕ) : EReal := part (fun t => f r t * g q t) 8704

section Kernel

open Cert.Kernel13Ideal Cert.Kernel13Ideal.Gen Cert.Kernel13Ideal.Value

section Step

variable {f g h : ℕ → ℕ → EReal} {x0 x1 : Vec Ideal S1024x2176 .bf16} {s : Vec Ideal S1024x1024 .f32}
  (hf : Tile (a := 1024) (b := 2176) f x0) (hg : Tile (a := 1024) (b := 2176) g x1) (hs : Tile (a := 1024) (b := 1024) h s)
include hf hg

theorem prod : Tile (a := 1024) (b := 1024) (fun i j => ∑ q : Fin 2176, f i q.val * g j q.val) (k0_pay1 (F := Ideal) x0 x1) := by
  unfold k0_pay1
  exact dot_nt (φ := .bf16) (ψ := .bf16) hf hg none

theorem first {c i a3 h3 a4 h4 a5 h5 a6 h6 c0 c1 c2} : Tile (a := 1024) (b := 1024) (fun i j => ∑ q : Fin 2176, f i q.val * g j q.val)
    (sout0_A_0 (F := Ideal) c i a3 h3 a4 h4 a5 h5 a6 h6 c0 c1 c2 x0 x1) := by
  unfold sout0_A_0 kernelRun0_A
  dsimp only
  refine whole_st (A := 1024) (B := 1024) (e := .f32) ?_
  unfold k0_pay2
  exact tile_shapeCast (φ := .f32) _ (prod (whole_ld (e := .bf16) hf) (whole_ld (e := .bf16) hg))

include hs

theorem sum : Tile (a := 1024) (b := 1024) (fun i j => h i j + ∑ q : Fin 2176, f i q.val * g j q.val) (k0_pay3 (F := Ideal) x0 x1 s) := by
  unfold k0_pay3
  exact tile_shapeCast (φ := .f32) _ (tile_addf (φ := .f32) hs (prod hf hg))

theorem next {c i a3 h3 a4 h4 a5 h5 a6 h6 c0 c1 c2} :
    Tile (a := 1024) (b := 1024) (fun i j => h i j + ∑ q : Fin 2176, f i q.val * g j q.val)
      (sout0_B_0 (F := Ideal) c i a3 h3 a4 h4 a5 h5 a6 h6 c0 c1 c2 x0 x1 s) := by
  unfold sout0_B_0 kernelRun0_B
  dsimp only
  refine whole_st (A := 1024) (B := 1024) (e := .f32) (sum ?_ ?_ ?_)
  exacts [whole_ld (e := .bf16) hf, whole_ld (e := .bf16) hg, whole_ld (e := .f32) hs]

theorem last {c i a3 h3 a4 h4 a5 h5 a6 h6 c0 c1 c2} :
    Tile (a := 1024) (b := 1024) (fun i j => h i j + ∑ q : Fin 2176, f i q.val * g j q.val)
      (out0_C_2 (F := Ideal) c i a3 h3 a4 h4 a5 h5 a6 h6 c0 c1 c2 x0 x1 s) := by
  unfold out0_C_2 kernelRun0_C
  dsimp only
  sl_unfold_words
  refine whole_st (A := 1024) (B := 1024) (e := .f32) (whole_cov (A := 1024) (B := 1024) (e := .f32) (sum ?_ ?_ ?_))
  exacts [whole_ld (e := .bf16) hf, whole_ld (e := .bf16) hg, whole_ld (e := .f32) hs]

end Step

variable (m : (ℓ : Loc nD τ sig) → Buf (Elt Ideal) ℓ) (c : Dev nD)

/-- The two arguments. -/
def du : ℕ → ℕ → EReal := fn2 (A := 8192) (B := 8704) (m ((c : Thread nD τ).loc main_arg0))
def w : ℕ → ℕ → EReal := fn2 (A := 1024) (B := 8704) (m ((c : Thread nD τ).loc main_arg1))

theorem idx_all : ∀ t : Fin cfg0.N, win0_0.index t = ![t.val / 4, t.val % 4] ∧ win0_1.index t = ![0, t.val % 4]
    ∧ win0_2.index t = ![t.val / 4, 0] := by
  decide +kernel

theorem du_blk (t : Fin cfg0.N) : Tile (a := 1024) (b := 2176) (fun r q => du m c (t.val / 4 * 1024 + r) (2176 * (t.val % 4) + q)) (iblk m c 0 t) := by
  have e := (idx_all t).1
  exact blk (A := 8192) (B := 8704) (o := t.val / 4 * 1024) (p := 2176 * (t.val % 4)) (fn2_tile (m ((c : Thread nD τ).loc main_arg0)))
    (((cfg0.win 0).blk t).view.emb) fun y => ⟨by blk_simp [e], by blk_simp [e]; omega⟩

theorem w_blk (t : Fin cfg0.N) : Tile (a := 1024) (b := 2176) (fun r q => w m c (0 + r) (2176 * (t.val % 4) + q)) (iblk m c 1 t) := by
  have e := (idx_all t).2.1
  exact blk (A := 1024) (B := 8704) (o := 0) (p := 2176 * (t.val % 4)) (fn2_tile (m ((c : Thread nD τ).loc main_arg1)))
    (((cfg0.win 1).blk t).view.emb) fun y => ⟨by blk_simp [e], by blk_simp [e]; omega⟩

theorem out_at : ∀ (n : ℕ) (hn : n < cfg0.N), n % 4 = 4 - 1 → Tile (a := 1024) (b := 1024)
    (fun r q => grad (du m c) (w m c) (n / 4 * 1024 + r) (0 + q)) (outsAt0 m c n hn).1 :=
  runs_out (K := 2176) (by decide) (fun n hn => (outsAt0 m c n hn).2) (fun n hn => (outsAt0 m c n hn).1)
    (fun i r q t => du m c (i * 1024 + r) t * w m c (0 + q) t) (fun _ _ _ x => x)
    (fun n hn h => by
      rw [outsAt0_A m c ⟨n, hn⟩ h (by dsimp only; omega) (by dsimp only; omega)]
      dsimp only
      exact (first (du_blk m c ⟨n, hn⟩) (w_blk m c ⟨n, hn⟩)).congr fun _ _ _ _ => rfl)
    (fun n hn f h hl hf => by
      rw [outsAt0_B m c ⟨n, hn⟩ (by dsimp only; omega) h hl]
      dsimp only
      exact (next (du_blk m c ⟨n, hn⟩) (w_blk m c ⟨n, hn⟩) hf).congr fun _ _ _ _ => rfl)
    (fun n hn f h hf => by
      rw [outsAt0_C m c ⟨n, hn⟩ (by dsimp only; omega) (by dsimp only; omega) h]
      dsimp only
      exact (last (du_blk m c ⟨n, hn⟩) (w_blk m c ⟨n, hn⟩) hf).congr fun _ _ _ _ => rfl)

def arr (c : Dev nD) : S8192x1024.Idx → EReal := fun y => grad (du m c) (w m c) (y 0).val (y 1).val

theorem final : (dats m 0 c).arrAt 2 cfg0.N = arr m c := by
  refine (dats m 0 c).arrAt_eq_of_covers 2 _ (by decide +kernel) fun t hf y => ?_
  have e := (idx_all t).2.2
  refine (out_at m c t.val t.isLt ((flush0_2 t).mp hf) y).trans ?_
  unfold arr
  blk_simp [e]

end Kernel

section Ref

open Cert.Reference13Ideal Cert.Reference13Ideal.Gen

theorem ref (a0 : FVec Ideal S8192x8704 .bf16) (a1 : FVec Ideal S1024x8704 .bf16) :
    Host.dotGeneral dot_S8192x8704_S1024x8704_S8192x1024_1_1_0_0_n_n none (extf .f32 a0 bitsLt_bf16_f32) (extf .f32 a1 bitsLt_bf16_f32)
    = fun y => grad (fn2 (A := 8192) (B := 8704) a0) (fn2 (A := 1024) (B := 8704) a1) (y 0).val (y 1).val :=
  funext (host_nt (M := 8192) (K := 8704) (N := 1024) (fn2_tile a0) (fn2_tile a1))

end Ref

theorem claim : Cert.algebraic_Kernel13Ideal_Reference13Ideal (hKernel13Ideal := Cert.Kernel13Ideal.Gen.facts)
    (hReference13Ideal := Cert.Reference13Ideal.Gen.facts) := by
  intro m g m' g' _ hm
  refine ⟨arr m, ?_, ?_⟩
  · refine (θ_run _ _ _).mono (fun r h c => ?_) (Cert.Kernel13Ideal.Value.run_blocks m g)
    exact ⟨(h c).1.trans (final m c), (h c).2⟩
  · refine (θ_run _ _ _).mono (fun r h c => ?_) (Cert.Reference13Ideal.Value.run m' g')
    refine ⟨(h c).1.trans ?_, (h c).2⟩
    rw [(hm c).1, (hm c).2]
    exact ref _ _

end Cert.InDa
-- ==== Proof.InDw.lean ====
/- The gradients of the input projection's weight and bias: the call's two arrays, their reference, and their equality. -/
module

public import proofs.«01_k».proof.Proof.Dense
public import proofs.«01_k».proof.Proof.Gen.Kernel14Ideal.Value
public import proofs.«01_k».proof.Proof.Gen.Reference14Ideal.Run
public import proofs.«01_k».proof.Defs

@[expose] public section

set_option maxRecDepth 16384

noncomputable section

namespace Cert.InDw

open Idealize.ShloMosaic Idealize.ShloMosaic.TcCoe Cert.Tile Cert.Dense
open Idealize.ShloMosaic.Tactic
open scoped BigOperators

/-- The weight's gradient at row `r` and column `q`, and the bias's at column `q`, both summed over the tokens. -/
def grad (f g : ℕ → ℕ → EReal) (r q : ℕ) : EReal := part (fun t => f t r * g t q) 8192
def cols (g : ℕ → ℕ → EReal) (q : ℕ) : EReal := part (fun t => g t q) 8192

section Kernel

open Cert.Kernel14Ideal Cert.Kernel14Ideal.Gen Cert.Kernel14Ideal.Value

section Step

variable {f g h k : ℕ → ℕ → EReal} {x0 : Vec Ideal S1024x1024 .bf16} {x1 : Vec Ideal S1024x2176 .bf16}
  {s : Vec Ideal S1024x2176 .f32} {s' : Vec Ideal S8x2176 .f32}
  (hf : Tile (a := 1024) (b := 1024) f x0) (hg : Tile (a := 1024) (b := 2176) g x1)
  (hs : Tile (a := 1024) (b := 2176) h s) (hk : Tile (a := 8) (b := 2176) k s')

section Weight
include hf hg

theorem prod : Tile (a := 1024) (b := 2176) (fun i j => ∑ q : Fin 1024, f q.val i * g q.val j) (k0_pay1 (F := Ideal) x0 x1) := by
  unfold k0_pay1
  exact dot_tn (φ := .bf16) (ψ := .bf16) hf hg none

theorem first {c i a3 h3 a4 h4 a5 h5 a6 h6 a7 h7 a8 h8 c0 c1 c2} : Tile (a := 1024) (b := 2176) (fun i j => ∑ q : Fin 1024, f q.val i * g q.val j)
    (sout0_A_0 (F := Ideal) c i a3 h3 a4 h4 a5 h5 a6 h6 a7 h7 a8 h8 c0 c1 c2 x0 x1) := by
  unfold sout0_A_0 kernelRun0_A
  dsimp only
  refine whole_st (A := 1024) (B := 2176) (e := .f32) ?_
  unfold k0_pay3
  exact tile_shapeCast (φ := .f32) _ (prod (whole_ld (e := .bf16) hf) (whole_ld (e := .bf16) hg))

include hs

theorem sum : Tile (a := 1024) (b := 2176) (fun i j => h i j + ∑ q : Fin 1024, f q.val i * g q.val j) (k0_pay5 (F := Ideal) x0 x1 s) := by
  unfold k0_pay5
  exact tile_shapeCast (φ := .f32) _ (tile_addf (φ := .f32) hs (prod hf hg))

theorem next {c i a3 h3 a4 h4 a5 h5 a6 h6 a7 h7 a8 h8 c0 c1 c2} :
    Tile (a := 1024) (b := 2176) (fun i j => h i j + ∑ q : Fin 1024, f q.val i * g q.val j)
      (sout0_B_0 (F := Ideal) c i a3 h3 a4 h4 a5 h5 a6 h6 a7 h7 a8 h8 c0 c1 c2 x0 x1 s s') := by
  unfold sout0_B_0 kernelRun0_B
  dsimp only
  refine whole_st (A := 1024) (B := 2176) (e := .f32) (sum ?_ ?_ ?_)
  exacts [whole_ld (e := .bf16) hf, whole_ld (e := .bf16) hg, whole_ld (e := .f32) hs]

theorem last {c i a3 h3 a4 h4 a5 h5 a6 h6 a7 h7 a8 h8 c0 c1 c2} :
    Tile (a := 1024) (b := 2176) (fun i j => h i j + ∑ q : Fin 1024, f q.val i * g q.val j)
      (out0_C_2 (F := Ideal) c i a3 h3 a4 h4 a5 h5 a6 h6 a7 h7 a8 h8 c0 c1 c2 x0 x1 s s') := by
  unfold out0_C_2 kernelRun0_C
  dsimp only
  sl_unfold_words
  refine whole_st (A := 1024) (B := 2176) (e := .f32) (whole_cov (A := 1024) (B := 2176) (e := .f32) (sum ?_ ?_ ?_))
  exacts [whole_ld (e := .bf16) hf, whole_ld (e := .bf16) hg, whole_ld (e := .f32) hs]

end Weight

section Bias
include hg

theorem oct : Tile (a := 8) (b := 2176) (fun r q => ∑ u : Fin 128, g (8 * u.val + r) q) (k0_pay2 (F := Ideal) x1) := by
  unfold k0_pay2
  exact tile_oct _ _ _ _ hg

theorem col_first {c i a3 h3 a4 h4 a5 h5 a6 h6 a7 h7 a8 h8 c0 c1 c2} : Tile (a := 8) (b := 2176) (fun r q => ∑ u : Fin 128, g (8 * u.val + r) q)
    (sout0_A_1 (F := Ideal) c i a3 h3 a4 h4 a5 h5 a6 h6 a7 h7 a8 h8 c0 c1 c2 x0 x1) := by
  unfold sout0_A_1 kernelRun0_A
  dsimp only
  refine whole_st (A := 8) (B := 2176) (e := .f32) ?_
  unfold k0_pay4
  exact tile_shapeCast (φ := .f32) _ (oct (whole_ld (e := .bf16) hg))

include hk

theorem col_sum : Tile (a := 8) (b := 2176) (fun r q => k r q + ∑ u : Fin 128, g (8 * u.val + r) q) (k0_pay6 (F := Ideal) x1 s') := by
  unfold k0_pay6
  exact tile_shapeCast (φ := .f32) _ (tile_addf (φ := .f32) hk (oct hg))

theorem col_next {c i a3 h3 a4 h4 a5 h5 a6 h6 a7 h7 a8 h8 c0 c1 c2} :
    Tile (a := 8) (b := 2176) (fun r q => k r q + ∑ u : Fin 128, g (8 * u.val + r) q)
      (sout0_B_1 (F := Ideal) c i a3 h3 a4 h4 a5 h5 a6 h6 a7 h7 a8 h8 c0 c1 c2 x0 x1 s s') := by
  unfold sout0_B_1 kernelRun0_B
  dsimp only
  refine whole_st (A := 8) (B := 2176) (e := .f32) (col_sum ?_ ?_)
  exacts [whole_ld (e := .bf16) hg, whole_ld (e := .f32) hk]

theorem col_last {c i a3 h3 a4 h4 a5 h5 a6 h6 a7 h7 a8 h8 c0 c1 c2} :
    Tile (a := 1) (b := 2176) (fun _ q => ∑ r : Fin 8, (k r.val q + ∑ u : Fin 128, g (8 * u.val + r.val) q))
      (out0_C_3 (F := Ideal) c i a3 h3 a4 h4 a5 h5 a6 h6 a7 h7 a8 h8 c0 c1 c2 x0 x1 s s') := by
  unfold out0_C_3 kernelRun0_C
  dsimp only
  sl_unfold_words
  refine whole_st (A := 1) (B := 2176) (e := .f32) ?_
  unfold k0_pay7
  refine tile_sum8 (f := fun r q => k r q + ∑ u : Fin 128, g (8 * u.val + r) q) _ _ _ _ (whole_cov (Val := Elt Ideal) (A := 8) (B := 2176) (e := .f32) (col_sum ?_ ?_))
  exacts [whole_ld (e := .bf16) hg, whole_ld (e := .f32) hk]

end Bias
end Step

variable (m : (ℓ : Loc nD τ sig) → Buf (Elt Ideal) ℓ) (c : Dev nD)

/-- The two arguments. -/
def x : ℕ → ℕ → EReal := fn2 (A := 8192) (B := 1024) (m ((c : Thread nD τ).loc main_arg0))
def du : ℕ → ℕ → EReal := fn2 (A := 8192) (B := 8704) (m ((c : Thread nD τ).loc main_arg1))

theorem idx_all : ∀ t : Fin cfg0.N, win0_0.index t = ![t.val % 8, 0] ∧ win0_1.index t = ![t.val % 8, t.val / 8]
    ∧ win0_2.index t = ![0, t.val / 8] ∧ win0_3.index t = ![0, t.val / 8] := by
  decide +kernel

theorem x_blk (t : Fin cfg0.N) : Tile (a := 1024) (b := 1024) (fun r q => x m c (1024 * (t.val % 8) + r) (0 + q)) (iblk m c 0 t) := by
  have e := (idx_all t).1
  exact blk (A := 8192) (B := 1024) (o := 1024 * (t.val % 8)) (p := 0) (fn2_tile (m ((c : Thread nD τ).loc main_arg0)))
    (((cfg0.win 0).blk t).view.emb) fun y => ⟨by blk_simp [e]; omega, by blk_simp [e]⟩

theorem du_blk (t : Fin cfg0.N) : Tile (a := 1024) (b := 2176) (fun r q => du m c (1024 * (t.val % 8) + r) (t.val / 8 * 2176 + q)) (iblk m c 1 t) := by
  have e := (idx_all t).2.1
  exact blk (A := 8192) (B := 8704) (o := 1024 * (t.val % 8)) (p := t.val / 8 * 2176) (fn2_tile (m ((c : Thread nD τ).loc main_arg1)))
    (((cfg0.win 1).blk t).view.emb) fun y => ⟨by blk_simp [e]; omega, by blk_simp [e]⟩

theorem out_at : ∀ (n : ℕ) (hn : n < cfg0.N), n % 8 = 8 - 1 → Tile (a := 1024) (b := 2176)
    (fun r q => grad (x m c) (du m c) (0 + r) (n / 8 * 2176 + q)) (outsAt0 m c n hn).1 :=
  runs_out (K := 1024) (by decide) (fun n hn => (outsAt0 m c n hn).2.2.1) (fun n hn => (outsAt0 m c n hn).1)
    (fun i r q t => x m c t (0 + r) * du m c t (i * 2176 + q)) (fun _ _ _ x => x)
    (fun n hn h => by
      rw [outsAt0_A m c ⟨n, hn⟩ h (by dsimp only; omega) (by dsimp only; omega)]
      dsimp only
      exact (first (x_blk m c ⟨n, hn⟩) (du_blk m c ⟨n, hn⟩)).congr fun _ _ _ _ => rfl)
    (fun n hn f h hl hf => by
      rw [outsAt0_B m c ⟨n, hn⟩ (by dsimp only; omega) h hl]
      dsimp only
      exact (next (x_blk m c ⟨n, hn⟩) (du_blk m c ⟨n, hn⟩) hf).congr fun _ _ _ _ => rfl)
    (fun n hn f h hf => by
      rw [outsAt0_C m c ⟨n, hn⟩ (by dsimp only; omega) (by dsimp only; omega) h]
      dsimp only
      exact (last (x_blk m c ⟨n, hn⟩) (du_blk m c ⟨n, hn⟩) hf).congr fun _ _ _ _ => rfl)

/-- Term `t` of a column's sum over every eighth row, from row `r`, at a run of points `i`. -/
def term (i r q t : ℕ) : EReal := du m c (8 * t + r) (i * 2176 + q)

theorem term_eq (n r q u : ℕ) : du m c (1024 * (n % 8) + (8 * u + r)) (n / 8 * 2176 + q) = term m c (n / 8) r q (128 * (n % 8) + u) :=
  congrArg (du m c · _) (by omega)

theorem col_at (n : ℕ) (hn : n < cfg0.N) (h : n % 8 = 8 - 1) : Tile (a := 1) (b := 2176)
    (fun r q => cols (du m c) (n / 8 * 2176 + q)) (outsAt0 m c n hn).2.1 := by
  have hp := before_mod (n := n) (nk := 8) (by omega)
  have hr := runs (N := cfg0.N) (nk := 8) (K := 128) (by decide) (fun n hn => (outsAt0 m c n hn).2.2.2) (term m c)
    (fun n hn h => by
      rw [outsAt0_A m c ⟨n, hn⟩ h (by dsimp only; omega) (by dsimp only; omega)]
      dsimp only
      exact (col_first (du_blk m c ⟨n, hn⟩)).congr fun r _ q _ => Finset.sum_congr rfl fun u _ => term_eq m c n r q u.val)
    (fun n hn f h hl hf => by
      rw [outsAt0_B m c ⟨n, hn⟩ (by dsimp only; omega) h hl]
      dsimp only
      exact (col_next (du_blk m c ⟨n, hn⟩) hf).congr fun r _ q _ =>
        congrArg (f r q + ·) (Finset.sum_congr rfl fun u _ => term_eq m c n r q u.val))
    (n - 1) (Nat.lt_of_le_of_lt (Nat.sub_le _ _) hn) (by omega)
  rw [outsAt0_C m c ⟨n, hn⟩ (by dsimp only; omega) (by dsimp only; omega) h]
  dsimp only
  refine (col_last (du_blk m c ⟨n, hn⟩) hr).congr fun _ _ q _ => ?_
  refine Eq.trans ?_ (part_eight (fun t => du m c t (n / 8 * 2176 + q)) 1024)
  refine Finset.sum_congr rfl fun r _ => ?_
  rw [hp.1, hp.2]
  refine Eq.trans (congrArg (_ + ·) (Finset.sum_congr rfl fun u _ => term_eq m c n r.val q u.val)) ?_
  rw [h]
  exact part_last (term m c (n / 8) r.val q) rfl

def arrW (c : Dev nD) : S1024x8704.Idx → EReal := fun y => grad (x m c) (du m c) (y 0).val (y 1).val
def arrB (c : Dev nD) : S1x8704.Idx → EReal := fun y => cols (du m c) (y 1).val

theorem final_w : (dats m 0 c).arrAt 2 cfg0.N = arrW m c := by
  refine (dats m 0 c).arrAt_eq_of_covers 2 _ (by decide +kernel) fun t hf y => ?_
  have e := (idx_all t).2.2.1
  refine (out_at m c t.val t.isLt ((flush0_2 t).mp hf) y).trans ?_
  unfold arrW
  blk_simp [e]

theorem final_b : (dats m 0 c).arrAt 3 cfg0.N = arrB m c := by
  refine (dats m 0 c).arrAt_eq_of_covers 3 _ (by decide +kernel) fun t hf y => ?_
  have e := (idx_all t).2.2.2
  refine (col_at m c t.val t.isLt ((flush0_3 t).mp hf) y).trans ?_
  unfold arrB
  blk_simp [e]

end Kernel

section Ref

open Cert.Reference14Ideal Cert.Reference14Ideal.Gen

theorem ref_w (a0 : FVec Ideal S8192x1024 .bf16) (a1 : FVec Ideal S8192x8704 .bf16) :
    transpose S1024x8704 [1, 0] (Host.dotGeneral dot_S8192x8704_S8192x1024_S8704x1024_0_0_1_1_n_n none (extf .f32 a1 bitsLt_bf16_f32) (extf .f32 a0 bitsLt_bf16_f32))
      transposes_S8704x1024_S1024x8704_1_0
    = fun y => grad (fn2 (A := 8192) (B := 1024) a0) (fn2 (A := 8192) (B := 8704) a1) (y 0).val (y 1).val :=
  funext (host_gw (M := 1024) (K := 8192) (N := 8704) _ (fn2_tile a0) (fn2_tile a1))

theorem ref_b (a1 : FVec Ideal S8192x8704 .bf16) :
    shapeCast S1x8704 (Host.reduceAdd (shapeCast S1x8704 (Host.reduceAdd (extf .f32 a1 bitsLt_bf16_f32) (constant S_ .f32 0x00000000#32) reducesTo_S8192x8704_S8704_d0 h_S_) shapeCasts_S8704_S1x8704)
      (constant S_ .f32 0x00000000#32) reducesTo_S1x8704_S8704_d0 h_S_) shapeCasts_S8704_S1x8704
    = fun y => cols (fn2 (A := 8192) (B := 8704) a1) (y 1).val :=
  funext fun y => (host_cols (A := 1) h_S_ _ _ (host_cols (A := 8192) h_S_ _ _ (fn2_tile a1)) y).trans (Finset.sum_range_one _)

end Ref

theorem claim : Cert.algebraic_Kernel14Ideal_Reference14Ideal (hKernel14Ideal := Cert.Kernel14Ideal.Gen.facts)
    (hReference14Ideal := Cert.Reference14Ideal.Gen.facts) := by
  intro m g m' g' _ hm
  refine ⟨arrW m, arrB m, ?_, ?_⟩
  · refine (θ_run _ _ _).mono (fun r h c => ?_) (Cert.Kernel14Ideal.Value.run_blocks m g)
    exact ⟨(h c).1.trans (final_w m c), (h c).2.1.trans (final_b m c), (h c).2.2⟩
  · refine (θ_run _ _ _).mono (fun r h c => ?_) (Cert.Reference14Ideal.Value.run m' g')
    refine ⟨(h c).1.trans ?_, (h c).2.1.trans ?_, (h c).2.2⟩
    · rw [(hm c).1, (hm c).2]
      exact ref_w _ _
    · rw [(hm c).2]
      exact ref_b _

end Cert.InDw
-- ==== Proof.InFwd.lean ====
/- The mixer's input projection: the call's array, its reference, and their equality. -/
module

public import proofs.«01_k».proof.Proof.Dense
public import proofs.«01_k».proof.Proof.Gen.Kernel15Ideal.Value
public import proofs.«01_k».proof.Proof.Gen.Reference15Ideal.Run
public import proofs.«01_k».proof.Defs

@[expose] public section

set_option maxRecDepth 16384

noncomputable section

namespace Cert.InFwd

open Idealize.ShloMosaic Idealize.ShloMosaic.TcCoe Cert.Tile Cert.Dense
open Idealize.ShloMosaic.Tactic
open scoped BigOperators

/-- Token `r`'s projection at column `q`, with the column's bias. -/
def proj (f g b : ℕ → ℕ → EReal) (r q : ℕ) : EReal := part (fun t => f r t * g t q) 1024 + b 0 q

section Kernel

open Cert.Kernel15Ideal Cert.Kernel15Ideal.Gen Cert.Kernel15Ideal.Value

theorem step {f g b : ℕ → ℕ → EReal} {x0 : Vec Ideal S1024x1024 .bf16} {x1 : Vec Ideal S1024x2176 .bf16} {x2 : Vec Ideal S1x2176 .f32}
    (hf : Tile (a := 1024) (b := 1024) f x0) (hg : Tile (a := 1024) (b := 2176) g x1) (hb : Tile (a := 1) (b := 2176) b x2) :
    Tile (a := 1024) (b := 2176) (proj f g b) (out0_3 (F := Ideal) x0 x1 x2) := by
  unfold out0_3
  refine whole_canon (e := .f32) ?_
  unfold k0_pay1
  refine tile_addf (φ := .f32) (f := fun r q => part (fun t => f r t * g t q) 1024) (g := fun _ q => b 0 q) ?_ ?_
  · exact (dot_plain (φ := .bf16) (ψ := .bf16) (whole_lds (e := .bf16) hf) (whole_lds (e := .bf16) hg) none).congr
      fun r _ q _ => part_first (fun t => f r t * g t q) 1024
  · exact tile_rows _ (whole_lds (e := .f32) hb)

variable (m : (ℓ : Loc nD τ sig) → Buf (Elt Ideal) ℓ) (c : Dev nD)

/-- The three arguments. -/
def h : ℕ → ℕ → EReal := fn2 (A := 8192) (B := 1024) (m ((c : Thread nD τ).loc main_arg0))
def w : ℕ → ℕ → EReal := fn2 (A := 1024) (B := 8704) (m ((c : Thread nD τ).loc main_arg1))
def bias : ℕ → ℕ → EReal := fn2 (A := 1) (B := 8704) (m ((c : Thread nD τ).loc main_arg2))

theorem idx_all : ∀ t : Fin cfg0.N, win0_0.index t = ![t.val / 4, 0] ∧ win0_1.index t = ![0, t.val % 4]
    ∧ win0_2.index t = ![0, t.val % 4] ∧ win0_3.index t = ![t.val / 4, t.val % 4] := by
  decide +kernel

theorem h_blk (t : Fin cfg0.N) : Tile (a := 1024) (b := 1024) (fun r q => h m c (t.val / 4 * 1024 + r) (0 + q)) (iblk m c 0 t) := by
  have e := (idx_all t).1
  exact blk (A := 8192) (B := 1024) (o := t.val / 4 * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 2176) (fun r q => w m c (0 + r) (t.val % 4 * 2176 + q)) (iblk m c 1 t) := by
  have e := (idx_all t).2.1
  exact blk (A := 1024) (B := 8704) (o := 0) (p := t.val % 4 * 2176) (fn2_tile (m ((c : Thread nD τ).loc main_arg1)))
    (((cfg0.win 1).blk t).view.emb) fun y => ⟨by blk_simp [e], by blk_simp [e]⟩

theorem bias_blk (t : Fin cfg0.N) : Tile (a := 1) (b := 2176) (fun r q => bias m c (0 + r) (t.val % 4 * 2176 + q)) (iblk m c 2 t) := by
  have e := (idx_all t).2.2.1
  exact blk (A := 1) (B := 8704) (o := 0) (p := t.val % 4 * 2176) (fn2_tile (m ((c : Thread nD τ).loc main_arg2)))
    (((cfg0.win 2).blk t).view.emb) fun y => ⟨by blk_simp [e], by blk_simp [e]⟩

def arr (c : Dev nD) : S8192x8704.Idx → EReal := fun y => proj (h m c) (w m c) (bias m c) (y 0).val (y 1).val

theorem final : (dats m 0 c).arrAt 3 cfg0.N = arr m c := by
  refine (dats m 0 c).arrAt_eq_of_covers 3 _ (by decide +kernel) fun t hf y => ?_
  have e := (idx_all t).2.2.2
  refine (congrFun (after0_3 m c t) _).trans ?_
  refine (step (h_blk m c t) (w_blk m c t) (bias_blk m c t) y).trans ?_
  unfold arr proj
  simp only [zero_add]
  blk_simp [e]

end Kernel

section Ref

open Cert.Reference15Ideal Cert.Reference15Ideal.Gen

theorem ref (a0 : FVec Ideal S8192x1024 .bf16) (a1 : FVec Ideal S1024x8704 .bf16) (a2 : FVec Ideal S1x8704 .f32) :
    Tile (a := 8192) (b := 8704) (proj (fn2 (A := 8192) (B := 1024) a0) (fn2 (A := 1024) (B := 8704) a1) (fn2 (A := 1) (B := 8704) a2))
    (addf (Host.dotGeneral dot_S8192x1024_S1024x8704_S8192x8704_1_0_0_1_n_n none (extf .f32 a0 bitsLt_bf16_f32) (extf .f32 a1 bitsLt_bf16_f32))
      (broadcastInDim S8192x8704 ![0, 1] bcast_S1x8704_S8192x8704_0_1 a2)) := by
  exact tile_addf (φ := .f32) (host_nn (M := 8192) (K := 1024) (N := 8704) (fn2_tile a0) (fn2_tile a1)) (host_rows _ (fn2_tile a2))

end Ref

theorem claim : Cert.algebraic_Kernel15Ideal_Reference15Ideal (hKernel15Ideal := Cert.Kernel15Ideal.Gen.facts)
    (hReference15Ideal := Cert.Reference15Ideal.Gen.facts) := by
  intro m g m' g' _ hm
  refine ⟨arr m, ?_, ?_⟩
  · refine (θ_run _ _ _).mono (fun r h c => ?_) (Cert.Kernel15Ideal.Value.run_blocks m g)
    exact ⟨(h c).1.trans (final m c), (h c).2⟩
  · refine (θ_run _ _ _).mono (fun r h c => ?_) (Cert.Reference15Ideal.Value.run m' g')
    refine ⟨(h c).1.trans ?_, (h c).2⟩
    rw [(hm c).1, (hm c).2.1, (hm c).2.2]
    exact funext (ref _ _ _)

end Cert.InFwd
-- ==== Proof.MlpUp.lean ====
/- The channel mixer's first product and its activation: the call's two arrays, their reference, and their equality. -/
module

public import proofs.«01_k».proof.Proof.Dense
public import proofs.«01_k».proof.Proof.Gen.Kernel16Ideal.Value
public import proofs.«01_k».proof.Proof.Gen.Reference16Ideal.Run
public import proofs.«01_k».proof.Defs

@[expose] public section

set_option maxRecDepth 16384

noncomputable section

namespace Cert.MlpUp

open Idealize.ShloMosaic Idealize.ShloMosaic.TcCoe Cert.Tile Cert.Dense
open Idealize.ShloMosaic.Tactic
open scoped BigOperators

/-- The pre-activation of token `r` at column `q`, and the activation. -/
def pre (f g : ℕ → ℕ → EReal) (r q : ℕ) : EReal := part (fun t => f r t * g t q) 1024
def act (f g : ℕ → ℕ → EReal) (r q : ℕ) : EReal := max (pre f g r q) 0 * max (pre f g r q) 0

section Kernel

open Cert.Kernel16Ideal Cert.Kernel16Ideal.Gen Cert.Kernel16Ideal.Value

section Step

variable {f g : ℕ → ℕ → EReal} {x0 x1 : Vec Ideal S1024x1024 .bf16}
  (hf : Tile (a := 1024) (b := 1024) f x0) (hg : Tile (a := 1024) (b := 1024) g x1)
include hf hg

theorem prod : Tile (a := 1024) (b := 1024) (pre f g) (k0_pay1 (F := Ideal) x0 x1) := by
  unfold k0_pay1
  exact (dot_plain (φ := .bf16) (ψ := .bf16) hf hg none).congr fun r _ q _ => part_first (fun t => f r t * g t q) 1024

theorem pre_out : Tile (a := 1024) (b := 1024) (pre f g) (out0_2 (F := Ideal) x0 x1) := by
  unfold out0_2
  exact whole_canon (e := .f32) (prod (whole_lds (e := .bf16) hf) (whole_lds (e := .bf16) hg))

theorem act_out : Tile (a := 1024) (b := 1024) (act f g) (out0_3 (F := Ideal) x0 x1) := by
  unfold out0_3
  refine whole_canon (e := .bf16) ?_
  unfold k0_pay2
  refine tile_truncf (φ := .f32) (ψ := .bf16) _ (tile_mulf (φ := .f32) (tile_relu (prod ?_ ?_) zero_bc) (tile_relu (prod ?_ ?_) zero_bc))
  exacts [whole_lds (e := .bf16) hf, whole_lds (e := .bf16) hg, whole_lds (e := .bf16) hf, whole_lds (e := .bf16) hg]

end Step

variable (m : (ℓ : Loc nD τ sig) → Buf (Elt Ideal) ℓ) (c : Dev nD)

/-- The two arguments. -/
def h : ℕ → ℕ → EReal := fn2 (A := 8192) (B := 1024) (m ((c : Thread nD τ).loc main_arg0))
def w : ℕ → ℕ → EReal := fn2 (A := 1024) (B := 4096) (m ((c : Thread nD τ).loc main_arg1))

theorem idx_all : ∀ t : Fin cfg0.N, win0_0.index t = ![t.val / 4, 0] ∧ win0_1.index t = ![0, t.val % 4]
    ∧ win0_2.index t = ![t.val / 4, t.val % 4] ∧ win0_3.index t = ![t.val / 4, t.val % 4] := by
  decide +kernel

theorem h_blk (t : Fin cfg0.N) : Tile (a := 1024) (b := 1024) (fun r q => h m c (t.val / 4 * 1024 + r) (0 + q)) (iblk m c 0 t) := by
  have e := (idx_all t).1
  exact blk (A := 8192) (B := 1024) (o := t.val / 4 * 1024) (p := 0) (fn2_tile (m ((c : Thread nD τ).loc main_arg0)))
    (((cfg0.win 0).blk t).view.emb) fun y => ⟨by blk_simp [e], by blk_simp [e]⟩

theorem w_blk (t : Fin cfg0.N) : Tile (a := 1024) (b := 1024) (fun r q => w m c (0 + r) (t.val % 4 * 1024 + q)) (iblk m c 1 t) := by
  have e := (idx_all t).2.1
  exact blk (A := 1024) (B := 4096) (o := 0) (p := t.val % 4 * 1024) (fn2_tile (m ((c : Thread nD τ).loc main_arg1)))
    (((cfg0.win 1).blk t).view.emb) fun y => ⟨by blk_simp [e], by blk_simp [e]⟩

theorem shift {f g : ℕ → ℕ → EReal} {i j : ℕ} (r q : ℕ) : pre (fun r q => f (i + r) (0 + q)) (fun r q => g (0 + r) (j + q)) r q = pre f g (i + r) (j + q) :=
  part_congr fun t _ => by dsimp only; rw [zero_add]

def arrP (c : Dev nD) : S8192x4096.Idx → EReal := fun y => pre (h m c) (w m c) (y 0).val (y 1).val
def arrA (c : Dev nD) : S8192x4096.Idx → EReal := fun y => act (h m c) (w m c) (y 0).val (y 1).val

theorem final_pre : (dats m 0 c).arrAt 2 cfg0.N = arrP m c := by
  refine (dats m 0 c).arrAt_eq_of_covers 2 _ (by decide +kernel) fun t hf y => ?_
  have e := (idx_all t).2.2.1
  refine (congrFun (after0_2 m c t) _).trans ?_
  refine (pre_out (h_blk m c t) (w_blk m c t) y).trans ((shift _ _).trans ?_)
  unfold arrP
  blk_simp [e]

theorem final_act : (dats m 0 c).arrAt 3 cfg0.N = arrA m c := by
  refine (dats m 0 c).arrAt_eq_of_covers 3 _ (by decide +kernel) fun t hf y => ?_
  have e := (idx_all t).2.2.2
  refine (congrFun (after0_3 m c t) _).trans ?_
  refine (act_out (h_blk m c t) (w_blk m c t) y).trans ?_
  unfold arrA act
  rw [shift]
  blk_simp [e]

end Kernel

section Ref

open Cert.Reference16Ideal Cert.Reference16Ideal.Gen

variable (a0 : FVec Ideal S8192x1024 .bf16) (a1 : FVec Ideal S1024x4096 .bf16)

theorem ref_pre : Tile (a := 8192) (b := 4096) (pre (fn2 (A := 8192) (B := 1024) a0) (fn2 (A := 1024) (B := 4096) a1))
    (Host.dotGeneral dot_S8192x1024_S1024x4096_S8192x4096_1_0_0_1_n_n none (extf .f32 a0 bitsLt_bf16_f32) (extf .f32 a1 bitsLt_bf16_f32)) :=
  host_nn (M := 8192) (K := 1024) (N := 4096) (fn2_tile a0) (fn2_tile a1)

theorem ref_act : Tile (a := 8192) (b := 4096) (act (fn2 (A := 8192) (B := 1024) a0) (fn2 (A := 1024) (B := 4096) a1))
    (truncf .bf16 (mulf (maximumf (Host.dotGeneral dot_S8192x1024_S1024x4096_S8192x4096_1_0_0_1_n_n none (extf .f32 a0 bitsLt_bf16_f32) (extf .f32 a1 bitsLt_bf16_f32)) (broadcastInDim S8192x4096 ![] bcast_S_S8192x4096 (constant S_ .f32 0x00000000#32)))
      (maximumf (Host.dotGeneral dot_S8192x1024_S1024x4096_S8192x4096_1_0_0_1_n_n none (extf .f32 a0 bitsLt_bf16_f32) (extf .f32 a1 bitsLt_bf16_f32)) (broadcastInDim S8192x4096 ![] bcast_S_S8192x4096 (constant S_ .f32 0x00000000#32)))) bitsLt_bf16_f32) := by
  have h := tile_relu (ref_pre a0 a1) (zero_host bcast_S_S8192x4096)
  exact tile_truncf (φ := .f32) (ψ := .bf16) _ (tile_mulf (φ := .f32) h h)

end Ref

theorem claim : Cert.algebraic_Kernel16Ideal_Reference16Ideal (hKernel16Ideal := Cert.Kernel16Ideal.Gen.facts)
    (hReference16Ideal := Cert.Reference16Ideal.Gen.facts) := by
  intro m g m' g' _ hm
  refine ⟨arrP m, arrA m, ?_, ?_⟩
  · refine (θ_run _ _ _).mono (fun r h c => ?_) (Cert.Kernel16Ideal.Value.run_blocks m g)
    exact ⟨(h c).1.trans (final_pre m c), (h c).2.1.trans (final_act m c), (h c).2.2⟩
  · refine (θ_run _ _ _).mono (fun r h c => ?_) (Cert.Reference16Ideal.Value.run m' g')
    refine ⟨(h c).1.trans ?_, (h c).2.1.trans ?_, (h c).2.2⟩
    · rw [(hm c).1, (hm c).2]
      exact funext (ref_pre _ _)
    · rw [(hm c).1, (hm c).2]
      exact funext (ref_act _ _)

end Cert.MlpUp
-- ==== Proof.MlpDown.lean ====
/- The channel mixer's second product, added to the residual stream: the call's array, its reference, and their equality. -/
module

public import proofs.«01_k».proof.Proof.Dense
public import proofs.«01_k».proof.Proof.Gen.Kernel17Ideal.Value
public import proofs.«01_k».proof.Proof.Gen.Reference17Ideal.Run
public import proofs.«01_k».proof.Defs

@[expose] public section

set_option maxRecDepth 16384

noncomputable section

namespace Cert.MlpDown

open Idealize.ShloMosaic Idealize.ShloMosaic.TcCoe Cert.Tile Cert.Dense
open Idealize.ShloMosaic.Tactic
open scoped BigOperators

/-- Token `r`'s stream at feature `q`: what came in, and the product over the hidden columns. -/
def down (f g p : ℕ → ℕ → EReal) (r q : ℕ) : EReal := p r q + part (fun t => f r t * g t q) 4096

section Kernel

open Cert.Kernel17Ideal Cert.Kernel17Ideal.Gen Cert.Kernel17Ideal.Value

section Step

variable {f g h p : ℕ → ℕ → EReal} {x0 : Vec Ideal S1024x2048 .bf16} {x1 : Vec Ideal S2048x1024 .bf16} {x2 s : Vec Ideal S1024x1024 .f32}
  (hf : Tile (a := 1024) (b := 2048) f x0) (hg : Tile (a := 2048) (b := 1024) g x1)
  (hp : Tile (a := 1024) (b := 1024) p x2) (hs : Tile (a := 1024) (b := 1024) h s)
include hf hg

theorem prod : Tile (a := 1024) (b := 1024) (fun i j => ∑ q : Fin 2048, f i q.val * g q.val j) (k0_pay1 (F := Ideal) x0 x1) := by
  unfold k0_pay1
  exact dot_plain (φ := .bf16) (ψ := .bf16) hf hg none

theorem first {c i a3 h3 a4 h4 a5 h5 a6 h6 a7 h7 c0 c1 c2} : Tile (a := 1024) (b := 1024) (fun i j => ∑ q : Fin 2048, f i q.val * g q.val j)
    (sout0_A_0 (F := Ideal) c i a3 h3 a4 h4 a5 h5 a6 h6 a7 h7 c0 c1 c2 x0 x1 x2) := by
  unfold sout0_A_0 kernelRun0_A
  dsimp only
  refine whole_st (A := 1024) (B := 1024) (e := .f32) ?_
  unfold k0_pay2
  exact tile_shapeCast (φ := .f32) _ (prod (whole_ld (e := .bf16) hf) (whole_ld (e := .bf16) hg))

include hs

theorem sum : Tile (a := 1024) (b := 1024) (fun i j => h i j + ∑ q : Fin 2048, f i q.val * g q.val j) (k0_pay3 (F := Ideal) x0 x1 s) := by
  unfold k0_pay3
  exact tile_shapeCast (φ := .f32) _ (tile_addf (φ := .f32) hs (prod hf hg))

include hp

theorem last {c i a3 h3 a4 h4 a5 h5 a6 h6 a7 h7 c0 c1 c2} :
    Tile (a := 1024) (b := 1024) (fun i j => p i j + (h i j + ∑ q : Fin 2048, f i q.val * g q.val j))
      (out0_B_3 (F := Ideal) c i a3 h3 a4 h4 a5 h5 a6 h6 a7 h7 c0 c1 c2 x0 x1 x2 s) := by
  unfold out0_B_3 kernelRun0_B
  dsimp only
  sl_unfold_words
  refine whole_st (A := 1024) (B := 1024) (e := .f32) ?_
  unfold k0_pay4
  refine (tile_addf (φ := .f32) (whole_cov (Val := Elt Ideal) (A := 1024) (B := 1024) (e := .f32) (sum ?_ ?_ ?_)) ?_).congr fun _ _ _ _ => add_comm _ _
  exacts [whole_ld (e := .bf16) hf, whole_ld (e := .bf16) hg, whole_ld (e := .f32) hs, whole_ld (e := .f32) hp]

end Step

variable (m : (ℓ : Loc nD τ sig) → Buf (Elt Ideal) ℓ) (c : Dev nD)

/-- The three arguments. -/
def act : ℕ → ℕ → EReal := fn2 (A := 8192) (B := 4096) (m ((c : Thread nD τ).loc main_arg0))
def w : ℕ → ℕ → EReal := fn2 (A := 4096) (B := 1024) (m ((c : Thread nD τ).loc main_arg1))
def x : ℕ → ℕ → EReal := fn2 (A := 8192) (B := 1024) (m ((c : Thread nD τ).loc main_arg2))

theorem idx_all : ∀ t : Fin cfg0.N, win0_0.index t = ![t.val / 2, t.val % 2] ∧ win0_1.index t = ![t.val % 2, 0]
    ∧ win0_2.index t = ![t.val / 2, 0] ∧ win0_3.index t = ![t.val / 2, 0] := by
  decide +kernel

theorem act_blk (t : Fin cfg0.N) : Tile (a := 1024) (b := 2048) (fun r q => act m c (t.val / 2 * 1024 + r) (2048 * (t.val % 2) + q)) (iblk m c 0 t) := by
  have e := (idx_all t).1
  exact blk (A := 8192) (B := 4096) (o := t.val / 2 * 1024) (p := 2048 * (t.val % 2)) (fn2_tile (m ((c : Thread nD τ).loc main_arg0)))
    (((cfg0.win 0).blk t).view.emb) fun y => ⟨by blk_simp [e], by blk_simp [e]; omega⟩

theorem w_blk (t : Fin cfg0.N) : Tile (a := 2048) (b := 1024) (fun r q => w m c (2048 * (t.val % 2) + r) (0 + q)) (iblk m c 1 t) := by
  have e := (idx_all t).2.1
  exact blk (A := 4096) (B := 1024) (o := 2048 * (t.val % 2)) (p := 0) (fn2_tile (m ((c : Thread nD τ).loc main_arg1)))
    (((cfg0.win 1).blk t).view.emb) fun y => ⟨by blk_simp [e]; omega, by blk_simp [e]⟩

theorem x_blk (t : Fin cfg0.N) : Tile (a := 1024) (b := 1024) (fun r q => x m c (t.val / 2 * 1024 + r) (0 + q)) (iblk m c 2 t) := by
  have e := (idx_all t).2.2.1
  exact blk (A := 8192) (B := 1024) (o := t.val / 2 * 1024) (p := 0) (fn2_tile (m ((c : Thread nD τ).loc main_arg2)))
    (((cfg0.win 2).blk t).view.emb) fun y => ⟨by blk_simp [e], by blk_simp [e]⟩

theorem out_at : ∀ (n : ℕ) (hn : n < cfg0.N), n % 2 = 2 - 1 → Tile (a := 1024) (b := 1024)
    (fun r q => down (act m c) (w m c) (x m c) (n / 2 * 1024 + r) (0 + q)) (outsAt0 m c n hn).1 :=
  runs_out (K := 2048) (by decide) (fun n hn => (outsAt0 m c n hn).2) (fun n hn => (outsAt0 m c n hn).1)
    (fun i r q t => act m c (i * 1024 + r) t * w m c t (0 + q)) (fun n r q v => x m c (n / 2 * 1024 + r) (0 + q) + v)
    (fun n hn h => by
      rw [outsAt0_A m c ⟨n, hn⟩ h (by dsimp only; omega) (by dsimp only; omega)]
      dsimp only
      exact (first (act_blk m c ⟨n, hn⟩) (w_blk m c ⟨n, hn⟩)).congr fun _ _ _ _ => rfl)
    (fun n hn f h hl hf => by omega)
    (fun n hn f h hf => by
      rw [outsAt0_B m c ⟨n, hn⟩ (by dsimp only; omega) h h]
      dsimp only
      exact (last (act_blk m c ⟨n, hn⟩) (w_blk m c ⟨n, hn⟩) (x_blk m c ⟨n, hn⟩) hf).congr fun _ _ _ _ => rfl)

def arr (c : Dev nD) : S8192x1024.Idx → EReal := fun y => down (act m c) (w m c) (x m c) (y 0).val (y 1).val

theorem final : (dats m 0 c).arrAt 3 cfg0.N = arr m c := by
  refine (dats m 0 c).arrAt_eq_of_covers 3 _ (by decide +kernel) fun t hf y => ?_
  have e := (idx_all t).2.2.2
  refine (out_at m c t.val t.isLt ((flush0_3 t).mp hf) y).trans ?_
  unfold arr
  blk_simp [e]

end Kernel

section Ref

open Cert.Reference17Ideal Cert.Reference17Ideal.Gen

theorem ref (a0 : FVec Ideal S8192x4096 .bf16) (a1 : FVec Ideal S4096x1024 .bf16) (a2 : FVec Ideal S8192x1024 .f32) :
    addf a2 (Host.dotGeneral dot_S8192x4096_S4096x1024_S8192x1024_1_0_0_1_n_n none (extf .f32 a0 bitsLt_bf16_f32) (extf .f32 a1 bitsLt_bf16_f32))
    = fun y => down (fn2 (A := 8192) (B := 4096) a0) (fn2 (A := 4096) (B := 1024) a1) (fn2 (A := 8192) (B := 1024) a2) (y 0).val (y 1).val :=
  funext (tile_addf (φ := .f32) (fn2_tile a2) (host_nn (M := 8192) (K := 4096) (N := 1024) (fn2_tile a0) (fn2_tile a1)))

end Ref

theorem claim : Cert.algebraic_Kernel17Ideal_Reference17Ideal (hKernel17Ideal := Cert.Kernel17Ideal.Gen.facts)
    (hReference17Ideal := Cert.Reference17Ideal.Gen.facts) := by
  intro m g m' g' _ hm
  refine ⟨arr m, ?_, ?_⟩
  · refine (θ_run _ _ _).mono (fun r h c => ?_) (Cert.Kernel17Ideal.Value.run_blocks m g)
    exact ⟨(h c).1.trans (final m c), (h c).2⟩
  · refine (θ_run _ _ _).mono (fun r h c => ?_) (Cert.Reference17Ideal.Value.run m' g')
    refine ⟨(h c).1.trans ?_, (h c).2⟩
    rw [(hm c).1, (hm c).2.1, (hm c).2.2]
    exact ref _ _ _

end Cert.MlpDown
-- ==== Proof.Adam.lean ====
/- The optimiser's step: what its call does at one entry, on blocks and on whole arrays. -/
module

public import proofs.«01_k».proof.Proof.Dense
public import proofs.«01_k».proof.Proof.Tile4

@[expose] public section

set_option maxRecDepth 16384

noncomputable section

namespace Cert.Adam

open Idealize.ShloMosaic hiding ix0 ix1 ix2 ix3 ix4 ix5
open Idealize.ShloMosaic.ValueIdx Cert.Tile Cert.Dense
open scoped BigOperators

/-- The number that a 32-bit pattern denotes. -/
abbrev num (b : BitVec 32) : EReal := (Scalar.ofBits .f32 b : Ideal .f32)

/-- The new first moment, the new second moment and the change of a weight. -/
def newM (g m : EReal) : EReal := num 0x3F666666#32 * m + num 0x3DCCCCCD#32 * g
def newV (g v : EReal) : EReal := num 0x3F7FBE77#32 * v + num 0x3A83126F#32 * (g * g)
def delta (g w m v : EReal) : EReal :=
  num 0xBA83126F#32 * (Ideal.div (Ideal.div (newM g m) (num 0x3F26BD02#32)) (Ideal.sqrt (Ideal.div (newV g v) (num 0x3C231ACC#32)) + num 0x322BCC77#32)
    + num 0x3C23D70A#32 * w)

section Pointwise

variable {a b : ℕ} {g w m v : ℕ → ℕ → EReal} {G W M V : FVec Ideal (⟨2, ![a, b]⟩ : Shape) .f32}

/-- One number everywhere. -/
abbrev all (a b : ℕ) (x : BitVec 32) : FVec Ideal (⟨2, ![a, b]⟩ : Shape) .f32 := broadcast (⟨2, ![a, b]⟩ : Shape) (Scalar.ofBits .f32 x : Ideal .f32)

theorem tile_newM (hg : Tile g G) (hm : Tile m M) : Tile (fun i j => newM (g i j) (m i j))
    (addf (mulf (all a b 0x3F666666#32) M) (mulf (all a b 0x3DCCCCCD#32) G)) :=
  fun y => congrArg₂ newM (hg y) (hm y)

theorem tile_newV (hg : Tile g G) (hv : Tile v V) : Tile (fun i j => newV (g i j) (v i j))
    (addf (mulf (all a b 0x3F7FBE77#32) V) (mulf (all a b 0x3A83126F#32) (mulf G G))) :=
  fun y => congrArg₂ newV (hg y) (hv y)

theorem tile_delta (hg : Tile g G) (hw : Tile w W) (hm : Tile m M) (hv : Tile v V) : Tile (fun i j => delta (g i j) (w i j) (m i j) (v i j))
    (mulf (all a b 0xBA83126F#32) (addf (divf (divf (addf (mulf (all a b 0x3F666666#32) M) (mulf (all a b 0x3DCCCCCD#32) G)) (all a b 0x3F26BD02#32))
      (addf (sqrt (divf (addf (mulf (all a b 0x3F7FBE77#32) V) (mulf (all a b 0x3A83126F#32) (mulf G G))) (all a b 0x3C231ACC#32))) (all a b 0x322BCC77#32)))
      (mulf (all a b 0x3C23D70A#32) W))) := by
  intro y
  show _ = delta (g _ _) (w _ _) (m _ _) (v _ _)
  rw [← hg y, ← hw y, ← hm y, ← hv y]
  rfl

end Pointwise

section Parts

variable {n a b A B : ℕ} {e : EltTy}

/-- An array of three axes, read at numbers. -/
def fn3 {n A B : ℕ} (X : (⟨3, ![n, A, B]⟩ : Shape).Idx → EReal) (u r q : ℕ) : EReal :=
  if h : u < n ∧ r < A ∧ q < B then X (ix3 ⟨u, h.1⟩ ⟨r, h.2.1⟩ ⟨q, h.2.2⟩) else 0

theorem fn3_t3 (X : (⟨3, ![n, A, B]⟩ : Shape).Idx → EReal) : T3 (fn3 X) X := by
  intro y
  unfold fn3
  rw [dif_pos ⟨(y 0).isLt, (y 1).isLt, (y 2).isLt⟩]
  exact congrArg X (ix3_eta y).symm

/-- A block of an array of parts, from row `o`. -/
theorem blk3 {o : ℕ} {f : ℕ → ℕ → ℕ → EReal} {X : (⟨3, ![n, A, B]⟩ : Shape).Idx → EReal} (hX : T3 f X)
    (emb : (⟨3, ![n, a, b]⟩ : Shape).Idx → (⟨3, ![n, A, B]⟩ : Shape).Idx)
    (h : ∀ y, ((emb y) 0).val = (y 0).val ∧ ((emb y) 1).val = o + (y 1).val ∧ ((emb y) 2).val = (y 2).val) :
    T3 (fun u r q => f u (o + r) q) (fun y => X (emb y)) := by
  intro y
  refine (hX (emb y)).trans ?_
  rw [(h y).1, (h y).2.1, (h y).2.2]

/-- One part of a block. -/
theorem tile_plane {f : ℕ → ℕ → ℕ → Elt Ideal e} {X : (⟨3, ![n, a, b]⟩ : Shape).Idx → Elt Ideal e} (hX : T3 f X) {s : ℕ}
    {inb : ∀ i, ![s, 0, 0] i + (![1, a, b] : Fin 3 → ℕ) i ≤ (⟨3, ![n, a, b]⟩ : Shape).size i}
    (h : (⟨3, ![1, a, b]⟩ : Shape).ShapeCasts ⟨2, ![a, b]⟩) :
    Tile (f s) (shapeCast (⟨2, ![a, b]⟩ : Shape) (View.ld X (Rect.unit (s := ⟨3, ![n, a, b]⟩) ![s, 0, 0] ![1, a, b] inb)) h) := by
  intro y
  refine (shapeCast_dropUnit_apply (n := 2) ![a, b] _ h y).trans ?_
  refine (hX _).trans ?_
  rw [Rect.idx_unit_val, Rect.idx_unit_val, Rect.idx_unit_val]
  show f (s + 0) (0 + (y 0).val) (0 + (y 1).val) = _
  rw [zero_add, zero_add, add_zero]

/-- The sum of the parts. -/
theorem host_parts {f : ℕ → ℕ → ℕ → EReal} {X : FVec Ideal (⟨3, ![n, A, B]⟩ : Shape) .f32} (hX : T3 f X) (hu : 0 < (⟨0, ![]⟩ : Shape).numel)
    (hr : (⟨3, ![n, A, B]⟩ : Shape).ReducesTo [0] ⟨2, ![A, B]⟩) :
    Tile (fun r q => ∑ u : Fin n, f u.val r q) (Host.reduceAdd X (constant (F := Ideal) (⟨0, ![]⟩ : Shape) .f32 0x00000000#32) hr hu) := by
  intro y
  pointwise
  exact Finset.sum_congr rfl fun u _ => hX _

/-- The sum of four parts and of eight parts at one entry. -/
def sum4 (p : ℕ → ℕ → ℕ → EReal) (r q : ℕ) : EReal := ∑ u : Fin 4, p u.val r q
def sum8 (p : ℕ → ℕ → ℕ → EReal) (r q : ℕ) : EReal := ∑ u : Fin 8, p u.val r q

/-- Four parts and eight parts, added one after another. -/
theorem tile_four {f : ℕ → ℕ → ℕ → EReal} {A B C D : FVec Ideal (⟨2, ![a, b]⟩ : Shape) .f32} (hA : Tile (f 0) A) (hB : Tile (f 1) B)
    (hC : Tile (f 2) C) (hD : Tile (f 3) D) : Tile (sum4 f) (addf (addf (addf A B) C) D) :=
  (tile_addf (φ := .f32) (tile_addf (φ := .f32) (tile_addf (φ := .f32) hA hB) hC) hD).congr fun i _ j _ =>
    (Fin.sum_univ_four fun u : Fin 4 => f u.val i j).symm

theorem tile_eight {f : ℕ → ℕ → ℕ → EReal} {A B C D A' B' C' D' : FVec Ideal (⟨2, ![a, b]⟩ : Shape) .f32} (hA : Tile (f 0) A)
    (hB : Tile (f 1) B) (hC : Tile (f 2) C) (hD : Tile (f 3) D) (hA' : Tile (f 4) A') (hB' : Tile (f 5) B') (hC' : Tile (f 6) C')
    (hD' : Tile (f 7) D') : Tile (sum8 f) (addf (addf (addf (addf (addf (addf (addf A B) C) D) A') B') C') D') := by
  intro y
  show A y + B y + C y + D y + A' y + B' y + C' y + D' y = _
  rw [hA y, hB y, hC y, hD y, hA' y, hB' y, hC' y, hD' y]
  exact (Fin.sum_univ_eight fun u : Fin 8 => f u.val _ _).symm

end Parts

end Cert.Adam
-- ==== Proof.AdamIn.lean ====
/- The optimiser's call on the in-projection's weight: its four arrays, its reference, and their equality. -/
module

public import proofs.«01_k».proof.Proof.Adam
public import proofs.«01_k».proof.Proof.Gen.Kernel21Ideal.Value
public import proofs.«01_k».proof.Proof.Gen.Reference21Ideal.Run
public import proofs.«01_k».proof.Defs

@[expose] public section

set_option maxRecDepth 16384

noncomputable section

open Idealize.ShloMosaic Idealize.ShloMosaic.TcCoe Cert.Tile Cert.Dense Cert.Adam
open Idealize.ShloMosaic.Tactic
open scoped BigOperators

namespace Cert.AdamIn

section Kernel

open Cert.Kernel21Ideal Cert.Kernel21Ideal.Gen Cert.Kernel21Ideal.Value

section Step

variable {p : ℕ → ℕ → ℕ → EReal} {w m v : ℕ → ℕ → EReal} {x0 : Vec Ideal S4x64x1058 .bf16} {x1 x2 x3 : Vec Ideal S64x1058 .f32}
  (hp : T3 (a := 4) (b := 64) (c := 1058) p x0) (hw : Tile (a := 64) (b := 1058) w x1) (hm : Tile (a := 64) (b := 1058) m x2)
  (hv : Tile (a := 64) (b := 1058) v x3)

include hp in
theorem parts : Tile (a := 64) (b := 1058) (sum4 p) (k0_pay2 (F := Ideal) (View.ld x0 r0_0) (View.ld x0 r0_1) (View.ld x0 r0_2) (View.ld x0 r0_3)) := by
  unfold k0_pay2
  exact tile_four (tile_extf (φ := .bf16) (ψ := .f32) _ (tile_plane (e := .bf16) hp _)) (tile_extf (φ := .bf16) (ψ := .f32) _ (tile_plane (e := .bf16) hp _))
    (tile_extf (φ := .bf16) (ψ := .f32) _ (tile_plane (e := .bf16) hp _)) (tile_extf (φ := .bf16) (ψ := .f32) _ (tile_plane (e := .bf16) hp _))

include hp in
theorem step_g : Tile (a := 64) (b := 1058) (sum4 p) (out0_4 (F := Ideal) x0 x1 x2 x3) := by
  unfold out0_4
  exact whole_canon (e := .f32) (parts hp)

include hp hm in
theorem step_m : Tile (a := 64) (b := 1058) (fun r q => newM (sum4 p r q) (m r q)) (out0_6 (F := Ideal) x0 x1 x2 x3) := by
  unfold out0_6 k0_pay3
  exact whole_canon (e := .f32) (tile_newM (parts hp) (whole_lds (e := .f32) hm))

include hp hv in
theorem step_v : Tile (a := 64) (b := 1058) (fun r q => newV (sum4 p r q) (v r q)) (out0_7 (F := Ideal) x0 x1 x2 x3) := by
  unfold out0_7 k0_pay4
  exact whole_canon (e := .f32) (tile_newV (parts hp) (whole_lds (e := .f32) hv))

include hp hw hm hv in
theorem step_d : Tile (a := 64) (b := 1058) (fun r q => delta (sum4 p r q) (w r q) (m r q) (v r q)) (out0_5 (F := Ideal) x0 x1 x2 x3) := by
  unfold out0_5 k0_pay1 k0_pay5 k0_pay6 k0_pay3 k0_pay4
  exact whole_canon (e := .f32) (tile_delta (parts hp) (whole_lds (e := .f32) hw) (whole_lds (e := .f32) hm) (whole_lds (e := .f32) hv))

end Step

variable (m : (ℓ : Loc nD τ sig) → Buf (Elt Ideal) ℓ) (c : Dev nD)

/-- The parts of the gradient, added. -/
def grad : ℕ → ℕ → EReal := sum4 (fn3 (n := 4) (A := 2048) (B := 1058) (m ((c : Thread nD τ).loc main_arg0)))
/-- The weight and its two moments. -/
def wt : ℕ → ℕ → EReal := fn2 (A := 2048) (B := 1058) (m ((c : Thread nD τ).loc main_arg1))
def mo : ℕ → ℕ → EReal := fn2 (A := 2048) (B := 1058) (m ((c : Thread nD τ).loc main_arg2))
def ve : ℕ → ℕ → EReal := fn2 (A := 2048) (B := 1058) (m ((c : Thread nD τ).loc main_arg3))

theorem idx_in : ∀ t : Fin cfg0.N, win0_0.index t = ![0, t.val, 0] ∧ win0_1.index t = ![t.val, 0] ∧ win0_2.index t = ![t.val, 0]
    ∧ win0_3.index t = ![t.val, 0] := by
  decide +kernel

theorem idx_out : ∀ t : Fin cfg0.N, win0_4.index t = ![t.val, 0] ∧ win0_5.index t = ![t.val, 0] ∧ win0_6.index t = ![t.val, 0]
    ∧ win0_7.index t = ![t.val, 0] := by
  decide +kernel

theorem p_blk (t : Fin cfg0.N) : T3 (a := 4) (b := 64) (c := 1058)
    (fun u r q => fn3 (n := 4) (A := 2048) (B := 1058) (m ((c : Thread nD τ).loc main_arg0)) u (t.val * 64 + r) q) (iblk m c 0 t) := by
  have e := (idx_in t).1
  exact blk3 (A := 2048) (B := 1058) (o := t.val * 64) (fn3_t3 (m ((c : Thread nD τ).loc main_arg0)))
    (((cfg0.win 0).blk t).view.emb) fun y => ⟨by blk_simp [e], by blk_simp [e], by blk_simp [e]⟩

theorem w_blk (t : Fin cfg0.N) : Tile (a := 64) (b := 1058) (fun r q => wt m c (t.val * 64 + r) (0 + q)) (iblk m c 1 t) := by
  have e := (idx_in t).2.1
  exact blk (A := 2048) (B := 1058) (o := t.val * 64) (p := 0) (fn2_tile (m ((c : Thread nD τ).loc main_arg1)))
    (((cfg0.win 1).blk t).view.emb) fun y => ⟨by blk_simp [e], by blk_simp [e]⟩

theorem m_blk (t : Fin cfg0.N) : Tile (a := 64) (b := 1058) (fun r q => mo m c (t.val * 64 + r) (0 + q)) (iblk m c 2 t) := by
  have e := (idx_in t).2.2.1
  exact blk (A := 2048) (B := 1058) (o := t.val * 64) (p := 0) (fn2_tile (m ((c : Thread nD τ).loc main_arg2)))
    (((cfg0.win 2).blk t).view.emb) fun y => ⟨by blk_simp [e], by blk_simp [e]⟩

theorem v_blk (t : Fin cfg0.N) : Tile (a := 64) (b := 1058) (fun r q => ve m c (t.val * 64 + r) (0 + q)) (iblk m c 3 t) := by
  have e := (idx_in t).2.2.2
  exact blk (A := 2048) (B := 1058) (o := t.val * 64) (p := 0) (fn2_tile (m ((c : Thread nD τ).loc main_arg3)))
    (((cfg0.win 3).blk t).view.emb) fun y => ⟨by blk_simp [e], by blk_simp [e]⟩

/-- The four arrays that the call leaves. -/
def arrG (c : Dev nD) : S2048x1058.Idx → EReal := fun y => grad m c (y 0).val (y 1).val
def arrD (c : Dev nD) : S2048x1058.Idx → EReal := fun y => delta (grad m c (y 0).val (y 1).val) (wt m c (y 0).val (y 1).val) (mo m c (y 0).val (y 1).val) (ve m c (y 0).val (y 1).val)
def arrM (c : Dev nD) : S2048x1058.Idx → EReal := fun y => newM (grad m c (y 0).val (y 1).val) (mo m c (y 0).val (y 1).val)
def arrV (c : Dev nD) : S2048x1058.Idx → EReal := fun y => newV (grad m c (y 0).val (y 1).val) (ve m c (y 0).val (y 1).val)

theorem final_g : (dats m 0 c).arrAt 4 cfg0.N = arrG m c := by
  refine (dats m 0 c).arrAt_eq_of_covers 4 _ (by decide +kernel) fun t hf y => ?_
  have e := (idx_out t).1
  refine (congrFun (after0_4 m c t) _).trans ?_
  refine (step_g (p_blk m c t) y).trans ?_
  unfold arrG grad sum4
  blk_simp [e]

theorem final_d : (dats m 0 c).arrAt 5 cfg0.N = arrD m c := by
  refine (dats m 0 c).arrAt_eq_of_covers 5 _ (by decide +kernel) fun t hf y => ?_
  have e := (idx_out t).2.1
  refine (congrFun (after0_5 m c t) _).trans ?_
  refine (step_d (p_blk m c t) (w_blk m c t) (m_blk m c t) (v_blk m c t) y).trans ?_
  unfold arrD grad sum4
  blk_simp [e]

theorem final_m : (dats m 0 c).arrAt 6 cfg0.N = arrM m c := by
  refine (dats m 0 c).arrAt_eq_of_covers 6 _ (by decide +kernel) fun t hf y => ?_
  have e := (idx_out t).2.2.1
  refine (congrFun (after0_6 m c t) _).trans ?_
  refine (step_m (p_blk m c t) (m_blk m c t) y).trans ?_
  unfold arrM grad sum4
  blk_simp [e]

theorem final_v : (dats m 0 c).arrAt 7 cfg0.N = arrV m c := by
  refine (dats m 0 c).arrAt_eq_of_covers 7 _ (by decide +kernel) fun t hf y => ?_
  have e := (idx_out t).2.2.2
  refine (congrFun (after0_7 m c t) _).trans ?_
  refine (step_v (p_blk m c t) (v_blk m c t) y).trans ?_
  unfold arrV grad sum4
  blk_simp [e]

end Kernel

section Ref

open Cert.Reference21Ideal Cert.Reference21Ideal.Gen

theorem ref_g (a0 : FVec Ideal S4x2048x1058 .bf16) :
    Host.reduceAdd (extf .f32 a0 bitsLt_bf16_f32) (constant S_ .f32 0x00000000#32) reducesTo_S4x2048x1058_S2048x1058_d0 h_S_
    = fun y => sum4 (fn3 (n := 4) (A := 2048) (B := 1058) a0) (y 0).val (y 1).val :=
  funext (host_parts (n := 4) (A := 2048) (B := 1058) (fn3_t3 a0) _ _)

end Ref

theorem claim : Cert.algebraic_Kernel21Ideal_Reference21Ideal (hKernel21Ideal := Cert.Kernel21Ideal.Gen.facts)
    (hReference21Ideal := Cert.Reference21Ideal.Gen.facts) := by
  intro m g m' g' _ hm
  refine ⟨arrG m, arrD m, arrM m, arrV m, ?_, ?_⟩
  · refine (θ_run _ _ _).mono (fun r h c => ?_) (Cert.Kernel21Ideal.Value.run_blocks m g)
    exact ⟨(h c).1.trans (final_g m c), (h c).2.1.trans (final_d m c), (h c).2.2.1.trans (final_m m c), (h c).2.2.2.1.trans (final_v m c), (h c).2.2.2.2⟩
  · refine (θ_run _ _ _).mono (fun r h c => ?_) (Cert.Reference21Ideal.Value.run m' g')
    refine ⟨(h c).1.trans ?_, (h c).2.1.trans ?_, (h c).2.2.1.trans ?_, (h c).2.2.2.1.trans ?_, (h c).2.2.2.2⟩
    all_goals rw [(hm c).1]
    · exact ref_g _
    · rw [(hm c).2.1, (hm c).2.2.1, (hm c).2.2.2, ref_g]
      exact funext (tile_delta (a := 2048) (b := 1058) (fun _ => rfl) (fn2_tile _) (fn2_tile _) (fn2_tile _))
    · rw [(hm c).2.2.1, ref_g]
      exact funext (tile_newM (a := 2048) (b := 1058) (fun _ => rfl) (fn2_tile _))
    · rw [(hm c).2.2.2, ref_g]
      exact funext (tile_newV (a := 2048) (b := 1058) (fun _ => rfl) (fn2_tile _))

end Cert.AdamIn
-- ==== Proof.AdamRest.lean ====
/- The optimiser's call on the other weights, packed into one buffer: its four arrays, its reference, and their equality. -/
module

public import proofs.«01_k».proof.Proof.Adam
public import proofs.«01_k».proof.Proof.Gen.Kernel22Ideal.Value
public import proofs.«01_k».proof.Proof.Gen.Reference22Ideal.Run
public import proofs.«01_k».proof.Defs

@[expose] public section

set_option maxRecDepth 16384

noncomputable section

open Idealize.ShloMosaic Idealize.ShloMosaic.TcCoe Cert.Tile Cert.Dense Cert.Adam
open Idealize.ShloMosaic.Tactic
open scoped BigOperators

namespace Cert.AdamRest

section Kernel

open Cert.Kernel22Ideal Cert.Kernel22Ideal.Gen Cert.Kernel22Ideal.Value

section Step

variable {p : ℕ → ℕ → ℕ → EReal} {w m v : ℕ → ℕ → EReal} {x0 : Vec Ideal S4x1024x128 .bf16} {x1 x2 x3 : Vec Ideal S1024x128 .f32}
  (hp : T3 (a := 4) (b := 1024) (c := 128) p x0) (hw : Tile (a := 1024) (b := 128) w x1) (hm : Tile (a := 1024) (b := 128) m x2)
  (hv : Tile (a := 1024) (b := 128) v x3)

include hp in
theorem parts : Tile (a := 1024) (b := 128) (sum4 p) (k0_pay2 (F := Ideal) (View.ld x0 r0_0) (View.ld x0 r0_1) (View.ld x0 r0_2) (View.ld x0 r0_3)) := by
  unfold k0_pay2
  exact tile_four (tile_extf (φ := .bf16) (ψ := .f32) _ (tile_plane (e := .bf16) hp _)) (tile_extf (φ := .bf16) (ψ := .f32) _ (tile_plane (e := .bf16) hp _))
    (tile_extf (φ := .bf16) (ψ := .f32) _ (tile_plane (e := .bf16) hp _)) (tile_extf (φ := .bf16) (ψ := .f32) _ (tile_plane (e := .bf16) hp _))

include hp in
theorem step_g : Tile (a := 1024) (b := 128) (sum4 p) (out0_4 (F := Ideal) x0 x1 x2 x3) := by
  unfold out0_4
  exact whole_canon (e := .f32) (parts hp)

include hp hm in
theorem step_m : Tile (a := 1024) (b := 128) (fun r q => newM (sum4 p r q) (m r q)) (out0_6 (F := Ideal) x0 x1 x2 x3) := by
  unfold out0_6 k0_pay3
  exact whole_canon (e := .f32) (tile_newM (parts hp) (whole_lds (e := .f32) hm))

include hp hv in
theorem step_v : Tile (a := 1024) (b := 128) (fun r q => newV (sum4 p r q) (v r q)) (out0_7 (F := Ideal) x0 x1 x2 x3) := by
  unfold out0_7 k0_pay4
  exact whole_canon (e := .f32) (tile_newV (parts hp) (whole_lds (e := .f32) hv))

include hp hw hm hv in
theorem step_d : Tile (a := 1024) (b := 128) (fun r q => delta (sum4 p r q) (w r q) (m r q) (v r q)) (out0_5 (F := Ideal) x0 x1 x2 x3) := by
  unfold out0_5 k0_pay1 k0_pay5 k0_pay6 k0_pay3 k0_pay4
  exact whole_canon (e := .f32) (tile_delta (parts hp) (whole_lds (e := .f32) hw) (whole_lds (e := .f32) hm) (whole_lds (e := .f32) hv))

end Step

variable (m : (ℓ : Loc nD τ sig) → Buf (Elt Ideal) ℓ) (c : Dev nD)

/-- The parts of the gradient, added. -/
def grad : ℕ → ℕ → EReal := sum4 (fn3 (n := 4) (A := 23552) (B := 128) (m ((c : Thread nD τ).loc main_arg0)))
/-- The weight and its two moments. -/
def wt : ℕ → ℕ → EReal := fn2 (A := 23552) (B := 128) (m ((c : Thread nD τ).loc main_arg1))
def mo : ℕ → ℕ → EReal := fn2 (A := 23552) (B := 128) (m ((c : Thread nD τ).loc main_arg2))
def ve : ℕ → ℕ → EReal := fn2 (A := 23552) (B := 128) (m ((c : Thread nD τ).loc main_arg3))

theorem idx_in : ∀ t : Fin cfg0.N, win0_0.index t = ![0, t.val, 0] ∧ win0_1.index t = ![t.val, 0] ∧ win0_2.index t = ![t.val, 0]
    ∧ win0_3.index t = ![t.val, 0] := by
  decide +kernel

theorem idx_out : ∀ t : Fin cfg0.N, win0_4.index t = ![t.val, 0] ∧ win0_5.index t = ![t.val, 0] ∧ win0_6.index t = ![t.val, 0]
    ∧ win0_7.index t = ![t.val, 0] := by
  decide +kernel

theorem p_blk (t : Fin cfg0.N) : T3 (a := 4) (b := 1024) (c := 128)
    (fun u r q => fn3 (n := 4) (A := 23552) (B := 128) (m ((c : Thread nD τ).loc main_arg0)) u (t.val * 1024 + r) q) (iblk m c 0 t) := by
  have e := (idx_in t).1
  exact blk3 (A := 23552) (B := 128) (o := t.val * 1024) (fn3_t3 (m ((c : Thread nD τ).loc main_arg0)))
    (((cfg0.win 0).blk t).view.emb) fun y => ⟨by blk_simp [e], by blk_simp [e], by blk_simp [e]⟩

theorem w_blk (t : Fin cfg0.N) : Tile (a := 1024) (b := 128) (fun r q => wt m c (t.val * 1024 + r) (0 + q)) (iblk m c 1 t) := by
  have e := (idx_in t).2.1
  exact blk (A := 23552) (B := 128) (o := t.val * 1024) (p := 0) (fn2_tile (m ((c : Thread nD τ).loc main_arg1)))
    (((cfg0.win 1).blk t).view.emb) fun y => ⟨by blk_simp [e], by blk_simp [e]⟩

theorem m_blk (t : Fin cfg0.N) : Tile (a := 1024) (b := 128) (fun r q => mo m c (t.val * 1024 + r) (0 + q)) (iblk m c 2 t) := by
  have e := (idx_in t).2.2.1
  exact blk (A := 23552) (B := 128) (o := t.val * 1024) (p := 0) (fn2_tile (m ((c : Thread nD τ).loc main_arg2)))
    (((cfg0.win 2).blk t).view.emb) fun y => ⟨by blk_simp [e], by blk_simp [e]⟩

theorem v_blk (t : Fin cfg0.N) : Tile (a := 1024) (b := 128) (fun r q => ve m c (t.val * 1024 + r) (0 + q)) (iblk m c 3 t) := by
  have e := (idx_in t).2.2.2
  exact blk (A := 23552) (B := 128) (o := t.val * 1024) (p := 0) (fn2_tile (m ((c : Thread nD τ).loc main_arg3)))
    (((cfg0.win 3).blk t).view.emb) fun y => ⟨by blk_simp [e], by blk_simp [e]⟩

/-- The four arrays that the call leaves. -/
def arrG (c : Dev nD) : S23552x128.Idx → EReal := fun y => grad m c (y 0).val (y 1).val
def arrD (c : Dev nD) : S23552x128.Idx → EReal := fun y => delta (grad m c (y 0).val (y 1).val) (wt m c (y 0).val (y 1).val) (mo m c (y 0).val (y 1).val) (ve m c (y 0).val (y 1).val)
def arrM (c : Dev nD) : S23552x128.Idx → EReal := fun y => newM (grad m c (y 0).val (y 1).val) (mo m c (y 0).val (y 1).val)
def arrV (c : Dev nD) : S23552x128.Idx → EReal := fun y => newV (grad m c (y 0).val (y 1).val) (ve m c (y 0).val (y 1).val)

theorem final_g : (dats m 0 c).arrAt 4 cfg0.N = arrG m c := by
  refine (dats m 0 c).arrAt_eq_of_covers 4 _ (by decide +kernel) fun t hf y => ?_
  have e := (idx_out t).1
  refine (congrFun (after0_4 m c t) _).trans ?_
  refine (step_g (p_blk m c t) y).trans ?_
  unfold arrG grad sum4
  blk_simp [e]

theorem final_d : (dats m 0 c).arrAt 5 cfg0.N = arrD m c := by
  refine (dats m 0 c).arrAt_eq_of_covers 5 _ (by decide +kernel) fun t hf y => ?_
  have e := (idx_out t).2.1
  refine (congrFun (after0_5 m c t) _).trans ?_
  refine (step_d (p_blk m c t) (w_blk m c t) (m_blk m c t) (v_blk m c t) y).trans ?_
  unfold arrD grad sum4
  blk_simp [e]

theorem final_m : (dats m 0 c).arrAt 6 cfg0.N = arrM m c := by
  refine (dats m 0 c).arrAt_eq_of_covers 6 _ (by decide +kernel) fun t hf y => ?_
  have e := (idx_out t).2.2.1
  refine (congrFun (after0_6 m c t) _).trans ?_
  refine (step_m (p_blk m c t) (m_blk m c t) y).trans ?_
  unfold arrM grad sum4
  blk_simp [e]

theorem final_v : (dats m 0 c).arrAt 7 cfg0.N = arrV m c := by
  refine (dats m 0 c).arrAt_eq_of_covers 7 _ (by decide +kernel) fun t hf y => ?_
  have e := (idx_out t).2.2.2
  refine (congrFun (after0_7 m c t) _).trans ?_
  refine (step_v (p_blk m c t) (v_blk m c t) y).trans ?_
  unfold arrV grad sum4
  blk_simp [e]

end Kernel

section Ref

open Cert.Reference22Ideal Cert.Reference22Ideal.Gen

theorem ref_g (a0 : FVec Ideal S4x23552x128 .bf16) :
    Host.reduceAdd (extf .f32 a0 bitsLt_bf16_f32) (constant S_ .f32 0x00000000#32) reducesTo_S4x23552x128_S23552x128_d0 h_S_
    = fun y => sum4 (fn3 (n := 4) (A := 23552) (B := 128) a0) (y 0).val (y 1).val :=
  funext (host_parts (n := 4) (A := 23552) (B := 128) (fn3_t3 a0) _ _)

end Ref

theorem claim : Cert.algebraic_Kernel22Ideal_Reference22Ideal (hKernel22Ideal := Cert.Kernel22Ideal.Gen.facts)
    (hReference22Ideal := Cert.Reference22Ideal.Gen.facts) := by
  intro m g m' g' _ hm
  refine ⟨arrG m, arrD m, arrM m, arrV m, ?_, ?_⟩
  · refine (θ_run _ _ _).mono (fun r h c => ?_) (Cert.Kernel22Ideal.Value.run_blocks m g)
    exact ⟨(h c).1.trans (final_g m c), (h c).2.1.trans (final_d m c), (h c).2.2.1.trans (final_m m c), (h c).2.2.2.1.trans (final_v m c), (h c).2.2.2.2⟩
  · refine (θ_run _ _ _).mono (fun r h c => ?_) (Cert.Reference22Ideal.Value.run m' g')
    refine ⟨(h c).1.trans ?_, (h c).2.1.trans ?_, (h c).2.2.1.trans ?_, (h c).2.2.2.1.trans ?_, (h c).2.2.2.2⟩
    all_goals rw [(hm c).1]
    · exact ref_g _
    · rw [(hm c).2.1, (hm c).2.2.1, (hm c).2.2.2, ref_g]
      exact funext (tile_delta (a := 23552) (b := 128) (fun _ => rfl) (fn2_tile _) (fn2_tile _) (fn2_tile _))
    · rw [(hm c).2.2.1, ref_g]
      exact funext (tile_newM (a := 23552) (b := 128) (fun _ => rfl) (fn2_tile _))
    · rw [(hm c).2.2.2, ref_g]
      exact funext (tile_newV (a := 23552) (b := 128) (fun _ => rfl) (fn2_tile _))

end Cert.AdamRest
-- ==== Proof.AdamSmall.lean ====
/- The optimiser's call on the small vectors, packed into one buffer: its four arrays, its reference, and their equality. -/
module

public import proofs.«01_k».proof.Proof.Adam
public import proofs.«01_k».proof.Proof.Gen.Kernel23Ideal.Value
public import proofs.«01_k».proof.Proof.Gen.Reference23Ideal.Run
public import proofs.«01_k».proof.Defs

@[expose] public section

set_option maxRecDepth 16384

noncomputable section

open Idealize.ShloMosaic Idealize.ShloMosaic.TcCoe Cert.Tile Cert.Dense Cert.Adam
open Idealize.ShloMosaic.Tactic
open scoped BigOperators

namespace Cert.AdamSmall

section Kernel

open Cert.Kernel23Ideal Cert.Kernel23Ideal.Gen Cert.Kernel23Ideal.Value

section Step

variable {p : ℕ → ℕ → ℕ → EReal} {w m v : ℕ → ℕ → EReal} {x0 : Vec Ideal S8x1024x128 .f32} {x1 x2 x3 : Vec Ideal S1024x128 .f32}
  (hp : T3 (a := 8) (b := 1024) (c := 128) p x0) (hw : Tile (a := 1024) (b := 128) w x1) (hm : Tile (a := 1024) (b := 128) m x2)
  (hv : Tile (a := 1024) (b := 128) v x3)

include hp in
theorem parts : Tile (a := 1024) (b := 128) (sum8 p) (k0_pay5 (F := Ideal) x0 x1 x2 x3) := by
  unfold k0_pay5 k0_pay3
  exact tile_eight (tile_plane (e := .f32) hp _) (tile_plane (e := .f32) hp _) (tile_plane (e := .f32) hp _) (tile_plane (e := .f32) hp _)
    (tile_plane (e := .f32) hp _) (tile_plane (e := .f32) hp _) (tile_plane (e := .f32) hp _) (tile_plane (e := .f32) hp _)

include hp hm in
theorem moment : Tile (a := 1024) (b := 128) (fun r q => newM (sum8 p r q) (m r q)) (k0_pay6 (F := Ideal) x0 x1 x2 x3) := by
  unfold k0_pay6 k0_pay4
  exact tile_newM (parts (x1 := x1) (x2 := x2) (x3 := x3) hp) (whole_lds (e := .f32) hm)

include hp in
theorem step_g : Tile (a := 1024) (b := 128) (sum8 p) (out0_4 (F := Ideal) x0 x1 x2 x3) := by
  unfold out0_4
  exact whole_canon (e := .f32) (parts hp)

include hp hm in
theorem step_m : Tile (a := 1024) (b := 128) (fun r q => newM (sum8 p r q) (m r q)) (out0_6 (F := Ideal) x0 x1 x2 x3) := by
  unfold out0_6
  exact whole_canon (e := .f32) (moment hp hm)

include hp hv in
theorem step_v : Tile (a := 1024) (b := 128) (fun r q => newV (sum8 p r q) (v r q)) (out0_7 (F := Ideal) x0 x1 x2 x3) := by
  unfold out0_7 k0_pay1
  exact whole_canon (e := .f32) (tile_newV (parts hp) (whole_lds (e := .f32) hv))

include hp hw hm hv in
theorem step_d : Tile (a := 1024) (b := 128) (fun r q => delta (sum8 p r q) (w r q) (m r q) (v r q)) (out0_5 (F := Ideal) x0 x1 x2 x3) := by
  unfold out0_5 k0_pay2 k0_pay1 k0_pay6 k0_pay4
  exact whole_canon (e := .f32) (tile_delta (parts hp) (whole_lds (e := .f32) hw) (whole_lds (e := .f32) hm) (whole_lds (e := .f32) hv))

end Step

variable (m : (ℓ : Loc nD τ sig) → Buf (Elt Ideal) ℓ) (c : Dev nD)

/-- The parts of the gradient, added. -/
def grad : ℕ → ℕ → EReal := sum8 (fn3 (n := 8) (A := 1024) (B := 128) (m ((c : Thread nD τ).loc main_arg0)))
/-- The weight and its two moments. -/
def wt : ℕ → ℕ → EReal := fn2 (A := 1024) (B := 128) (m ((c : Thread nD τ).loc main_arg1))
def mo : ℕ → ℕ → EReal := fn2 (A := 1024) (B := 128) (m ((c : Thread nD τ).loc main_arg2))
def ve : ℕ → ℕ → EReal := fn2 (A := 1024) (B := 128) (m ((c : Thread nD τ).loc main_arg3))

theorem idx_in : ∀ t : Fin cfg0.N, win0_0.index t = ![0, t.val, 0] ∧ win0_1.index t = ![t.val, 0] ∧ win0_2.index t = ![t.val, 0]
    ∧ win0_3.index t = ![t.val, 0] := by
  decide +kernel

theorem idx_out : ∀ t : Fin cfg0.N, win0_4.index t = ![t.val, 0] ∧ win0_5.index t = ![t.val, 0] ∧ win0_6.index t = ![t.val, 0]
    ∧ win0_7.index t = ![t.val, 0] := by
  decide +kernel

theorem p_blk (t : Fin cfg0.N) : T3 (a := 8) (b := 1024) (c := 128)
    (fun u r q => fn3 (n := 8) (A := 1024) (B := 128) (m ((c : Thread nD τ).loc main_arg0)) u (t.val * 1024 + r) q) (iblk m c 0 t) := by
  have e := (idx_in t).1
  exact blk3 (A := 1024) (B := 128) (o := t.val * 1024) (fn3_t3 (m ((c : Thread nD τ).loc main_arg0)))
    (((cfg0.win 0).blk t).view.emb) fun y => ⟨by blk_simp [e], by blk_simp [e], by blk_simp [e]⟩

theorem w_blk (t : Fin cfg0.N) : Tile (a := 1024) (b := 128) (fun r q => wt m c (t.val * 1024 + r) (0 + q)) (iblk m c 1 t) := by
  have e := (idx_in t).2.1
  exact blk (A := 1024) (B := 128) (o := t.val * 1024) (p := 0) (fn2_tile (m ((c : Thread nD τ).loc main_arg1)))
    (((cfg0.win 1).blk t).view.emb) fun y => ⟨by blk_simp [e], by blk_simp [e]⟩

theorem m_blk (t : Fin cfg0.N) : Tile (a := 1024) (b := 128) (fun r q => mo m c (t.val * 1024 + r) (0 + q)) (iblk m c 2 t) := by
  have e := (idx_in t).2.2.1
  exact blk (A := 1024) (B := 128) (o := t.val * 1024) (p := 0) (fn2_tile (m ((c : Thread nD τ).loc main_arg2)))
    (((cfg0.win 2).blk t).view.emb) fun y => ⟨by blk_simp [e], by blk_simp [e]⟩

theorem v_blk (t : Fin cfg0.N) : Tile (a := 1024) (b := 128) (fun r q => ve m c (t.val * 1024 + r) (0 + q)) (iblk m c 3 t) := by
  have e := (idx_in t).2.2.2
  exact blk (A := 1024) (B := 128) (o := t.val * 1024) (p := 0) (fn2_tile (m ((c : Thread nD τ).loc main_arg3)))
    (((cfg0.win 3).blk t).view.emb) fun y => ⟨by blk_simp [e], by blk_simp [e]⟩

/-- The four arrays that the call leaves. -/
def arrG (c : Dev nD) : S1024x128.Idx → EReal := fun y => grad m c (y 0).val (y 1).val
def arrD (c : Dev nD) : S1024x128.Idx → EReal := fun y => delta (grad m c (y 0).val (y 1).val) (wt m c (y 0).val (y 1).val) (mo m c (y 0).val (y 1).val) (ve m c (y 0).val (y 1).val)
def arrM (c : Dev nD) : S1024x128.Idx → EReal := fun y => newM (grad m c (y 0).val (y 1).val) (mo m c (y 0).val (y 1).val)
def arrV (c : Dev nD) : S1024x128.Idx → EReal := fun y => newV (grad m c (y 0).val (y 1).val) (ve m c (y 0).val (y 1).val)

theorem final_g : (dats m 0 c).arrAt 4 cfg0.N = arrG m c := by
  refine (dats m 0 c).arrAt_eq_of_covers 4 _ (by decide +kernel) fun t hf y => ?_
  have e := (idx_out t).1
  refine (congrFun (after0_4 m c t) _).trans ?_
  refine (step_g (p_blk m c t) y).trans ?_
  unfold arrG grad sum8
  blk_simp [e]

theorem final_d : (dats m 0 c).arrAt 5 cfg0.N = arrD m c := by
  refine (dats m 0 c).arrAt_eq_of_covers 5 _ (by decide +kernel) fun t hf y => ?_
  have e := (idx_out t).2.1
  refine (congrFun (after0_5 m c t) _).trans ?_
  refine (step_d (p_blk m c t) (w_blk m c t) (m_blk m c t) (v_blk m c t) y).trans ?_
  unfold arrD grad sum8
  blk_simp [e]

theorem final_m : (dats m 0 c).arrAt 6 cfg0.N = arrM m c := by
  refine (dats m 0 c).arrAt_eq_of_covers 6 _ (by decide +kernel) fun t hf y => ?_
  have e := (idx_out t).2.2.1
  refine (congrFun (after0_6 m c t) _).trans ?_
  refine (step_m (p_blk m c t) (m_blk m c t) y).trans ?_
  unfold arrM grad sum8
  blk_simp [e]

theorem final_v : (dats m 0 c).arrAt 7 cfg0.N = arrV m c := by
  refine (dats m 0 c).arrAt_eq_of_covers 7 _ (by decide +kernel) fun t hf y => ?_
  have e := (idx_out t).2.2.2
  refine (congrFun (after0_7 m c t) _).trans ?_
  refine (step_v (p_blk m c t) (v_blk m c t) y).trans ?_
  unfold arrV grad sum8
  blk_simp [e]

end Kernel

section Ref

open Cert.Reference23Ideal Cert.Reference23Ideal.Gen

theorem ref_g (a0 : FVec Ideal S8x1024x128 .f32) :
    Host.reduceAdd (a0) (constant S_ .f32 0x00000000#32) reducesTo_S8x1024x128_S1024x128_d0 h_S_
    = fun y => sum8 (fn3 (n := 8) (A := 1024) (B := 128) a0) (y 0).val (y 1).val :=
  funext (host_parts (n := 8) (A := 1024) (B := 128) (fn3_t3 a0) _ _)

end Ref

theorem claim : Cert.algebraic_Kernel23Ideal_Reference23Ideal (hKernel23Ideal := Cert.Kernel23Ideal.Gen.facts)
    (hReference23Ideal := Cert.Reference23Ideal.Gen.facts) := by
  intro m g m' g' _ hm
  refine ⟨arrG m, arrD m, arrM m, arrV m, ?_, ?_⟩
  · refine (θ_run _ _ _).mono (fun r h c => ?_) (Cert.Kernel23Ideal.Value.run_blocks m g)
    exact ⟨(h c).1.trans (final_g m c), (h c).2.1.trans (final_d m c), (h c).2.2.1.trans (final_m m c), (h c).2.2.2.1.trans (final_v m c), (h c).2.2.2.2⟩
  · refine (θ_run _ _ _).mono (fun r h c => ?_) (Cert.Reference23Ideal.Value.run m' g')
    refine ⟨(h c).1.trans ?_, (h c).2.1.trans ?_, (h c).2.2.1.trans ?_, (h c).2.2.2.1.trans ?_, (h c).2.2.2.2⟩
    all_goals rw [(hm c).1]
    · exact ref_g _
    · rw [(hm c).2.1, (hm c).2.2.1, (hm c).2.2.2, ref_g]
      exact funext (tile_delta (a := 1024) (b := 128) (fun _ => rfl) (fn2_tile _) (fn2_tile _) (fn2_tile _))
    · rw [(hm c).2.2.1, ref_g]
      exact funext (tile_newM (a := 1024) (b := 128) (fun _ => rfl) (fn2_tile _))
    · rw [(hm c).2.2.2, ref_g]
      exact funext (tile_newV (a := 1024) (b := 128) (fun _ => rfl) (fn2_tile _))

end Cert.AdamSmall
-- ==== Proof.Rows.lean ====
/- Sums along the rows of a block and of a whole array, and one column or one row repeated. -/
module

public import proofs.«01_k».proof.Proof.Adam

@[expose] public section

set_option maxRecDepth 16384

noncomputable section

namespace Cert.Rows

open Idealize.ShloMosaic hiding ix0 ix1 ix2 ix3 ix4 ix5
open Idealize.ShloMosaic.ValueIdx Cert.Tile Cert.Dense Cert.Adam
open scoped BigOperators

section Lemmas

variable {B : ℕ} {f : ℕ → ℕ → EReal}

/-- The sum along each row, as a column. -/
theorem row_sum {X : FVec Ideal (⟨2, ![512, B]⟩ : Shape) .f32} (hX : Tile f X) (hr : (⟨2, ![512, B]⟩ : Shape).Reduces [1] ⟨1, ![512]⟩)
    (hk) (ha) (hc : (⟨1, ![512]⟩ : Shape).ShapeCasts ⟨2, ![512, 1]⟩) :
    Tile (fun i _ => ∑ q : Fin B, f i q.val) (shapeCast (⟨2, ![512, 1]⟩ : Shape) (multiReduction (F := Ideal) .add [1] (⟨1, ![512]⟩ : Shape) X 0x00000000#32 hr hk ha) hc) := by
  intro y
  pointwise
  exact Finset.sum_congr rfl fun u _ => hX _

theorem host_row_sum {X : FVec Ideal (⟨2, ![8192, B]⟩ : Shape) .f32} (hX : Tile f X) (hu : 0 < (⟨0, ![]⟩ : Shape).numel)
    (hr : (⟨2, ![8192, B]⟩ : Shape).ReducesTo [1] ⟨1, ![8192]⟩) (hb : (⟨1, ![8192]⟩ : Shape).BroadcastsInDim ⟨2, ![8192, 1]⟩ ![0]) :
    Tile (fun i _ => ∑ q : Fin B, f i q.val) (broadcastInDim (⟨2, ![8192, 1]⟩ : Shape) ![0] hb
      (Host.reduceAdd X (constant (F := Ideal) (⟨0, ![]⟩ : Shape) .f32 0x00000000#32) hr hu)) := by
  intro y
  pointwise
  exact Finset.sum_congr rfl fun u _ => hX _

/-- A column repeated, and a row repeated. -/
theorem col_rep {v : (⟨2, ![512, 1]⟩ : Shape).Idx → EReal} (hv : Tile f v) (h : (⟨2, ![512, 1]⟩ : Shape).Broadcasts ⟨2, ![512, B]⟩) :
    Tile (fun i _ => f i 0) (broadcastTo (⟨2, ![512, B]⟩ : Shape) v h) := by
  intro y
  pointwise
  exact hv _

theorem host_col_rep {v : (⟨2, ![8192, 1]⟩ : Shape).Idx → EReal} (hv : Tile f v) (h : (⟨2, ![8192, 1]⟩ : Shape).BroadcastsInDim ⟨2, ![8192, B]⟩ ![0, 1]) :
    Tile (fun i _ => f i 0) (broadcastInDim (⟨2, ![8192, B]⟩ : Shape) ![0, 1] h v) := by
  intro y
  pointwise
  exact hv _

theorem row_rep (hB : B ≠ 1) {v : (⟨2, ![1, B]⟩ : Shape).Idx → EReal} (hv : Tile f v) (h : (⟨2, ![1, B]⟩ : Shape).Broadcasts ⟨2, ![512, B]⟩) :
    Tile (fun _ q => f 0 q) (broadcastTo (⟨2, ![512, B]⟩ : Shape) v h) := by
  intro y
  pointwise
  refine (hv _).trans ?_
  simp [Shape.Idx.norm, *]

theorem host_row_rep (hB : B ≠ 1) {v : (⟨2, ![1, B]⟩ : Shape).Idx → EReal} (hv : Tile f v) (h : (⟨2, ![1, B]⟩ : Shape).BroadcastsInDim ⟨2, ![8192, B]⟩ ![0, 1]) :
    Tile (fun _ q => f 0 q) (broadcastInDim (⟨2, ![8192, B]⟩ : Shape) ![0, 1] h v) := by
  intro y
  pointwise
  refine (hv _).trans ?_
  simp [Shape.Idx.norm, *]

/-- The logistic function, as a call takes it and as the host writes it out. -/
theorem tile_gate {a b : ℕ} {X : FVec Ideal (⟨2, ![a, b]⟩ : Shape) .f32} (hX : Tile f X) : Tile (fun i q => Ideal.logistic (f i q)) (logistic X) :=
  fun y => congrArg Ideal.logistic (hX y)

theorem host_gate {a b : ℕ} {X : FVec Ideal (⟨2, ![a, b]⟩ : Shape) .f32} (hX : Tile f X) (h : (⟨0, ![]⟩ : Shape).BroadcastsInDim ⟨2, ![a, b]⟩ ![]) :
    Tile (fun i q => Ideal.logistic (f i q))
      (Host.divf (broadcastInDim (⟨2, ![a, b]⟩ : Shape) ![] h (constant (F := Ideal) (⟨0, ![]⟩ : Shape) .f32 0x3F800000#32))
        (addf (broadcastInDim (⟨2, ![a, b]⟩ : Shape) ![] h (constant (F := Ideal) (⟨0, ![]⟩ : Shape) .f32 0x3F800000#32)) (Host.exp (Host.negf X)))) := by
  intro y
  show Ideal.div (num 0x3F800000#32) (num 0x3F800000#32 + Ideal.exp (-(X y))) = Ideal.logistic (f _ _)
  rw [← hX y]
  have one : num 0x3F800000#32 = 1 := Ideal.ofBits_one_f32
  rw [one]
  rfl

/-- Some of the columns of an array. -/
theorem host_cut {p : ℕ} {X : (⟨2, ![8192, 8704]⟩ : Shape).Idx → EReal} (hX : Tile f X) (h : (⟨2, ![8192, 8704]⟩ : Shape).Slices ![0, p] ⟨2, ![8192, 1024]⟩) :
    Tile (fun i q => f i (p + q)) (extractStridedSlice (⟨2, ![8192, 1024]⟩ : Shape) ![0, p] X h) := by
  intro y
  refine (hX _).trans ?_
  show f (0 + (y 0).val) (p + (y 1).val) = _
  rw [zero_add]

end Lemmas

end Cert.Rows
-- ==== Proof.Norm.lean ====
/- The norm over the model width, forward: the call's array, its reference, and their equality. -/
module

public import proofs.«01_k».proof.Proof.Rows
public import proofs.«01_k».proof.Proof.Gen.Kernel24Ideal.Value
public import proofs.«01_k».proof.Proof.Gen.Reference24Ideal.Run
public import proofs.«01_k».proof.Defs

@[expose] public section

set_option maxRecDepth 16384

noncomputable section

open Idealize.ShloMosaic Idealize.ShloMosaic.TcCoe Cert.Tile Cert.Dense Cert.Adam Cert.Rows
open Idealize.ShloMosaic.Tactic
open scoped BigOperators

namespace Cert.Norm

/-- One over the root of a row's mean square, from the row's sum of squares. -/
def inv (s : EReal) : EReal := Ideal.rsqrt (Ideal.div s (num 0x44800000#32) + num 0x358637BD#32)

/-- A row's sum of squares, and the row scaled. -/
def sq (f : ℕ → ℕ → EReal) (i : ℕ) : EReal := ∑ q : Fin 1024, f i q.val * f i q.val
def hat (f : ℕ → ℕ → EReal) (i q : ℕ) : EReal := f i q * inv (sq f i)

theorem tile_inv {a b : ℕ} {s : ℕ → ℕ → EReal} {S : FVec Ideal (⟨2, ![a, b]⟩ : Shape) .f32} (hs : Tile s S) : Tile (fun i j => inv (s i j))
    (rsqrt (addf (divf S (all a b 0x44800000#32)) (all a b 0x358637BD#32))) :=
  fun y => congrArg inv (hs y)

section Kernel

open Cert.Kernel24Ideal Cert.Kernel24Ideal.Gen Cert.Kernel24Ideal.Value

theorem step {f g : ℕ → ℕ → EReal} {x0 : Vec Ideal S512x1024 .f32} {x1 : Vec Ideal S1x1024 .f32}
    (hf : Tile (a := 512) (b := 1024) f x0) (hg : Tile (a := 1) (b := 1024) g x1) :
    Tile (a := 512) (b := 1024) (fun i q => hat f i q * g 0 q) (out0_2 (F := Ideal) x0 x1) := by
  unfold out0_2
  refine whole_canon (e := .bf16) ?_
  unfold k0_pay1
  have h0 := whole_lds (e := .f32) (inb := inb_S512x1024_S512x1024_0_0) hf
  have h1 := whole_lds (e := .f32) (inb := inb_S1x1024_S1x1024_0_0) hg
  exact tile_truncf (φ := .f32) (ψ := .bf16) _ (tile_mulf (φ := .f32)
    (tile_mulf (φ := .f32) h0 (col_rep (B := 1024) (tile_inv (row_sum (B := 1024) (tile_mulf (φ := .f32) h0 h0) _ _ _ _)) _))
    (row_rep (B := 1024) (by decide) h1 _))

variable (m : (ℓ : Loc nD τ sig) → Buf (Elt Ideal) ℓ) (c : Dev nD)

/-- The stream and the gain. -/
def x : ℕ → ℕ → EReal := fn2 (A := 8192) (B := 1024) (m ((c : Thread nD τ).loc main_arg0))
def gain : ℕ → ℕ → EReal := fn2 (A := 1) (B := 1024) (m ((c : Thread nD τ).loc main_arg1))

theorem idx_all : ∀ t : Fin cfg0.N, win0_0.index t = ![t.val, 0] ∧ win0_1.index t = ![0, 0] ∧ win0_2.index t = ![t.val, 0] := by
  decide +kernel

theorem x_blk (t : Fin cfg0.N) : Tile (a := 512) (b := 1024) (fun r q => x m c (t.val * 512 + r) (0 + q)) (iblk m c 0 t) := by
  have e := (idx_all t).1
  exact blk (A := 8192) (B := 1024) (o := t.val * 512) (p := 0) (fn2_tile (m ((c : Thread nD τ).loc main_arg0)))
    (((cfg0.win 0).blk t).view.emb) fun y => ⟨by blk_simp [e], by blk_simp [e]⟩

theorem gain_blk (t : Fin cfg0.N) : Tile (a := 1) (b := 1024) (fun r q => gain m c (0 + r) (0 + q)) (iblk m c 1 t) := by
  have e := (idx_all t).2.1
  exact blk (A := 1) (B := 1024) (o := 0) (p := 0) (fn2_tile (m ((c : Thread nD τ).loc main_arg1)))
    (((cfg0.win 1).blk t).view.emb) fun y => ⟨by blk_simp [e], by blk_simp [e]⟩

def arr (c : Dev nD) : S8192x1024.Idx → EReal := fun y => hat (x m c) (y 0).val (y 1).val * gain m c 0 (y 1).val

theorem final : (dats m 0 c).arrAt 2 cfg0.N = arr m c := by
  refine (dats m 0 c).arrAt_eq_of_covers 2 _ (by decide +kernel) fun t hf y => ?_
  have e := (idx_all t).2.2
  refine (congrFun (after0_2 m c t) _).trans ?_
  refine (step (x_blk m c t) (gain_blk m c t) y).trans ?_
  unfold arr hat sq
  blk_simp [e]

end Kernel

section Ref

open Cert.Reference24Ideal Cert.Reference24Ideal.Gen

/-- One over the root of each row's mean square, as the reference takes it. -/
theorem host_inv {f : ℕ → ℕ → EReal} {a0 : FVec Ideal S8192x1024 .f32} (h0 : Tile (a := 8192) (b := 1024) f a0) :
    Tile (a := 8192) (b := 1024) (fun i _ => inv (sq f i)) (broadcastInDim S8192x1024 ![0, 1] bcast_S8192x1_S8192x1024_0_1 (Host.rsqrt (addf (Host.divf
      (broadcastInDim S8192x1 ![0] bcast_S8192_S8192x1_0 (Host.reduceAdd (mulf a0 a0) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))) :=
  host_col_rep (B := 1024) (tile_inv (host_row_sum (B := 1024) (tile_mulf (φ := .f32) h0 h0) _ _ _)) _

theorem ref (a0 : FVec Ideal S8192x1024 .f32) (a1 : FVec Ideal S1x1024 .f32) :
    truncf .bf16 (mulf (mulf a0 (broadcastInDim S8192x1024 ![0, 1] bcast_S8192x1_S8192x1024_0_1 (Host.rsqrt (addf (Host.divf
      (broadcastInDim S8192x1 ![0] bcast_S8192_S8192x1_0 (Host.reduceAdd (mulf a0 a0) (constant S_ .f32 0x00000000#32) reducesTo_S8192x1024_S8192_d1 h_S_))
      (broadcastInDim S8192x1 ![] bcast_S_S8192x1 (constant S_ .f32 0x44800000#32))) (broadcastInDim S8192x1 ![] bcast_S_S8192x1 (constant S_ .f32 0x358637BD#32))))))
      (broadcastInDim S8192x1024 ![0, 1] bcast_S1x1024_S8192x1024_0_1 a1)) bitsLt_bf16_f32
    = fun y => hat (fn2 (A := 8192) (B := 1024) a0) (y 0).val (y 1).val * fn2 (A := 1) (B := 1024) a1 0 (y 1).val :=
  funext (tile_truncf (φ := .f32) (ψ := .bf16) _ (tile_mulf (φ := .f32) (tile_mulf (φ := .f32) (fn2_tile a0) (host_inv (fn2_tile a0)))
    (host_row_rep (B := 1024) (by decide) (fn2_tile a1) _)))

end Ref

theorem claim : Cert.algebraic_Kernel24Ideal_Reference24Ideal (hKernel24Ideal := Cert.Kernel24Ideal.Gen.facts)
    (hReference24Ideal := Cert.Reference24Ideal.Gen.facts) := by
  intro m g m' g' _ hm
  refine ⟨arr m, ?_, ?_⟩
  · refine (θ_run _ _ _).mono (fun r h c => ?_) (Cert.Kernel24Ideal.Value.run_blocks m g)
    exact ⟨(h c).1.trans (final m c), (h c).2⟩
  · refine (θ_run _ _ _).mono (fun r h c => ?_) (Cert.Reference24Ideal.Value.run m' g')
    refine ⟨(h c).1.trans ?_, (h c).2⟩
    rw [(hm c).1, (hm c).2]
    exact ref _ _

end Cert.Norm
-- ==== Proof.Merge.lean ====
/- The merge of the three branches by their gates: the call's array, its reference, and their equality. -/
module

public import proofs.«01_k».proof.Proof.Rows
public import proofs.«01_k».proof.Proof.Gen.Kernel25Ideal.Value
public import proofs.«01_k».proof.Proof.Gen.Reference25Ideal.Run
public import proofs.«01_k».proof.Defs

@[expose] public section

set_option maxRecDepth 16384

noncomputable section

open Idealize.ShloMosaic Idealize.ShloMosaic.TcCoe Cert.Tile Cert.Dense Cert.Adam Cert.Rows
open Idealize.ShloMosaic.Tactic
open scoped BigOperators

namespace Cert.Merge

/-- Three branches under three gates. -/
def mix (g0 p0 g1 p1 g2 p2 : EReal) : EReal := Ideal.logistic g0 * p0 + Ideal.logistic g1 * p1 + Ideal.logistic g2 * p2

section Kernel

open Cert.Kernel25Ideal Cert.Kernel25Ideal.Gen Cert.Kernel25Ideal.Value

theorem step {f0 f1 f2 g0 g1 g2 : ℕ → ℕ → EReal} {x0 x1 x2 x3 x4 x5 : Vec Ideal S512x1024 .f32} {c i a1 h1 a2 h2 a3 h3 a4 h4 a5 h5 a6 h6 a7 h7}
    (p0 : Tile (a := 512) (b := 1024) f0 x0) (p1 : Tile (a := 512) (b := 1024) f1 x1) (p2 : Tile (a := 512) (b := 1024) f2 x2)
    (q0 : Tile (a := 512) (b := 1024) g0 x3) (q1 : Tile (a := 512) (b := 1024) g1 x4) (q2 : Tile (a := 512) (b := 1024) g2 x5) :
    Tile (a := 512) (b := 1024) (fun i q => mix (g0 i q) (f0 i q) (g1 i q) (f1 i q) (g2 i q) (f2 i q))
      (out0_A_6 (F := Ideal) c i a1 h1 a2 h2 a3 h3 a4 h4 a5 h5 a6 h6 a7 h7 x0 x1 x2 x3 x4 x5) := by
  unfold out0_A_6 kernelRun0_A
  dsimp only
  refine whole_st (A := 512) (B := 1024) (e := .bf16) ?_
  unfold k0_pay1
  refine tile_truncf (φ := .f32) (ψ := .bf16) _ (tile_addf (φ := .f32) (tile_addf (φ := .f32) (tile_mulf (φ := .f32) (tile_gate ?_) ?_)
    (tile_mulf (φ := .f32) (tile_gate ?_) ?_)) (tile_mulf (φ := .f32) (tile_gate ?_) ?_))
  exacts [whole_ld (e := .f32) q0, whole_ld (e := .f32) p0, whole_ld (e := .f32) q1, whole_ld (e := .f32) p1, whole_ld (e := .f32) q2,
    whole_ld (e := .f32) p2]

variable (m : (ℓ : Loc nD τ sig) → Buf (Elt Ideal) ℓ) (c : Dev nD)

/-- The three branches, and the array whose first 3072 columns are the gates. -/
def p0 : ℕ → ℕ → EReal := fn2 (A := 8192) (B := 1024) (m ((c : Thread nD τ).loc main_arg0))
def p1 : ℕ → ℕ → EReal := fn2 (A := 8192) (B := 1024) (m ((c : Thread nD τ).loc main_arg1))
def p2 : ℕ → ℕ → EReal := fn2 (A := 8192) (B := 1024) (m ((c : Thread nD τ).loc main_arg2))
def u : ℕ → ℕ → EReal := fn2 (A := 8192) (B := 8704) (m ((c : Thread nD τ).loc main_arg3))

theorem idx_p : ∀ t : Fin cfg0.N, win0_0.index t = ![t.val, 0] ∧ win0_1.index t = ![t.val, 0] ∧ win0_2.index t = ![t.val, 0]
    ∧ win0_6.index t = ![t.val, 0] := by
  decide +kernel

theorem idx_u : ∀ t : Fin cfg0.N, win0_3.index t = ![t.val, 0] ∧ win0_4.index t = ![t.val, 1] ∧ win0_5.index t = ![t.val, 2] := by
  decide +kernel

theorem p0_blk (t : Fin cfg0.N) : Tile (a := 512) (b := 1024) (fun r q => p0 m c (t.val * 512 + r) (0 + q)) (iblk m c 0 t) := by
  have e := (idx_p t).1
  exact blk (A := 8192) (B := 1024) (o := t.val * 512) (p := 0) (fn2_tile (m ((c : Thread nD τ).loc main_arg0)))
    (((cfg0.win 0).blk t).view.emb) fun y => ⟨by blk_simp [e], by blk_simp [e]⟩

theorem p1_blk (t : Fin cfg0.N) : Tile (a := 512) (b := 1024) (fun r q => p1 m c (t.val * 512 + r) (0 + q)) (iblk m c 1 t) := by
  have e := (idx_p t).2.1
  exact blk (A := 8192) (B := 1024) (o := t.val * 512) (p := 0) (fn2_tile (m ((c : Thread nD τ).loc main_arg1)))
    (((cfg0.win 1).blk t).view.emb) fun y => ⟨by blk_simp [e], by blk_simp [e]⟩

theorem p2_blk (t : Fin cfg0.N) : Tile (a := 512) (b := 1024) (fun r q => p2 m c (t.val * 512 + r) (0 + q)) (iblk m c 2 t) := by
  have e := (idx_p t).2.2.1
  exact blk (A := 8192) (B := 1024) (o := t.val * 512) (p := 0) (fn2_tile (m ((c : Thread nD τ).loc main_arg2)))
    (((cfg0.win 2).blk t).view.emb) fun y => ⟨by blk_simp [e], by blk_simp [e]⟩

theorem u0_blk (t : Fin cfg0.N) : Tile (a := 512) (b := 1024) (fun r q => u m c (t.val * 512 + r) (0 + q)) (X0_3 m c t) := by
  have e := (idx_u t).1
  intro y
  unfold X0_3 Pipeline.Window.fill
  rw [dif_pos (moved0_3 t y)]
  refine (fn2_tile (A := 8192) (B := 8704) (m ((c : Thread nD τ).loc main_arg3)) (((cfg0.win 3).blk t).view.emb _)).trans ?_
  unfold u
  exact congrArg₂ _ (by blk_simp [e]) (by blk_simp [e])

theorem u1_blk (t : Fin cfg0.N) : Tile (a := 512) (b := 1024) (fun r q => u m c (t.val * 512 + r) (1024 + q)) (X0_4 m c t) := by
  have e := (idx_u t).2.1
  intro y
  unfold X0_4 Pipeline.Window.fill
  rw [dif_pos (moved0_4 t y)]
  refine (fn2_tile (A := 8192) (B := 8704) (m ((c : Thread nD τ).loc main_arg3)) (((cfg0.win 4).blk t).view.emb _)).trans ?_
  unfold u
  exact congrArg₂ _ (by blk_simp [e]) (by blk_simp [e])

theorem u2_blk (t : Fin cfg0.N) : Tile (a := 512) (b := 1024) (fun r q => u m c (t.val * 512 + r) (2048 + q)) (X0_5 m c t) := by
  have e := (idx_u t).2.2
  intro y
  unfold X0_5 Pipeline.Window.fill
  rw [dif_pos (moved0_5 t y)]
  refine (fn2_tile (A := 8192) (B := 8704) (m ((c : Thread nD τ).loc main_arg3)) (((cfg0.win 5).blk t).view.emb _)).trans ?_
  unfold u
  exact congrArg₂ _ (by blk_simp [e]) (by blk_simp [e])

def arr (c : Dev nD) : S8192x1024.Idx → EReal := fun y =>
  mix (u m c (y 0).val (0 + (y 1).val)) (p0 m c (y 0).val (y 1).val) (u m c (y 0).val (1024 + (y 1).val)) (p1 m c (y 0).val (y 1).val)
    (u m c (y 0).val (2048 + (y 1).val)) (p2 m c (y 0).val (y 1).val)

theorem final : (dats m 0 c).arrAt 6 cfg0.N = arr m c := by
  refine (dats m 0 c).arrAt_eq_of_covers 6 _ (by decide +kernel) fun t hf y => ?_
  have e := (idx_p t).2.2.2
  refine (congrFun (after0_6 m c t) _).trans ?_
  unfold outsAt0
  refine (step (p0_blk m c t) (p1_blk m c t) (p2_blk m c t) (u0_blk m c t) (u1_blk m c t) (u2_blk m c t) y).trans ?_
  unfold arr
  blk_simp [e]

end Kernel

section Ref

open Cert.Reference25Ideal Cert.Reference25Ideal.Gen

/-- One gate, as the reference takes it. -/
abbrev gate (w : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf w)))

theorem ref (a0 a1 a2 : FVec Ideal S8192x1024 .f32) (a3 : FVec Ideal S8192x8704 .f32) :
    truncf .bf16 (addf (addf (mulf (gate (extractStridedSlice S8192x1024 ![0, 0] a3 slices_S8192x8704_S8192x1024_0_0)) a0)
      (mulf (gate (extractStridedSlice S8192x1024 ![0, 1024] a3 slices_S8192x8704_S8192x1024_0_1024)) a1))
      (mulf (gate (extractStridedSlice S8192x1024 ![0, 2048] a3 slices_S8192x8704_S8192x1024_0_2048)) a2)) bitsLt_bf16_f32
    = fun y => mix (fn2 (A := 8192) (B := 8704) a3 (y 0).val (0 + (y 1).val)) (fn2 (A := 8192) (B := 1024) a0 (y 0).val (y 1).val)
      (fn2 (A := 8192) (B := 8704) a3 (y 0).val (1024 + (y 1).val)) (fn2 (A := 8192) (B := 1024) a1 (y 0).val (y 1).val)
      (fn2 (A := 8192) (B := 8704) a3 (y 0).val (2048 + (y 1).val)) (fn2 (A := 8192) (B := 1024) a2 (y 0).val (y 1).val) :=
  funext (tile_truncf (φ := .f32) (ψ := .bf16) _ (tile_addf (φ := .f32) (tile_addf (φ := .f32)
    (tile_mulf (φ := .f32) (host_gate (host_cut (p := 0) (fn2_tile a3) _) _) (fn2_tile a0))
    (tile_mulf (φ := .f32) (host_gate (host_cut (p := 1024) (fn2_tile a3) _) _) (fn2_tile a1)))
    (tile_mulf (φ := .f32) (host_gate (host_cut (p := 2048) (fn2_tile a3) _) _) (fn2_tile a2))))

end Ref

theorem claim : Cert.algebraic_Kernel25Ideal_Reference25Ideal (hKernel25Ideal := Cert.Kernel25Ideal.Gen.facts)
    (hReference25Ideal := Cert.Reference25Ideal.Gen.facts) := by
  intro m g m' g' _ hm
  refine ⟨arr m, ?_, ?_⟩
  · refine (θ_run _ _ _).mono (fun r h c => ?_) (Cert.Kernel25Ideal.Value.run_blocks m g)
    exact ⟨(h c).1.trans (final m c), (h c).2⟩
  · refine (θ_run _ _ _).mono (fun r h c => ?_) (Cert.Reference25Ideal.Value.run m' g')
    refine ⟨(h c).1.trans ?_, (h c).2⟩
    rw [(hm c).1, (hm c).2.1, (hm c).2.2.1, (hm c).2.2.2]
    exact ref _ _ _ _

end Cert.Merge
-- ==== Proof.RowGrad.lean ====
/- The gradient through a norm over the model width: how a call and its reference take it, and their equality; column sums in eights. -/
module

public import proofs.«01_k».proof.Proof.Norm

@[expose] public section

set_option maxRecDepth 16384

noncomputable section

namespace Cert.RowGrad

open Idealize.ShloMosaic hiding ix0 ix1 ix2 ix3 ix4 ix5
open Idealize.ShloMosaic.ValueIdx Cert.Tile Cert.Dense Cert.Adam Cert.Rows Cert.Norm
open scoped BigOperators

section Numbers

theorem width : num 0x44800000#32 = ((1024 : ℝ) : EReal) := by
  unfold num
  simp [Ideal.ofBits, Ideal.ieee, -EReal.coe_mul]
  norm_num

theorem minus_half : num 0xBF000000#32 = ((-(1 / 2) : ℝ) : EReal) := by
  unfold num
  simp [Ideal.ofBits, Ideal.ieee, -EReal.coe_mul]
  norm_num

theorem small : ∃ e : ℝ, 0 < e ∧ num 0x358637BD#32 = (e : EReal) := by
  refine ⟨8796093 / 8796093022208, by norm_num, ?_⟩
  unfold num
  simp [Ideal.ofBits, Ideal.ieee, -EReal.coe_mul]
  norm_num

/-- A real factor that is not negative passes through a sum. -/
theorem sum_mul {ι : Type} (s : Finset ι) (F : ι → EReal) {k : ℝ} (hk : 0 ≤ k) : ∑ u ∈ s, F u * (k : EReal) = (∑ u ∈ s, F u) * (k : EReal) := by
  classical
  induction s using Finset.induction_on with
  | empty => simp
  | insert a t ha ih =>
    rw [Finset.sum_insert ha, Finset.sum_insert ha, ih,
      EReal.right_distrib_of_nonneg_of_ne_top (EReal.coe_nonneg.mpr hk) (EReal.coe_ne_top k)]

/-- One over the root of a row's mean square is a real number, and divided by what is under the root it is its cube. -/
theorem inv_real {s : EReal} (hs : 0 ≤ s) : ∃ k : ℝ, 0 ≤ k ∧ inv s = (k : EReal)
    ∧ Ideal.div (inv s) (Ideal.div s (num 0x44800000#32) + num 0x358637BD#32) = ((k ^ 3 : ℝ) : EReal) := by
  obtain ⟨e, he, h⟩ := small
  unfold Norm.inv
  rw [width, h, Ideal.div_coe (by norm_num)]
  induction s with
  | bot => exact absurd hs (by simp)
  | top =>
    refine ⟨0, le_refl _, ?_⟩
    rw [EReal.top_mul_coe_of_pos (by norm_num), EReal.top_add_coe, Ideal.rsqrt_top]
    refine ⟨rfl, ?_⟩
    unfold Ideal.div
    simp
  | coe r =>
    have hr : 0 ≤ r := EReal.coe_nonneg.mp hs
    have hp : 0 < r * (1 / 1024) + e := by positivity
    have hq : 0 < Real.sqrt (r * (1 / 1024) + e) := Real.sqrt_pos.mpr hp
    refine ⟨(Real.sqrt (r * (1 / 1024) + e))⁻¹, by positivity, ?_⟩
    rw [← EReal.coe_mul, ← EReal.coe_add, Ideal.rsqrt_coe, if_neg (not_lt.mpr hp.le), if_neg hp.ne']
    refine ⟨rfl, ?_⟩
    rw [Ideal.div_coe hp.ne', ← EReal.coe_mul]
    congr 1
    rw [pow_succ', pow_two, ← mul_inv, Real.mul_self_sqrt hp.le, one_div (r * (1 / 1024) + e)]

theorem twice (z : EReal) : z + z = z * ((2 : ℝ) : EReal) := by
  induction z with
  | bot => rw [EReal.bot_mul_coe_of_pos (by norm_num)]; rfl
  | top => rw [EReal.top_mul_coe_of_pos (by norm_num)]; rfl
  | coe r => rw [← EReal.coe_add, ← EReal.coe_mul, mul_two]

end Numbers

theorem sq_nonneg (f : ℕ → ℕ → EReal) (i : ℕ) : 0 ≤ Norm.sq f i := Finset.sum_nonneg fun u _ => by
  rcases le_total 0 (f i u.val) with h | h
  · exact mul_nonneg h h
  · have := mul_nonneg (EReal.neg_nonneg.mpr h) (EReal.neg_nonneg.mpr h)
    rwa [neg_mul_neg] at this

/-- The gradient at the norm's input from the gradient `w` at the scaled row: as a call takes it, and as the reference does. -/
def back (f w : ℕ → ℕ → EReal) (i q : ℕ) : EReal :=
  inv (Norm.sq f i) * (w i q - hat f i q * Ideal.div (∑ u : Fin 1024, w i u.val * hat f i u.val) (num 0x44800000#32))

def share (f w : ℕ → ℕ → EReal) (i : ℕ) : EReal :=
  Ideal.div ((∑ u : Fin 1024, f i u.val * w i u.val) * (num 0xBF000000#32
    * Ideal.div (inv (Norm.sq f i)) (Ideal.div (Norm.sq f i) (num 0x44800000#32) + num 0x358637BD#32))) (num 0x44800000#32)

def back' (f w : ℕ → ℕ → EReal) (i q : ℕ) : EReal := w i q * inv (Norm.sq f i) + f i q * share f w i + share f w i * f i q

theorem back_eq (f w : ℕ → ℕ → EReal) (i q : ℕ) : back f w i q = back' f w i q := by
  obtain ⟨k, hk, h1, h3⟩ := inv_real (sq_nonneg f i)
  have hs : ∑ u : Fin 1024, w i u.val * hat f i u.val = (∑ u : Fin 1024, f i u.val * w i u.val) * (k : EReal) := by
    rw [← sum_mul _ _ hk]
    refine Finset.sum_congr rfl fun u _ => ?_
    unfold hat
    rw [h1]
    ac_rfl
  unfold back back' share
  rw [hs, h3]
  unfold hat
  rw [h1, width, minus_half, Ideal.div_coe (by norm_num), Ideal.div_coe (by norm_num), ← EReal.coe_mul]
  generalize ∑ u : Fin 1024, f i u.val * w i u.val = S
  rw [mul_comm _ (f i q), add_assoc, twice, EReal.mul_sub_of_nonneg_of_ne_top (EReal.coe_nonneg.mpr hk) (EReal.coe_ne_top k), sub_eq_add_neg, mul_comm (k : EReal) (w i q)]
  congr 1
  have l : (k : EReal) * (f i q * k * (S * k * ((1 / 1024 : ℝ) : EReal))) = f i q * S * ((k * k * k * (1 / 1024) : ℝ) : EReal) := by
    simp only [EReal.coe_mul]
    ac_rfl
  have r : f i q * (S * ((-(1 / 2) * k ^ 3 : ℝ) : EReal) * ((1 / 1024 : ℝ) : EReal)) * ((2 : ℝ) : EReal) = f i q * S * ((-(k * k * k * (1 / 1024)) : ℝ) : EReal) := by
    rw [show (-(k * k * k * (1 / 1024)) : ℝ) = (-(1 / 2) * k ^ 3) * ((1 / 1024) * 2) by ring]
    simp only [EReal.coe_mul]
    ac_rfl
  rw [l, r, EReal.coe_neg, mul_neg]

section Call

variable {f w : ℕ → ℕ → EReal}

theorem tile_div {a b : ℕ} {g : ℕ → ℕ → EReal} {S : FVec Ideal (⟨2, ![a, b]⟩ : Shape) .f32} (hs : Tile g S) (k : BitVec 32) :
    Tile (fun i j => Ideal.div (g i j) (num k)) (divf S (all a b k)) :=
  fun y => congrArg (Ideal.div · (num k)) (hs y)

/-- The root's column in a call, repeated. -/
abbrev root (X : FVec Ideal (⟨2, ![512, 1024]⟩ : Shape) .f32) (hr : (⟨2, ![512, 1024]⟩ : Shape).Reduces [1] ⟨1, ![512]⟩)
    (hc : (⟨1, ![512]⟩ : Shape).ShapeCasts ⟨2, ![512, 1]⟩) (hb : (⟨2, ![512, 1]⟩ : Shape).Broadcasts ⟨2, ![512, 1024]⟩) : FVec Ideal (⟨2, ![512, 1024]⟩ : Shape) .f32 :=
  broadcastTo (⟨2, ![512, 1024]⟩ : Shape) (rsqrt (addf (divf (shapeCast (⟨2, ![512, 1]⟩ : Shape)
    (multiReduction (F := Ideal) .add [1] (⟨1, ![512]⟩ : Shape) (mulf X X) 0x00000000#32 hr (.inl rfl) rfl) hc) (all 512 1 0x44800000#32)) (all 512 1 0x358637BD#32))) hb

theorem tile_root {X : FVec Ideal (⟨2, ![512, 1024]⟩ : Shape) .f32} (hX : Tile f X) (hr hc hb) :
    Tile (fun i _ => Norm.inv (Norm.sq f i)) (root X hr hc hb) :=
  col_rep (B := 1024) (tile_inv (row_sum (B := 1024) (tile_mulf (φ := .f32) hX hX) _ _ _ _)) _

theorem tile_hat {X : FVec Ideal (⟨2, ![512, 1024]⟩ : Shape) .f32} (hX : Tile f X) (hr hc hb) :
    Tile (hat f) (mulf X (root X hr hc hb)) :=
  tile_mulf (φ := .f32) hX (tile_root hX _ _ _)

theorem tile_back {X W : FVec Ideal (⟨2, ![512, 1024]⟩ : Shape) .f32} (hX : Tile f X) (hW : Tile w W) (hr hc hb) :
    Tile (back f w) (mulf (root X hr hc hb) (subf W (mulf (mulf X (root X hr hc hb)) (broadcastTo (⟨2, ![512, 1024]⟩ : Shape)
      (divf (shapeCast (⟨2, ![512, 1]⟩ : Shape) (multiReduction (F := Ideal) .add [1] (⟨1, ![512]⟩ : Shape) (mulf W (mulf X (root X hr hc hb))) 0x00000000#32 hr (.inl rfl) rfl) hc)
        (all 512 1 0x44800000#32)) hb)))) :=
  tile_mulf (φ := .f32) (tile_root hX _ _ _) (tile_subf (φ := .f32) hW (tile_mulf (φ := .f32) (tile_hat hX _ _ _)
    (col_rep (B := 1024) (tile_div (row_sum (B := 1024) (tile_mulf (φ := .f32) hW (tile_hat hX _ _ _)) _ _ _ _) _) _)))

end Call

section Host

variable {f w : ℕ → ℕ → EReal}

theorem host_row_cast {X : FVec Ideal (⟨2, ![8192, 1024]⟩ : Shape) .f32} (hX : Tile f X) (hu : 0 < (⟨0, ![]⟩ : Shape).numel)
    (hr : (⟨2, ![8192, 1024]⟩ : Shape).ReducesTo [1] ⟨1, ![8192]⟩) (hb : (⟨1, ![8192]⟩ : Shape).ShapeCasts ⟨2, ![8192, 1]⟩) :
    Tile (fun i _ => ∑ q : Fin 1024, f i q.val) (shapeCast (⟨2, ![8192, 1]⟩ : Shape)
      (Host.reduceAdd X (constant (F := Ideal) (⟨0, ![]⟩ : Shape) .f32 0x00000000#32) hr hu) hb) := by
  intro y
  pointwise
  exact Finset.sum_congr rfl fun u _ => hX _

/-- A sum over one column, repeated. -/
theorem host_one_rep {X : FVec Ideal (⟨2, ![8192, 1]⟩ : Shape) .f32} (hX : Tile f X) (hu : 0 < (⟨0, ![]⟩ : Shape).numel)
    (hr : (⟨2, ![8192, 1]⟩ : Shape).ReducesTo [1] ⟨1, ![8192]⟩) (hb : (⟨1, ![8192]⟩ : Shape).BroadcastsInDim ⟨2, ![8192, 1024]⟩ ![0]) :
    Tile (fun i _ => f i 0) (broadcastInDim (⟨2, ![8192, 1024]⟩ : Shape) ![0] hb
      (Host.reduceAdd X (constant (F := Ideal) (⟨0, ![]⟩ : Shape) .f32 0x00000000#32) hr hu)) := by
  intro y
  pointwise
  exact (Fin.sum_univ_one _).trans (hX _)

abbrev under (X : FVec Ideal (⟨2, ![8192, 1024]⟩ : Shape) .f32) (hu : 0 < (⟨0, ![]⟩ : Shape).numel) (hr : (⟨2, ![8192, 1024]⟩ : Shape).ReducesTo [1] ⟨1, ![8192]⟩)
    (hb : (⟨1, ![8192]⟩ : Shape).BroadcastsInDim ⟨2, ![8192, 1]⟩ ![0]) (h1 : (⟨0, ![]⟩ : Shape).BroadcastsInDim ⟨2, ![8192, 1]⟩ ![]) : FVec Ideal (⟨2, ![8192, 1]⟩ : Shape) .f32 :=
  addf (Host.divf (broadcastInDim (⟨2, ![8192, 1]⟩ : Shape) ![0] hb (Host.reduceAdd (mulf X X) (constant (F := Ideal) (⟨0, ![]⟩ : Shape) .f32 0x00000000#32) hr hu))
    (broadcastInDim (⟨2, ![8192, 1]⟩ : Shape) ![] h1 (constant (F := Ideal) (⟨0, ![]⟩ : Shape) .f32 0x44800000#32)))
    (broadcastInDim (⟨2, ![8192, 1]⟩ : Shape) ![] h1 (constant (F := Ideal) (⟨0, ![]⟩ : Shape) .f32 0x358637BD#32))

theorem host_under {X : FVec Ideal (⟨2, ![8192, 1024]⟩ : Shape) .f32} (hX : Tile f X) (hu hr hb h1) :
    Tile (fun i _ => Ideal.div (Norm.sq f i) (num 0x44800000#32) + num 0x358637BD#32) (under X hu hr hb h1) :=
  fun y => congrArg (fun s => Ideal.div s (num 0x44800000#32) + num 0x358637BD#32) (host_row_sum (B := 1024) (tile_mulf (φ := .f32) hX hX) hu hr hb y)

theorem host_root {X : FVec Ideal (⟨2, ![8192, 1024]⟩ : Shape) .f32} (hX : Tile f X) (hu hr hb h1)
    (h2 : (⟨2, ![8192, 1]⟩ : Shape).BroadcastsInDim ⟨2, ![8192, 1024]⟩ ![0, 1]) :
    Tile (fun i _ => Norm.inv (Norm.sq f i)) (broadcastInDim (⟨2, ![8192, 1024]⟩ : Shape) ![0, 1] h2 (Host.rsqrt (under X hu hr hb h1))) :=
  host_col_rep (B := 1024) (f := fun i _ => Norm.inv (Norm.sq f i)) (fun y => congrArg Ideal.rsqrt (host_under hX hu hr hb h1 y)) _

theorem host_share {X W : FVec Ideal (⟨2, ![8192, 1024]⟩ : Shape) .f32} (hX : Tile f X) (hW : Tile w W) (hu hr hb h1)
    (hc : (⟨1, ![8192]⟩ : Shape).ShapeCasts ⟨2, ![8192, 1]⟩) (h3 : (⟨2, ![8192, 1]⟩ : Shape).ReducesTo [1] ⟨1, ![8192]⟩)
    (h4 : (⟨1, ![8192]⟩ : Shape).BroadcastsInDim ⟨2, ![8192, 1024]⟩ ![0]) :
    Tile (fun i _ => share f w i) (broadcastInDim (⟨2, ![8192, 1024]⟩ : Shape) ![0] h4 (Host.reduceAdd (Host.divf
      (mulf (shapeCast (⟨2, ![8192, 1]⟩ : Shape) (Host.reduceAdd (mulf X W) (constant (F := Ideal) (⟨0, ![]⟩ : Shape) .f32 0x00000000#32) hr hu) hc)
        (mulf (broadcastInDim (⟨2, ![8192, 1]⟩ : Shape) ![] h1 (constant (F := Ideal) (⟨0, ![]⟩ : Shape) .f32 0xBF000000#32))
          (Host.divf (Host.rsqrt (under X hu hr hb h1)) (under X hu hr hb h1))))
      (broadcastInDim (⟨2, ![8192, 1]⟩ : Shape) ![] h1 (constant (F := Ideal) (⟨0, ![]⟩ : Shape) .f32 0x44800000#32)))
      (constant (F := Ideal) (⟨0, ![]⟩ : Shape) .f32 0x00000000#32) h3 hu)) :=
  host_one_rep (f := fun i _ => share f w i) (fun y => congrArg₂ (fun s e => Ideal.div (s * (num 0xBF000000#32 * Ideal.div (Ideal.rsqrt e) e)) (num 0x44800000#32))
    (host_row_cast (tile_mulf (φ := .f32) hX hW) hu hr hc y) (host_under hX hu hr hb h1 y)) hu h3 h4

end Host

section Columns

variable {f : ℕ → ℕ → EReal}

/-- The sums of every eighth row of a block, the sum of eight rows, and the host's sum of all rows. -/
theorem tile_oct {v : FVec Ideal (⟨2, ![512, 1024]⟩ : Shape) .f32} {c : BitVec 32} (h : (⟨2, ![512, 1024]⟩ : Shape).ShapeCasts ⟨3, ![64, 8, 1024]⟩)
    (hr : (⟨3, ![64, 8, 1024]⟩ : Shape).Reduces [0] ⟨2, ![8, 1024]⟩) (hf) (hc) (hv : Tile f v) :
    Tile (fun r q => ∑ u : Fin 64, f (8 * u.val + r) q)
      (multiReduction (F := Ideal) (φ := .f32) .add [0] (⟨2, ![8, 1024]⟩ : Shape) (shapeCast (⟨3, ![64, 8, 1024]⟩ : Shape) v h) c hr hf hc) := by
  intro y
  pointwise
  refine Finset.sum_congr rfl fun u _ => (hv _).trans ?_
  rw [Nat.mul_comm 8]
  rfl

theorem tile_sum8 {v : FVec Ideal (⟨2, ![8, 1024]⟩ : Shape) .f32} {c : BitVec 32} (h : (⟨1, ![1024]⟩ : Shape).ShapeCasts ⟨2, ![1, 1024]⟩)
    (hr : (⟨2, ![8, 1024]⟩ : Shape).Reduces [0] ⟨1, ![1024]⟩) (hf) (hc) (hv : Tile f v) :
    Tile (fun _ q => ∑ u : Fin 8, f u.val q)
      (shapeCast (⟨2, ![1, 1024]⟩ : Shape) (multiReduction (F := Ideal) (φ := .f32) .add [0] (⟨1, ![1024]⟩ : Shape) v c hr hf hc) h) := by
  intro y
  pointwise
  exact Finset.sum_congr rfl fun u _ => hv _

theorem host_cols {v : FVec Ideal (⟨2, ![8192, 1024]⟩ : Shape) .f32} (hu : 0 < (⟨0, ![]⟩ : Shape).numel) (h : (⟨1, ![1024]⟩ : Shape).ShapeCasts ⟨2, ![1, 1024]⟩)
    (hr : (⟨2, ![8192, 1024]⟩ : Shape).ReducesTo [0] ⟨1, ![1024]⟩) (hv : Tile f v) :
    Tile (fun _ q => part (fun t => f t q) 8192)
      (shapeCast (⟨2, ![1, 1024]⟩ : Shape) (Host.reduceAdd v (constant (F := Ideal) (⟨0, ![]⟩ : Shape) .f32 0x00000000#32) hr hu) h) := by
  intro y
  pointwise
  rw [← part_first]
  exact Finset.sum_congr rfl fun u _ => hv _

/-- What the last of 16 blocks makes of an array's column sums: the scratch holds the sums of every eighth row so far, the last block adds its own and the eight. -/
theorem cols_run {a b N : ℕ} (acc : (n : ℕ) → n < N → (⟨2, ![8, 1024]⟩ : Shape).Idx → EReal) (out : (n : ℕ) → n < N → (⟨2, ![a, b]⟩ : Shape).Idx → EReal)
    (F : ℕ → ℕ → EReal) (G : (ℕ → EReal) → ℕ → ℕ → EReal) (hN : N = 16)
    (h0 : ∀ n hn, n % 16 = 0 → Tile (fun r q => ∑ u : Fin 64, F (n * 512 + (8 * u.val + r)) q) (acc n hn))
    (h1 : ∀ n hn f, 1 ≤ n % 16 → n % 16 ≠ 15 → Tile f (acc (n - 1) (Nat.lt_of_le_of_lt (Nat.sub_le _ _) hn)) →
      Tile (fun r q => f r q + ∑ u : Fin 64, F (n * 512 + (8 * u.val + r)) q) (acc n hn))
    (h2 : ∀ n hn f, n % 16 = 15 → Tile f (acc (n - 1) (Nat.lt_of_le_of_lt (Nat.sub_le _ _) hn)) →
      Tile (G fun q => ∑ r : Fin 8, (f r.val q + ∑ u : Fin 64, F (n * 512 + (8 * u.val + r.val)) q)) (out n hn)) :
    ∀ n hn, n % 16 = 15 → Tile (G fun q => part (fun t => F t q) 8192) (out n hn) := by
  have e : ∀ n r q u, n < N → F (n * 512 + (8 * u + r)) q = F (8 * (64 * (n % 16) + u) + r) q := fun n r q u h =>
    congrArg (F · q) (by rw [Nat.mod_eq_of_lt (hN ▸ h)]; omega)
  intro n hn h
  have hr := runs (N := N) (nk := 16) (K := 64) (by decide) acc (fun _ r q t => F (8 * t + r) q)
    (fun n hn h => (h0 n hn h).congr fun r _ q _ => Finset.sum_congr rfl fun u _ => e n r q u.val hn)
    (fun n hn f h hl hf => (h1 n hn f h hl hf).congr fun r _ q _ => congrArg (f r q + ·) (Finset.sum_congr rfl fun u _ => e n r q u.val hn))
    (n - 1) (Nat.lt_of_le_of_lt (Nat.sub_le _ _) hn) (by omega)
  refine (h2 n hn _ h hr).congr fun i _ j _ => congrArg (G · i j) (funext fun q => ?_)
  refine Eq.trans ?_ (part_eight (fun t => F t q) 1024)
  refine Finset.sum_congr rfl fun r _ => ?_
  rw [(before_mod (n := n) (nk := 16) (by omega)).2]
  refine Eq.trans (congrArg (_ + ·) (Finset.sum_congr rfl fun u _ => e n r.val q u.val hn)) ?_
  rw [h]
  exact part_last (fun t => F (8 * t + r.val) q) rfl

end Columns

end Cert.RowGrad
-- ==== Proof.NormBack.lean ====
/- The norm over the model width, backward: the call's two arrays, its reference, and their equality. -/
module

public import proofs.«01_k».proof.Proof.RowGrad
public import proofs.«01_k».proof.Proof.Gen.Kernel26Ideal.Value
public import proofs.«01_k».proof.Proof.Gen.Reference26Ideal.Run
public import proofs.«01_k».proof.Defs

@[expose] public section

set_option maxRecDepth 16384

noncomputable section

open Idealize.ShloMosaic Idealize.ShloMosaic.TcCoe Cert.Tile Cert.Dense Cert.Adam Cert.Rows Cert.Norm Cert.RowGrad
open Idealize.ShloMosaic.Tactic
open scoped BigOperators

namespace Cert.NormBack

/-- The gradient at the scaled row, and one token's part of the gain's gradient. -/
def up (g d : ℕ → ℕ → EReal) (i q : ℕ) : EReal := d i q * g 0 q
def part1 (f d : ℕ → ℕ → EReal) (i q : ℕ) : EReal := d i q * hat f i q

section Kernel

open Cert.Kernel26Ideal Cert.Kernel26Ideal.Gen Cert.Kernel26Ideal.Value

section Step

variable {f g d e k : ℕ → ℕ → EReal} {x0 x2 x3 : Vec Ideal S512x1024 .f32} {x1 : Vec Ideal S1x1024 .f32} {s : Vec Ideal S8x1024 .f32}
  (hf : Tile (a := 512) (b := 1024) f x0) (hg : Tile (a := 1) (b := 1024) g x1) (hd : Tile (a := 512) (b := 1024) d x2)
  (he : Tile (a := 512) (b := 1024) e x3) (hk : Tile (a := 8) (b := 1024) k s)

section Input
include hf hg hd he

theorem dx : Tile (a := 512) (b := 1024) (fun i q => back f (up g d) i q + e i q) (k0_pay5 (F := Ideal) x0 x2 x1 x3) := by
  unfold k0_pay5 k0_pay4 k0_pay3
  exact tile_addf (φ := .f32) (tile_back hf (tile_mulf (φ := .f32) hd (row_rep (B := 1024) (by decide) hg _)) _ _ _) he

theorem dx_first {c i a1 h1 a2 h2 a3 h3 a4 h4 a5 h5 a6 h6 a7 h7 c0 c1 c2} : Tile (a := 512) (b := 1024) (fun i q => back f (up g d) i q + e i q)
    (out0_A_4 (F := Ideal) c i a1 h1 a2 h2 a3 h3 a4 h4 a5 h5 a6 h6 a7 h7 c0 c1 c2 x0 x1 x2 x3) := by
  unfold out0_A_4 kernelRun0_A
  dsimp only
  refine whole_st (A := 512) (B := 1024) (e := .f32) (dx ?_ ?_ ?_ ?_)
  exacts [whole_ld (e := .f32) hf, whole_ld (e := .f32) hg, whole_ld (e := .f32) hd, whole_ld (e := .f32) he]

theorem dx_next {c i a1 h1 a2 h2 a3 h3 a4 h4 a5 h5 a6 h6 a7 h7 c0 c1 c2} : Tile (a := 512) (b := 1024) (fun i q => back f (up g d) i q + e i q)
    (out0_B_4 (F := Ideal) c i a1 h1 a2 h2 a3 h3 a4 h4 a5 h5 a6 h6 a7 h7 c0 c1 c2 x0 x1 x2 x3 s) := by
  unfold out0_B_4 kernelRun0_B
  dsimp only
  refine whole_st (A := 512) (B := 1024) (e := .f32) (dx ?_ ?_ ?_ ?_)
  exacts [whole_ld (e := .f32) hf, whole_ld (e := .f32) hg, whole_ld (e := .f32) hd, whole_ld (e := .f32) he]

theorem dx_last {c i a1 h1 a2 h2 a3 h3 a4 h4 a5 h5 a6 h6 a7 h7 c0 c1 c2} : Tile (a := 512) (b := 1024) (fun i q => back f (up g d) i q + e i q)
    (out0_C_4 (F := Ideal) c i a1 h1 a2 h2 a3 h3 a4 h4 a5 h5 a6 h6 a7 h7 c0 c1 c2 x0 x1 x2 x3 s) := by
  unfold out0_C_4 kernelRun0_C
  dsimp only
  refine whole_st (A := 512) (B := 1024) (e := .f32) (dx ?_ ?_ ?_ ?_)
  exacts [whole_ld (e := .f32) hf, whole_ld (e := .f32) hg, whole_ld (e := .f32) hd, whole_ld (e := .f32) he]

end Input

section Gain
include hf hd

theorem oct : Tile (a := 8) (b := 1024) (fun r q => ∑ u : Fin 64, part1 f d (8 * u.val + r) q) (k0_pay6 (F := Ideal) x0 x2) := by
  unfold k0_pay6 k0_pay4 k0_pay3
  exact RowGrad.tile_oct _ _ _ _ (tile_mulf (φ := .f32) hd (tile_hat hf _ _ _))

theorem gain_first {c i a1 h1 a2 h2 a3 h3 a4 h4 a5 h5 a6 h6 a7 h7 c0 c1 c2} : Tile (a := 8) (b := 1024) (fun r q => ∑ u : Fin 64, part1 f d (8 * u.val + r) q)
    (sout0_A_0 (F := Ideal) c i a1 h1 a2 h2 a3 h3 a4 h4 a5 h5 a6 h6 a7 h7 c0 c1 c2 x0 x1 x2 x3) := by
  unfold sout0_A_0 kernelRun0_A
  dsimp only
  refine whole_st (A := 8) (B := 1024) (e := .f32) ?_
  unfold k0_pay7
  exact tile_shapeCast (φ := .f32) _ (oct (whole_ld (e := .f32) hf) (whole_ld (e := .f32) hd))

include hk

theorem gain_sum {X0 X2 : Vec Ideal S512x1024 .f32} (hX0 : Tile (a := 512) (b := 1024) f X0) (hX2 : Tile (a := 512) (b := 1024) d X2) :
    Tile (a := 8) (b := 1024) (fun r q => k r q + ∑ u : Fin 64, part1 f d (8 * u.val + r) q) (k0_pay1 (F := Ideal) (k0_pay6 (F := Ideal) X0 X2) s) := by
  unfold k0_pay1
  exact tile_shapeCast (φ := .f32) _ (tile_addf (φ := .f32) hk (oct hX0 hX2))

theorem gain_next {c i a1 h1 a2 h2 a3 h3 a4 h4 a5 h5 a6 h6 a7 h7 c0 c1 c2} :
    Tile (a := 8) (b := 1024) (fun r q => k r q + ∑ u : Fin 64, part1 f d (8 * u.val + r) q)
      (sout0_B_0 (F := Ideal) c i a1 h1 a2 h2 a3 h3 a4 h4 a5 h5 a6 h6 a7 h7 c0 c1 c2 x0 x1 x2 x3 s) := by
  unfold sout0_B_0 kernelRun0_B
  dsimp only
  refine whole_st (A := 8) (B := 1024) (e := .f32) (gain_sum hf hd ?_ ?_ ?_)
  exacts [whole_ld (e := .f32) hk, whole_ld (e := .f32) hf, whole_ld (e := .f32) hd]

theorem gain_last {c i a1 h1 a2 h2 a3 h3 a4 h4 a5 h5 a6 h6 a7 h7 c0 c1 c2} :
    Tile (a := 1) (b := 1024) (fun _ q => ∑ r : Fin 8, (k r.val q + ∑ u : Fin 64, part1 f d (8 * u.val + r.val) q))
      (out0_C_5 (F := Ideal) c i a1 h1 a2 h2 a3 h3 a4 h4 a5 h5 a6 h6 a7 h7 c0 c1 c2 x0 x1 x2 x3 s) := by
  unfold out0_C_5 kernelRun0_C
  dsimp only
  sl_unfold_words
  refine whole_st (A := 1) (B := 1024) (e := .f32) ?_
  unfold k0_pay2
  refine RowGrad.tile_sum8 (f := fun r q => k r q + ∑ u : Fin 64, part1 f d (8 * u.val + r) q) _ _ _ _
    (whole_cov (Val := Elt Ideal) (A := 8) (B := 1024) (e := .f32) (gain_sum hf hd ?_ ?_ ?_))
  exacts [whole_ld (e := .f32) hk, whole_ld (e := .f32) hf, whole_ld (e := .f32) hd]

end Gain
end Step

variable (m : (ℓ : Loc nD τ sig) → Buf (Elt Ideal) ℓ) (c : Dev nD)

/-- The stream, the gain, the gradient at the norm's output, and what is added. -/
def x : ℕ → ℕ → EReal := fn2 (A := 8192) (B := 1024) (m ((c : Thread nD τ).loc main_arg0))
def gain : ℕ → ℕ → EReal := fn2 (A := 1) (B := 1024) (m ((c : Thread nD τ).loc main_arg1))
def dy : ℕ → ℕ → EReal := fn2 (A := 8192) (B := 1024) (m ((c : Thread nD τ).loc main_arg2))
def plus : ℕ → ℕ → EReal := fn2 (A := 8192) (B := 1024) (m ((c : Thread nD τ).loc main_arg3))

theorem idx_all : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem x_blk (t : Fin cfg0.N) : Tile (a := 512) (b := 1024) (fun r q => x m c (t.val * 512 + r) (0 + q)) (iblk m c 0 t) := by
  have e := (idx_all t).1
  exact blk (A := 8192) (B := 1024) (o := t.val * 512) (p := 0) (fn2_tile (m ((c : Thread nD τ).loc main_arg0)))
    (((cfg0.win 0).blk t).view.emb) fun y => ⟨by blk_simp [e], by blk_simp [e]⟩

theorem gain_blk (t : Fin cfg0.N) : Tile (a := 1) (b := 1024) (fun r q => gain m c (0 + r) (0 + q)) (iblk m c 1 t) := by
  have e := (idx_all t).2.1
  exact blk (A := 1) (B := 1024) (o := 0) (p := 0) (fn2_tile (m ((c : Thread nD τ).loc main_arg1)))
    (((cfg0.win 1).blk t).view.emb) fun y => ⟨by blk_simp [e], by blk_simp [e]⟩

theorem dy_blk (t : Fin cfg0.N) : Tile (a := 512) (b := 1024) (fun r q => dy m c (t.val * 512 + r) (0 + q)) (iblk m c 2 t) := by
  have e := (idx_all t).2.2.1
  exact blk (A := 8192) (B := 1024) (o := t.val * 512) (p := 0) (fn2_tile (m ((c : Thread nD τ).loc main_arg2)))
    (((cfg0.win 2).blk t).view.emb) fun y => ⟨by blk_simp [e], by blk_simp [e]⟩

theorem plus_blk (t : Fin cfg0.N) : Tile (a := 512) (b := 1024) (fun r q => plus m c (t.val * 512 + r) (0 + q)) (iblk m c 3 t) := by
  have e := (idx_all t).2.2.2.1
  exact blk (A := 8192) (B := 1024) (o := t.val * 512) (p := 0) (fn2_tile (m ((c : Thread nD τ).loc main_arg3)))
    (((cfg0.win 3).blk t).view.emb) fun y => ⟨by blk_simp [e], by blk_simp [e]⟩

/-- A block's rows are the arrays' rows at its place. -/
theorem place (f g d e : ℕ → ℕ → EReal) (o i q : ℕ) :
    back (fun r q => f (o + r) (0 + q)) (up (fun r q => g (0 + r) (0 + q)) (fun r q => d (o + r) (0 + q))) i q + e (o + i) (0 + q)
      = back f (up g d) (o + i) q + e (o + i) q := by
  unfold back up hat Norm.sq
  simp only [zero_add]

theorem place1 (f d : ℕ → ℕ → EReal) (o i q : ℕ) :
    part1 (fun r q => f (o + r) (0 + q)) (fun r q => d (o + r) (0 + q)) i q = part1 f d (o + i) q := by
  unfold part1 hat Norm.sq
  simp only [zero_add]

theorem dx_at (n : ℕ) (hn : n < cfg0.N) : Tile (a := 512) (b := 1024)
    (fun r q => back (x m c) (up (gain m c) (dy m c)) (n * 512 + r) q + plus m c (n * 512 + r) q) (outsAt0 m c n hn).1 := by
  have hN : n < 16 := lt_of_lt_of_eq hn N_0
  by_cases h0 : n % 16 = 0
  · rw [outsAt0_A m c ⟨n, hn⟩ h0 (by dsimp only; omega) (by dsimp only; omega)]
    dsimp only
    exact (dx_first (x_blk m c ⟨n, hn⟩) (gain_blk m c ⟨n, hn⟩) (dy_blk m c ⟨n, hn⟩) (plus_blk m c ⟨n, hn⟩)).congr fun r _ q _ => place (x m c) (gain m c) (dy m c) (plus m c) (n * 512) r q
  by_cases h2 : n % 16 = 15
  · rw [outsAt0_C m c ⟨n, hn⟩ h0 (by dsimp only; omega) h2]
    dsimp only
    exact (dx_last (x_blk m c ⟨n, hn⟩) (gain_blk m c ⟨n, hn⟩) (dy_blk m c ⟨n, hn⟩) (plus_blk m c ⟨n, hn⟩)).congr fun r _ q _ => place (x m c) (gain m c) (dy m c) (plus m c) (n * 512) r q
  · rw [outsAt0_B m c ⟨n, hn⟩ h0 (by dsimp only; omega) h2]
    dsimp only
    exact (dx_next (x_blk m c ⟨n, hn⟩) (gain_blk m c ⟨n, hn⟩) (dy_blk m c ⟨n, hn⟩) (plus_blk m c ⟨n, hn⟩)).congr fun r _ q _ => place (x m c) (gain m c) (dy m c) (plus m c) (n * 512) r q

theorem gain_at (n : ℕ) (hn : n < cfg0.N) (h : n % 16 = 16 - 1) : Tile (a := 1) (b := 1024)
    (fun _ q => part (fun t => part1 (x m c) (dy m c) t q) 8192) (outsAt0 m c n hn).2.1 :=
  cols_run (fun n hn => (outsAt0 m c n hn).2.2) (fun n hn => (outsAt0 m c n hn).2.1) (part1 (x m c) (dy m c)) (fun C _ q => C q) N_0
    (fun n hn h => by
      have hN : n < 16 := lt_of_lt_of_eq hn N_0
      rw [outsAt0_A m c ⟨n, hn⟩ h (by dsimp only; omega) (by dsimp only; omega)]
      dsimp only
      exact (gain_first (x_blk m c ⟨n, hn⟩) (dy_blk m c ⟨n, hn⟩)).congr fun r _ q _ => Finset.sum_congr rfl fun u _ => place1 (x m c) (dy m c) (n * 512) (8 * u.val + r) q)
    (fun n hn k h hl hk => by
      have hN : n < 16 := lt_of_lt_of_eq hn N_0
      rw [outsAt0_B m c ⟨n, hn⟩ (by dsimp only; omega) (by dsimp only; omega) hl]
      dsimp only
      exact (gain_next (x_blk m c ⟨n, hn⟩) (dy_blk m c ⟨n, hn⟩) hk).congr fun r _ q _ =>
        congrArg (k r q + ·) (Finset.sum_congr rfl fun u _ => place1 (x m c) (dy m c) (n * 512) (8 * u.val + r) q))
    (fun n hn k h hk => by
      have hN : n < 16 := lt_of_lt_of_eq hn N_0
      rw [outsAt0_C m c ⟨n, hn⟩ (by dsimp only; omega) (by dsimp only; omega) h]
      dsimp only
      exact (gain_last (x_blk m c ⟨n, hn⟩) (dy_blk m c ⟨n, hn⟩) hk).congr fun _ _ q _ => Finset.sum_congr rfl fun r _ =>
        congrArg (k r.val q + ·) (Finset.sum_congr rfl fun u _ => place1 (x m c) (dy m c) (n * 512) (8 * u.val + r.val) q)) n hn h

def arrX (c : Dev nD) : S8192x1024.Idx → EReal := fun y =>
  back (x m c) (up (gain m c) (dy m c)) (y 0).val (y 1).val + plus m c (y 0).val (y 1).val
def arrG (c : Dev nD) : S1x1024.Idx → EReal := fun y => part (fun t => part1 (x m c) (dy m c) t (y 1).val) 8192

theorem final_x : (dats m 0 c).arrAt 4 cfg0.N = arrX m c := by
  refine (dats m 0 c).arrAt_eq_of_covers 4 _ (by decide +kernel) fun t hf y => ?_
  have e := (idx_all t).2.2.2.2.1
  refine (congrFun (after0_4 m c t) _).trans ?_
  refine (dx_at m c t.val t.isLt y).trans ?_
  unfold arrX
  blk_simp [e]

theorem final_g : (dats m 0 c).arrAt 5 cfg0.N = arrG m c := by
  refine (dats m 0 c).arrAt_eq_of_covers 5 _ (by decide +kernel) fun t hf y => ?_
  have e := (idx_all t).2.2.2.2.2
  refine (congrFun (after0_5 m c t) _).trans ?_
  refine (gain_at m c t.val t.isLt ((flush0_5 t).mp hf) y).trans ?_
  unfold arrG
  blk_simp [e]

end Kernel

section Ref

open Cert.Reference26Ideal Cert.Reference26Ideal.Gen

variable (a0 a2 a3 : FVec Ideal S8192x1024 .f32) (a1 : FVec Ideal S1x1024 .f32)

/-- The reference's columns: what is under the root, the root, and each row's share of the gradient through the root. -/
abbrev un : FVec Ideal S8192x1 .f32 := under a0 h_S_ reducesTo_S8192x1024_S8192_d1 bcast_S8192_S8192x1_0 bcast_S_S8192x1
abbrev wide : FVec Ideal S8192x1024 .f32 := broadcastInDim S8192x1024 ![0, 1] bcast_S8192x1_S8192x1024_0_1 (Host.rsqrt (un a0))
abbrev sh (W : FVec Ideal S8192x1024 .f32) : FVec Ideal S8192x1024 .f32 :=
  broadcastInDim S8192x1024 ![0] bcast_S8192_S8192x1024_0 (Host.reduceAdd (Host.divf
    (mulf (shapeCast S8192x1 (Host.reduceAdd (mulf a0 W) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (un a0)) (un a0))))
    (broadcastInDim S8192x1 ![] bcast_S_S8192x1 (constant S_ .f32 0x44800000#32))) (constant S_ .f32 0x00000000#32) reducesTo_S8192x1_S8192_d1 h_S_)
abbrev above : FVec Ideal S8192x1024 .f32 := mulf a2 (broadcastInDim S8192x1024 ![0, 1] bcast_S1x1024_S8192x1024_0_1 a1)

theorem ref_x : addf (addf (addf (mulf (above a2 a1) (wide a0)) (mulf a0 (sh a0 (above a2 a1)))) (mulf (sh a0 (above a2 a1)) a0)) a3
    = fun y => back (fn2 (A := 8192) (B := 1024) a0) (up (fn2 (A := 1) (B := 1024) a1) (fn2 (A := 8192) (B := 1024) a2)) (y 0).val (y 1).val
        + fn2 (A := 8192) (B := 1024) a3 (y 0).val (y 1).val := by
  have hW : Tile (a := 8192) (b := 1024) (up (fn2 (A := 1) (B := 1024) a1) (fn2 (A := 8192) (B := 1024) a2)) (above a2 a1) :=
    tile_mulf (φ := .f32) (fn2_tile a2) (host_row_rep (B := 1024) (by decide) (fn2_tile a1) _)
  have hS := host_share (fn2_tile a0) hW h_S_ reducesTo_S8192x1024_S8192_d1 bcast_S8192_S8192x1_0 bcast_S_S8192x1 shapeCasts_S8192_S8192x1
    reducesTo_S8192x1_S8192_d1 bcast_S8192_S8192x1024_0
  have hR := host_root (fn2_tile a0) h_S_ reducesTo_S8192x1024_S8192_d1 bcast_S8192_S8192x1_0 bcast_S_S8192x1 bcast_S8192x1_S8192x1024_0_1
  refine funext fun y => (tile_addf (φ := .f32) (tile_addf (φ := .f32) (tile_addf (φ := .f32) (tile_mulf (φ := .f32) hW hR) (tile_mulf (φ := .f32) (fn2_tile a0) hS))
    (tile_mulf (φ := .f32) hS (fn2_tile a0))) (fn2_tile a3) y).trans ?_
  rw [back_eq]
  rfl

theorem ref_g : shapeCast S1x1024 (Host.reduceAdd (mulf (mulf a0 (wide a0)) a2) (constant S_ .f32 0x00000000#32) reducesTo_S8192x1024_S1024_d0 h_S_) shapeCasts_S1024_S1x1024
    = fun y => part (fun t => part1 (fn2 (A := 8192) (B := 1024) a0) (fn2 (A := 8192) (B := 1024) a2) t (y 1).val) 8192 := by
  refine funext fun y => (RowGrad.host_cols _ _ _ (tile_mulf (φ := .f32) (tile_mulf (φ := .f32) (fn2_tile a0)
    (host_root (fn2_tile a0) _ _ _ _ _)) (fn2_tile a2)) y).trans ?_
  exact part_congr fun _ _ => mul_comm _ _

end Ref

theorem claim : Cert.algebraic_Kernel26Ideal_Reference26Ideal (hKernel26Ideal := Cert.Kernel26Ideal.Gen.facts)
    (hReference26Ideal := Cert.Reference26Ideal.Gen.facts) := by
  intro m g m' g' _ hm
  refine ⟨arrX m, arrG m, ?_, ?_⟩
  · refine (θ_run _ _ _).mono (fun r h c => ?_) (Cert.Kernel26Ideal.Value.run_blocks m g)
    exact ⟨(h c).1.trans (final_x m c), (h c).2.1.trans (final_g m c), (h c).2.2⟩
  · refine (θ_run _ _ _).mono (fun r h c => ?_) (Cert.Reference26Ideal.Value.run m' g')
    refine ⟨(h c).1.trans ?_, (h c).2.1.trans ?_, (h c).2.2⟩
    · rw [(hm c).1, (hm c).2.1, (hm c).2.2.1, (hm c).2.2.2]
      exact ref_x _ _ _ _
    · rw [(hm c).1, (hm c).2.2.1]
      exact ref_g _ _

end Cert.NormBack
-- ==== Proof.Loss.lean ====
/- The loss after the last norm and its gradients: the call's three arrays, its reference, and their equality. -/
module

public import proofs.«01_k».proof.Proof.RowGrad
public import proofs.«01_k».proof.Proof.Gen.Kernel27Ideal.Value
public import proofs.«01_k».proof.Proof.Gen.Reference27Ideal.Run
public import proofs.«01_k».proof.Defs

@[expose] public section

set_option maxRecDepth 16384

noncomputable section

open Idealize.ShloMosaic Idealize.ShloMosaic.TcCoe Cert.Tile Cert.Dense Cert.Adam Cert.Rows Cert.Norm Cert.RowGrad
open Idealize.ShloMosaic.Tactic
open scoped BigOperators

namespace Cert.Loss

/-- The error at one entry, its square, the loss's gradient at the norm's output, and one token's part of the gain's gradient. -/
def err (f g t : ℕ → ℕ → EReal) (i q : ℕ) : EReal := hat f i q * g 0 q - t i q
def err2 (f g t : ℕ → ℕ → EReal) (i q : ℕ) : EReal := err f g t i q * err f g t i q
def down (f g t : ℕ → ℕ → EReal) (i q : ℕ) : EReal := err f g t i q * num 0x3A800000#32
def up (f g t : ℕ → ℕ → EReal) (i q : ℕ) : EReal := down f g t i q * g 0 q
def part1 (f g t : ℕ → ℕ → EReal) (i q : ℕ) : EReal := down f g t i q * hat f i q

/-- The loss from the columns' sums. -/
def total (C : ℕ → EReal) : EReal := (∑ q : Fin 1024, C q.val) * num 0x3A000000#32

theorem half : num 0x3F000000#32 = ((1 / 2 : ℝ) : EReal) := by
  unfold num
  simp [Ideal.ofBits, Ideal.ieee, -EReal.coe_mul]
  norm_num

theorem two : num 0x40000000#32 = ((2 : ℝ) : EReal) := by
  unfold num
  simp [Ideal.ofBits, Ideal.ieee, -EReal.coe_mul]
  norm_num

theorem thousandth : num 0x3A800000#32 = ((1 / 1024 : ℝ) : EReal) := by
  unfold num
  simp [Ideal.ofBits, Ideal.ieee, -EReal.coe_mul]
  norm_num

theorem twothousandth : num 0x3A000000#32 = ((1 / 2048 : ℝ) : EReal) := by
  unfold num
  simp [Ideal.ofBits, Ideal.ieee, -EReal.coe_mul]
  norm_num

section Kernel

open Cert.Kernel27Ideal Cert.Kernel27Ideal.Gen Cert.Kernel27Ideal.Value

section Step

variable {f g d k k' : ℕ → ℕ → EReal} {x0 x2 : Vec Ideal S512x1024 .f32} {x1 : Vec Ideal S1x1024 .f32} {s s' : Vec Ideal S8x1024 .f32}
  (hf : Tile (a := 512) (b := 1024) f x0) (hg : Tile (a := 1) (b := 1024) g x1) (hd : Tile (a := 512) (b := 1024) d x2)
  (hk : Tile (a := 8) (b := 1024) k s) (hk' : Tile (a := 8) (b := 1024) k' s')

section Input
include hf hg hd

theorem e_tile : Tile (a := 512) (b := 1024) (err f g d) (k0_pay9 (F := Ideal) x0 x1 x2) := by
  unfold k0_pay9 k0_pay8 k0_pay7
  exact tile_subf (φ := .f32) (tile_mulf (φ := .f32) (tile_hat hf _ _ _) (row_rep (B := 1024) (by decide) hg _)) hd

theorem d_tile : Tile (a := 512) (b := 1024) (down f g d) (k0_pay10 (F := Ideal) x0 x1 x2) := by
  unfold k0_pay10
  exact fun y => congrArg (· * num 0x3A800000#32) (e_tile hf hg hd y)

theorem dx : Tile (a := 512) (b := 1024) (back f (up f g d)) (k0_pay11 (F := Ideal) x0 x1 x2) := by
  unfold k0_pay11 k0_pay8 k0_pay7
  exact tile_back hf (tile_mulf (φ := .f32) (d_tile hf hg hd) (row_rep (B := 1024) (by decide) hg _)) _ _ _

theorem dx_first {c i a1 h1 a2 h2 a3 h3 a4 h4 a5 h5 a6 h6 a7 h7 a8 h8 c0 c1 c2} : Tile (a := 512) (b := 1024) (back f (up f g d))
    (out0_A_4 (F := Ideal) c i a1 h1 a2 h2 a3 h3 a4 h4 a5 h5 a6 h6 a7 h7 a8 h8 c0 c1 c2 x0 x1 x2) := by
  unfold out0_A_4 kernelRun0_A
  dsimp only
  refine whole_st (A := 512) (B := 1024) (e := .f32) (dx ?_ ?_ ?_)
  exacts [whole_ld (e := .f32) hf, whole_ld (e := .f32) hg, whole_ld (e := .f32) hd]

theorem dx_next {c i a1 h1 a2 h2 a3 h3 a4 h4 a5 h5 a6 h6 a7 h7 a8 h8 c0 c1 c2} : Tile (a := 512) (b := 1024) (back f (up f g d))
    (out0_B_4 (F := Ideal) c i a1 h1 a2 h2 a3 h3 a4 h4 a5 h5 a6 h6 a7 h7 a8 h8 c0 c1 c2 x0 x1 x2 s s') := by
  unfold out0_B_4 kernelRun0_B
  dsimp only
  refine whole_st (A := 512) (B := 1024) (e := .f32) (dx ?_ ?_ ?_)
  exacts [whole_ld (e := .f32) hf, whole_ld (e := .f32) hg, whole_ld (e := .f32) hd]

theorem dx_last {c i a1 h1 a2 h2 a3 h3 a4 h4 a5 h5 a6 h6 a7 h7 a8 h8 c0 c1 c2} : Tile (a := 512) (b := 1024) (back f (up f g d))
    (out0_C_4 (F := Ideal) c i a1 h1 a2 h2 a3 h3 a4 h4 a5 h5 a6 h6 a7 h7 a8 h8 c0 c1 c2 x0 x1 x2 s s') := by
  unfold out0_C_4 kernelRun0_C
  dsimp only
  refine whole_st (A := 512) (B := 1024) (e := .f32) (dx ?_ ?_ ?_)
  exacts [whole_ld (e := .f32) hf, whole_ld (e := .f32) hg, whole_ld (e := .f32) hd]

theorem oct : Tile (a := 8) (b := 1024) (fun r q => ∑ u : Fin 64, part1 f g d (8 * u.val + r) q) (k0_pay12 (F := Ideal) x0 x1 x2) := by
  unfold k0_pay12 k0_pay8 k0_pay7
  exact RowGrad.tile_oct _ _ _ _ (tile_mulf (φ := .f32) (d_tile hf hg hd) (tile_hat hf _ _ _))

theorem oct2 : Tile (a := 8) (b := 1024) (fun r q => ∑ u : Fin 64, err2 f g d (8 * u.val + r) q) (k0_pay13 (F := Ideal) x0 x1 x2) := by
  unfold k0_pay13
  exact RowGrad.tile_oct _ _ _ _ (tile_mulf (φ := .f32) (e_tile hf hg hd) (e_tile hf hg hd))

theorem gain_first {c i a1 h1 a2 h2 a3 h3 a4 h4 a5 h5 a6 h6 a7 h7 a8 h8 c0 c1 c2} : Tile (a := 8) (b := 1024) (fun r q => ∑ u : Fin 64, part1 f g d (8 * u.val + r) q)
    (sout0_A_0 (F := Ideal) c i a1 h1 a2 h2 a3 h3 a4 h4 a5 h5 a6 h6 a7 h7 a8 h8 c0 c1 c2 x0 x1 x2) := by
  unfold sout0_A_0 kernelRun0_A
  dsimp only
  refine whole_st (A := 8) (B := 1024) (e := .f32) ?_
  unfold k0_pay1
  exact tile_shapeCast (φ := .f32) _ (oct (whole_ld (e := .f32) hf) (whole_ld (e := .f32) hg) (whole_ld (e := .f32) hd))

theorem sq_first {c i a1 h1 a2 h2 a3 h3 a4 h4 a5 h5 a6 h6 a7 h7 a8 h8 c0 c1 c2} : Tile (a := 8) (b := 1024) (fun r q => ∑ u : Fin 64, err2 f g d (8 * u.val + r) q)
    (sout0_A_1 (F := Ideal) c i a1 h1 a2 h2 a3 h3 a4 h4 a5 h5 a6 h6 a7 h7 a8 h8 c0 c1 c2 x0 x1 x2) := by
  unfold sout0_A_1 kernelRun0_A
  dsimp only
  refine whole_st (A := 8) (B := 1024) (e := .f32) ?_
  unfold k0_pay2
  exact tile_shapeCast (φ := .f32) _ (oct2 (whole_ld (e := .f32) hf) (whole_ld (e := .f32) hg) (whole_ld (e := .f32) hd))

omit hf hg hd in
theorem gain_sum {X0 X2 : Vec Ideal S512x1024 .f32} {X1 : Vec Ideal S1x1024 .f32} {S : Vec Ideal S8x1024 .f32} (hX0 : Tile (a := 512) (b := 1024) f X0)
    (hX1 : Tile (a := 1) (b := 1024) g X1) (hX2 : Tile (a := 512) (b := 1024) d X2) (hS : Tile (a := 8) (b := 1024) k S) :
    Tile (a := 8) (b := 1024) (fun r q => k r q + ∑ u : Fin 64, part1 f g d (8 * u.val + r) q)
      (k0_pay3 (F := Ideal) (k0_pay12 (F := Ideal) X0 X1 X2) S) := by
  unfold k0_pay3
  exact tile_shapeCast (φ := .f32) _ (tile_addf (φ := .f32) hS (oct hX0 hX1 hX2))

include hk in
theorem gain_next {c i a1 h1 a2 h2 a3 h3 a4 h4 a5 h5 a6 h6 a7 h7 a8 h8 c0 c1 c2} : Tile (a := 8) (b := 1024) (fun r q => k r q + ∑ u : Fin 64, part1 f g d (8 * u.val + r) q)
    (sout0_B_0 (F := Ideal) c i a1 h1 a2 h2 a3 h3 a4 h4 a5 h5 a6 h6 a7 h7 a8 h8 c0 c1 c2 x0 x1 x2 s s') := by
  unfold sout0_B_0 kernelRun0_B
  dsimp only
  refine whole_st (A := 8) (B := 1024) (e := .f32) (gain_sum ?_ ?_ ?_ ?_)
  exacts [whole_ld (e := .f32) hf, whole_ld (e := .f32) hg, whole_ld (e := .f32) hd, whole_ld (e := .f32) hk]

include hk in
theorem gain_last {c i a1 h1 a2 h2 a3 h3 a4 h4 a5 h5 a6 h6 a7 h7 a8 h8 c0 c1 c2} :
    Tile (a := 1) (b := 1024) (fun _ q => ∑ r : Fin 8, (k r.val q + ∑ u : Fin 64, part1 f g d (8 * u.val + r.val) q))
      (out0_C_5 (F := Ideal) c i a1 h1 a2 h2 a3 h3 a4 h4 a5 h5 a6 h6 a7 h7 a8 h8 c0 c1 c2 x0 x1 x2 s s') := by
  unfold out0_C_5 kernelRun0_C
  dsimp only
  sl_unfold_words
  refine whole_st (A := 1) (B := 1024) (e := .f32) ?_
  unfold k0_pay5
  refine RowGrad.tile_sum8 (f := fun r q => k r q + ∑ u : Fin 64, part1 f g d (8 * u.val + r) q) _ _ _ _
    (whole_cov (Val := Elt Ideal) (A := 8) (B := 1024) (e := .f32) (gain_sum ?_ ?_ ?_ ?_))
  exacts [whole_ld (e := .f32) hf, whole_ld (e := .f32) hg, whole_ld (e := .f32) hd, whole_ld (e := .f32) hk]

omit hf hg hd in
theorem sq_sum {X0 X2 : Vec Ideal S512x1024 .f32} {X1 : Vec Ideal S1x1024 .f32} {S : Vec Ideal S8x1024 .f32} (hX0 : Tile (a := 512) (b := 1024) f X0)
    (hX1 : Tile (a := 1) (b := 1024) g X1) (hX2 : Tile (a := 512) (b := 1024) d X2) (hS : Tile (a := 8) (b := 1024) k' S) :
    Tile (a := 8) (b := 1024) (fun r q => k' r q + ∑ u : Fin 64, err2 f g d (8 * u.val + r) q)
      (k0_pay4 (F := Ideal) (k0_pay13 (F := Ideal) X0 X1 X2) S) := by
  unfold k0_pay4
  exact tile_shapeCast (φ := .f32) _ (tile_addf (φ := .f32) hS (oct2 hX0 hX1 hX2))

include hk' in
theorem sq_next {c i a1 h1 a2 h2 a3 h3 a4 h4 a5 h5 a6 h6 a7 h7 a8 h8 c0 c1 c2} : Tile (a := 8) (b := 1024) (fun r q => k' r q + ∑ u : Fin 64, err2 f g d (8 * u.val + r) q)
    (sout0_B_1 (F := Ideal) c i a1 h1 a2 h2 a3 h3 a4 h4 a5 h5 a6 h6 a7 h7 a8 h8 c0 c1 c2 x0 x1 x2 s s') := by
  unfold sout0_B_1 kernelRun0_B
  dsimp only
  refine whole_st (A := 8) (B := 1024) (e := .f32) (sq_sum ?_ ?_ ?_ ?_)
  exacts [whole_ld (e := .f32) hf, whole_ld (e := .f32) hg, whole_ld (e := .f32) hd, whole_ld (e := .f32) hk']

omit hf hg hd in
theorem total_tile {S : Vec Ideal S8x1024 .f32} (hS : Tile (a := 8) (b := 1024) k S) :
    Tile (a := 8) (b := 128) (fun _ _ => total fun q => ∑ r : Fin 8, k r.val q) (k0_pay6 (F := Ideal) S) := by
  unfold k0_pay6
  intro y
  refine congrArg (· * num 0x3A000000#32) ?_
  pointwise
  exact Finset.sum_congr rfl fun q _ => Finset.sum_congr rfl fun r _ => hS _

include hk' in
theorem sq_last {c i a1 h1 a2 h2 a3 h3 a4 h4 a5 h5 a6 h6 a7 h7 a8 h8 c0 c1 c2} :
    Tile (a := 8) (b := 128) (fun _ _ => total fun q => ∑ r : Fin 8, (k' r.val q + ∑ u : Fin 64, err2 f g d (8 * u.val + r.val) q))
      (out0_C_3 (F := Ideal) c i a1 h1 a2 h2 a3 h3 a4 h4 a5 h5 a6 h6 a7 h7 a8 h8 c0 c1 c2 x0 x1 x2 s s') := by
  unfold out0_C_3 kernelRun0_C
  dsimp only
  sl_unfold_words
  refine whole_st (A := 8) (B := 128) (e := .f32) ?_
  refine total_tile (k := fun r q => k' r q + ∑ u : Fin 64, err2 f g d (8 * u.val + r) q)
    (whole_cov (Val := Elt Ideal) (A := 8) (B := 1024) (e := .f32) (sq_sum ?_ ?_ ?_ ?_))
  exacts [whole_ld (e := .f32) hf, whole_ld (e := .f32) hg, whole_ld (e := .f32) hd, whole_ld (e := .f32) hk']

end Input
end Step

variable (m : (ℓ : Loc nD τ sig) → Buf (Elt Ideal) ℓ) (c : Dev nD)

/-- The stream, the gain and the target. -/
def x : ℕ → ℕ → EReal := fn2 (A := 8192) (B := 1024) (m ((c : Thread nD τ).loc main_arg0))
def gain : ℕ → ℕ → EReal := fn2 (A := 1) (B := 1024) (m ((c : Thread nD τ).loc main_arg1))
def goal : ℕ → ℕ → EReal := fn2 (A := 8192) (B := 1024) (m ((c : Thread nD τ).loc main_arg2))

theorem idx_all : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] := by
  decide +kernel

theorem x_blk (t : Fin cfg0.N) : Tile (a := 512) (b := 1024) (fun r q => x m c (t.val * 512 + r) (0 + q)) (iblk m c 0 t) := by
  have e := (idx_all t).1
  exact blk (A := 8192) (B := 1024) (o := t.val * 512) (p := 0) (fn2_tile (m ((c : Thread nD τ).loc main_arg0)))
    (((cfg0.win 0).blk t).view.emb) fun y => ⟨by blk_simp [e], by blk_simp [e]⟩

theorem gain_blk (t : Fin cfg0.N) : Tile (a := 1) (b := 1024) (fun r q => gain m c (0 + r) (0 + q)) (iblk m c 1 t) := by
  have e := (idx_all t).2.1
  exact blk (A := 1) (B := 1024) (o := 0) (p := 0) (fn2_tile (m ((c : Thread nD τ).loc main_arg1)))
    (((cfg0.win 1).blk t).view.emb) fun y => ⟨by blk_simp [e], by blk_simp [e]⟩

theorem goal_blk (t : Fin cfg0.N) : Tile (a := 512) (b := 1024) (fun r q => goal m c (t.val * 512 + r) (0 + q)) (iblk m c 2 t) := by
  have e := (idx_all t).2.2.1
  exact blk (A := 8192) (B := 1024) (o := t.val * 512) (p := 0) (fn2_tile (m ((c : Thread nD τ).loc main_arg2)))
    (((cfg0.win 2).blk t).view.emb) fun y => ⟨by blk_simp [e], by blk_simp [e]⟩

/-- A block's rows are the arrays' rows at its place. -/
theorem place (f g t : ℕ → ℕ → EReal) (o : ℕ) :
    let F := fun r q => f (o + r) (0 + q)
    let G := fun r q => g (0 + r) (0 + q)
    let T := fun r q => t (o + r) (0 + q)
    (∀ i q, back F (up F G T) i q = back f (up f g t) (o + i) q) ∧ (∀ i q, part1 F G T i q = part1 f g t (o + i) q)
      ∧ ∀ i q, err2 F G T i q = err2 f g t (o + i) q := by
  refine ⟨fun i q => ?_, fun i q => ?_, fun i q => ?_⟩
  · unfold back up down err hat Norm.sq
    simp only [zero_add]
  · unfold part1 down err hat Norm.sq
    simp only [zero_add]
  · unfold err2 err hat Norm.sq
    simp only [zero_add]

theorem dx_at (n : ℕ) (hn : n < cfg0.N) : Tile (a := 512) (b := 1024)
    (fun r q => back (x m c) (up (x m c) (gain m c) (goal m c)) (n * 512 + r) q) (outsAt0 m c n hn).2.1 := by
  have hN : n < 16 := lt_of_lt_of_eq hn N_0
  have hp := (place (x m c) (gain m c) (goal m c) (n * 512)).1
  by_cases h0 : n % 16 = 0
  · rw [outsAt0_A m c ⟨n, hn⟩ h0 (by dsimp only; omega) (by dsimp only; omega)]
    dsimp only
    exact (dx_first (x_blk m c ⟨n, hn⟩) (gain_blk m c ⟨n, hn⟩) (goal_blk m c ⟨n, hn⟩)).congr fun r _ q _ => hp r q
  by_cases h2 : n % 16 = 15
  · rw [outsAt0_C m c ⟨n, hn⟩ h0 (by dsimp only; omega) h2]
    dsimp only
    exact (dx_last (x_blk m c ⟨n, hn⟩) (gain_blk m c ⟨n, hn⟩) (goal_blk m c ⟨n, hn⟩)).congr fun r _ q _ => hp r q
  · rw [outsAt0_B m c ⟨n, hn⟩ h0 (by dsimp only; omega) h2]
    dsimp only
    exact (dx_next (x_blk m c ⟨n, hn⟩) (gain_blk m c ⟨n, hn⟩) (goal_blk m c ⟨n, hn⟩)).congr fun r _ q _ => hp r q

theorem gain_at (n : ℕ) (hn : n < cfg0.N) (h : n % 16 = 16 - 1) : Tile (a := 1) (b := 1024)
    (fun _ q => part (fun t => part1 (x m c) (gain m c) (goal m c) t q) 8192) (outsAt0 m c n hn).2.2.1 :=
  cols_run (fun n hn => (outsAt0 m c n hn).2.2.2.1) (fun n hn => (outsAt0 m c n hn).2.2.1) (part1 (x m c) (gain m c) (goal m c)) (fun C _ q => C q) N_0
    (fun n hn h => by
      have hN : n < 16 := lt_of_lt_of_eq hn N_0
      rw [outsAt0_A m c ⟨n, hn⟩ h (by dsimp only; omega) (by dsimp only; omega)]
      dsimp only
      exact (gain_first (x_blk m c ⟨n, hn⟩) (gain_blk m c ⟨n, hn⟩) (goal_blk m c ⟨n, hn⟩)).congr fun r _ q _ => Finset.sum_congr rfl fun u _ => (place (x m c) (gain m c) (goal m c) (n * 512)).2.1 (8 * u.val + r) q)
    (fun n hn k h hl hk => by
      have hN : n < 16 := lt_of_lt_of_eq hn N_0
      rw [outsAt0_B m c ⟨n, hn⟩ (by dsimp only; omega) (by dsimp only; omega) hl]
      dsimp only
      exact (gain_next (x_blk m c ⟨n, hn⟩) (gain_blk m c ⟨n, hn⟩) (goal_blk m c ⟨n, hn⟩) hk).congr fun r _ q _ =>
        congrArg (k r q + ·) (Finset.sum_congr rfl fun u _ => (place (x m c) (gain m c) (goal m c) (n * 512)).2.1 (8 * u.val + r) q))
    (fun n hn k h hk => by
      have hN : n < 16 := lt_of_lt_of_eq hn N_0
      rw [outsAt0_C m c ⟨n, hn⟩ (by dsimp only; omega) (by dsimp only; omega) h]
      dsimp only
      exact (gain_last (x_blk m c ⟨n, hn⟩) (gain_blk m c ⟨n, hn⟩) (goal_blk m c ⟨n, hn⟩) hk).congr fun _ _ q _ => Finset.sum_congr rfl fun r _ =>
        congrArg (k r.val q + ·) (Finset.sum_congr rfl fun u _ => (place (x m c) (gain m c) (goal m c) (n * 512)).2.1 (8 * u.val + r.val) q)) n hn h

theorem sq_at (n : ℕ) (hn : n < cfg0.N) (h : n % 16 = 16 - 1) : Tile (a := 8) (b := 128)
    (fun _ _ => total fun q => part (fun t => err2 (x m c) (gain m c) (goal m c) t q) 8192) (outsAt0 m c n hn).1 :=
  cols_run (fun n hn => (outsAt0 m c n hn).2.2.2.2) (fun n hn => (outsAt0 m c n hn).1) (err2 (x m c) (gain m c) (goal m c)) (fun C _ _ => total C) N_0
    (fun n hn h => by
      have hN : n < 16 := lt_of_lt_of_eq hn N_0
      rw [outsAt0_A m c ⟨n, hn⟩ h (by dsimp only; omega) (by dsimp only; omega)]
      dsimp only
      exact (sq_first (x_blk m c ⟨n, hn⟩) (gain_blk m c ⟨n, hn⟩) (goal_blk m c ⟨n, hn⟩)).congr fun r _ q _ => Finset.sum_congr rfl fun u _ => (place (x m c) (gain m c) (goal m c) (n * 512)).2.2 (8 * u.val + r) q)
    (fun n hn k h hl hk => by
      have hN : n < 16 := lt_of_lt_of_eq hn N_0
      rw [outsAt0_B m c ⟨n, hn⟩ (by dsimp only; omega) (by dsimp only; omega) hl]
      dsimp only
      exact (sq_next (x_blk m c ⟨n, hn⟩) (gain_blk m c ⟨n, hn⟩) (goal_blk m c ⟨n, hn⟩) hk).congr fun r _ q _ =>
        congrArg (k r q + ·) (Finset.sum_congr rfl fun u _ => (place (x m c) (gain m c) (goal m c) (n * 512)).2.2 (8 * u.val + r) q))
    (fun n hn k h hk => by
      have hN : n < 16 := lt_of_lt_of_eq hn N_0
      rw [outsAt0_C m c ⟨n, hn⟩ (by dsimp only; omega) (by dsimp only; omega) h]
      dsimp only
      exact (sq_last (x_blk m c ⟨n, hn⟩) (gain_blk m c ⟨n, hn⟩) (goal_blk m c ⟨n, hn⟩) hk).congr fun _ _ _ _ => congrArg total (funext fun q => Finset.sum_congr rfl fun r _ =>
        congrArg (k r.val q + ·) (Finset.sum_congr rfl fun u _ => (place (x m c) (gain m c) (goal m c) (n * 512)).2.2 (8 * u.val + r.val) q))) n hn h

def arrL (c : Dev nD) : S8x128.Idx → EReal := fun _ => total fun q => part (fun t => err2 (x m c) (gain m c) (goal m c) t q) 8192
def arrX (c : Dev nD) : S8192x1024.Idx → EReal := fun y => back (x m c) (up (x m c) (gain m c) (goal m c)) (y 0).val (y 1).val
def arrG (c : Dev nD) : S1x1024.Idx → EReal := fun y => part (fun t => part1 (x m c) (gain m c) (goal m c) t (y 1).val) 8192

theorem final_l : (dats m 0 c).arrAt 3 cfg0.N = arrL m c := by
  refine (dats m 0 c).arrAt_eq_of_covers 3 _ (by decide +kernel) fun t hf y => ?_
  refine (congrFun (after0_3 m c t) _).trans ?_
  exact sq_at m c t.val t.isLt ((flush0_3 t).mp hf) y

theorem final_x : (dats m 0 c).arrAt 4 cfg0.N = arrX m c := by
  refine (dats m 0 c).arrAt_eq_of_covers 4 _ (by decide +kernel) fun t hf y => ?_
  have e := (idx_all t).2.2.2.2.1
  refine (congrFun (after0_4 m c t) _).trans ?_
  refine (dx_at m c t.val t.isLt y).trans ?_
  unfold arrX
  blk_simp [e]

theorem final_g : (dats m 0 c).arrAt 5 cfg0.N = arrG m c := by
  refine (dats m 0 c).arrAt_eq_of_covers 5 _ (by decide +kernel) fun t hf y => ?_
  have e := (idx_all t).2.2.2.2.2
  refine (congrFun (after0_5 m c t) _).trans ?_
  refine (gain_at m c t.val t.isLt ((flush0_5 t).mp hf) y).trans ?_
  unfold arrG
  blk_simp [e]

end Kernel

section Ref

open Cert.Reference27Ideal Cert.Reference27Ideal.Gen

variable (a0 a2 : FVec Ideal S8192x1024 .f32) (a1 : FVec Ideal S1x1024 .f32)

/-- The reference's columns and arrays: what is under the root, the root, each row's share of the gradient through the root, the error, and the
    gradients at the norm's output and at the scaled row. -/
abbrev un : FVec Ideal S8192x1 .f32 := under a0 h_S_ reducesTo_S8192x1024_S8192_d1 bcast_S8192_S8192x1_0 bcast_S_S8192x1
abbrev wide : FVec Ideal S8192x1024 .f32 := broadcastInDim S8192x1024 ![0, 1] bcast_S8192x1_S8192x1024_0_1 (Host.rsqrt (un a0))
abbrev rows : FVec Ideal S8192x1024 .f32 := broadcastInDim S8192x1024 ![0, 1] bcast_S1x1024_S8192x1024_0_1 a1
abbrev sh (W : FVec Ideal S8192x1024 .f32) : FVec Ideal S8192x1024 .f32 :=
  broadcastInDim S8192x1024 ![0] bcast_S8192_S8192x1024_0 (Host.reduceAdd (Host.divf
    (mulf (shapeCast S8192x1 (Host.reduceAdd (mulf a0 W) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (un a0)) (un a0))))
    (broadcastInDim S8192x1 ![] bcast_S_S8192x1 (constant S_ .f32 0x44800000#32))) (constant S_ .f32 0x00000000#32) reducesTo_S8192x1_S8192_d1 h_S_)
abbrev off : FVec Ideal S8192x1024 .f32 := subf (mulf (mulf a0 (wide a0)) (rows a1)) a2
abbrev below : FVec Ideal S8192x1024 .f32 :=
  mulf (broadcastInDim S8192x1024 ![0] bcast_S8192_S8192x1024_0 (Host.divf (broadcastInDim S8192 ![] bcast_S_S8192 (mulf (constant S_ .f32 0x3F000000#32)
    (constant S_ .f32 0x3F800000#32))) (broadcastInDim S8192 ![] bcast_S_S8192 (constant S_ .f32 0x44800000#32))))
    (mulf (broadcastInDim S8192x1024 ![] bcast_S_S8192x1024 (constant S_ .f32 0x40000000#32)) (off a0 a2 a1))
abbrev above : FVec Ideal S8192x1024 .f32 := mulf (below a0 a2 a1) (rows a1)

theorem host_wide : Tile (a := 8192) (b := 1024) (fun i _ => Norm.inv (Norm.sq (fn2 (A := 8192) (B := 1024) a0) i)) (wide a0) :=
  host_root (fn2_tile a0) h_S_ reducesTo_S8192x1024_S8192_d1 bcast_S8192_S8192x1_0 bcast_S_S8192x1 bcast_S8192x1_S8192x1024_0_1

theorem host_off : Tile (a := 8192) (b := 1024) (err (fn2 (A := 8192) (B := 1024) a0) (fn2 (A := 1) (B := 1024) a1) (fn2 (A := 8192) (B := 1024) a2)) (off a0 a2 a1) :=
  tile_subf (φ := .f32) (tile_mulf (φ := .f32) (tile_mulf (φ := .f32) (fn2_tile a0) (host_wide a0)) (host_row_rep (B := 1024) (by decide) (fn2_tile a1) _)) (fn2_tile a2)

/-- Half of one over the width, times two, is one over the width. -/
theorem scale (e : EReal) : Ideal.div (num 0x3F000000#32 * num 0x3F800000#32) (num 0x44800000#32) * (num 0x40000000#32 * e) = e * num 0x3A800000#32 := by
  rw [half, two, thousandth, width, show num 0x3F800000#32 = 1 from Ideal.ofBits_one_f32, mul_one, Ideal.div_coe (by norm_num), ← mul_assoc, ← EReal.coe_mul, ← EReal.coe_mul,
    mul_comm]
  norm_num

theorem host_below : Tile (a := 8192) (b := 1024) (down (fn2 (A := 8192) (B := 1024) a0) (fn2 (A := 1) (B := 1024) a1) (fn2 (A := 8192) (B := 1024) a2)) (below a0 a2 a1) := by
  intro y
  refine Eq.trans ?_ ((scale _).trans (congrArg (· * num 0x3A800000#32) (host_off a0 a2 a1 y)))
  rfl

theorem ref_x : addf (addf (mulf (above a0 a2 a1) (wide a0)) (mulf a0 (sh a0 (above a0 a2 a1)))) (mulf (sh a0 (above a0 a2 a1)) a0)
    = fun y => back (fn2 (A := 8192) (B := 1024) a0) (up (fn2 (A := 8192) (B := 1024) a0) (fn2 (A := 1) (B := 1024) a1) (fn2 (A := 8192) (B := 1024) a2)) (y 0).val (y 1).val := by
  have hW : Tile (a := 8192) (b := 1024) (up (fn2 (A := 8192) (B := 1024) a0) (fn2 (A := 1) (B := 1024) a1) (fn2 (A := 8192) (B := 1024) a2)) (above a0 a2 a1) :=
    tile_mulf (φ := .f32) (host_below a0 a2 a1) (host_row_rep (B := 1024) (by decide) (fn2_tile a1) _)
  have hS := host_share (fn2_tile a0) hW h_S_ reducesTo_S8192x1024_S8192_d1 bcast_S8192_S8192x1_0 bcast_S_S8192x1 shapeCasts_S8192_S8192x1
    reducesTo_S8192x1_S8192_d1 bcast_S8192_S8192x1024_0
  refine funext fun y => (tile_addf (φ := .f32) (tile_addf (φ := .f32) (tile_mulf (φ := .f32) hW (host_wide a0)) (tile_mulf (φ := .f32) (fn2_tile a0) hS))
    (tile_mulf (φ := .f32) hS (fn2_tile a0)) y).trans ?_
  rw [back_eq]
  rfl

theorem ref_g : shapeCast S1x1024 (Host.reduceAdd (mulf (mulf a0 (wide a0)) (below a0 a2 a1)) (constant S_ .f32 0x00000000#32) reducesTo_S8192x1024_S1024_d0 h_S_)
      shapeCasts_S1024_S1x1024
    = fun y => part (fun t => part1 (fn2 (A := 8192) (B := 1024) a0) (fn2 (A := 1) (B := 1024) a1) (fn2 (A := 8192) (B := 1024) a2) t (y 1).val) 8192 := by
  refine funext fun y => (RowGrad.host_cols _ _ _ (tile_mulf (φ := .f32) (tile_mulf (φ := .f32) (fn2_tile a0) (host_wide a0)) (host_below a0 a2 a1)) y).trans ?_
  exact part_congr fun _ _ => mul_comm _ _

/-- The sum over the tokens of a row's mean, halved, is the columns' sums, scaled. -/
theorem loss_eq (F : ℕ → ℕ → EReal) : num 0x3F000000#32 * ∑ t : Fin 8192, Ideal.div (∑ q : Fin 1024, F t.val q.val) (num 0x44800000#32)
    = total fun q => part (fun t => F t q) 8192 := by
  unfold total
  rw [half, twothousandth, width]
  simp only [Ideal.div_coe (show (1024 : ℝ) ≠ 0 by norm_num)]
  rw [sum_mul _ _ (by norm_num), Finset.sum_comm, mul_comm, mul_assoc, ← EReal.coe_mul]
  simp only [← part_first]
  norm_num

theorem host_loss : broadcastInDim S8x128 ![] bcast_S_S8x128 (mulf (constant S_ .f32 0x3F000000#32) (Host.reduceAdd (Host.divf (Host.reduceAdd
      (mulf (off a0 a2 a1) (off a0 a2 a1)) (constant S_ .f32 0x00000000#32) reducesTo_S8192x1024_S8192_d1 h_S_) (broadcastInDim S8192 ![] bcast_S_S8192
      (constant S_ .f32 0x44800000#32))) (constant S_ .f32 0x00000000#32) reducesTo_S8192_S_d0 h_S_))
    = fun _ => total fun q => part (fun t => err2 (fn2 (A := 8192) (B := 1024) a0) (fn2 (A := 1) (B := 1024) a1) (fn2 (A := 8192) (B := 1024) a2) t q) 8192 := by
  have hE := tile_mulf (φ := .f32) (host_off a0 a2 a1) (host_off a0 a2 a1)
  generalize mulf (off a0 a2 a1) (off a0 a2 a1) = E at hE ⊢
  refine funext fun y => Eq.trans ?_ (loss_eq _)
  refine congrArg (num 0x3F000000#32 * ·) ?_
  pointwise
  exact Finset.sum_congr rfl fun t _ => congrArg (Ideal.div · (num 0x44800000#32)) (Finset.sum_congr rfl fun q _ => hE _)

end Ref

theorem claim : Cert.algebraic_Kernel27Ideal_Reference27Ideal (hKernel27Ideal := Cert.Kernel27Ideal.Gen.facts)
    (hReference27Ideal := Cert.Reference27Ideal.Gen.facts) := by
  intro m g m' g' _ hm
  refine ⟨arrL m, arrX m, arrG m, ?_, ?_⟩
  · refine (θ_run _ _ _).mono (fun r h c => ?_) (Cert.Kernel27Ideal.Value.run_blocks m g)
    exact ⟨(h c).1.trans (final_l m c), (h c).2.1.trans (final_x m c), (h c).2.2.1.trans (final_g m c), (h c).2.2.2⟩
  · refine (θ_run _ _ _).mono (fun r h c => ?_) (Cert.Reference27Ideal.Value.run m' g')
    refine ⟨(h c).1.trans ?_, (h c).2.1.trans ?_, (h c).2.2.1.trans ?_, (h c).2.2.2⟩
    · rw [(hm c).1, (hm c).2.1, (hm c).2.2]
      exact host_loss _ _ _
    · unfold Cert.Reference27Ideal.Value.res_main_v48
      rw [(hm c).1, (hm c).2.1, (hm c).2.2]
      exact ref_x _ _ _
    · rw [(hm c).1, (hm c).2.1, (hm c).2.2]
      exact ref_g _ _ _

end Cert.Loss
-- ==== Proof.Heads.lean ====
/- The delta branch's norm over each head and its gate: the call's array, its reference, and their equality. -/
module

public import proofs.«01_k».proof.Proof.Rows
public import proofs.«01_k».proof.Proof.Gen.Kernel28Ideal.Value
public import proofs.«01_k».proof.Proof.Gen.Reference28Ideal.Run
public import proofs.«01_k».proof.Defs

@[expose] public section

set_option maxRecDepth 16384

noncomputable section

open Idealize.ShloMosaic Idealize.ShloMosaic.TcCoe Cert.Tile Cert.Dense Cert.Adam Cert.Rows
open Idealize.ShloMosaic.Tactic
open scoped BigOperators

namespace Cert.Heads

/-- One over the root of a head's mean square, from the head's sum of squares. -/
def inv (s : EReal) : EReal := Ideal.rsqrt (Ideal.div s (num 0x43000000#32) + num 0x358637BD#32)

theorem tile_inv {a b : ℕ} {s : ℕ → ℕ → EReal} {S : FVec Ideal (⟨2, ![a, b]⟩ : Shape) .f32} (hs : Tile s S) : Tile (fun i j => inv (s i j))
    (rsqrt (addf (divf S (all a b 0x43000000#32)) (all a b 0x358637BD#32))) :=
  fun y => congrArg inv (hs y)

/-- A number times its logistic. -/
def silu (z : EReal) : EReal := z * Ideal.logistic z

/-- One entry of the call's result: column `q` belongs to head `q / 128`. -/
def out (f g z : ℕ → ℕ → EReal) (i q : ℕ) : EReal :=
  f i q * inv (∑ u : Fin 128, f i (128 * (q / 128) + u.val) * f i (128 * (q / 128) + u.val)) * g 0 (q % 128) * silu (z i q)

section Kernel

open Cert.Kernel28Ideal Cert.Kernel28Ideal.Gen Cert.Kernel28Ideal.Value

/-- One head's columns of a block. -/
theorem head {f g z : ℕ → ℕ → EReal} {p : ℕ} (hp : p % 128 = 0) {P : Vec Ideal S512x128 .f32} {G : Vec Ideal S1x128 .f32} {Z : FVec Ideal S512x1024 .f32}
    (hP : Tile (a := 512) (b := 128) (fun r c => f (0 + r) (p + c)) P) (hG : Tile (a := 1) (b := 128) g G)
    (hZ : Tile (a := 512) (b := 1024) (fun r c => silu (z r c)) Z) (hs : S512x1024.Slices ![0, p] S512x128) :
    Tile (a := 512) (b := 128) (fun r c => out f g z (0 + r) (p + c))
      (mulf (mulf (mulf P (broadcastTo S512x128 (rsqrt (addf (divf (shapeCast S512x1 (multiReduction .add [1] S512 (mulf P P) 0x00000000#32 reduces_S512x128_S512 (.inl rfl) rfl)
        shapeCasts_S512_S512x1) (broadcast S512x1 (Scalar.ofBits .f32 0x43000000#32))) (broadcast S512x1 (Scalar.ofBits .f32 0x358637BD#32)))) broadcasts_S512x1_S512x128))
        (broadcastTo S512x128 G broadcasts_S1x128_S512x128)) (extractStridedSlice S512x128 ![0, p] Z hs)) := by
  have hr := col_rep (B := 128) (tile_inv (row_sum (B := 128) (tile_mulf (φ := .f32) hP hP) reduces_S512x128_S512 (.inl rfl) rfl shapeCasts_S512_S512x1))
    broadcasts_S512x1_S512x128
  have hz : Tile (a := 512) (b := 128) (fun r c => silu (z (0 + r) (p + c))) (extractStridedSlice S512x128 ![0, p] Z hs) := fun y => hZ _
  refine (tile_mulf (φ := .f32) (tile_mulf (φ := .f32) (tile_mulf (φ := .f32) hP hr) (row_rep (B := 128) (by decide) hG broadcasts_S1x128_S512x128)) hz).congr
    fun i _ j hj => ?_
  unfold out
  rw [show 128 * ((p + j) / 128) = p by omega, show (p + j) % 128 = j by omega]

theorem step {f g z : ℕ → ℕ → EReal} {x0 x1 : Vec Ideal S512x1024 .f32} {x2 : Vec Ideal S1x128 .f32} {c i a1 h1 a2 h2 a3 h3 a4 h4}
    (hf : Tile (a := 512) (b := 1024) f x0) (hz : Tile (a := 512) (b := 1024) z x1) (hg : Tile (a := 1) (b := 128) g x2) :
    Tile (a := 512) (b := 1024) (out f g z) (out0_A_3 (F := Ideal) c i a1 h1 a2 h2 a3 h3 a4 h4 x0 x1 x2) := by
  intro y
  have hcov := cover0_A_3 (F := Ideal) c i a1 h1 a2 h2 a3 h3 a4 h4 x0 x1 x2
  unfold out0_A_3
  rw [View.read_writes_eq_canon _ _ _ hcov]
  refine View.canon_eq_of_allAt _ _ _ (hcov y) ?_
  have G := whole_ld (e := .f32) (hm := h3) (inb := inb_S1x128_S1x128_0_0) hg
  have L := whole_ld (e := .f32) (hm := h2) (inb := inb_S512x1024_S512x1024_0_0) hz
  have Z := tile_mulf (φ := .f32) L (tile_gate L)
  unfold kernelRun0_A
  dsimp only
  sl_unfold_words
  unfold k0_pay1 k0_pay3 k0_pay4 k0_pay5 k0_pay6 k0_pay8 k0_pay7 k0_pay9 k0_pay10 k0_pay2
  iterate 8 refine allAt_tile (Val := Elt Ideal) (e := .f32) (out f g z) y (head (by decide) (tile_load (e := .f32) hf) G Z _) ?_
  exact View.allAt_nil _ _

variable (m : (ℓ : Loc nD τ sig) → Buf (Elt Ideal) ℓ) (c : Dev nD)

/-- The delta rule's output, the array whose columns from 5120 are the gate, and the gain. -/
def o : ℕ → ℕ → EReal := fn2 (A := 8192) (B := 1024) (m ((c : Thread nD τ).loc main_arg0))
def z : ℕ → ℕ → EReal := fun i q => fn2 (A := 8192) (B := 8704) (m ((c : Thread nD τ).loc main_arg1)) i (5120 + q)
def gain : ℕ → ℕ → EReal := fn2 (A := 1) (B := 128) (m ((c : Thread nD τ).loc main_arg2))

theorem idx_all : ∀ t : Fin cfg0.N, win0_0.index t = ![t.val, 0] ∧ win0_1.index t = ![t.val, 5] ∧ win0_2.index t = ![0, 0]
    ∧ win0_3.index t = ![t.val, 0] := by
  decide +kernel

theorem o_blk (t : Fin cfg0.N) : Tile (a := 512) (b := 1024) (fun r q => o m c (t.val * 512 + r) (0 + q)) (iblk m c 0 t) := by
  have e := (idx_all t).1
  exact blk (A := 8192) (B := 1024) (o := t.val * 512) (p := 0) (fn2_tile (m ((c : Thread nD τ).loc main_arg0)))
    (((cfg0.win 0).blk t).view.emb) fun y => ⟨by blk_simp [e], by blk_simp [e]⟩

theorem z_blk (t : Fin cfg0.N) : Tile (a := 512) (b := 1024) (fun r q => z m c (t.val * 512 + r) q) (X0_1 m c t) := by
  have e := (idx_all t).2.1
  intro y
  unfold X0_1 Pipeline.Window.fill
  rw [dif_pos (moved0_1 t y)]
  refine (fn2_tile (A := 8192) (B := 8704) (m ((c : Thread nD τ).loc main_arg1)) (((cfg0.win 1).blk t).view.emb _)).trans ?_
  unfold z
  exact congrArg₂ _ (by blk_simp [e]) (by blk_simp [e])

theorem gain_blk (t : Fin cfg0.N) : Tile (a := 1) (b := 128) (fun r q => gain m c (0 + r) (0 + q)) (iblk m c 2 t) := by
  have e := (idx_all t).2.2.1
  exact blk (A := 1) (B := 128) (o := 0) (p := 0) (fn2_tile (m ((c : Thread nD τ).loc main_arg2)))
    (((cfg0.win 2).blk t).view.emb) fun y => ⟨by blk_simp [e], by blk_simp [e]⟩

def arr (c : Dev nD) : S8192x1024.Idx → EReal := fun y => out (o m c) (gain m c) (z m c) (y 0).val (y 1).val

theorem final : (dats m 0 c).arrAt 3 cfg0.N = arr m c := by
  refine (dats m 0 c).arrAt_eq_of_covers 3 _ (by decide +kernel) fun t hf y => ?_
  have e := (idx_all t).2.2.2
  refine (congrFun (after0_3 m c t) _).trans ?_
  unfold outsAt0
  refine (step (o_blk m c t) (z_blk m c t) (gain_blk m c t) y).trans ?_
  unfold arr out
  blk_simp [e]

end Kernel

section Ref

open Cert.Reference28Ideal Cert.Reference28Ideal.Gen

variable {f : ℕ → ℕ → EReal} {F : ℕ → ℕ → ℕ → EReal}

/-- A token's width as eight heads, and back. -/
theorem split {X : FVec Ideal S8192x1024 .f32} (hX : Tile (a := 8192) (b := 1024) f X) :
    T3 (a := 8192) (b := 8) (c := 128) (fun i h e => f i (128 * h + e)) (shapeCast S8192x8x128 X shapeCasts_S8192x1024_S8192x8x128) := by
  intro y
  have l0 : (y 0).val < 8192 := (y 0).isLt
  have l1 : (y 1).val < 8 := (y 1).isLt
  have l2 : (y 2).val < 128 := (y 2).isLt
  have b1 : 128 * (y 1).val + (y 2).val < 1024 := by omega
  refine (shapeCast_apply X shapeCasts_S8192x1024_S8192x8x128 y (ValueIdx.ix2 ⟨_, l0⟩ ⟨_, b1⟩) ?_).trans (hX _)
  rw [Shape.rowMajor_val_two, Shape.rowMajor_val_three]
  show (y 0).val * 1024 + (128 * (y 1).val + (y 2).val) = ((y 0).val * 8 + (y 1).val) * 128 + (y 2).val
  omega

theorem join {X : FVec Ideal S8192x8x128 .f32} (hX : T3 (a := 8192) (b := 8) (c := 128) F X) :
    Tile (a := 8192) (b := 1024) (fun i q => F i (q / 128) (q % 128)) (shapeCast S8192x1024 X shapeCasts_S8192x8x128_S8192x1024) := by
  intro y
  have l0 : (y 0).val < 8192 := (y 0).isLt
  have l1 : (y 1).val < 1024 := (y 1).isLt
  have b1 : (y 1).val / 128 < 8 := by omega
  have b2 : (y 1).val % 128 < 128 := by omega
  refine (shapeCast_apply X shapeCasts_S8192x8x128_S8192x1024 y (ValueIdx.ix3 ⟨_, l0⟩ ⟨_, b1⟩ ⟨_, b2⟩) ?_).trans (hX _)
  rw [Shape.rowMajor_val_two, Shape.rowMajor_val_three]
  show ((y 0).val * 8 + (y 1).val / 128) * 128 + (y 1).val % 128 = (y 0).val * 1024 + (y 1).val
  omega

/-- One over the root of each head's mean square. -/
abbrev root (X : FVec Ideal S8192x8x128 .f32) : FVec Ideal S8192x8x128 .f32 :=
  broadcastInDim S8192x8x128 ![0, 1, 2] bcast_S8192x8x1_S8192x8x128_0_1_2 (Host.rsqrt (addf (Host.divf (broadcastInDim S8192x8x1 ![0, 1] bcast_S8192x8_S8192x8x1_0_1
    (Host.reduceAdd (mulf X X) (constant S_ .f32 0x00000000#32) reducesTo_S8192x8x128_S8192x8_d2 h_S_)) (broadcastInDim S8192x8x1 ![] bcast_S_S8192x8x1 (constant S_ .f32 0x43000000#32)))
    (broadcastInDim S8192x8x1 ![] bcast_S_S8192x8x1 (constant S_ .f32 0x358637BD#32))))

theorem t3_sum {X : FVec Ideal S8192x8x128 .f32} (hX : T3 (a := 8192) (b := 8) (c := 128) F X) :
    T3 (a := 8192) (b := 8) (c := 1) (fun i h _ => ∑ u : Fin 128, F i h u.val) (broadcastInDim S8192x8x1 ![0, 1] bcast_S8192x8_S8192x8x1_0_1
      (Host.reduceAdd X (constant S_ .f32 0x00000000#32) reducesTo_S8192x8x128_S8192x8_d2 h_S_)) := by
  intro y
  pointwise
  exact Finset.sum_congr rfl fun u _ => hX _

theorem t3_rep {X : FVec Ideal S8192x8x1 .f32} (hX : T3 (a := 8192) (b := 8) (c := 1) F X) :
    T3 (a := 8192) (b := 8) (c := 128) (fun i h _ => F i h 0) (broadcastInDim S8192x8x128 ![0, 1, 2] bcast_S8192x8x1_S8192x8x128_0_1_2 X) := by
  intro y
  pointwise
  exact hX _

theorem t3_root {X : FVec Ideal S8192x8x128 .f32} (hX : T3 (a := 8192) (b := 8) (c := 128) F X) :
    T3 (a := 8192) (b := 8) (c := 128) (fun i h _ => inv (∑ u : Fin 128, F i h u.val * F i h u.val)) (root X) :=
  t3_rep (F := fun i h _ => inv (∑ u : Fin 128, F i h u.val * F i h u.val))
    fun y => congrArg inv (t3_sum (t3_mulf (φ := .f32) hX hX) y)

/-- The gain at every token and head. -/
theorem t3_gain (a2 : FVec Ideal S1x128 .f32) : T3 (a := 8192) (b := 8) (c := 128) (fun _ _ e => fn2 (A := 1) (B := 128) a2 0 e)
    (broadcastInDim S8192x8x128 ![0, 1, 2] bcast_S1x1x128_S8192x8x128_0_1_2 (broadcastInDim S1x1x128 ![2] bcast_S128_S1x1x128_2 (shapeCast S128 a2 shapeCasts_S1x128_S128))) := by
  intro y
  pointwise
  exact fn2_tile (A := 1) (B := 128) a2 _

/-- The gate at every token and head. -/
abbrev gate (Z : FVec Ideal S8192x8x128 .f32) : FVec Ideal S8192x8x128 .f32 :=
  mulf Z (Host.divf (broadcastInDim S8192x8x128 ![] bcast_S_S8192x8x128 (constant S_ .f32 0x3F800000#32)) (addf (broadcastInDim S8192x8x128 ![] bcast_S_S8192x8x128
    (constant S_ .f32 0x3F800000#32)) (Host.exp (Host.negf Z))))

theorem t3_gate {Z : FVec Ideal S8192x8x128 .f32} (hZ : T3 (a := 8192) (b := 8) (c := 128) F Z) :
    T3 (a := 8192) (b := 8) (c := 128) (fun i h e => silu (F i h e)) (gate Z) := by
  intro y
  show Z y * Ideal.div (num 0x3F800000#32) (num 0x3F800000#32 + Ideal.exp (-(Z y))) = silu (F _ _ _)
  have one : num 0x3F800000#32 = 1 := Ideal.ofBits_one_f32
  rw [← hZ y, one]
  rfl

theorem ref (a0 : FVec Ideal S8192x1024 .f32) (a1 : FVec Ideal S8192x8704 .f32) (a2 : FVec Ideal S1x128 .f32) :
    shapeCast S8192x1024 (mulf (mulf (mulf (shapeCast S8192x8x128 a0 shapeCasts_S8192x1024_S8192x8x128) (root (shapeCast S8192x8x128 a0 shapeCasts_S8192x1024_S8192x8x128)))
      (broadcastInDim S8192x8x128 ![0, 1, 2] bcast_S1x1x128_S8192x8x128_0_1_2 (broadcastInDim S1x1x128 ![2] bcast_S128_S1x1x128_2 (shapeCast S128 a2 shapeCasts_S1x128_S128))))
      (gate (shapeCast S8192x8x128 (extractStridedSlice S8192x1024 ![0, 5120] a1 slices_S8192x8704_S8192x1024_0_5120) shapeCasts_S8192x1024_S8192x8x128)))
      shapeCasts_S8192x8x128_S8192x1024
    = fun y => out (fn2 (A := 8192) (B := 1024) a0) (fn2 (A := 1) (B := 128) a2) (fun i q => fn2 (A := 8192) (B := 8704) a1 i (5120 + q)) (y 0).val (y 1).val := by
  refine funext fun y => (join (t3_mulf (φ := .f32) (t3_mulf (φ := .f32) (t3_mulf (φ := .f32) (split (fn2_tile a0)) (t3_root (split (fn2_tile a0)))) (t3_gain a2))
    (t3_gate (split (host_cut (p := 5120) (fn2_tile a1) _)))) y).trans ?_
  unfold out
  dsimp only
  rw [Nat.div_add_mod]

end Ref

theorem claim : Cert.algebraic_Kernel28Ideal_Reference28Ideal (hKernel28Ideal := Cert.Kernel28Ideal.Gen.facts)
    (hReference28Ideal := Cert.Reference28Ideal.Gen.facts) := by
  intro m g m' g' _ hm
  refine ⟨arr m, ?_, ?_⟩
  · refine (θ_run _ _ _).mono (fun r h c => ?_) (Cert.Kernel28Ideal.Value.run_blocks m g)
    exact ⟨(h c).1.trans (final m c), (h c).2⟩
  · refine (θ_run _ _ _).mono (fun r h c => ?_) (Cert.Reference28Ideal.Value.run m' g')
    refine ⟨(h c).1.trans ?_, (h c).2⟩
    rw [(hm c).1, (hm c).2.1, (hm c).2.2]
    exact ref _ _ _

end Cert.Heads
-- ==== Proof.Conv.lean ====
/- The branch's short convolution, and its head-wise l2 norms and values: the call's three arrays, their reference, and
   their equality. -/
module

public import proofs.«01_k».proof.Proof.Heads
public import proofs.«01_k».proof.Proof.Gen.Kernel29Ideal.Value
public import proofs.«01_k».proof.Proof.Gen.Reference29Ideal.Run
public import Idealize.ShloMosaic.Lib.KernelVsHost

@[expose] public section

set_option maxRecDepth 16384

noncomputable section

open Idealize.ShloMosaic Idealize.ShloMosaic.TcCoe Cert.Tile Cert.Dense Cert.Adam Cert.Rows Cert.Heads
open Idealize.ShloMosaic.Tactic
open scoped BigOperators

namespace Cert.Conv

/-- The rows of `x` pushed down so that tap `j` reads the row `3 - j` above, zero above the first row. -/
def tap (x : ℕ → ℕ → EReal) (j i q : ℕ) : EReal := if i + j < 3 then 0 else x (i + j - 3) q

/-- The convolution: four taps, each with its own weight for every column. -/
def conv (x w : ℕ → ℕ → EReal) (i q : ℕ) : EReal :=
  tap x 0 i q * w 0 q + tap x 1 i q * w 1 q + tap x 2 i q * w 2 q + tap x 3 i q * w 3 q

/-- One over the l2 norm of a head, from the head's sum of squares. -/
def inv2 (s : EReal) : EReal := Ideal.rsqrt (s + num 0x358637BD#32)

/-- A column divided by the l2 norm of its head. -/
def unit (f : ℕ → ℕ → EReal) (i q : ℕ) : EReal :=
  f i q * inv2 (∑ u : Fin 128, f i (128 * (q / 128) + u.val) * f i (128 * (q / 128) + u.val))

/-- The convolution after its activation. -/
def act (x w : ℕ → ℕ → EReal) (i q : ℕ) : EReal := silu (conv x w i q)

/-- A rectangle cut from a block. -/
theorem cut {a b A B o p : ℕ} {f : ℕ → ℕ → EReal} {X : (⟨2, ![A, B]⟩ : Shape).Idx → EReal} (hX : Tile f X)
    (h : (⟨2, ![A, B]⟩ : Shape).Slices ![o, p] ⟨2, ![a, b]⟩) :
    Tile (a := a) (b := b) (fun r c => f (o + r) (p + c)) (extractStridedSlice (⟨2, ![a, b]⟩ : Shape) ![o, p] X h) :=
  fun y => hX _

section Kernel

open Cert.Kernel29Ideal Cert.Kernel29Ideal.Gen Cert.Kernel29Ideal.Value

/-- The rows above a block, taken as zero at the first block. -/
theorem halo {h : ℕ → ℕ → EReal} {X : FVec Ideal S8x2048 .f32} (hX : Tile (a := 8) (b := 2048) h X) {n : ℕ} (hn : n < 16) :
    Tile (a := 8) (b := 2048) (fun r q => if n = 0 then 0 else h r q)
      (Scalar.select (Scalar.cmpi .eq (BitVec.ofNat 32 n) 0#32) (broadcast S8x2048 (Scalar.ofBits .f32 0x00000000#32 : Ideal .f32)) X) := by
  intro y
  have e : ∀ n < 16, Scalar.cmpi .eq (BitVec.ofNat 32 n) 0#32 = if n = 0 then 1#1 else 0#1 := by decide
  rw [e n hn]
  beta_reduce
  by_cases h0 : n = 0
  · rw [if_pos h0, if_pos h0]
    exact Ideal.ofBits_zero_f32
  · rw [if_neg h0, if_neg h0]
    exact hX y

/-- Eight rows above a block, then the block. -/
theorem stack {h f : ℕ → ℕ → EReal} {X : FVec Ideal S8x2048 .f32} {Y : FVec Ideal S512x2048 .f32} (hX : Tile (a := 8) (b := 2048) h X)
    (hY : Tile (a := 512) (b := 2048) f Y) (hc : Shape.Concatenates [S8x2048, S512x2048] S520x2048 0) :
    Tile (a := 520) (b := 2048) (fun r q => if r < 8 then h r q else f (r - 8) q)
      (concatenate S520x2048 0 [⟨S8x2048, X⟩, ⟨S512x2048, Y⟩] hc) := by
  intro y
  have l0 : (y 0).val < 520 := (y 0).isLt
  have l1 : (y 1).val < 2048 := (y 1).isLt
  beta_reduce
  by_cases c : (y 0).val < 8
  · rw [if_pos c]
    refine (concatenate_pair_apply_left 0 X Y hc y rfl (ValueIdx.ix2 ⟨_, c⟩ ⟨_, l1⟩) fun b => ?_).trans (hX _)
    fin_cases b <;> rfl
  · rw [if_neg c]
    have b0 : (y 0).val - 8 < 512 := by omega
    refine (concatenate_pair_apply_right 0 X Y hc y rfl rfl (ValueIdx.ix2 ⟨_, b0⟩ ⟨_, l1⟩) (fun b hb => ?_) ?_).trans (hY _)
    · fin_cases b
      · exact absurd rfl hb
      · rfl
    · show (y 0).val - 8 + 8 = (y 0).val
      omega

/-- One tap's weights at every row. -/
theorem weight {w : ℕ → ℕ → EReal} {W : FVec Ideal S4x2048 .f32} (hW : Tile (a := 4) (b := 2048) w W) {j : ℕ} (hs : S4x2048.Slices ![j, 0] S1x2048) :
    Tile (a := 512) (b := 2048) (fun _ q => w j q) (broadcastTo S512x2048 (extractStridedSlice S1x2048 ![j, 0] W hs) broadcasts_S1x2048_S512x2048) :=
  (row_rep (B := 2048) (by decide) (cut hW hs) broadcasts_S1x2048_S512x2048).congr fun i _ q _ => by simp

/-- The rows a tap reads, cut from a block with its eight rows above. -/
theorem tap_cut {x : ℕ → ℕ → EReal} {n : ℕ} {C : FVec Ideal S520x2048 .f32} (S : Tile (a := 520) (b := 2048)
      (fun r q => if r < 8 then (if n = 0 then 0 else x ((64 * n - 1) * 8 + r) q) else x (n * 512 + (r - 8)) q) C)
    {j : ℕ} (hj : j < 4) (hs : S520x2048.Slices ![5 + j, 0] S512x2048) :
    Tile (a := 512) (b := 2048) (fun r q => tap x j (n * 512 + r) q) (extractStridedSlice S512x2048 ![5 + j, 0] C hs) := by
  refine (cut S hs).congr fun r hr q _ => ?_
  unfold tap
  by_cases h8 : 5 + j + r < 8
  · rw [if_pos h8]
    by_cases h0 : n = 0
    · rw [if_pos h0, if_pos (by omega)]
    · rw [if_neg h0, if_neg (by omega)]
      exact congrArg₂ _ (by omega) (by omega)
  · rw [if_neg h8, if_neg (by omega)]
    exact congrArg₂ _ (by omega) (by omega)

section Step

variable {x w : ℕ → ℕ → EReal} {n : ℕ} {x0 : Vec Ideal S512x2048 .f32} {x1 : Vec Ideal S8x2048 .f32} {x2 : Vec Ideal S4x2048 .f32} {i : grid0.Coords}
  (hn : (i 0).val = n) (hl : n < 16) (hx : Tile (a := 512) (b := 2048) (fun r q => x (n * 512 + r) q) x0)
  (hh : Tile (a := 8) (b := 2048) (fun r q => x ((64 * n - 1) * 8 + r) q) x1) (hw : Tile (a := 4) (b := 2048) w x2)
include hn hl hx hh hw

/-- The convolution of one block. -/
theorem conv_blk : Tile (a := 512) (b := 2048) (fun r q => conv x w (n * 512 + r) q) (k0_pay5 (F := Ideal) i x1 x0 x2) := by
  unfold k0_pay5
  dsimp only
  rw [hn]
  have S := stack (halo hh hl) hx concatenates_S8x2048_S512x2048_S520x2048_d0
  exact tile_addf (φ := .f32) (tile_addf (φ := .f32) (tile_addf (φ := .f32)
    (tile_mulf (φ := .f32) (tap_cut S (j := 0) (by decide) slices_S520x2048_o5_0_S512x2048) (weight hw slices_S4x2048_o0_0_S1x2048))
    (tile_mulf (φ := .f32) (tap_cut S (j := 1) (by decide) slices_S520x2048_o6_0_S512x2048) (weight hw slices_S4x2048_o1_0_S1x2048)))
    (tile_mulf (φ := .f32) (tap_cut S (j := 2) (by decide) slices_S520x2048_o7_0_S512x2048) (weight hw slices_S4x2048_o2_0_S1x2048)))
    (tile_mulf (φ := .f32) (tap_cut S (j := 3) (by decide) slices_S520x2048_o8_0_S512x2048) (weight hw slices_S4x2048_o3_0_S1x2048))

theorem act_blk : Tile (a := 512) (b := 2048) (fun r q => act x w (n * 512 + r) q) (k0_pay6 (F := Ideal) i x1 x0 x2) := by
  have C := conv_blk hn hl hx hh hw
  unfold k0_pay6
  exact tile_mulf (φ := .f32) C (tile_gate C)

end Step

/-- One head's columns of a block. -/
theorem head {f : ℕ → ℕ → EReal} {p : ℕ} (hp : p % 128 = 0) {Z : FVec Ideal S512x2048 .f32}
    (hZ : Tile (a := 512) (b := 2048) f Z) (hs : S512x2048.Slices ![0, p] S512x128) :
    Tile (a := 512) (b := 128) (fun r c => unit f (0 + r) (p + c))
      (mulf (extractStridedSlice S512x128 ![0, p] Z hs) (broadcastTo S512x128 (rsqrt (addf (shapeCast S512x1 (multiReduction .add [1] S512
        (mulf (extractStridedSlice S512x128 ![0, p] Z hs) (extractStridedSlice S512x128 ![0, p] Z hs)) 0x00000000#32 reduces_S512x128_S512 (.inl rfl) rfl)
        shapeCasts_S512_S512x1) (broadcast S512x1 (Scalar.ofBits .f32 0x358637BD#32)))) broadcasts_S512x1_S512x128)) := by
  have P := cut hZ hs
  have R := row_sum (B := 128) (tile_mulf (φ := .f32) P P) reduces_S512x128_S512 (.inl rfl) rfl shapeCasts_S512_S512x1
  have V : Tile (a := 512) (b := 1) (fun r _ => inv2 (∑ q : Fin 128, f (0 + r) (p + q.val) * f (0 + r) (p + q.val))) _ := fun y => congrArg inv2 (R y)
  refine (tile_mulf (φ := .f32) P (col_rep (B := 128) V broadcasts_S512x1_S512x128)).congr fun i _ j hj => ?_
  unfold unit
  rw [show 128 * ((p + j) / 128) = p by omega]

section Outs

variable {x w : ℕ → ℕ → EReal} {n : ℕ} {x0 : Vec Ideal S512x2048 .f32} {x1 : Vec Ideal S8x2048 .f32} {x2 : Vec Ideal S4x2048 .f32} {i : grid0.Coords}
  (hn : (i 0).val = n) (hl : n < 16) (hx : Tile (a := 512) (b := 2048) (fun r q => x (n * 512 + r) q) x0)
  (hh : Tile (a := 8) (b := 2048) (fun r q => x ((64 * n - 1) * 8 + r) q) x1) (hw : Tile (a := 4) (b := 2048) w x2)
  {c : Dev nD} {a1 : Memref sig .tc .vmem S512x2048 .f32} {h1 : a1.IsWhole} {a2 : Memref sig .tc .vmem S8x2048 .f32} {h2 : a2.IsWhole}
  {a3 : Memref sig .tc .vmem S4x2048 .f32} {h3 : a3.IsWhole} {a4 : Memref sig .tc .vmem S512x2048 .f32} {h4 : a4.IsWhole}
  {a5 : Memref sig .tc .vmem S512x1024 .f32} {h5 : a5.IsWhole} {a6 : Memref sig .tc .vmem S512x1024 .f32} {h6 : a6.IsWhole}
include hn hl hx hh hw

theorem step_y : Tile (a := 512) (b := 2048) (fun r q => conv x w (n * 512 + r) q)
    (out0_A_3 (F := Ideal) c i a1 h1 a2 h2 a3 h3 a4 h4 a5 h5 a6 h6 x0 x1 x2) := by
  unfold out0_A_3 kernelRun0_A
  dsimp only
  sl_unfold_words
  exact whole_st (A := 512) (B := 2048) (e := .f32) (conv_blk hn hl (whole_ld (e := .f32) hx) (whole_ld (e := .f32) hh) (whole_ld (e := .f32) hw))

theorem step_v : Tile (a := 512) (b := 1024) (fun r q => act x w (n * 512 + r) (1024 + q))
    (out0_A_5 (F := Ideal) c i a1 h1 a2 h2 a3 h3 a4 h4 a5 h5 a6 h6 x0 x1 x2) := by
  have A := act_blk hn hl (whole_ld (e := .f32) (hm := h1) (inb := inb_S512x2048_S512x2048_0_0) hx)
    (whole_ld (e := .f32) (hm := h2) (inb := inb_S8x2048_S8x2048_0_0) hh) (whole_ld (e := .f32) (hm := h3) (inb := inb_S4x2048_S4x2048_0_0) hw)
  unfold out0_A_5 kernelRun0_A
  dsimp only
  sl_unfold_words
  refine whole_st (A := 512) (B := 1024) (e := .f32) ?_
  unfold k0_pay4
  exact (cut A slices_S512x2048_o0_1024_S512x1024).congr fun r _ q _ => by rw [zero_add]

theorem step_qk : Tile (a := 512) (b := 1024) (unit fun r q => act x w (n * 512 + r) q)
    (out0_A_4 (F := Ideal) c i a1 h1 a2 h2 a3 h3 a4 h4 a5 h5 a6 h6 x0 x1 x2) := by
  intro y
  have hcov := cover0_A_4 (F := Ideal) c i a1 h1 a2 h2 a3 h3 a4 h4 a5 h5 a6 h6 x0 x1 x2
  have A := act_blk hn hl (whole_ld (e := .f32) (hm := h1) (inb := inb_S512x2048_S512x2048_0_0) hx)
    (whole_ld (e := .f32) (hm := h2) (inb := inb_S8x2048_S8x2048_0_0) hh) (whole_ld (e := .f32) (hm := h3) (inb := inb_S4x2048_S4x2048_0_0) hw)
  unfold out0_A_4
  rw [View.read_writes_eq_canon _ _ _ hcov]
  refine View.canon_eq_of_allAt _ _ _ (hcov y) ?_
  unfold kernelRun0_A
  dsimp only
  sl_unfold_words
  unfold k0_pay1 k0_pay2 k0_pay3 k0_pay15 k0_pay14 k0_pay13 k0_pay12 k0_pay11 k0_pay10 k0_pay9 k0_pay8 k0_pay7
  iterate 8 refine allAt_tile (Val := Elt Ideal) (e := .f32) (unit fun r q => act x w (n * 512 + r) q) y (head (by decide) A _) ?_
  exact View.allAt_nil _ _

end Outs

variable (m : (ℓ : Loc nD τ sig) → Buf (Elt Ideal) ℓ) (c : Dev nD)

/-- The columns from 6144 of the branch's input, and the weights. -/
def src : ℕ → ℕ → EReal := fun i q => fn2 (A := 8192) (B := 8704) (m ((c : Thread nD τ).loc main_arg0)) i (6144 + q)
def wt : ℕ → ℕ → EReal := fn2 (A := 4) (B := 2048) (m ((c : Thread nD τ).loc main_arg1))

theorem idx_all : ∀ t : Fin cfg0.N, win0_0.index t = ![t.val, 3] ∧ win0_1.index t = ![64 * t.val - 1, 3] ∧ win0_2.index t = ![0, 0]
    ∧ win0_3.index t = ![t.val, 0] ∧ win0_4.index t = ![t.val, 0] ∧ win0_5.index t = ![t.val, 0]
    ∧ ((grid0.coords t) 0).val = t.val ∧ t.val < 16 := by
  decide +kernel

theorem src_blk (t : Fin cfg0.N) : Tile (a := 512) (b := 2048) (fun r q => src m c (t.val * 512 + r) q) (X0_0 m c t) := by
  have e := (idx_all t).1
  intro y
  unfold X0_0 Pipeline.Window.fill
  rw [dif_pos (moved0_0 t y)]
  refine (fn2_tile (A := 8192) (B := 8704) (m ((c : Thread nD τ).loc main_arg0)) (((cfg0.win 0).blk t).view.emb _)).trans ?_
  unfold src
  exact congrArg₂ _ (by blk_simp [e]) (by blk_simp [e])

theorem halo_blk (t : Fin cfg0.N) : Tile (a := 8) (b := 2048) (fun r q => src m c ((64 * t.val - 1) * 8 + r) q) (X0_1 m c t) := by
  have e := (idx_all t).2.1
  intro y
  unfold X0_1 Pipeline.Window.fill
  rw [dif_pos (moved0_1 t y)]
  refine (fn2_tile (A := 8192) (B := 8704) (m ((c : Thread nD τ).loc main_arg0)) (((cfg0.win 1).blk t).view.emb _)).trans ?_
  unfold src
  exact congrArg₂ _ (by blk_simp [e]) (by blk_simp [e])

theorem wt_blk (t : Fin cfg0.N) : Tile (a := 4) (b := 2048) (wt m c) (iblk m c 2 t) := by
  have e := (idx_all t).2.2.1
  exact (blk (A := 4) (B := 2048) (o := 0) (p := 0) (fn2_tile (m ((c : Thread nD τ).loc main_arg1)))
    (((cfg0.win 2).blk t).view.emb) fun y => ⟨by blk_simp [e], by blk_simp [e]⟩).congr fun i _ j _ => by rw [zero_add, zero_add]; rfl

def arrY : S8192x2048.Idx → EReal := fun y => conv (src m c) (wt m c) (y 0).val (y 1).val
def arrQ : S8192x1024.Idx → EReal := fun y => unit (act (src m c) (wt m c)) (y 0).val (y 1).val
def arrV : S8192x1024.Idx → EReal := fun y => act (src m c) (wt m c) (y 0).val (1024 + (y 1).val)

theorem final_y : (dats m 0 c).arrAt 3 cfg0.N = arrY m c := by
  refine (dats m 0 c).arrAt_eq_of_covers 3 _ (by decide +kernel) fun t hf y => ?_
  obtain ⟨_, _, _, e, _, _, hn, hl⟩ := idx_all t
  refine (congrFun (after0_3 m c t) _).trans ?_
  unfold outsAt0
  dsimp only
  refine (step_y hn hl (src_blk m c t) (halo_blk m c t) (wt_blk m c t) y).trans ?_
  unfold arrY
  blk_simp [e]

theorem final_q : (dats m 0 c).arrAt 4 cfg0.N = arrQ m c := by
  refine (dats m 0 c).arrAt_eq_of_covers 4 _ (by decide +kernel) fun t hf y => ?_
  obtain ⟨_, _, _, _, e, _, hn, hl⟩ := idx_all t
  refine (congrFun (after0_4 m c t) _).trans ?_
  unfold outsAt0
  dsimp only
  refine (step_qk hn hl (src_blk m c t) (halo_blk m c t) (wt_blk m c t) y).trans ?_
  unfold arrQ unit
  blk_simp [e]

theorem final_v : (dats m 0 c).arrAt 5 cfg0.N = arrV m c := by
  refine (dats m 0 c).arrAt_eq_of_covers 5 _ (by decide +kernel) fun t hf y => ?_
  obtain ⟨_, _, _, _, _, e, hn, hl⟩ := idx_all t
  refine (congrFun (after0_5 m c t) _).trans ?_
  unfold outsAt0
  dsimp only
  refine (step_v hn hl (src_blk m c t) (halo_blk m c t) (wt_blk m c t) y).trans ?_
  unfold arrV
  blk_simp [e]

end Kernel

section Ref

open Cert.Reference29Ideal Cert.Reference29Ideal.Gen

variable {f w : ℕ → ℕ → EReal}

/-- Three rows of zeros above an array, and some of the columns of an array. -/
abbrev padded (a0 : FVec Ideal S8192x8704 .f32) : FVec Ideal S8195x2048 .f32 :=
  pad S8195x2048 ![3, 0] ![0, 0] ![0, 0] (extractStridedSlice S8192x2048 ![0, 6144] a0 slices_S8192x8704_S8192x2048_0_6144) (sitofp .f32 (constantI S_ 32 0#32))
    pads_S8192x2048_S8195x2048_300_000 h_S_

theorem tile_padded {a0 : FVec Ideal S8192x8704 .f32} (h : Tile (a := 8192) (b := 8704) f a0) :
    Tile (a := 8195) (b := 2048) (fun r q => if r < 3 then 0 else f (r - 3) (6144 + q)) (padded a0) := by
  intro y
  have l0 : (y 0).val < 8195 := (y 0).isLt
  have l1 : (y 1).val < 2048 := (y 1).isLt
  show padded a0 y = if (y 0).val < 3 then 0 else f ((y 0).val - 3) (6144 + (y 1).val)
  by_cases c : (y 0).val < 3
  · rw [if_pos c]
    refine (pad_apply_of_not_inside _ _ _ _ _ _ _ y 0 ?_).trans ?_
    · intro hb
      have := hb.1
      change 3 ≤ (y 0).val at this
      omega
    · show ((((0#32 : BitVec 32).toInt : ℤ) : ℝ) : EReal) = 0
      simp
  · rw [if_neg c]
    have b0 : (y 0).val - 3 < 8192 := by omega
    refine (pad_apply_of_inside _ _ _ _ _ _ _ y (ValueIdx.ix2 ⟨_, b0⟩ ⟨_, l1⟩) fun a => ?_).trans ?_
    · fin_cases a
      · show (y 0).val = 3 + ((y 0).val - 3) * (0 + 1)
        omega
      · show (y 1).val = 0 + (y 1).val * (0 + 1)
        omega
    · refine (cut h slices_S8192x8704_S8192x2048_0_6144 _).trans ?_
      show f (0 + ((y 0).val - 3)) (6144 + (y 1).val) = _
      rw [zero_add]

/-- One tap's weights at every token. -/
theorem host_weight {W : FVec Ideal S4x2048 .f32} (hW : Tile (a := 4) (b := 2048) w W) {j : ℕ} (hs : S4x2048.Slices ![j, 0] S1x2048) :
    Tile (a := 8192) (b := 2048) (fun _ q => w j q) (broadcastInDim S8192x2048 ![0, 1] bcast_S1x2048_S8192x2048_0_1
      (broadcastInDim S1x2048 ![1] bcast_S2048_S1x2048_1 (shapeCast S2048 (extractStridedSlice S1x2048 ![j, 0] W hs) shapeCasts_S1x2048_S2048))) := by
  have R : Tile (a := 1) (b := 2048) (fun _ q => w j q)
      (broadcastInDim S1x2048 ![1] bcast_S2048_S1x2048_1 (shapeCast S2048 (extractStridedSlice S1x2048 ![j, 0] W hs) shapeCasts_S1x2048_S2048)) := by
    intro y
    pointwise
    exact hW _
  exact host_row_rep (B := 2048) (by decide) R bcast_S1x2048_S8192x2048_0_1

abbrev refY (a0 : FVec Ideal S8192x8704 .f32) (a1 : FVec Ideal S4x2048 .f32) : FVec Ideal S8192x2048 .f32 :=
  addf (addf (addf (mulf (extractStridedSlice S8192x2048 ![0, 0] (padded a0) slices_S8195x2048_S8192x2048_0_0) (broadcastInDim S8192x2048 ![0, 1] bcast_S1x2048_S8192x2048_0_1 (broadcastInDim S1x2048 ![1] bcast_S2048_S1x2048_1 (shapeCast S2048 (extractStridedSlice S1x2048 ![0, 0] a1 slices_S4x2048_S1x2048_0_0) shapeCasts_S1x2048_S2048))))
    (mulf (extractStridedSlice S8192x2048 ![1, 0] (padded a0) slices_S8195x2048_S8192x2048_1_0) (broadcastInDim S8192x2048 ![0, 1] bcast_S1x2048_S8192x2048_0_1 (broadcastInDim S1x2048 ![1] bcast_S2048_S1x2048_1 (shapeCast S2048 (extractStridedSlice S1x2048 ![1, 0] a1 slices_S4x2048_S1x2048_1_0) shapeCasts_S1x2048_S2048)))))
    (mulf (extractStridedSlice S8192x2048 ![2, 0] (padded a0) slices_S8195x2048_S8192x2048_2_0) (broadcastInDim S8192x2048 ![0, 1] bcast_S1x2048_S8192x2048_0_1 (broadcastInDim S1x2048 ![1] bcast_S2048_S1x2048_1 (shapeCast S2048 (extractStridedSlice S1x2048 ![2, 0] a1 slices_S4x2048_S1x2048_2_0) shapeCasts_S1x2048_S2048)))))
    (mulf (extractStridedSlice S8192x2048 ![3, 0] (padded a0) slices_S8195x2048_S8192x2048_3_0) (broadcastInDim S8192x2048 ![0, 1] bcast_S1x2048_S8192x2048_0_1 (broadcastInDim S1x2048 ![1] bcast_S2048_S1x2048_1 (shapeCast S2048 (extractStridedSlice S1x2048 ![3, 0] a1 slices_S4x2048_S1x2048_3_0) shapeCasts_S1x2048_S2048))))

variable {a0 : FVec Ideal S8192x8704 .f32} {a1 : FVec Ideal S4x2048 .f32} (h0 : Tile (a := 8192) (b := 8704) f a0) (h1 : Tile (a := 4) (b := 2048) w a1)
include h0 h1

theorem tile_refY : Tile (a := 8192) (b := 2048) (conv (fun i q => f i (6144 + q)) w) (refY a0 a1) := by
  have T : ∀ j, ∀ (hs : S8195x2048.Slices ![j, 0] S8192x2048), Tile (a := 8192) (b := 2048) (fun r q => tap (fun i q => f i (6144 + q)) j r q)
      (extractStridedSlice S8192x2048 ![j, 0] (padded a0) hs) := fun j hs => (cut (tile_padded h0) hs).congr fun r _ q _ => by
    unfold tap
    rw [zero_add, add_comm j r]
  exact tile_addf (φ := .f32) (tile_addf (φ := .f32) (tile_addf (φ := .f32)
    (tile_mulf (φ := .f32) (T 0 slices_S8195x2048_S8192x2048_0_0) (host_weight h1 slices_S4x2048_S1x2048_0_0))
    (tile_mulf (φ := .f32) (T 1 slices_S8195x2048_S8192x2048_1_0) (host_weight h1 slices_S4x2048_S1x2048_1_0)))
    (tile_mulf (φ := .f32) (T 2 slices_S8195x2048_S8192x2048_2_0) (host_weight h1 slices_S4x2048_S1x2048_2_0)))
    (tile_mulf (φ := .f32) (T 3 slices_S8195x2048_S8192x2048_3_0) (host_weight h1 slices_S4x2048_S1x2048_3_0))

omit h0 h1

/-- An array times its logistic, as the host writes it out. -/
abbrev acted (Y : FVec Ideal S8192x2048 .f32) : FVec Ideal S8192x2048 .f32 :=
  mulf Y (Host.divf (broadcastInDim S8192x2048 ![] bcast_S_S8192x2048 (constant S_ .f32 0x3F800000#32)) (addf (broadcastInDim S8192x2048 ![] bcast_S_S8192x2048
    (constant S_ .f32 0x3F800000#32)) (Host.exp (Host.negf Y))))

theorem tile_acted {Y : FVec Ideal S8192x2048 .f32} (hY : Tile (a := 8192) (b := 2048) f Y) : Tile (a := 8192) (b := 2048) (fun i q => silu (f i q)) (acted Y) :=
  tile_mulf (φ := .f32) hY (host_gate hY bcast_S_S8192x2048)

theorem ref_v {Z : FVec Ideal S8192x2048 .f32} (hZ : Tile (a := 8192) (b := 2048) f Z) :
    extractStridedSlice S8192x1024 ![0, 1024] Z slices_S8192x2048_S8192x1024_0_1024 = fun y => f (y 0).val (1024 + (y 1).val) := by
  refine funext fun y => (cut hZ slices_S8192x2048_S8192x1024_0_1024 y).trans ?_
  dsimp only
  rw [zero_add]

/-- Each head over its l2 norm. -/
abbrev normed (X : FVec Ideal S8192x8x128 .f32) : FVec Ideal S8192x8x128 .f32 :=
  mulf X (broadcastInDim S8192x8x128 ![0, 1, 2] bcast_S8192x8x1_S8192x8x128_0_1_2 (Host.rsqrt (addf (broadcastInDim S8192x8x1 ![0, 1] bcast_S8192x8_S8192x8x1_0_1
    (Host.reduceAdd (mulf X X) (constant S_ .f32 0x00000000#32) reducesTo_S8192x8x128_S8192x8_d2 h_S_))
    (broadcastInDim S8192x8x1 ![] bcast_S_S8192x8x1 (constant S_ .f32 0x358637BD#32)))))

theorem t3_normed {F : ℕ → ℕ → ℕ → EReal} {X : FVec Ideal S8192x8x128 .f32} (hX : T3 (a := 8192) (b := 8) (c := 128) F X) :
    T3 (a := 8192) (b := 8) (c := 128) (fun i h e => F i h e * inv2 (∑ u : Fin 128, F i h u.val * F i h u.val)) (normed X) :=
  t3_mulf (φ := .f32) hX (t3_rep (F := fun i h _ => inv2 (∑ u : Fin 128, F i h u.val * F i h u.val))
    fun y => congrArg inv2 (t3_sum (t3_mulf (φ := .f32) hX hX) y))

theorem ref_q {Z : FVec Ideal S8192x2048 .f32} (hZ : Tile (a := 8192) (b := 2048) f Z) :
    shapeCast S8192x1024 (normed (shapeCast S8192x8x128 (extractStridedSlice S8192x1024 ![0, 0] Z slices_S8192x2048_S8192x1024_0_0) shapeCasts_S8192x1024_S8192x8x128))
      shapeCasts_S8192x8x128_S8192x1024 = fun y => unit f (y 0).val (y 1).val := by
  have C : Tile (a := 8192) (b := 1024) f (extractStridedSlice S8192x1024 ![0, 0] Z slices_S8192x2048_S8192x1024_0_0) :=
    (cut hZ slices_S8192x2048_S8192x1024_0_0).congr fun i _ j _ => by rw [zero_add, zero_add]
  refine funext fun y => (join (t3_normed (split C)) y).trans ?_
  unfold unit
  dsimp only
  rw [Nat.div_add_mod]

end Ref

theorem claim : Cert.algebraic_Kernel29Ideal_Reference29Ideal (hKernel29Ideal := Cert.Kernel29Ideal.Gen.facts)
    (hReference29Ideal := Cert.Reference29Ideal.Gen.facts) := by
  intro m g m' g' _ hm
  refine ⟨arrY m, arrQ m, arrV m, ?_, ?_⟩
  · refine (θ_run _ _ _).mono (fun r h c => ?_) (Cert.Kernel29Ideal.Value.run_blocks m g)
    exact ⟨(h c).1.trans (final_y m c), (h c).2.1.trans (final_q m c), (h c).2.2.1.trans (final_v m c), (h c).2.2.2⟩
  · refine (θ_run _ _ _).mono (fun r h c => ?_) (Cert.Reference29Ideal.Value.run m' g')
    have Y := tile_refY (fn2_tile (m ((c.tc : Thread Cert.Kernel29Ideal.nD Cert.Kernel29Ideal.τ).loc Cert.Kernel29Ideal.main_arg0))) (fn2_tile (m ((c.tc : Thread Cert.Kernel29Ideal.nD Cert.Kernel29Ideal.τ).loc Cert.Kernel29Ideal.main_arg1)))
    refine ⟨(h c).1.trans ?_, (h c).2.1.trans ?_, (h c).2.2.1.trans ?_, (h c).2.2.2⟩
    · rw [(hm c).1, (hm c).2]
      exact funext Y
    · unfold Cert.Reference29Ideal.Value.res_main_v41
      rw [(hm c).1, (hm c).2]
      exact ref_q (tile_acted Y)
    · unfold Cert.Reference29Ideal.Value.res_main_v31
      rw [(hm c).1, (hm c).2]
      exact ref_v (tile_acted Y)

end Cert.Conv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Pre_finite2
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.FwdClaim
public import proofs.«01_k».proof.Proof.BwdClaim
public import proofs.«01_k».proof.Proof.MlpDpre
public import proofs.«01_k».proof.Proof.MlpDw2
public import proofs.«01_k».proof.Proof.MlpDw1
public import proofs.«01_k».proof.Proof.MlpDh
public import proofs.«01_k».proof.Proof.OutProj
public import proofs.«01_k».proof.Proof.BranchDa
public import proofs.«01_k».proof.Proof.BranchDw
public import proofs.«01_k».proof.Proof.BranchFwd
public import proofs.«01_k».proof.Proof.InDa
public import proofs.«01_k».proof.Proof.InDw
public import proofs.«01_k».proof.Proof.InFwd
public import proofs.«01_k».proof.Proof.MlpUp
public import proofs.«01_k».proof.Proof.MlpDown
public import proofs.«01_k».proof.Proof.AdamIn
public import proofs.«01_k».proof.Proof.AdamRest
public import proofs.«01_k».proof.Proof.AdamSmall
public import proofs.«01_k».proof.Proof.Norm
public import proofs.«01_k».proof.Proof.Merge
public import proofs.«01_k».proof.Proof.NormBack
public import proofs.«01_k».proof.Proof.Loss
public import proofs.«01_k».proof.Proof.Heads
public import proofs.«01_k».proof.Proof.Conv
public import Idealize.ShloMosaic.Adequacy
public import Idealize.ShloMosaic.Init

@[expose] public section

noncomputable section

namespace Cert.Proof

open Idealize.ShloMosaic Idealize.SL.Sem Cert.Kernel

section Frame

variable {nD : ℕ} {τ : Topo} {sig : RefSig} {Val : EltTy → Type} {Λ : Labels} {D : Type} {defs : Defs nD τ sig Val Λ}
  {p : (c : Thread nD τ) → Prog (TpuEff nD τ sig Val Λ c.2) PUnit} {s : MemSt nD τ sig Val} {Q Q' Q'' Q₃ A : PUnit × MemSt nD τ sig Val → D → Prop}

/-- A program without semaphores whose run ends in one result and the facts `A` ends in `A`, all counters at zero. -/
theorem frame_of_run (hs : sig.nSem + sig.nDmaSem = 0) (h : θ_run defs p s fun r => ∀ c, Q r c ∧ A r c) :
    θ_run defs p s fun r => (∀ c, A r c) ∧ r.2.sem = fun _ => 0 :=
  (θ_run _ _ _).mono (fun r h => ⟨fun c => (h c).2, sem_eq_zero_of_no_sems hs r.2⟩) h

/-- The same with two results. -/
theorem frame_of_run_two (hs : sig.nSem + sig.nDmaSem = 0) (h : θ_run defs p s fun r => ∀ c, Q r c ∧ Q' r c ∧ A r c) :
    θ_run defs p s fun r => (∀ c, A r c) ∧ r.2.sem = fun _ => 0 :=
  (θ_run _ _ _).mono (fun r h => ⟨fun c => (h c).2.2, sem_eq_zero_of_no_sems hs r.2⟩) h

/-- The same with three results. -/
theorem frame_of_run_three (hs : sig.nSem + sig.nDmaSem = 0) (h : θ_run defs p s fun r => ∀ c, Q r c ∧ Q' r c ∧ Q'' r c ∧ A r c) :
    θ_run defs p s fun r => (∀ c, A r c) ∧ r.2.sem = fun _ => 0 :=
  (θ_run _ _ _).mono (fun r h => ⟨fun c => (h c).2.2.2, sem_eq_zero_of_no_sems hs r.2⟩) h

/-- The same with four results. -/
theorem frame_of_run_four (hs : sig.nSem + sig.nDmaSem = 0) (h : θ_run defs p s fun r => ∀ c, Q r c ∧ Q' r c ∧ Q'' r c ∧ Q₃ r c ∧ A r c) :
    θ_run defs p s fun r => (∀ c, A r c) ∧ r.2.sem = fun _ => 0 :=
  (θ_run _ _ _).mono (fun r h => ⟨fun c => (h c).2.2.2.2, sem_eq_zero_of_no_sems hs r.2⟩) h

end Frame

/-- The reference of the forward scan has no semaphores: its run is its frame. -/
theorem frame_reference : Cert.quiescent_ReferenceIdeal (hReferenceIdeal := Cert.ReferenceIdeal.Gen.facts) := fun m ρ _ =>
  (θ_run _ _ _).mono (fun r h => ⟨fun c => (h c).2.2.2, sem_eq_zero_of_no_sems rfl r.2⟩) (Cert.ReferenceIdeal.Value.run m ρ)

/-- The same of the reverse scan's reference. -/
theorem frame_reference2 : Cert.quiescent_Reference2Ideal (hReference2Ideal := Cert.Reference2Ideal.Gen.facts) := fun m ρ _ =>
  (θ_run _ _ _).mono (fun r h => ⟨fun c => (h c).2.2.2.2.2.2, sem_eq_zero_of_no_sems rfl r.2⟩) (Cert.Reference2Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts, Cert.Kernel14Ideal.Gen.facts, Cert.Reference14Ideal.Gen.facts,
    Cert.Kernel15.Gen.facts, Cert.Kernel15Ideal.Gen.facts, Cert.Reference15Ideal.Gen.facts, Cert.Kernel16.Gen.facts, Cert.Kernel16Ideal.Gen.facts, Cert.Reference16Ideal.Gen.facts,
    Cert.Kernel17.Gen.facts, Cert.Kernel17Ideal.Gen.facts, Cert.Reference17Ideal.Gen.facts, Cert.Kernel18.Gen.facts, Cert.Kernel18Ideal.Gen.facts, Cert.Reference18Ideal.Gen.facts,
    Cert.Kernel19.Gen.facts, Cert.Kernel19Ideal.Gen.facts, Cert.Reference19Ideal.Gen.facts, Cert.Kernel20.Gen.facts, Cert.Kernel20Ideal.Gen.facts, Cert.Reference20Ideal.Gen.facts,
    Cert.Kernel21.Gen.facts, Cert.Kernel21Ideal.Gen.facts, Cert.Reference21Ideal.Gen.facts, Cert.Kernel22.Gen.facts, Cert.Kernel22Ideal.Gen.facts, Cert.Reference22Ideal.Gen.facts,
    Cert.Kernel23.Gen.facts, Cert.Kernel23Ideal.Gen.facts, Cert.Reference23Ideal.Gen.facts, Cert.Kernel24.Gen.facts, Cert.Kernel24Ideal.Gen.facts, Cert.Reference24Ideal.Gen.facts,
    Cert.Kernel25.Gen.facts, Cert.Kernel25Ideal.Gen.facts, Cert.Reference25Ideal.Gen.facts, Cert.Kernel26.Gen.facts, Cert.Kernel26Ideal.Gen.facts, Cert.Reference26Ideal.Gen.facts,
    Cert.Kernel27.Gen.facts, Cert.Kernel27Ideal.Gen.facts, Cert.Reference27Ideal.Gen.facts, Cert.Kernel28.Gen.facts, Cert.Kernel28Ideal.Gen.facts, Cert.Reference28Ideal.Gen.facts,
    Cert.Kernel29.Gen.facts, Cert.Kernel29Ideal.Gen.facts, Cert.Reference29Ideal.Gen.facts, Cert.Pre_finite2.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial,
    fun m ρ _ => Cert.Kernel3.Gen.frame m ρ, fun m ρ _ => Cert.Kernel3Ideal.Gen.frame m ρ, fun m ρ _ => frame_of_run rfl (Cert.Reference3Ideal.Value.run m ρ),
    fun m ρ _ => Cert.Kernel4.Gen.frame m ρ, fun m ρ _ => Cert.Kernel4Ideal.Gen.frame m ρ, fun m ρ _ => frame_of_run rfl (Cert.Reference4Ideal.Value.run m ρ),
    fun m ρ _ => Cert.Kernel5.Gen.frame m ρ, fun m ρ _ => Cert.Kernel5Ideal.Gen.frame m ρ, fun m ρ _ => frame_of_run rfl (Cert.Reference5Ideal.Value.run m ρ),
    fun m ρ _ => Cert.Kernel6.Gen.frame m ρ, fun m ρ _ => Cert.Kernel6Ideal.Gen.frame m ρ, fun m ρ _ => frame_of_run rfl (Cert.Reference6Ideal.Value.run m ρ),
    fun m ρ _ => Cert.Kernel7.Gen.frame m ρ, fun m ρ _ => Cert.Kernel7Ideal.Gen.frame m ρ, fun m ρ _ => frame_of_run rfl (Cert.Reference7Ideal.Value.run m ρ),
    fun m ρ _ => Cert.Kernel8.Gen.frame m ρ, fun m ρ _ => Cert.Kernel8Ideal.Gen.frame m ρ, fun m ρ _ => frame_of_run rfl (Cert.Reference8Ideal.Value.run m ρ),
    fun m ρ _ => Cert.Kernel9.Gen.frame m ρ, fun m ρ _ => Cert.Kernel9Ideal.Gen.frame m ρ, fun m ρ _ => frame_of_run rfl (Cert.Reference9Ideal.Value.run m ρ),
    fun m ρ _ => Cert.Kernel10.Gen.frame m ρ, fun m ρ _ => Cert.Kernel10Ideal.Gen.frame m ρ, fun m ρ _ => frame_of_run rfl (Cert.Reference10Ideal.Value.run m ρ),
    fun m ρ _ => Cert.Kernel11.Gen.frame m ρ, fun m ρ _ => Cert.Kernel11Ideal.Gen.frame m ρ, fun m ρ _ => frame_of_run rfl (Cert.Reference11Ideal.Value.run m ρ),
    fun m ρ _ => Cert.Kernel12.Gen.frame m ρ, fun m ρ _ => Cert.Kernel12Ideal.Gen.frame m ρ, fun m ρ _ => frame_of_run rfl (Cert.Reference12Ideal.Value.run m ρ),
    fun m ρ _ => Cert.Kernel13.Gen.frame m ρ, fun m ρ _ => Cert.Kernel13Ideal.Gen.frame m ρ, fun m ρ _ => frame_of_run rfl (Cert.Reference13Ideal.Value.run m ρ),
    fun m ρ _ => Cert.Kernel14.Gen.frame m ρ, fun m ρ _ => Cert.Kernel14Ideal.Gen.frame m ρ, fun m ρ _ => frame_of_run_two rfl (Cert.Reference14Ideal.Value.run m ρ),
    fun m ρ _ => Cert.Kernel15.Gen.frame m ρ, fun m ρ _ => Cert.Kernel15Ideal.Gen.frame m ρ, fun m ρ _ => frame_of_run rfl (Cert.Reference15Ideal.Value.run m ρ),
    fun m ρ _ => Cert.Kernel16.Gen.frame m ρ, fun m ρ _ => Cert.Kernel16Ideal.Gen.frame m ρ, fun m ρ _ => frame_of_run_two rfl (Cert.Reference16Ideal.Value.run m ρ),
    fun m ρ _ => Cert.Kernel17.Gen.frame m ρ, fun m ρ _ => Cert.Kernel17Ideal.Gen.frame m ρ, fun m ρ _ => frame_of_run rfl (Cert.Reference17Ideal.Value.run m ρ),
    fun m ρ _ => Cert.Kernel18.Gen.frame m ρ, fun m ρ _ => Cert.Kernel18Ideal.Gen.frame m ρ, fun m ρ _ => frame_of_run rfl (Cert.Reference18Ideal.Value.run m ρ),
    fun m ρ _ => Cert.Kernel19.Gen.frame m ρ, fun m ρ _ => Cert.Kernel19Ideal.Gen.frame m ρ, fun m ρ _ => frame_of_run rfl (Cert.Reference19Ideal.Value.run m ρ),
    fun m ρ _ => Cert.Kernel20.Gen.frame m ρ, fun m ρ _ => Cert.Kernel20Ideal.Gen.frame m ρ, fun m ρ _ => frame_of_run rfl (Cert.Reference20Ideal.Value.run m ρ),
    fun m ρ _ => Cert.Kernel21.Gen.frame m ρ, fun m ρ _ => Cert.Kernel21Ideal.Gen.frame m ρ, fun m ρ _ => frame_of_run_four rfl (Cert.Reference21Ideal.Value.run m ρ),
    fun m ρ _ => Cert.Kernel22.Gen.frame m ρ, fun m ρ _ => Cert.Kernel22Ideal.Gen.frame m ρ, fun m ρ _ => frame_of_run_four rfl (Cert.Reference22Ideal.Value.run m ρ),
    fun m ρ _ => Cert.Kernel23.Gen.frame m ρ, fun m ρ _ => Cert.Kernel23Ideal.Gen.frame m ρ, fun m ρ _ => frame_of_run_four rfl (Cert.Reference23Ideal.Value.run m ρ),
    fun m ρ _ => Cert.Kernel24.Gen.frame m ρ, fun m ρ _ => Cert.Kernel24Ideal.Gen.frame m ρ, fun m ρ _ => frame_of_run rfl (Cert.Reference24Ideal.Value.run m ρ),
    fun m ρ _ => Cert.Kernel25.Gen.frame m ρ, fun m ρ _ => Cert.Kernel25Ideal.Gen.frame m ρ, fun m ρ _ => frame_of_run rfl (Cert.Reference25Ideal.Value.run m ρ),
    fun m ρ _ => Cert.Kernel26.Gen.frame m ρ, fun m ρ _ => Cert.Kernel26Ideal.Gen.frame m ρ, fun m ρ _ => frame_of_run_two rfl (Cert.Reference26Ideal.Value.run m ρ),
    fun m ρ _ => Cert.Kernel27.Gen.frame m ρ, fun m ρ _ => Cert.Kernel27Ideal.Gen.frame m ρ, fun m ρ _ => frame_of_run_three rfl (Cert.Reference27Ideal.Value.run m ρ),
    fun m ρ _ => Cert.Kernel28.Gen.frame m ρ, fun m ρ _ => Cert.Kernel28Ideal.Gen.frame m ρ, fun m ρ _ => frame_of_run rfl (Cert.Reference28Ideal.Value.run m ρ),
    fun m ρ _ => Cert.Kernel29.Gen.frame m ρ, fun m ρ _ => Cert.Kernel29Ideal.Gen.frame m ρ, fun m ρ _ => frame_of_run_three rfl (Cert.Reference29Ideal.Value.run m ρ),
    trivial, Cert.Fwd.claim, trivial, Cert.Bwd.claim, trivial, Cert.MlpDpre.claim, trivial, Cert.MlpDw2.claim, trivial, Cert.MlpDw1.claim, trivial, Cert.MlpDh.claim, trivial, Cert.OutDa.claim, trivial, Cert.OutDw.claim, trivial, Cert.BranchDa.claim, trivial, Cert.BranchDw.claim, trivial, Cert.BranchDaWide.claim, trivial, Cert.BranchDwWide.claim, trivial, Cert.InDa.claim, trivial, Cert.InDw.claim, trivial, Cert.InFwd.claim, trivial, Cert.MlpUp.claim, trivial, Cert.MlpDown.claim, trivial, Cert.OutFwd.claim, trivial, Cert.BranchFwd.claim, trivial, Cert.BranchFwdWide.claim, trivial, Cert.AdamIn.claim, trivial, Cert.AdamRest.claim, trivial, Cert.AdamSmall.claim, trivial, Cert.Norm.claim, trivial, Cert.Merge.claim, trivial, Cert.NormBack.claim, trivial, Cert.Loss.claim, trivial, Cert.Heads.claim, trivial, Cert.Conv.claim⟩

end Cert.Proof

end
